-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v110)) (v1 : (c : Dev Cert.KernelIdeal.nD) → Buf (Elt Ideal) ((c.tc : Thread Cert.KernelIdeal.nD Cert.KernelIdeal.τ).loc Cert.KernelIdeal.main_v114)) (v2 : (c : Dev Cert.KernelIdeal.nD) → Buf (Elt Ideal) ((c.tc : Thread Cert.KernelIdeal.nD Cert.KernelIdeal.τ).loc Cert.KernelIdeal.main_v115)) (v3 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_v114) = v1 c
          ∧ r.2.mem ((c.tc : Thread Cert.KernelIdeal.nD Cert.KernelIdeal.τ).loc Cert.KernelIdeal.main_v115) = v2 c
          ∧ r.2.mem ((c.tc : Thread Cert.KernelIdeal.nD Cert.KernelIdeal.τ).loc Cert.KernelIdeal.main_v116) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_v80) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def preserves_Kernel3_Kernel3Ideal : Prop :=
  True

def preserves_Kernel4_Kernel4Ideal : Prop :=
  True

def preserves_Kernel5_Kernel5Ideal : Prop :=
  True

def preserves_Kernel6_Kernel6Ideal : Prop :=
  True

def preserves_Kernel7_Kernel7Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v28_1)) (v1 : (c : Dev Cert.Kernel4Ideal.nD) → Buf (Elt Ideal) ((c.tc : Thread Cert.Kernel4Ideal.nD Cert.Kernel4Ideal.τ).loc Cert.Kernel4Ideal.main_v34)) (v2 : (c : Dev Cert.Kernel4Ideal.nD) → Buf (Elt Ideal) ((c.tc : Thread Cert.Kernel4Ideal.nD Cert.Kernel4Ideal.τ).loc Cert.Kernel4Ideal.main_v35)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v28_1) = v0 c
          ∧ r.2.mem ((c.tc : Thread Cert.Kernel4Ideal.nD Cert.Kernel4Ideal.τ).loc Cert.Kernel4Ideal.main_v34) = v1 c
          ∧ r.2.mem ((c.tc : Thread Cert.Kernel4Ideal.nD Cert.Kernel4Ideal.τ).loc Cert.Kernel4Ideal.main_v35) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v55) = v0 c
          ∧ r.2.mem ((c.tc : Thread Cert.Reference4Ideal.nD Cert.Reference4Ideal.τ).loc Cert.Reference4Ideal.main_v56) = v1 c
          ∧ r.2.mem ((c.tc : Thread Cert.Reference4Ideal.nD Cert.Reference4Ideal.τ).loc Cert.Reference4Ideal.main_v40) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v11)) (v1 : (c : Dev Cert.Kernel5Ideal.nD) → Buf (Elt Ideal) ((c.tc : Thread Cert.Kernel5Ideal.nD Cert.Kernel5Ideal.τ).loc Cert.Kernel5Ideal.main_v9_3)) (v2 : (c : Dev Cert.Kernel5Ideal.nD) → Buf (Elt Ideal) ((c.tc : Thread Cert.Kernel5Ideal.nD Cert.Kernel5Ideal.τ).loc Cert.Kernel5Ideal.main_v9_0)) (v3 : (c : Dev Cert.Kernel5Ideal.nD) → Buf (Elt Ideal) ((c.tc : Thread Cert.Kernel5Ideal.nD Cert.Kernel5Ideal.τ).loc Cert.Kernel5Ideal.main_v12)) (v4 : (c : Dev Cert.Kernel5Ideal.nD) → Buf (Elt Ideal) ((c.tc : Thread Cert.Kernel5Ideal.nD Cert.Kernel5Ideal.τ).loc Cert.Kernel5Ideal.main_v13)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11) = v0 c
          ∧ r.2.mem ((c.tc : Thread Cert.Kernel5Ideal.nD Cert.Kernel5Ideal.τ).loc Cert.Kernel5Ideal.main_v9_3) = v1 c
          ∧ r.2.mem ((c.tc : Thread Cert.Kernel5Ideal.nD Cert.Kernel5Ideal.τ).loc Cert.Kernel5Ideal.main_v9_0) = v2 c
          ∧ r.2.mem ((c.tc : Thread Cert.Kernel5Ideal.nD Cert.Kernel5Ideal.τ).loc Cert.Kernel5Ideal.main_v12) = v3 c
          ∧ r.2.mem ((c.tc : Thread Cert.Kernel5Ideal.nD Cert.Kernel5Ideal.τ).loc Cert.Kernel5Ideal.main_v13) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_v34) = v1 c
          ∧ r.2.mem ((c.tc : Thread Cert.Reference5Ideal.nD Cert.Reference5Ideal.τ).loc Cert.Reference5Ideal.main_v1) = v2 c
          ∧ r.2.mem ((c.tc : Thread Cert.Reference5Ideal.nD Cert.Reference5Ideal.τ).loc Cert.Reference5Ideal.main_v14) = v3 c
          ∧ r.2.mem ((c.tc : Thread Cert.Reference5Ideal.nD Cert.Reference5Ideal.τ).loc Cert.Reference5Ideal.main_v17) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v38_0)) (v1 : (c : Dev Cert.Kernel7Ideal.nD) → Buf (Elt Ideal) ((c.tc : Thread Cert.Kernel7Ideal.nD Cert.Kernel7Ideal.τ).loc Cert.Kernel7Ideal.main_v51)) (v2 : (c : Dev Cert.Kernel7Ideal.nD) → Buf (Elt Ideal) ((c.tc : Thread Cert.Kernel7Ideal.nD Cert.Kernel7Ideal.τ).loc Cert.Kernel7Ideal.main_v53)) (v3 : (c : Dev Cert.Kernel7Ideal.nD) → Buf (Elt Ideal) ((c.tc : Thread Cert.Kernel7Ideal.nD Cert.Kernel7Ideal.τ).loc Cert.Kernel7Ideal.main_v47)) (v4 : (c : Dev Cert.Kernel7Ideal.nD) → Buf (Elt Ideal) ((c.tc : Thread Cert.Kernel7Ideal.nD Cert.Kernel7Ideal.τ).loc Cert.Kernel7Ideal.main_v50)) (v5 : (c : Dev Cert.Kernel7Ideal.nD) → Buf (Elt Ideal) ((c.tc : Thread Cert.Kernel7Ideal.nD Cert.Kernel7Ideal.τ).loc Cert.Kernel7Ideal.main_v41)) (v6 : (c : Dev Cert.Kernel7Ideal.nD) → Buf (Elt Ideal) ((c.tc : Thread Cert.Kernel7Ideal.nD Cert.Kernel7Ideal.τ).loc Cert.Kernel7Ideal.main_v44)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v38_0) = v0 c
          ∧ r.2.mem ((c.tc : Thread Cert.Kernel7Ideal.nD Cert.Kernel7Ideal.τ).loc Cert.Kernel7Ideal.main_v51) = v1 c
          ∧ r.2.mem ((c.tc : Thread Cert.Kernel7Ideal.nD Cert.Kernel7Ideal.τ).loc Cert.Kernel7Ideal.main_v53) = v2 c
          ∧ r.2.mem ((c.tc : Thread Cert.Kernel7Ideal.nD Cert.Kernel7Ideal.τ).loc Cert.Kernel7Ideal.main_v47) = v3 c
          ∧ r.2.mem ((c.tc : Thread Cert.Kernel7Ideal.nD Cert.Kernel7Ideal.τ).loc Cert.Kernel7Ideal.main_v50) = v4 c
          ∧ r.2.mem ((c.tc : Thread Cert.Kernel7Ideal.nD Cert.Kernel7Ideal.τ).loc Cert.Kernel7Ideal.main_v41) = v5 c
          ∧ r.2.mem ((c.tc : Thread Cert.Kernel7Ideal.nD Cert.Kernel7Ideal.τ).loc Cert.Kernel7Ideal.main_v44) = v6 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v64) = v0 c
          ∧ r.2.mem ((c.tc : Thread Cert.Reference7Ideal.nD Cert.Reference7Ideal.τ).loc Cert.Reference7Ideal.main_v20) = v1 c
          ∧ r.2.mem ((c.tc : Thread Cert.Reference7Ideal.nD Cert.Reference7Ideal.τ).loc Cert.Reference7Ideal.main_v34) = v2 c
          ∧ r.2.mem ((c.tc : Thread Cert.Reference7Ideal.nD Cert.Reference7Ideal.τ).loc Cert.Reference7Ideal.main_v48) = v3 c
          ∧ r.2.mem ((c.tc : Thread Cert.Reference7Ideal.nD Cert.Reference7Ideal.τ).loc Cert.Reference7Ideal.main_v49) = v4 c
          ∧ r.2.mem ((c.tc : Thread Cert.Reference7Ideal.nD Cert.Reference7Ideal.τ).loc Cert.Reference7Ideal.main_v63) = v5 c
          ∧ r.2.mem ((c.tc : Thread Cert.Reference7Ideal.nD Cert.Reference7Ideal.τ).loc Cert.Reference7Ideal.main_v65) = v6 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ preserves_Kernel3_Kernel3Ideal
    ∧ preserves_Kernel4_Kernel4Ideal
    ∧ preserves_Kernel5_Kernel5Ideal
    ∧ preserves_Kernel6_Kernel6Ideal
    ∧ preserves_Kernel7_Kernel7Ideal
    ∧ algebraic_Kernel2Ideal_Reference2Ideal (hKernel2Ideal := hKernel2Ideal) (hReference2Ideal := hReference2Ideal)
    ∧ algebraic_Kernel3Ideal_Reference3Ideal (hKernel3Ideal := hKernel3Ideal) (hReference3Ideal := hReference3Ideal)
    ∧ algebraic_Kernel4Ideal_Reference4Ideal (hKernel4Ideal := hKernel4Ideal) (hReference4Ideal := hReference4Ideal)
    ∧ algebraic_Kernel5Ideal_Reference5Ideal (hKernel5Ideal := hKernel5Ideal) (hReference5Ideal := hReference5Ideal)
    ∧ algebraic_Kernel6Ideal_Reference6Ideal (hKernel6Ideal := hKernel6Ideal) (hReference6Ideal := hReference6Ideal)
    ∧ algebraic_Kernel7Ideal_Reference7Ideal (hKernel7Ideal := hKernel7Ideal) (hReference7Ideal := hReference7Ideal)
-- ==== Pre_finite.lean ====
abbrev S2x4096x8x64 : Shape := ⟨4, ![2, 4096, 8, 64]⟩
abbrev S2x4096x8 : Shape := ⟨3, ![2, 4096, 8]⟩
abbrev S_ : Shape := ⟨0, ![]⟩

class Facts : Prop where
  bcast_S_S2x4096x8x64 : S_.BroadcastsInDim S2x4096x8x64 (![] : Fin 0 → Fin S2x4096x8x64.rank)
  reducesTo_S2x4096x8x64_S_d0_1_2_3 : S2x4096x8x64.ReducesTo [0, 1, 2, 3] S_
  h_S_ : 0 < S_.numel
  bcast_S_S2x4096x8 : S_.BroadcastsInDim S2x4096x8 (![] : Fin 0 → Fin S2x4096x8.rank)
  reducesTo_S2x4096x8_S_d0_1_2 : S2x4096x8.ReducesTo [0, 1, 2] S_

variable [Facts]

def fn_part1 {F : FTy → Type} [FloatOps F] (main_arg4 : FVec F S2x4096x8x64 .f32) (main_v13 : IVec S_ 1) (main_v16 : IVec S2x4096x8 1) : IVec S_ 1 :=
  let main_c_5 : IVec S_ 1 := constantI S_ 1 1#1
  let main_v17 : IVec S_ 1 := (fun x v => Host.reduce IntOp.andi x v reducesTo_S2x4096x8_S_d0_1_2 h_S_) main_v16 main_c_5
  let main_v18 : IVec S_ 1 := andi main_v13 main_v17
  let main_v19 : FVec F S2x4096x8x64 .f32 := Host.absf main_arg4
  let main_cst_6 : FVec F S_ .f32 := constant S_ .f32 0x7F800000#32
  let main_v20 : FVec F S2x4096x8x64 .f32 := broadcastInDim S2x4096x8x64 ![] bcast_S_S2x4096x8x64 main_cst_6
  let main_v21 : IVec S2x4096x8x64 1 := cmpf .olt main_v19 main_v20
  let main_c_7 : IVec S_ 1 := constantI S_ 1 1#1
  let main_v22 : IVec S_ 1 := (fun x v => Host.reduce IntOp.andi x v reducesTo_S2x4096x8x64_S_d0_1_2_3 h_S_) main_v21 main_c_7
  let main_v23 : IVec S_ 1 := andi main_v18 main_v22
  main_v23

def fn {F : FTy → Type} [FloatOps F] (main_arg0 : FVec F S2x4096x8x64 .f32) (main_arg1 : FVec F S2x4096x8x64 .f32) (main_arg2 : FVec F S2x4096x8x64 .f32) (main_arg3 : FVec F S2x4096x8 .f32) (main_arg4 : FVec F S2x4096x8x64 .f32) : IVec S_ 1 :=
  let main_v0 : FVec F S2x4096x8x64 .f32 := Host.absf main_arg0
  let main_cst : FVec F S_ .f32 := constant S_ .f32 0x7F800000#32
  let main_v1 : FVec F S2x4096x8x64 .f32 := broadcastInDim S2x4096x8x64 ![] bcast_S_S2x4096x8x64 main_cst
  let main_v2 : IVec S2x4096x8x64 1 := cmpf .olt main_v0 main_v1
  let main_c : IVec S_ 1 := constantI S_ 1 1#1
  let main_v3 : IVec S_ 1 := (fun x v => Host.reduce IntOp.andi x v reducesTo_S2x4096x8x64_S_d0_1_2_3 h_S_) main_v2 main_c
  let main_v4 : FVec F S2x4096x8x64 .f32 := Host.absf main_arg1
  let main_cst_0 : FVec F S_ .f32 := constant S_ .f32 0x7F800000#32
  let main_v5 : FVec F S2x4096x8x64 .f32 := broadcastInDim S2x4096x8x64 ![] bcast_S_S2x4096x8x64 main_cst_0
  let main_v6 : IVec S2x4096x8x64 1 := cmpf .olt main_v4 main_v5
  let main_c_1 : IVec S_ 1 := constantI S_ 1 1#1
  let main_v7 : IVec S_ 1 := (fun x v => Host.reduce IntOp.andi x v reducesTo_S2x4096x8x64_S_d0_1_2_3 h_S_) main_v6 main_c_1
  let main_v8 : IVec S_ 1 := andi main_v3 main_v7
  let main_v9 : FVec F S2x4096x8x64 .f32 := Host.absf main_arg2
  let main_cst_2 : FVec F S_ .f32 := constant S_ .f32 0x7F800000#32
  let main_v10 : FVec F S2x4096x8x64 .f32 := broadcastInDim S2x4096x8x64 ![] bcast_S_S2x4096x8x64 main_cst_2
  let main_v11 : IVec S2x4096x8x64 1 := cmpf .olt main_v9 main_v10
  let main_c_3 : IVec S_ 1 := constantI S_ 1 1#1
  let main_v12 : IVec S_ 1 := (fun x v => Host.reduce IntOp.andi x v reducesTo_S2x4096x8x64_S_d0_1_2_3 h_S_) main_v11 main_c_3
  let main_v13 : IVec S_ 1 := andi main_v8 main_v12
  let main_v14 : FVec F S2x4096x8 .f32 := Host.absf main_arg3
  let main_cst_4 : FVec F S_ .f32 := constant S_ .f32 0x7F800000#32
  let main_v15 : FVec F S2x4096x8 .f32 := broadcastInDim S2x4096x8 ![] bcast_S_S2x4096x8 main_cst_4
  let main_v16 : IVec S2x4096x8 1 := cmpf .olt main_v14 main_v15
  fn_part1 (F := F) main_arg4 main_v13 main_v16
-- ==== Kernel.lean ====
abbrev S2x4096x8x64 : Shape := ⟨4, ![2, 4096, 8, 64]⟩
abbrev S2x4096x8 : Shape := ⟨3, ![2, 4096, 8]⟩
abbrev S_ : Shape := ⟨0, ![]⟩
abbrev S2x8x4096x4096 : Shape := ⟨4, ![2, 8, 4096, 4096]⟩
abbrev S2x8x4096 : Shape := ⟨3, ![2, 8, 4096]⟩
abbrev S2x8x4096x1 : Shape := ⟨4, ![2, 8, 4096, 1]⟩
abbrev S2x8x1x4096 : Shape := ⟨4, ![2, 8, 1, 4096]⟩
abbrev S2x8x64x4096 : Shape := ⟨4, ![2, 8, 64, 4096]⟩
abbrev S2x4096x8x1 : Shape := ⟨4, ![2, 4096, 8, 1]⟩
abbrev S2x4096x8x3 : Shape := ⟨4, ![2, 4096, 8, 3]⟩
abbrev S2x4096x8x54 : Shape := ⟨4, ![2, 4096, 8, 54]⟩
abbrev S2x4096x8x128 : Shape := ⟨4, ![2, 4096, 8, 128]⟩
abbrev S8192x1024 : Shape := ⟨2, ![8192, 1024]⟩
abbrev S2x4096x8x6 : Shape := ⟨4, ![2, 4096, 8, 6]⟩
abbrev S2x4096x8x9 : Shape := ⟨4, ![2, 4096, 8, 9]⟩
abbrev S2x4096x8x51 : Shape := ⟨4, ![2, 4096, 8, 51]⟩
abbrev S2x4096x8x10 : Shape := ⟨4, ![2, 4096, 8, 10]⟩
abbrev S4096x256 : Shape := ⟨2, ![4096, 256]⟩
abbrev S1024x256 : Shape := ⟨2, ![1024, 256]⟩
abbrev S1024x1024 : Shape := ⟨2, ![1024, 1024]⟩
abbrev S1024x128 : Shape := ⟨2, ![1024, 128]⟩

abbrev nBuf : Space → Nat
  | .hbm => 150
  | .vmem => 14
  | .smem => 0
  | _ => 0

abbrev hbmTy0_0 (i : Nat) : BufTy := match i % 128 with
  | 0 => ⟨S2x4096x8x64, .f32⟩
  | 1 => ⟨S2x4096x8x64, .f32⟩
  | 2 => ⟨S2x4096x8x64, .f32⟩
  | 3 => ⟨S2x4096x8, .f32⟩
  | 4 => ⟨S2x4096x8x64, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S2x4096x8, .f32⟩
  | 12 => ⟨S2x8x4096x4096, .f32⟩
  | 13 => ⟨S_, .f32⟩
  | 14 => ⟨S2x8x4096x4096, .f32⟩
  | 15 => ⟨S2x8x4096x4096, .f32⟩
  | 16 => ⟨S2x8x4096, .f32⟩
  | 17 => ⟨S2x8x4096x1, .f32⟩
  | 18 => ⟨S2x8x1x4096, .f32⟩
  | 19 => ⟨S2x8x4096x4096, .f32⟩
  | 20 => ⟨S2x8x4096x4096, .f32⟩
  | 21 => ⟨S2x8x4096x4096, .f32⟩
  | 22 => ⟨S2x8x4096x4096, .f32⟩
  | 23 => ⟨S2x8x4096x4096, .i32⟩
  | 24 => ⟨S2x8x4096x4096, .i32⟩
  | 25 => ⟨S2x8x4096x4096, .i1⟩
  | 26 => ⟨S_, .f32⟩
  | 27 => ⟨S2x8x4096x4096, .f32⟩
  | 28 => ⟨S2x8x4096x4096, .f32⟩
  | 29 => ⟨S_, .f32⟩
  | 30 => ⟨S2x8x4096, .f32⟩
  | 31 => ⟨S2x8x4096x1, .f32⟩
  | 32 => ⟨S2x8x4096x4096, .f32⟩
  | 33 => ⟨S2x8x4096x4096, .f32⟩
  | 34 => ⟨S2x8x4096x4096, .f32⟩
  | 35 => ⟨S_, .f32⟩
  | 36 => ⟨S2x8x4096, .f32⟩
  | 37 => ⟨S2x8x4096x1, .f32⟩
  | 38 => ⟨S2x8x4096x4096, .f32⟩
  | 39 => ⟨S2x8x4096x4096, .f32⟩
  | 40 => ⟨S2x8x64x4096, .f32⟩
  | 41 => ⟨S2x4096x8x64, .f32⟩
  | 42 => ⟨S2x8x4096x1, .f32⟩
  | 43 => ⟨S2x8x4096x1, .f32⟩
  | 44 => ⟨S2x4096x8x1, .f32⟩
  | 45 => ⟨S2x4096x8x64, .f32⟩
  | 46 => ⟨S_, .f32⟩
  | 47 => ⟨S2x4096x8, .f32⟩
  | 48 => ⟨S2x4096x8x1, .f32⟩
  | 49 => ⟨S2x4096x8, .f32⟩
  | 50 => ⟨S2x4096x8, .f32⟩
  | 51 => ⟨S2x4096x8x1, .f32⟩
  | 52 => ⟨S2x4096x8x1, .bf16⟩
  | 53 => ⟨S2x4096x8x1, .f32⟩
  | 54 => ⟨S2x4096x8x1, .f32⟩
  | 55 => ⟨S2x4096x8x1, .bf16⟩
  | 56 => ⟨S2x4096x8x1, .f32⟩
  | 57 => ⟨S2x4096x8x1, .f32⟩
  | 58 => ⟨S2x4096x8x1, .f32⟩
  | 59 => ⟨S2x4096x8x1, .bf16⟩
  | 60 => ⟨S2x4096x8x1, .f32⟩
  | 61 => ⟨S_, .f32⟩
  | 62 => ⟨S_, .f32⟩
  | 63 => ⟨S2x4096x8x64, .f32⟩
  | 64 => ⟨S2x4096x8x64, .f32⟩
  | 65 => ⟨S_, .f32⟩
  | 66 => ⟨S2x4096x8x1, .f32⟩
  | 67 => ⟨S_, .f32⟩
  | 68 => ⟨S2x4096x8x3, .f32⟩
  | 69 => ⟨S2x4096x8x1, .f32⟩
  | 70 => ⟨S2x4096x8x1, .f32⟩
  | 71 => ⟨S2x4096x8x1, .f32⟩
  | 72 => ⟨S2x4096x8x1, .bf16⟩
  | 73 => ⟨S2x4096x8x1, .f32⟩
  | 74 => ⟨S2x4096x8x1, .f32⟩
  | 75 => ⟨S2x4096x8x1, .bf16⟩
  | 76 => ⟨S2x4096x8x1, .f32⟩
  | 77 => ⟨S2x4096x8x1, .f32⟩
  | 78 => ⟨S2x4096x8x1, .f32⟩
  | 79 => ⟨S2x4096x8x1, .bf16⟩
  | 80 => ⟨S2x4096x8x1, .f32⟩
  | 81 => ⟨S_, .f32⟩
  | 82 => ⟨S2x4096x8x54, .f32⟩
  | 83 => ⟨S2x4096x8x128, .f32⟩
  | 84 => ⟨S2x4096x8x128, .bf16⟩
  | 85 => ⟨S8192x1024, .bf16⟩
  | 86 => ⟨S_, .f32⟩
  | 87 => ⟨S2x4096x8x1, .f32⟩
  | 88 => ⟨S2x4096x8x1, .f32⟩
  | 89 => ⟨S2x4096x8x1, .f32⟩
  | 90 => ⟨S2x4096x8x1, .f32⟩
  | 91 => ⟨S_, .f32⟩
  | 92 => ⟨S2x4096x8x6, .f32⟩
  | 93 => ⟨S_, .f32⟩
  | 94 => ⟨S2x4096x8x54, .f32⟩
  | 95 => ⟨S2x4096x8x128, .f32⟩
  | 96 => ⟨S2x4096x8x128, .bf16⟩
  | 97 => ⟨S8192x1024, .bf16⟩
  | 98 => ⟨S_, .f32⟩
  | 99 => ⟨S2x4096x8x1, .f32⟩
  | 100 => ⟨S_, .f32⟩
  | 101 => ⟨S2x4096x8x9, .f32⟩
  | 102 => ⟨S_, .f32⟩
  | 103 => ⟨S2x4096x8x3, .f32⟩
  | 104 => ⟨S_, .f32⟩
  | 105 => ⟨S2x4096x8x51, .f32⟩
  | 106 => ⟨S2x4096x8x128, .f32⟩
  | 107 => ⟨S2x4096x8x128, .bf16⟩
  | 108 => ⟨S8192x1024, .bf16⟩
  | 109 => ⟨S_, .f32⟩
  | 110 => ⟨S2x4096x8x10, .f32⟩
  | 111 => ⟨S2x4096x8x1, .f32⟩
  | 112 => ⟨S2x4096x8x1, .bf16⟩
  | 113 => ⟨S2x4096x8x1, .f32⟩
  | 114 => ⟨S2x4096x8x1, .f32⟩
  | 115 => ⟨S2x4096x8x1, .bf16⟩
  | 116 => ⟨S2x4096x8x1, .f32⟩
  | 117 => ⟨S2x4096x8x1, .f32⟩
  | 118 => ⟨S2x4096x8x1, .f32⟩
  | 119 => ⟨S2x4096x8x1, .bf16⟩
  | 120 => ⟨S2x4096x8x1, .f32⟩
  | 121 => ⟨S_, .f32⟩
  | 122 => ⟨S2x4096x8x51, .f32⟩
  | 123 => ⟨S2x4096x8x128, .f32⟩
  | 124 => ⟨S2x4096x8x128, .bf16⟩
  | 125 => ⟨S8192x1024, .bf16⟩
  | 126 => ⟨S8192x1024, .f32⟩
  | 127 => ⟨S8192x1024, .f32⟩
  | _ => ⟨S2x4096x8x64, .f32⟩

abbrev hbmTy0_1 (i : Nat) : BufTy := match i % 128 with
  | 0 => ⟨S8192x1024, .f32⟩
  | 1 => ⟨S2x4096x8x128, .f32⟩
  | 2 => ⟨S2x4096x8x128, .f32⟩
  | 3 => ⟨S2x4096x8x128, .f32⟩
  | 4 => ⟨S2x4096x8x1, .f32⟩
  | 5 => ⟨S2x4096x8, .f32⟩
  | 6 => ⟨S2x4096x8x1, .f32⟩
  | 7 => ⟨S2x4096x8, .f32⟩
  | 8 => ⟨S2x4096x8, .f32⟩
  | 9 => ⟨S2x4096x8x64, .f32⟩
  | 10 => ⟨S_, .f32⟩
  | 11 => ⟨S2x4096x8x64, .f32⟩
  | 12 => ⟨S2x4096x8x64, .f32⟩
  | 13 => ⟨S2x4096x8x64, .f32⟩
  | 14 => ⟨S_, .f32⟩
  | 15 => ⟨S_, .f32⟩
  | 16 => ⟨S2x4096x8x64, .f32⟩
  | 17 => ⟨S2x4096x8x64, .f32⟩
  | 18 => ⟨S2x4096x8x64, .f32⟩
  | 19 => ⟨S_, .f32⟩
  | 20 => ⟨S_, .f32⟩
  | 21 => ⟨S2x4096x8, .f32⟩
  | _ => ⟨S2x4096x8x64, .f32⟩

abbrev hbmTy (i : Nat) : BufTy := match i / 128 with
  | 0 => hbmTy0_0 i
  | 1 => hbmTy0_1 i
  | _ => ⟨S2x4096x8x64, .f32⟩

abbrev bufTy : (tb : Table) → Fin (tcTables nBuf tb) → BufTy
  | .hbm, ⟨i, _⟩ => hbmTy i
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S4096x256, .f32⟩
  | .local _ .vmem, ⟨9, _⟩ => ⟨S4096x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | _, _ => ⟨S2x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_call0_call0_cst : Ref sig .tc := ⟨.hbm, 9, rfl⟩
abbrev main_call0_call0_v0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_9 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_10 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_11 : Ref sig .tc := ⟨.hbm, 91, rfl⟩
abbrev main_v72 : Ref sig .tc := ⟨.hbm, 92, rfl⟩
abbrev main_cst_12 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_13 : Ref sig .tc := ⟨.hbm, 98, rfl⟩
abbrev main_v77 : Ref sig .tc := ⟨.hbm, 99, rfl⟩
abbrev main_cst_14 : Ref sig .tc := ⟨.hbm, 100, rfl⟩
abbrev main_v78 : Ref sig .tc := ⟨.hbm, 101, rfl⟩
abbrev main_cst_15 : Ref sig .tc := ⟨.hbm, 102, rfl⟩
abbrev main_v79 : Ref sig .tc := ⟨.hbm, 103, rfl⟩
abbrev main_cst_16 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_17 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_18 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99_0 : Ref sig .tc := ⟨.hbm, 126, rfl⟩
abbrev main_v99_1 : Ref sig .tc := ⟨.hbm, 127, rfl⟩
abbrev main_v99_2 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_cst_19 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_cst_20 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_call1_cst : Ref sig .tc := ⟨.hbm, 147, rfl⟩
abbrev main_call1_v0 : Ref sig .tc := ⟨.hbm, 148, rfl⟩
abbrev main_v116 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 4], ![false, false, false]⟩

def k0_mult1 (i : grid0.Coords) : BitVec 32 :=
  let arg2 : BitVec 32 := BitVec.ofNat 32 (i 2).val
  let c1024_i32 : BitVec 32 := 1024#32
  let v14 : BitVec 32 := Scalar.muli arg2 c1024_i32
  v14
def k0_off1 (i : grid0.Coords) : Fin 2 → Nat :=
  let arg2 : BitVec 32 := BitVec.ofNat 32 (i 2).val
  let c1024_i32 : BitVec 32 := 1024#32
  let v14 : BitVec 32 := Scalar.muli arg2 c1024_i32
  let v15 : BitVec 32 := v14
  let v16 : Index := Scalar.indexCast v15
  let c0_7 : Index := 0#32
  ![v16.toNat, 0]
def k0_off2 (i : grid0.Coords) : Fin 2 → Nat :=
  let arg2 : BitVec 32 := BitVec.ofNat 32 (i 2).val
  let c1024_i32 : BitVec 32 := 1024#32
  let v14 : BitVec 32 := Scalar.muli arg2 c1024_i32
  let v15 : BitVec 32 := v14
  let v45 : Index := Scalar.indexCast v15
  let c128_18 : Index := 128#32
  ![v45.toNat, 128]
@[reducible] def k0_t1_loop (i : grid0.Coords) : Scf.Loop 32 :=
  let arg2 : BitVec 32 := BitVec.ofNat 32 (i 2).val
  let c1_i32 : BitVec 32 := 1#32
  let v74 : BitVec 32 := Scalar.addi arg2 c1_i32
  let c4_i32 : BitVec 32 := 4#32
  let v75 : BitVec 32 := Scalar.subi c4_i32 v74
  let c1_i32_29 : BitVec 32 := 1#32
  let v77 : BitVec 32 := Scalar.divsi v75 c1_i32_29
  let v78 : BitVec 32 := Scalar.muli v77 c1_i32_29
  let v79 : BitVec 32 := Scalar.addi v74 v78
  let c1_i32_30 : BitVec 32 := 1#32
  ⟨v74, v79, c1_i32_30⟩
def k0_mult2 (i : grid0.Coords) (k0_t1 : Fin (k0_t1_loop i).trips) : BitVec 32 :=
  let arg2 : BitVec 32 := BitVec.ofNat 32 (i 2).val
  let c1_i32 : BitVec 32 := 1#32
  let v74 : BitVec 32 := Scalar.addi arg2 c1_i32
  let c1_i32_30 : BitVec 32 := 1#32
  let arg10 : BitVec 32 := Scf.iv v74 c1_i32_30 k0_t1
  let c1024_i32_40 : BitVec 32 := 1024#32
  let v86 : BitVec 32 := Scalar.muli arg10 c1024_i32_40
  v86
def k0_off3 (i : grid0.Coords) (k0_t1 : Fin (k0_t1_loop i).trips) : Fin 2 → Nat :=
  let arg2 : BitVec 32 := BitVec.ofNat 32 (i 2).val
  let c1_i32 : BitVec 32 := 1#32
  let v74 : BitVec 32 := Scalar.addi arg2 c1_i32
  let c1_i32_30 : BitVec 32 := 1#32
  let arg10 : BitVec 32 := Scf.iv v74 c1_i32_30 k0_t1
  let c1024_i32_40 : BitVec 32 := 1024#32
  let v86 : BitVec 32 := Scalar.muli arg10 c1024_i32_40
  let v87 : BitVec 32 := v86
  let v88 : Index := Scalar.indexCast v87
  let c0_41 : Index := 0#32
  ![v88.toNat, 0]
def k0_off4 (i : grid0.Coords) (k0_t1 : Fin (k0_t1_loop i).trips) : Fin 2 → Nat :=
  let arg2 : BitVec 32 := BitVec.ofNat 32 (i 2).val
  let c1_i32 : BitVec 32 := 1#32
  let v74 : BitVec 32 := Scalar.addi arg2 c1_i32
  let c1_i32_30 : BitVec 32 := 1#32
  let arg10 : BitVec 32 := Scf.iv v74 c1_i32_30 k0_t1
  let c1024_i32_40 : BitVec 32 := 1024#32
  let v86 : BitVec 32 := Scalar.muli arg10 c1024_i32_40
  let v87 : BitVec 32 := v86
  let v111 : Index := Scalar.indexCast v87
  let c128_50 : Index := 128#32
  ![v111.toNat, 128]
@[reducible] def k0_t2_loop (i : grid0.Coords) : Scf.Loop 32 :=
  let arg2 : BitVec 32 := BitVec.ofNat 32 (i 2).val
  let c1_i32 : BitVec 32 := 1#32
  let v74 : BitVec 32 := Scalar.addi arg2 c1_i32
  let c4_i32 : BitVec 32 := 4#32
  let v75 : BitVec 32 := Scalar.subi c4_i32 v74
  let c1_i32_29 : BitVec 32 := 1#32
  let v77 : BitVec 32 := Scalar.divsi v75 c1_i32_29
  let v78 : BitVec 32 := Scalar.muli v77 c1_i32_29
  let v79 : BitVec 32 := Scalar.addi v74 v78
  let v76 : BitVec 32 := Scalar.addi v74 v75
  let c1_i32_31 : BitVec 32 := 1#32
  ⟨v79, v76, c1_i32_31⟩
def k0_mult3 (i : grid0.Coords) (k0_t2 : Fin (k0_t2_loop i).trips) : BitVec 32 :=
  let arg2 : BitVec 32 := BitVec.ofNat 32 (i 2).val
  let c1_i32 : BitVec 32 := 1#32
  let v74 : BitVec 32 := Scalar.addi arg2 c1_i32
  let c4_i32 : BitVec 32 := 4#32
  let v75 : BitVec 32 := Scalar.subi c4_i32 v74
  let c1_i32_29 : BitVec 32 := 1#32
  let v77 : BitVec 32 := Scalar.divsi v75 c1_i32_29
  let v78 : BitVec 32 := Scalar.muli v77 c1_i32_29
  let v79 : BitVec 32 := Scalar.addi v74 v78
  let c1_i32_31 : BitVec 32 := 1#32
  let arg10 : BitVec 32 := Scf.iv v79 c1_i32_31 k0_t2
  let c1024_i32_40 : BitVec 32 := 1024#32
  let v86 : BitVec 32 := Scalar.muli arg10 c1024_i32_40
  v86
def k0_off5 (i : grid0.Coords) (k0_t2 : Fin (k0_t2_loop i).trips) : Fin 2 → Nat :=
  let arg2 : BitVec 32 := BitVec.ofNat 32 (i 2).val
  let c1_i32 : BitVec 32 := 1#32
  let v74 : BitVec 32 := Scalar.addi arg2 c1_i32
  let c4_i32 : BitVec 32 := 4#32
  let v75 : BitVec 32 := Scalar.subi c4_i32 v74
  let c1_i32_29 : BitVec 32 := 1#32
  let v77 : BitVec 32 := Scalar.divsi v75 c1_i32_29
  let v78 : BitVec 32 := Scalar.muli v77 c1_i32_29
  let v79 : BitVec 32 := Scalar.addi v74 v78
  let c1_i32_31 : BitVec 32 := 1#32
  let arg10 : BitVec 32 := Scf.iv v79 c1_i32_31 k0_t2
  let c1024_i32_40 : BitVec 32 := 1024#32
  let v86 : BitVec 32 := Scalar.muli arg10 c1024_i32_40
  let v87 : BitVec 32 := v86
  let v88 : Index := Scalar.indexCast v87
  let c0_41 : Index := 0#32
  ![v88.toNat, 0]
def k0_off6 (i : grid0.Coords) (k0_t2 : Fin (k0_t2_loop i).trips) : Fin 2 → Nat :=
  let arg2 : BitVec 32 := BitVec.ofNat 32 (i 2).val
  let c1_i32 : BitVec 32 := 1#32
  let v74 : BitVec 32 := Scalar.addi arg2 c1_i32
  let c4_i32 : BitVec 32 := 4#32
  let v75 : BitVec 32 := Scalar.subi c4_i32 v74
  let c1_i32_29 : BitVec 32 := 1#32
  let v77 : BitVec 32 := Scalar.divsi v75 c1_i32_29
  let v78 : BitVec 32 := Scalar.muli v77 c1_i32_29
  let v79 : BitVec 32 := Scalar.addi v74 v78
  let c1_i32_31 : BitVec 32 := 1#32
  let arg10 : BitVec 32 := Scf.iv v79 c1_i32_31 k0_t2
  let c1024_i32_40 : BitVec 32 := 1024#32
  let v86 : BitVec 32 := Scalar.muli arg10 c1024_i32_40
  let v87 : BitVec 32 := v86
  let v111 : Index := Scalar.indexCast v87
  let c128_50 : Index := 128#32
  ![v111.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S2x4096x8x64 : Shape := ⟨4, ![2, 4096, 8, 64]⟩
abbrev S2x4096x8 : Shape := ⟨3, ![2, 4096, 8]⟩
abbrev S_ : Shape := ⟨0, ![]⟩
abbrev S2x8x4096x4096 : Shape := ⟨4, ![2, 8, 4096, 4096]⟩
abbrev S2x8x4096 : Shape := ⟨3, ![2, 8, 4096]⟩
abbrev S2x8x4096x1 : Shape := ⟨4, ![2, 8, 4096, 1]⟩
abbrev S2x8x1x4096 : Shape := ⟨4, ![2, 8, 1, 4096]⟩
abbrev S2x8x64x4096 : Shape := ⟨4, ![2, 8, 64, 4096]⟩
abbrev S2x8x4096x64 : Shape := ⟨4, ![2, 8, 4096, 64]⟩

abbrev nBuf : Space → Nat
  | .hbm => 111
  | .vmem => 0
  | .smem => 0
  | _ => 0

abbrev bufTy : (tb : Table) → Fin (tcTables nBuf tb) → BufTy
  | .hbm, ⟨0, _⟩ => ⟨S2x4096x8x64, .f32⟩
  | .hbm, ⟨1, _⟩ => ⟨S2x4096x8x64, .f32⟩
  | .hbm, ⟨2, _⟩ => ⟨S2x4096x8x64, .f32⟩
  | .hbm, ⟨3, _⟩ => ⟨S2x4096x8, .f32⟩
  | .hbm, ⟨4, _⟩ => ⟨S2x4096x8x64, .f32⟩
  | .hbm, ⟨5, _⟩ => ⟨S_, .f32⟩
  | .hbm, ⟨6, _⟩ => ⟨S_, .f32⟩
  | .hbm, ⟨7, _⟩ => ⟨S2x4096x8, .f32⟩
  | .hbm, ⟨8, _⟩ => ⟨S2x8x4096x4096, .f32⟩
  | .hbm, ⟨9, _⟩ => ⟨S_, .f32⟩
  | .hbm, ⟨10, _⟩ => ⟨S2x8x4096x4096, .f32⟩
  | .hbm, ⟨11, _⟩ => ⟨S2x8x4096x4096, .f32⟩
  | .hbm, ⟨12, _⟩ => ⟨S2x8x4096, .f32⟩
  | .hbm, ⟨13, _⟩ => ⟨S2x8x4096x1, .f32⟩
  | .hbm, ⟨14, _⟩ => ⟨S2x8x1x4096, .f32⟩
  | .hbm, ⟨15, _⟩ => ⟨S2x8x4096x4096, .f32⟩
  | .hbm, ⟨16, _⟩ => ⟨S2x8x4096x4096, .f32⟩
  | .hbm, ⟨17, _⟩ => ⟨S2x8x4096x4096, .f32⟩
  | .hbm, ⟨18, _⟩ => ⟨S2x8x4096x4096, .f32⟩
  | .hbm, ⟨19, _⟩ => ⟨S2x8x4096x4096, .i32⟩
  | .hbm, ⟨20, _⟩ => ⟨S2x8x4096x4096, .i32⟩
  | .hbm, ⟨21, _⟩ => ⟨S2x8x4096x4096, .i1⟩
  | .hbm, ⟨22, _⟩ => ⟨S_, .f32⟩
  | .hbm, ⟨23, _⟩ => ⟨S2x8x4096x4096, .f32⟩
  | .hbm, ⟨24, _⟩ => ⟨S2x8x4096x4096, .f32⟩
  | .hbm, ⟨25, _⟩ => ⟨S_, .f32⟩
  | .hbm, ⟨26, _⟩ => ⟨S2x8x4096x4096, .f32⟩
  | .hbm, ⟨27, _⟩ => ⟨S_, .f32⟩
  | .hbm, ⟨28, _⟩ => ⟨S2x8x4096, .f32⟩
  | .hbm, ⟨29, _⟩ => ⟨S2x8x4096x1, .f32⟩
  | .hbm, ⟨30, _⟩ => ⟨S2x8x4096x4096, .f32⟩
  | .hbm, ⟨31, _⟩ => ⟨S2x8x4096x4096, .i1⟩
  | .hbm, ⟨32, _⟩ => ⟨S2x8x4096x4096, .f32⟩
  | .hbm, ⟨33, _⟩ => ⟨S_, .f32⟩
  | .hbm, ⟨34, _⟩ => ⟨S2x8x4096, .f32⟩
  | .hbm, ⟨35, _⟩ => ⟨S_, .f32⟩
  | .hbm, ⟨36, _⟩ => ⟨S2x8x4096, .f32⟩
  | .hbm, ⟨37, _⟩ => ⟨S2x8x4096, .f32⟩
  | .hbm, ⟨38, _⟩ => ⟨S_, .f32⟩
  | .hbm, ⟨39, _⟩ => ⟨S2x8x4096, .f32⟩
  | .hbm, ⟨40, _⟩ => ⟨S2x8x4096, .i1⟩
  | .hbm, ⟨41, _⟩ => ⟨S_, .f32⟩
  | .hbm, ⟨42, _⟩ => ⟨S2x8x4096, .f32⟩
  | .hbm, ⟨43, _⟩ => ⟨S2x8x4096, .i1⟩
  | .hbm, ⟨44, _⟩ => ⟨S_, .f32⟩
  | .hbm, ⟨45, _⟩ => ⟨S2x8x4096, .f32⟩
  | .hbm, ⟨46, _⟩ => ⟨S_, .f32⟩
  | .hbm, ⟨47, _⟩ => ⟨S2x8x4096, .f32⟩
  | .hbm, ⟨48, _⟩ => ⟨S_, .f32⟩
  | .hbm, ⟨49, _⟩ => ⟨S2x8x4096, .f32⟩
  | .hbm, ⟨50, _⟩ => ⟨S2x8x4096, .f32⟩
  | .hbm, ⟨51, _⟩ => ⟨S2x8x4096, .f32⟩
  | .hbm, ⟨52, _⟩ => ⟨S2x8x4096x1, .f32⟩
  | .hbm, ⟨53, _⟩ => ⟨S2x8x4096x4096, .f32⟩
  | .hbm, ⟨54, _⟩ => ⟨S2x8x4096x4096, .f32⟩
  | .hbm, ⟨55, _⟩ => ⟨S2x8x4096x4096, .f32⟩
  | .hbm, ⟨56, _⟩ => ⟨S_, .f32⟩
  | .hbm, ⟨57, _⟩ => ⟨S2x8x4096, .f32⟩
  | .hbm, ⟨58, _⟩ => ⟨S2x8x4096x1, .f32⟩
  | .hbm, ⟨59, _⟩ => ⟨S2x8x4096x4096, .f32⟩
  | .hbm, ⟨60, _⟩ => ⟨S2x8x4096x4096, .f32⟩
  | .hbm, ⟨61, _⟩ => ⟨S2x8x4096x1, .f32⟩
  | .hbm, ⟨62, _⟩ => ⟨S_, .f32⟩
  | .hbm, ⟨63, _⟩ => ⟨S2x8x4096x1, .f32⟩
  | .hbm, ⟨64, _⟩ => ⟨S2x8x4096x1, .f32⟩
  | .hbm, ⟨65, _⟩ => ⟨S2x8x64x4096, .f32⟩
  | .hbm, ⟨66, _⟩ => ⟨S2x4096x8x64, .f32⟩
  | .hbm, ⟨67, _⟩ => ⟨S2x8x64x4096, .f32⟩
  | .hbm, ⟨68, _⟩ => ⟨S2x8x4096x4096, .f32⟩
  | .hbm, ⟨69, _⟩ => ⟨S2x8x64x4096, .f32⟩
  | .hbm, ⟨70, _⟩ => ⟨S2x4096x8x64, .f32⟩
  | .hbm, ⟨71, _⟩ => ⟨S2x8x4096x4096, .f32⟩
  | .hbm, ⟨72, _⟩ => ⟨S2x8x4096x4096, .f32⟩
  | .hbm, ⟨73, _⟩ => ⟨S2x8x4096x4096, .f32⟩
  | .hbm, ⟨74, _⟩ => ⟨S_, .f32⟩
  | .hbm, ⟨75, _⟩ => ⟨S2x8x4096, .f32⟩
  | .hbm, ⟨76, _⟩ => ⟨S2x8x4096x1, .f32⟩
  | .hbm, ⟨77, _⟩ => ⟨S2x8x4096x1, .f32⟩
  | .hbm, ⟨78, _⟩ => ⟨S2x8x4096x4096, .f32⟩
  | .hbm, ⟨79, _⟩ => ⟨S2x8x4096x4096, .f32⟩
  | .hbm, ⟨80, _⟩ => ⟨S_, .f32⟩
  | .hbm, ⟨81, _⟩ => ⟨S2x8x4096, .f32⟩
  | .hbm, ⟨82, _⟩ => ⟨S2x8x4096x4096, .f32⟩
  | .hbm, ⟨83, _⟩ => ⟨S2x8x4096x4096, .f32⟩
  | .hbm, ⟨84, _⟩ => ⟨S2x8x4096x4096, .f32⟩
  | .hbm, ⟨85, _⟩ => ⟨S_, .f32⟩
  | .hbm, ⟨86, _⟩ => ⟨S2x8x4096x4096, .f32⟩
  | .hbm, ⟨87, _⟩ => ⟨S2x8x4096x4096, .f32⟩
  | .hbm, ⟨88, _⟩ => ⟨S_, .f32⟩
  | .hbm, ⟨89, _⟩ => ⟨S2x8x4096, .f32⟩
  | .hbm, ⟨90, _⟩ => ⟨S2x8x4096x1, .f32⟩
  | .hbm, ⟨91, _⟩ => ⟨S2x8x4096x4096, .f32⟩
  | .hbm, ⟨92, _⟩ => ⟨S_, .f32⟩
  | .hbm, ⟨93, _⟩ => ⟨S2x8x4096, .f32⟩
  | .hbm, ⟨94, _⟩ => ⟨S2x8x1x4096, .f32⟩
  | .hbm, ⟨95, _⟩ => ⟨S_, .f32⟩
  | .hbm, ⟨96, _⟩ => ⟨S2x8x4096, .f32⟩
  | .hbm, ⟨97, _⟩ => ⟨S_, .f32⟩
  | .hbm, ⟨98, _⟩ => ⟨S2x8x4096, .f32⟩
  | .hbm, ⟨99, _⟩ => ⟨S2x8x4096, .f32⟩
  | .hbm, ⟨100, _⟩ => ⟨S2x4096x8, .f32⟩
  | .hbm, ⟨101, _⟩ => ⟨S_, .f32⟩
  | .hbm, ⟨102, _⟩ => ⟨S2x8x4096x4096, .f32⟩
  | .hbm, ⟨103, _⟩ => ⟨S2x8x4096x4096, .f32⟩
  | .hbm, ⟨104, _⟩ => ⟨S2x8x4096x64, .f32⟩
  | .hbm, ⟨105, _⟩ => ⟨S2x4096x8x64, .f32⟩
  | .hbm, ⟨106, _⟩ => ⟨S2x8x4096x64, .f32⟩
  | .hbm, ⟨107, _⟩ => ⟨S2x4096x8x64, .f32⟩
  | .hbm, ⟨108, _⟩ => ⟨S_, .f32⟩
  | .hbm, ⟨109, _⟩ => ⟨S_, .f32⟩
  | .hbm, ⟨110, _⟩ => ⟨S2x4096x8, .f32⟩
  | _, _ => ⟨S2x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_cst : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_cst_9 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_10 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_11 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_13 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_14 : Ref sig .tc := ⟨.hbm, 85, rfl⟩
abbrev main_v63 : Ref sig .tc := ⟨.hbm, 86, rfl⟩
abbrev main_v64 : Ref sig .tc := ⟨.hbm, 87, rfl⟩
abbrev main_cst_15 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_16 : Ref sig .tc := ⟨.hbm, 92, rfl⟩
abbrev main_v68 : Ref sig .tc := ⟨.hbm, 93, rfl⟩
abbrev main_v69 : Ref sig .tc := ⟨.hbm, 94, rfl⟩
abbrev main_cst_17 : Ref sig .tc := ⟨.hbm, 95, rfl⟩
abbrev main_v70 : Ref sig .tc := ⟨.hbm, 96, rfl⟩
abbrev main_cst_18 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_19 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_call1_call0_cst : Ref sig .tc := ⟨.hbm, 108, rfl⟩
abbrev main_call1_call0_v0 : Ref sig .tc := ⟨.hbm, 109, rfl⟩
abbrev main_v80 : Ref sig .tc := ⟨.hbm, 110, rfl⟩

abbrev nD : Nat := 1
abbrev τ : Topo := Topo.v7x

variable {F : FTy → Type} [FloatOps F]
-- ==== Kernel2.lean ====
abbrev S8192x4096 : Shape := ⟨2, ![8192, 4096]⟩
abbrev S4096x1024 : Shape := ⟨2, ![4096, 1024]⟩
abbrev S8192x1024 : Shape := ⟨2, ![8192, 1024]⟩
abbrev S8192x512 : Shape := ⟨2, ![8192, 512]⟩
abbrev S512x1024 : Shape := ⟨2, ![512, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x4096, .bf16⟩
  | .hbm, ⟨4, _⟩ => ⟨S8192x1024, .bf16⟩
  | .hbm, ⟨5, _⟩ => ⟨S4096x1024, .bf16⟩
  | .hbm, ⟨6, _⟩ => ⟨S4096x1024, .f32⟩
  | .local _ .vmem, ⟨0, _⟩ => ⟨S8192x512, .bf16⟩
  | .local _ .vmem, ⟨1, _⟩ => ⟨S8192x512, .bf16⟩
  | .local _ .vmem, ⟨2, _⟩ => ⟨S8192x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x4096 : Shape := ⟨2, ![8192, 4096]⟩
abbrev S4096x1024 : Shape := ⟨2, ![4096, 1024]⟩
abbrev S8192x1024 : Shape := ⟨2, ![8192, 1024]⟩
abbrev S1024x4096 : Shape := ⟨2, ![1024, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .f32⟩
  | .hbm, ⟨4, _⟩ => ⟨S1024x4096, .f32⟩
  | .hbm, ⟨5, _⟩ => ⟨S4096x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel3.lean ====
abbrev S8192x1024 : Shape := ⟨2, ![8192, 1024]⟩
abbrev S1024x4096 : Shape := ⟨2, ![1024, 4096]⟩
abbrev S8192x4096 : Shape := ⟨2, ![8192, 4096]⟩
abbrev S8x1024x512 : Shape := ⟨3, ![8, 1024, 512]⟩
abbrev S8192x512 : Shape := ⟨2, ![8192, 512]⟩
abbrev S1x1024x512 : Shape := ⟨3, ![1, 1024, 512]⟩
abbrev S1024x512 : Shape := ⟨2, ![1024, 512]⟩
abbrev S1024x8x512 : Shape := ⟨3, ![1024, 8, 512]⟩

abbrev nBuf : Space → Nat
  | .hbm => 9
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x1024, .bf16⟩
  | .hbm, ⟨4, _⟩ => ⟨S8192x4096, .bf16⟩
  | .hbm, ⟨5, _⟩ => ⟨S8x1024x512, .bf16⟩
  | .hbm, ⟨6, _⟩ => ⟨S8x1024x512, .f32⟩
  | .hbm, ⟨7, _⟩ => ⟨S1024x8x512, .f32⟩
  | .hbm, ⟨8, _⟩ => ⟨S1024x4096, .f32⟩
  | .local _ .vmem, ⟨0, _⟩ => ⟨S8192x1024, .bf16⟩
  | .local _ .vmem, ⟨1, _⟩ => ⟨S8192x512, .bf16⟩
  | .local _ .vmem, ⟨2, _⟩ => ⟨S8192x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S1024x4096 : Shape := ⟨2, ![1024, 4096]⟩
abbrev S8192x4096 : Shape := ⟨2, ![8192, 4096]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x4096, .f32⟩
  | .hbm, ⟨4, _⟩ => ⟨S4096x1024, .f32⟩
  | .hbm, ⟨5, _⟩ => ⟨S1024x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S8192x512 : Shape := ⟨2, ![8192, 512]⟩
abbrev S8192x128 : Shape := ⟨2, ![8192, 128]⟩
abbrev S512x1024 : Shape := ⟨2, ![512, 1024]⟩
abbrev S512x4096 : Shape := ⟨2, ![512, 4096]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S8192x8x128 : Shape := ⟨3, ![8192, 8, 128]⟩
abbrev S8192x8x64 : Shape := ⟨3, ![8192, 8, 64]⟩

abbrev nBuf : Space → Nat
  | .hbm => 53
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x1024, .bf16⟩
  | .hbm, ⟨31, _⟩ => ⟨S8192x4096, .bf16⟩
  | .hbm, ⟨32, _⟩ => ⟨S8192x512, .bf16⟩
  | .hbm, ⟨33, _⟩ => ⟨S8192x512, .bf16⟩
  | .hbm, ⟨34, _⟩ => ⟨S4096x1024, .bf16⟩
  | .hbm, ⟨35, _⟩ => ⟨S4096x1024, .f32⟩
  | .hbm, ⟨36, _⟩ => ⟨S4096x1024, .bf16⟩
  | .hbm, ⟨37, _⟩ => ⟨S1024x1024, .bf16⟩
  | .hbm, ⟨38, _⟩ => ⟨S1x1024, .f32⟩
  | .hbm, ⟨39, _⟩ => ⟨S8192x4096, .bf16⟩
  | .hbm, ⟨40, _⟩ => ⟨S8192x1024, .f32⟩
  | .hbm, ⟨41, _⟩ => ⟨S8192x1024, .bf16⟩
  | .hbm, ⟨42, _⟩ => ⟨S8192x512, .bf16⟩
  | .hbm, ⟨43, _⟩ => ⟨S8192x1024, .bf16⟩
  | .hbm, ⟨44, _⟩ => ⟨S8192x128, .f32⟩
  | .hbm, ⟨45, _⟩ => ⟨S1x1024, .f32⟩
  | .hbm, ⟨46, _⟩ => ⟨S8192x1024, .f32⟩
  | .hbm, ⟨47, _⟩ => ⟨S8192x8x128, .f32⟩
  | .hbm, ⟨48, _⟩ => ⟨S8192x8x64, .f32⟩
  | .hbm, ⟨49, _⟩ => ⟨S8192x512, .f32⟩
  | .hbm, ⟨50, _⟩ => ⟨S8192x512, .f32⟩
  | .hbm, ⟨51, _⟩ => ⟨S8192x1024, .f32⟩
  | .hbm, ⟨52, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S512x1024, .f32⟩
  | .local _ .vmem, ⟨5, _⟩ => ⟨S512x1024, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S4096x1024, .bf16⟩
  | .local _ .vmem, ⟨11, _⟩ => ⟨S4096x1024, .bf16⟩
  | .local _ .vmem, ⟨12, _⟩ => ⟨S1024x1024, .bf16⟩
  | .local _ .vmem, ⟨13, _⟩ => ⟨S1x1024, .f32⟩
  | .local _ .vmem, ⟨14, _⟩ => ⟨S512x4096, .bf16⟩
  | .local _ .vmem, ⟨15, _⟩ => ⟨S512x4096, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x512, .bf16⟩
  | .local _ .vmem, ⟨21, _⟩ => ⟨S512x512, .bf16⟩
  | .local _ .vmem, ⟨22, _⟩ => ⟨S512x1024, .bf16⟩
  | .local _ .vmem, ⟨23, _⟩ => ⟨S512x1024, .bf16⟩
  | .local _ .vmem, ⟨24, _⟩ => ⟨S512x128, .f32⟩
  | .local _ .vmem, ⟨25, _⟩ => ⟨S512x128, .f32⟩
  | .local _ .vmem, ⟨26, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28_0 : Ref sig .tc := ⟨.hbm, 39, rfl⟩
abbrev main_v28_1 : Ref sig .tc := ⟨.hbm, 40, rfl⟩
abbrev main_v28_2 : Ref sig .tc := ⟨.hbm, 41, rfl⟩
abbrev main_v28_3 : Ref sig .tc := ⟨.hbm, 42, rfl⟩
abbrev main_v28_4 : Ref sig .tc := ⟨.hbm, 43, rfl⟩
abbrev main_v28_5 : Ref sig .tc := ⟨.hbm, 44, rfl⟩
abbrev main_v28_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference4Ideal.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 79
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x4096, .f32⟩
  | .hbm, ⟨30, _⟩ => ⟨S_, .f32⟩
  | .hbm, ⟨31, _⟩ => ⟨S8192x4096, .f32⟩
  | .hbm, ⟨32, _⟩ => ⟨S8192x4096, .f32⟩
  | .hbm, ⟨33, _⟩ => ⟨S_, .f32⟩
  | .hbm, ⟨34, _⟩ => ⟨S8192x4096, .f32⟩
  | .hbm, ⟨35, _⟩ => ⟨S8192x4096, .i1⟩
  | .hbm, ⟨36, _⟩ => ⟨S_, .f32⟩
  | .hbm, ⟨37, _⟩ => ⟨S8192x4096, .f32⟩
  | .hbm, ⟨38, _⟩ => ⟨S8192x4096, .f32⟩
  | .hbm, ⟨39, _⟩ => ⟨S_, .f32⟩
  | .hbm, ⟨40, _⟩ => ⟨S8192x4096, .f32⟩
  | .hbm, ⟨41, _⟩ => ⟨S8192x4096, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x4096, .f32⟩
  | .hbm, ⟨47, _⟩ => ⟨S8192x4096, .f32⟩
  | .hbm, ⟨48, _⟩ => ⟨S_, .f32⟩
  | .hbm, ⟨49, _⟩ => ⟨S8192x4096, .f32⟩
  | .hbm, ⟨50, _⟩ => ⟨S8192x4096, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Kernel5.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩
abbrev S8192x512 : Shape := ⟨2, ![8192, 512]⟩
abbrev S1x1024 : Shape := ⟨2, ![1, 1024]⟩
abbrev S8192x4096 : Shape := ⟨2, ![8192, 4096]⟩
abbrev S8x128 : Shape := ⟨2, ![8, 128]⟩
abbrev S512x1024 : Shape := ⟨2, ![512, 1024]⟩
abbrev S512x512 : Shape := ⟨2, ![512, 512]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S1 : Shape := ⟨1, ![1]⟩
abbrev S1x1 : Shape := ⟨2, ![1, 1]⟩
abbrev S_ : Shape := ⟨0, ![]⟩

abbrev nBuf : Space → Nat
  | .hbm => 26
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S8192x1024, .bf16⟩
  | .hbm, ⟨8, _⟩ => ⟨S1024x8x512, .f32⟩
  | .hbm, ⟨9, _⟩ => ⟨S8x1024x512, .f32⟩
  | .hbm, ⟨10, _⟩ => ⟨S8x1024x512, .bf16⟩
  | .hbm, ⟨11, _⟩ => ⟨S8192x512, .bf16⟩
  | .hbm, ⟨12, _⟩ => ⟨S8192x512, .bf16⟩
  | .hbm, ⟨13, _⟩ => ⟨S1024x1024, .bf16⟩
  | .hbm, ⟨14, _⟩ => ⟨S1x1024, .f32⟩
  | .hbm, ⟨15, _⟩ => ⟨S4096x1024, .bf16⟩
  | .hbm, ⟨16, _⟩ => ⟨S8192x1024, .f32⟩
  | .hbm, ⟨17, _⟩ => ⟨S8192x1024, .bf16⟩
  | .hbm, ⟨18, _⟩ => ⟨S8192x4096, .bf16⟩
  | .hbm, ⟨19, _⟩ => ⟨S8192x1024, .f32⟩
  | .hbm, ⟨20, _⟩ => ⟨S8192x1024, .bf16⟩
  | .hbm, ⟨21, _⟩ => ⟨S8x128, .f32⟩
  | .hbm, ⟨22, _⟩ => ⟨S1x1, .f32⟩
  | .hbm, ⟨23, _⟩ => ⟨S_, .f32⟩
  | .hbm, ⟨24, _⟩ => ⟨S8192x1024, .f32⟩
  | .hbm, ⟨25, _⟩ => ⟨S8192x4096, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S8x1024x512, .bf16⟩
  | .local _ .vmem, ⟨11, _⟩ => ⟨S4096x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x4096, .bf16⟩
  | .local _ .vmem, ⟨17, _⟩ => ⟨S512x4096, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference5Ideal.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S8192x1024, .f32⟩
  | .hbm, ⟨54, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_cst_7 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Kernel6.lean ====
abbrev S8192x512 : Shape := ⟨2, ![8192, 512]⟩
abbrev S512x1024 : Shape := ⟨2, ![512, 1024]⟩
abbrev S8192x1024 : Shape := ⟨2, ![8192, 1024]⟩
abbrev S4096x512 : Shape := ⟨2, ![4096, 512]⟩
abbrev S4096x1024 : Shape := ⟨2, ![4096, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x512, .bf16⟩
  | .hbm, ⟨4, _⟩ => ⟨S8192x1024, .bf16⟩
  | .hbm, ⟨5, _⟩ => ⟨S512x1024, .bf16⟩
  | .hbm, ⟨6, _⟩ => ⟨S512x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S1024x512, .f32⟩
  | .hbm, ⟨5, _⟩ => ⟨S512x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S8192x1024 : Shape := ⟨2, ![8192, 1024]⟩
abbrev S1024 : Shape := ⟨1, ![1024]⟩
abbrev S1024x2312 : Shape := ⟨2, ![1024, 2312]⟩
abbrev S8 : Shape := ⟨1, ![8]⟩
abbrev S64 : Shape := ⟨1, ![64]⟩
abbrev S2312x1024 : Shape := ⟨2, ![2312, 1024]⟩
abbrev S8x1024 : Shape := ⟨2, ![8, 1024]⟩
abbrev S_ : Shape := ⟨0, ![]⟩
abbrev S120x1024 : Shape := ⟨2, ![120, 1024]⟩
abbrev S128x1024 : Shape := ⟨2, ![128, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S120 : Shape := ⟨1, ![120]⟩
abbrev S8192 : Shape := ⟨1, ![8192]⟩
abbrev S8192x1 : Shape := ⟨2, ![8192, 1]⟩
abbrev S1x1024 : Shape := ⟨2, ![1, 1024]⟩
abbrev S8192x2304 : Shape := ⟨2, ![8192, 2304]⟩
abbrev S8192x128 : Shape := ⟨2, ![8192, 128]⟩
abbrev S8192x512 : Shape := ⟨2, ![8192, 512]⟩
abbrev S8192x256 : Shape := ⟨2, ![8192, 256]⟩
abbrev S512x1024 : Shape := ⟨2, ![512, 1024]⟩
abbrev S2304x1024 : Shape := ⟨2, ![2304, 1024]⟩
abbrev S512x2304 : Shape := ⟨2, ![512, 2304]⟩
abbrev S512x128 : Shape := ⟨2, ![512, 128]⟩
abbrev S512x512 : Shape := ⟨2, ![512, 512]⟩
abbrev S512x256 : Shape := ⟨2, ![512, 256]⟩
abbrev S256x256 : Shape := ⟨2, ![256, 256]⟩
abbrev S128x128 : Shape := ⟨2, ![128, 128]⟩
abbrev S256x128 : Shape := ⟨2, ![256, 128]⟩
abbrev S512x1 : Shape := ⟨2, ![512, 1]⟩
abbrev S8192x8x128 : Shape := ⟨3, ![8192, 8, 128]⟩
abbrev S8192x8x64 : Shape := ⟨3, ![8192, 8, 64]⟩
abbrev S8192x2x128 : Shape := ⟨3, ![8192, 2, 128]⟩
abbrev S8192x2x64 : Shape := ⟨3, ![8192, 2, 64]⟩
abbrev S8192x8 : Shape := ⟨2, ![8192, 8]⟩

abbrev nBuf : Space → Nat
  | .hbm => 74
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2312, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S2312x1024, .f32⟩
  | .hbm, ⟨9, _⟩ => ⟨S2312x1024, .bf16⟩
  | .hbm, ⟨10, _⟩ => ⟨S8x1024, .bf16⟩
  | .hbm, ⟨11, _⟩ => ⟨S_, .bf16⟩
  | .hbm, ⟨12, _⟩ => ⟨S120x1024, .bf16⟩
  | .hbm, ⟨13, _⟩ => ⟨S128x1024, .bf16⟩
  | .hbm, ⟨14, _⟩ => ⟨S1x64, .f32⟩
  | .hbm, ⟨15, _⟩ => ⟨S8x64, .f32⟩
  | .hbm, ⟨16, _⟩ => ⟨S512, .f32⟩
  | .hbm, ⟨17, _⟩ => ⟨S1x512, .f32⟩
  | .hbm, ⟨18, _⟩ => ⟨S1x64, .f32⟩
  | .hbm, ⟨19, _⟩ => ⟨S2x64, .f32⟩
  | .hbm, ⟨20, _⟩ => ⟨S128, .f32⟩
  | .hbm, ⟨21, _⟩ => ⟨S1x128, .f32⟩
  | .hbm, ⟨22, _⟩ => ⟨S1x64, .f32⟩
  | .hbm, ⟨23, _⟩ => ⟨S8x64, .f32⟩
  | .hbm, ⟨24, _⟩ => ⟨S512, .f32⟩
  | .hbm, ⟨25, _⟩ => ⟨S1x512, .f32⟩
  | .hbm, ⟨26, _⟩ => ⟨S1x64, .f32⟩
  | .hbm, ⟨27, _⟩ => ⟨S8x64, .f32⟩
  | .hbm, ⟨28, _⟩ => ⟨S512, .f32⟩
  | .hbm, ⟨29, _⟩ => ⟨S1x512, .f32⟩
  | .hbm, ⟨30, _⟩ => ⟨S_, .f32⟩
  | .hbm, ⟨31, _⟩ => ⟨S120, .f32⟩
  | .hbm, ⟨32, _⟩ => ⟨S128, .f32⟩
  | .hbm, ⟨33, _⟩ => ⟨S1x128, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S8192x1024, .bf16⟩
  | .hbm, ⟨51, _⟩ => ⟨S8192x2304, .f32⟩
  | .hbm, ⟨52, _⟩ => ⟨S8192x128, .f32⟩
  | .hbm, ⟨53, _⟩ => ⟨S8192x512, .bf16⟩
  | .hbm, ⟨54, _⟩ => ⟨S8192x256, .bf16⟩
  | .hbm, ⟨55, _⟩ => ⟨S8192x256, .bf16⟩
  | .hbm, ⟨56, _⟩ => ⟨S8192x1024, .bf16⟩
  | .hbm, ⟨57, _⟩ => ⟨S8192x1024, .bf16⟩
  | .hbm, ⟨58, _⟩ => ⟨S8192x1024, .bf16⟩
  | .hbm, ⟨59, _⟩ => ⟨S8192x1024, .f32⟩
  | .hbm, ⟨60, _⟩ => ⟨S8192x8x128, .f32⟩
  | .hbm, ⟨61, _⟩ => ⟨S8192x8x64, .f32⟩
  | .hbm, ⟨62, _⟩ => ⟨S8192x1024, .f32⟩
  | .hbm, ⟨63, _⟩ => ⟨S8192x8x128, .f32⟩
  | .hbm, ⟨64, _⟩ => ⟨S8192x8x64, .f32⟩
  | .hbm, ⟨65, _⟩ => ⟨S8192x256, .f32⟩
  | .hbm, ⟨66, _⟩ => ⟨S8192x2x128, .f32⟩
  | .hbm, ⟨67, _⟩ => ⟨S8192x2x64, .f32⟩
  | .hbm, ⟨68, _⟩ => ⟨S8192x256, .f32⟩
  | .hbm, ⟨69, _⟩ => ⟨S8192x2x128, .f32⟩
  | .hbm, ⟨70, _⟩ => ⟨S8192x2x64, .f32⟩
  | .hbm, ⟨71, _⟩ => ⟨S8192x8, .f32⟩
  | .hbm, ⟨72, _⟩ => ⟨S8192x512, .f32⟩
  | .hbm, ⟨73, _⟩ => ⟨S8192x8x64, .f32⟩
  | .local _ .vmem, ⟨0, _⟩ => ⟨S512x1024, .bf16⟩
  | .local _ .vmem, ⟨1, _⟩ => ⟨S512x1024, .bf16⟩
  | .local _ .vmem, ⟨2, _⟩ => ⟨S2304x1024, .bf16⟩
  | .local _ .vmem, ⟨3, _⟩ => ⟨S128x1024, .bf16⟩
  | .local _ .vmem, ⟨4, _⟩ => ⟨S1x512, .f32⟩
  | .local _ .vmem, ⟨5, _⟩ => ⟨S1x128, .f32⟩
  | .local _ .vmem, ⟨6, _⟩ => ⟨S1x512, .f32⟩
  | .local _ .vmem, ⟨7, _⟩ => ⟨S1x512, .f32⟩
  | .local _ .vmem, ⟨8, _⟩ => ⟨S1x128, .f32⟩
  | .local _ .vmem, ⟨9, _⟩ => ⟨S512x2304, .f32⟩
  | .local _ .vmem, ⟨10, _⟩ => ⟨S512x2304, .f32⟩
  | .local _ .vmem, ⟨11, _⟩ => ⟨S512x128, .f32⟩
  | .local _ .vmem, ⟨12, _⟩ => ⟨S512x128, .f32⟩
  | .local _ .vmem, ⟨13, _⟩ => ⟨S512x512, .bf16⟩
  | .local _ .vmem, ⟨14, _⟩ => ⟨S512x512, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S1x128, .f32⟩
  | .local _ .vmem, ⟨26, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38_0 : Ref sig .tc := ⟨.hbm, 51, rfl⟩
abbrev main_v38_1 : Ref sig .tc := ⟨.hbm, 52, rfl⟩
abbrev main_v38_2 : Ref sig .tc := ⟨.hbm, 53, rfl⟩
abbrev main_v38_3 : Ref sig .tc := ⟨.hbm, 54, rfl⟩
abbrev main_v38_4 : Ref sig .tc := ⟨.hbm, 55, rfl⟩
abbrev main_v38_5 : Ref sig .tc := ⟨.hbm, 56, rfl⟩
abbrev main_v38_6 : Ref sig .tc := ⟨.hbm, 57, rfl⟩
abbrev main_v38_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2304 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference7Ideal.lean ====
abbrev S8192x1024 : Shape := ⟨2, ![8192, 1024]⟩
abbrev S1024 : Shape := ⟨1, ![1024]⟩
abbrev S1024x2312 : Shape := ⟨2, ![1024, 2312]⟩
abbrev S8 : Shape := ⟨1, ![8]⟩
abbrev S64 : Shape := ⟨1, ![64]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2312 : Shape := ⟨2, ![8192, 2312]⟩
abbrev S8192x512 : Shape := ⟨2, ![8192, 512]⟩
abbrev S8192x128 : Shape := ⟨2, ![8192, 128]⟩
abbrev S8192x8 : Shape := ⟨2, ![8192, 8]⟩
abbrev S8192x8x64 : Shape := ⟨3, ![8192, 8, 64]⟩
abbrev S8192x8x1 : Shape := ⟨3, ![8192, 8, 1]⟩
abbrev S1x1x64 : Shape := ⟨3, ![1, 1, 64]⟩
abbrev S8192x2x64 : Shape := ⟨3, ![8192, 2, 64]⟩
abbrev S8192x2 : Shape := ⟨2, ![8192, 2]⟩
abbrev S8192x2x1 : Shape := ⟨3, ![8192, 2, 1]⟩
abbrev S8192x2304 : Shape := ⟨2, ![8192, 2304]⟩

abbrev nBuf : Space → Nat
  | .hbm => 86
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2312, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x2312, .f32⟩
  | .hbm, ⟨25, _⟩ => ⟨S8192x512, .f32⟩
  | .hbm, ⟨26, _⟩ => ⟨S8192x128, .f32⟩
  | .hbm, ⟨27, _⟩ => ⟨S8192x128, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x8, .f32⟩
  | .hbm, ⟨32, _⟩ => ⟨S8192x8x64, .f32⟩
  | .hbm, ⟨33, _⟩ => ⟨S8192x8x64, .f32⟩
  | .hbm, ⟨34, _⟩ => ⟨S_, .f32⟩
  | .hbm, ⟨35, _⟩ => ⟨S8192x8, .f32⟩
  | .hbm, ⟨36, _⟩ => ⟨S8192x8x1, .f32⟩
  | .hbm, ⟨37, _⟩ => ⟨S_, .f32⟩
  | .hbm, ⟨38, _⟩ => ⟨S8192x8x1, .f32⟩
  | .hbm, ⟨39, _⟩ => ⟨S8192x8x1, .f32⟩
  | .hbm, ⟨40, _⟩ => ⟨S_, .f32⟩
  | .hbm, ⟨41, _⟩ => ⟨S8192x8x1, .f32⟩
  | .hbm, ⟨42, _⟩ => ⟨S8192x8x1, .f32⟩
  | .hbm, ⟨43, _⟩ => ⟨S8192x8x1, .f32⟩
  | .hbm, ⟨44, _⟩ => ⟨S8192x8x64, .f32⟩
  | .hbm, ⟨45, _⟩ => ⟨S8192x8x64, .f32⟩
  | .hbm, ⟨46, _⟩ => ⟨S1x1x64, .f32⟩
  | .hbm, ⟨47, _⟩ => ⟨S8192x8x64, .f32⟩
  | .hbm, ⟨48, _⟩ => ⟨S8192x8x64, .f32⟩
  | .hbm, ⟨49, _⟩ => ⟨S8192x2x64, .f32⟩
  | .hbm, ⟨50, _⟩ => ⟨S8192x2x64, .f32⟩
  | .hbm, ⟨51, _⟩ => ⟨S_, .f32⟩
  | .hbm, ⟨52, _⟩ => ⟨S8192x2, .f32⟩
  | .hbm, ⟨53, _⟩ => ⟨S8192x2x1, .f32⟩
  | .hbm, ⟨54, _⟩ => ⟨S_, .f32⟩
  | .hbm, ⟨55, _⟩ => ⟨S8192x2x1, .f32⟩
  | .hbm, ⟨56, _⟩ => ⟨S8192x2x1, .f32⟩
  | .hbm, ⟨57, _⟩ => ⟨S_, .f32⟩
  | .hbm, ⟨58, _⟩ => ⟨S8192x2x1, .f32⟩
  | .hbm, ⟨59, _⟩ => ⟨S8192x2x1, .f32⟩
  | .hbm, ⟨60, _⟩ => ⟨S8192x2x1, .f32⟩
  | .hbm, ⟨61, _⟩ => ⟨S8192x2x64, .f32⟩
  | .hbm, ⟨62, _⟩ => ⟨S8192x2x64, .f32⟩
  | .hbm, ⟨63, _⟩ => ⟨S1x1x64, .f32⟩
  | .hbm, ⟨64, _⟩ => ⟨S8192x2x64, .f32⟩
  | .hbm, ⟨65, _⟩ => ⟨S8192x2x64, .f32⟩
  | .hbm, ⟨66, _⟩ => ⟨S8192x2x64, .f32⟩
  | .hbm, ⟨67, _⟩ => ⟨S8192x8x64, .f32⟩
  | .hbm, ⟨68, _⟩ => ⟨S8192x8x64, .f32⟩
  | .hbm, ⟨69, _⟩ => ⟨S_, .f32⟩
  | .hbm, ⟨70, _⟩ => ⟨S8192x8, .f32⟩
  | .hbm, ⟨71, _⟩ => ⟨S8192x8x1, .f32⟩
  | .hbm, ⟨72, _⟩ => ⟨S_, .f32⟩
  | .hbm, ⟨73, _⟩ => ⟨S8192x8x1, .f32⟩
  | .hbm, ⟨74, _⟩ => ⟨S8192x8x1, .f32⟩
  | .hbm, ⟨75, _⟩ => ⟨S_, .f32⟩
  | .hbm, ⟨76, _⟩ => ⟨S8192x8x1, .f32⟩
  | .hbm, ⟨77, _⟩ => ⟨S8192x8x1, .f32⟩
  | .hbm, ⟨78, _⟩ => ⟨S8192x8x1, .f32⟩
  | .hbm, ⟨79, _⟩ => ⟨S8192x8x64, .f32⟩
  | .hbm, ⟨80, _⟩ => ⟨S8192x8x64, .f32⟩
  | .hbm, ⟨81, _⟩ => ⟨S1x1x64, .f32⟩
  | .hbm, ⟨82, _⟩ => ⟨S8192x8x64, .f32⟩
  | .hbm, ⟨83, _⟩ => ⟨S8192x8x64, .f32⟩
  | .hbm, ⟨84, _⟩ => ⟨S8192x2304, .f32⟩
  | .hbm, ⟨85, _⟩ => ⟨S8192x8x64, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩

abbrev nD : Nat := 1
abbrev τ : Topo := Topo.v7x

variable {F : FTy → Type} [FloatOps F]
-- ==== Proof.Body.lean ====
/- One run of the kernel body, over any float instance: from the four input blocks and the contents of the gradient
   block of the queries to the contents of the three output blocks. The gradient block of the queries is read and
   written back a 1024 x 128 window at a time, so its contents are stated by `VecWindow.window` and `VecWindow.put`. -/
module

public import proofs.«01_k».proof.Proof.Gen.KernelIdeal.Frame
public import proofs.«01_k».proof.Proof.Gen.KernelIdeal.Loops
public import Idealize.ShloMosaic.Lib.VecWindow
public import Idealize.ShloMosaic.Lib.Pointwise

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-! ## The two accumulations, window by window -/

/-- The window of 1024 rows and one head's 128 lanes of a block at offsets `off`. -/
abbrev win {e : EltTy} (x : Vec F S4096x256 e) (off : Fin 2 → ℕ) (inb : ∀ a, off a + S1024x128.size a ≤ S4096x256.size a) :
    Vec F S1024x128 e := VecWindow.window (s := S4096x256) x off S1024x128.size inb

/-- One half of a key or value tile. -/
abbrev half {e : EltTy} (x : Vec F S1024x256 e) (off : Fin 2 → ℕ) (inb : ∀ a, off a + S1024x128.size a ≤ S1024x256.size a) :
    Vec F S1024x128 e := VecWindow.window (s := S1024x256) x off S1024x128.size inb

section steps

variable (i : grid0.Coords) (x0 x1 : Vec F S4096x256 .bf16) (v6 v8 v10 v12 : FVec F S1024x128 .bf16)

/-- What one trip adds to the query gradients: both heads of one window of rows. -/
def stepD (k : Fin (k0_t1_loop i).trips) (D : Vec F S4096x256 .f32) : Vec F S4096x256 .f32 :=
  have D1 : Vec F S4096x256 .f32 := VecWindow.put (s := S4096x256) D (k0_off3 i k) S1024x128.size
    (k0_pay9 v6 v10 (win x0 (k0_off3 i k) (k0_off3_inb i k)) (win x1 (k0_off3 i k) (k0_off3_inb i k)) (win D (k0_off3 i k) (k0_off3_inb i k)))
  VecWindow.put (s := S4096x256) D1 (k0_off4 i k) S1024x128.size
    (k0_pay1 v8 (k0_pay13 v8 v12 (win x0 (k0_off4 i k) (k0_off4_inb i k)) (win x1 (k0_off4 i k) (k0_off4_inb i k))) (win D (k0_off4 i k) (k0_off4_inb i k)))

/-- What one trip adds to the four carried gradients: of the keys and of the values, head by head. -/
def stepC (k : Fin (k0_t1_loop i).trips) (a : FVec F S1024x128 .f32 × FVec F S1024x128 .f32 × FVec F S1024x128 .f32 × FVec F S1024x128 .f32) :
    FVec F S1024x128 .f32 × FVec F S1024x128 .f32 × FVec F S1024x128 .f32 × FVec F S1024x128 .f32 :=
  (k0_pay8 v6 v10 a.1 (win x0 (k0_off3 i k) (k0_off3_inb i k)) (win x1 (k0_off3 i k) (k0_off3_inb i k)),
   k0_pay7 v6 a.2.1 (win x0 (k0_off3 i k) (k0_off3_inb i k)) (win x1 (k0_off3 i k) (k0_off3_inb i k)),
   k0_pay15 v8 v12 a.2.2.1 (win x0 (k0_off4 i k) (k0_off4_inb i k)) (win x1 (k0_off4 i k) (k0_off4_inb i k)),
   k0_pay14 v8 a.2.2.2 (win x0 (k0_off4 i k) (k0_off4_inb i k)) (win x1 (k0_off4 i k) (k0_off4_inb i k)))

/-- The query gradients after `n` trips. -/
def loopD (D : Vec F S4096x256 .f32) : ℕ → Vec F S4096x256 .f32
  | 0 => D
  | n + 1 => if h : n < (k0_t1_loop i).trips then stepD i x0 x1 v6 v8 v10 v12 ⟨n, h⟩ (loopD D n) else loopD D n

/-- The carried gradients after `n` trips. -/
def loopC (a : FVec F S1024x128 .f32 × FVec F S1024x128 .f32 × FVec F S1024x128 .f32 × FVec F S1024x128 .f32) :
    ℕ → FVec F S1024x128 .f32 × FVec F S1024x128 .f32 × FVec F S1024x128 .f32 × FVec F S1024x128 .f32
  | 0 => a
  | n + 1 => if h : n < (k0_t1_loop i).trips then stepC i x0 x1 v6 v8 v10 v12 ⟨n, h⟩ (loopC a n) else loopC a n

end steps

section trip
variable (𝒱 : Variants) (c : Dev nD) (bd : Option 𝒱.V) (i : grid0.Coords) (arg3 : Memref sig .tc .vmem S4096x256 .bf16) (harg3 : arg3.IsWhole) (arg4 : Memref sig .tc .vmem S4096x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4096x256 .f32) (harg7 : arg7.IsWhole) (arg8 : Memref sig .tc .vmem S1024x256 .f32) (harg8 : arg8.IsWhole) (arg9 : Memref sig .tc .vmem S1024x256 .f32) (harg9 : arg9.IsWhole) (v6 v8 v10 v12 : FVec F S1024x128 .bf16) (v74 : BitVec 32) (X_arg3 : BufTy.Contents (Elt F) arg3.view.ty) (X_arg4 : BufTy.Contents (Elt F) arg4.view.ty)

theorem tripR_eq (k : Fin (k0_t1_loop i).trips) (acc : FVec F S1024x128 .f32 × FVec F S1024x128 .f32 × FVec F S1024x128 .f32 × FVec F S1024x128 .f32) (f : BufTy.Contents (Elt F) arg7.view.ty) :
    tripR_k0_t1 (F := F) 𝒱 c bd i arg3 harg3 arg4 harg4 arg5 harg5 arg6 harg6 arg7 harg7 arg8 harg8 arg9 harg9 v6 v8 v10 v12 v74 X_arg3 X_arg4 k acc f
      = stepC i (arg3.view.read (Elt F) X_arg3) (arg4.view.read (Elt F) X_arg4) v6 v8 v10 v12 k acc := by
  unfold tripR_k0_t1 trip_k0_t1
  rfl

theorem tripL_read (k : Fin (k0_t1_loop i).trips) (acc : FVec F S1024x128 .f32 × FVec F S1024x128 .f32 × FVec F S1024x128 .f32 × FVec F S1024x128 .f32) (f : BufTy.Contents (Elt F) arg7.view.ty) :
    arg7.view.read (Elt F) (arg7.view.writes (Elt F) f (tripL_k0_t1 (F := F) 𝒱 c bd i arg3 harg3 arg4 harg4 arg5 harg5 arg6 harg6 arg7 harg7 arg8 harg8 arg9 harg9 v6 v8 v10 v12 v74 X_arg3 X_arg4 k acc f))
      = stepD i (arg3.view.read (Elt F) X_arg3) (arg4.view.read (Elt F) X_arg4) v6 v8 v10 v12 k (arg7.view.read (Elt F) f) := by
  unfold tripL_k0_t1 trip_k0_t1
  dsimp only
  rw [View.read_writes_cons_put arg7.view f _ _ _ rfl, View.read_writes_cons_put arg7.view f _ _ _ rfl]
  unfold stepD trip_k0_t1.sl.v128
  dsimp only
  rfl

/-- After `n` trips of the loop over the later windows of rows: the carried value and the contents of the query
    gradients' block. -/
theorem st_eq (G : BufTy.Contents (Elt F) arg7.view.ty) (init : FVec F S1024x128 .f32 × FVec F S1024x128 .f32 × FVec F S1024x128 .f32 × FVec F S1024x128 .f32) (n : ℕ) (hn : n ≤ (k0_t1_loop i).trips) :
    (st_k0_t1 (F := F) 𝒱 c bd i arg3 harg3 arg4 harg4 arg5 harg5 arg6 harg6 arg7 harg7 arg8 harg8 arg9 harg9 v6 v8 v10 v12 v74 X_arg3 X_arg4 G init n).1
        = loopC i (arg3.view.read (Elt F) X_arg3) (arg4.view.read (Elt F) X_arg4) v6 v8 v10 v12 init n
      ∧ arg7.view.read (Elt F) (arg7.view.writes (Elt F) G (st_k0_t1 (F := F) 𝒱 c bd i arg3 harg3 arg4 harg4 arg5 harg5 arg6 harg6 arg7 harg7 arg8 harg8 arg9 harg9 v6 v8 v10 v12 v74 X_arg3 X_arg4 G init n).2)
        = loopD i (arg3.view.read (Elt F) X_arg3) (arg4.view.read (Elt F) X_arg4) v6 v8 v10 v12 (arg7.view.read (Elt F) G) n := by
  induction n with
  | zero => exact ⟨rfl, rfl⟩
  | succ n ih =>
    have hn' : n < (k0_t1_loop i).trips := hn
    obtain ⟨h1, h2⟩ := ih (Nat.le_of_lt hn')
    rw [st_k0_t1_succ (F := F) 𝒱 c bd i arg3 harg3 arg4 harg4 arg5 harg5 arg6 harg6 arg7 harg7 arg8 harg8 arg9 harg9 v6 v8 v10 v12 v74 X_arg3 X_arg4 G init ⟨n, hn'⟩]
    constructor
    · refine (tripR_eq 𝒱 c bd i arg3 harg3 arg4 harg4 arg5 harg5 arg6 harg6 arg7 harg7 arg8 harg8 arg9 harg9 v6 v8 v10 v12 v74 X_arg3 X_arg4 ⟨n, hn'⟩ _ _).trans ?_
      rw [h1]
      simp only [loopC, dif_pos hn']
    · rw [View.writes_append]
      refine (tripL_read 𝒱 c bd i arg3 harg3 arg4 harg4 arg5 harg5 arg6 harg6 arg7 harg7 arg8 harg8 arg9 harg9 v6 v8 v10 v12 v74 X_arg3 X_arg4 ⟨n, hn'⟩ _ _).trans ?_
      rw [h2]
      simp only [loopD, dif_pos hn']

end trip

/-! ## The whole body -/

/-- Two heads' halves side by side. -/
def join (a b : FVec F S1024x128 .f32) : Vec F S1024x256 .f32 := fun y =>
  if h : (y 1).val < 128 then a (ix2 (y 0) ⟨(y 1).val, h⟩)
  else b (ix2 (y 0) ⟨(y 1).val - 128, by have : (y 1).val < 256 := (y 1).isLt; omega⟩)

theorem read_join (v : Memref sig .tc .vmem S1024x256 .f32) (f : BufTy.Contents (Elt F) v.view.ty) (a b : FVec F S1024x128 .f32)
    (h0 : ∀ x, (![0, 0] : Fin 2 → ℕ) x + S1024x128.size x ≤ S1024x256.size x) (h1 : ∀ x, (![0, 128] : Fin 2 → ℕ) x + S1024x128.size x ≤ S1024x256.size x) :
    v.view.read (Elt F) (v.view.writes (Elt F) f [⟨Rect.unit ![0, 128] S1024x128.size h1, b⟩, ⟨Rect.unit ![0, 0] S1024x128.size h0, a⟩]) = join a b := by
  rw [View.read_writes_cons_put v.view f _ _ _ rfl, View.read_writes_cons_put v.view f _ _ _ rfl]
  funext y
  have hy0 : (y 0).val < 1024 := (y 0).isLt
  have hy1 : (y 1).val < 256 := (y 1).isLt
  unfold join VecWindow.put
  by_cases h : (y 1).val < 128
  · rw [dif_neg, dif_pos, dif_pos h]
    · refine congrArg a ?_
      funext x
      match x with
      | ⟨0, _⟩ => rfl
      | ⟨1, _⟩ => rfl
    · intro x
      match x with
      | ⟨0, _⟩ => exact ⟨Nat.zero_le _, by show (y 0).val < 0 + 1024; omega⟩
      | ⟨1, _⟩ => exact ⟨Nat.zero_le _, by show (y 1).val < 0 + 128; omega⟩
    · intro hall
      have := (hall 1).1
      change 128 ≤ (y 1).val at this
      omega
  · rw [dif_pos, dif_neg h]
    · refine congrArg b ?_
      funext x
      match x with
      | ⟨0, _⟩ => rfl
      | ⟨1, _⟩ => rfl
    · intro x
      match x with
      | ⟨0, _⟩ => exact ⟨Nat.zero_le _, by show (y 0).val < 0 + 1024; omega⟩
      | ⟨1, _⟩ => exact ⟨by show 128 ≤ (y 1).val; omega, by show (y 1).val < 128 + 128; omega⟩

section body
variable (i : grid0.Coords) (x0 x1 : Vec F S4096x256 .bf16) (x2 x3 : Vec F S1024x256 .bf16)

/-- The first head's half of a tile as it is loaded. -/
abbrev half0 (x : Vec F S1024x256 .bf16) : Vec F S1024x128 .bf16 := half x ![0, 0] inb_S1024x256_S1024x128_0_0
/-- The second head's half. -/
abbrev half1 (x : Vec F S1024x256 .bf16) : Vec F S1024x128 .bf16 := half x ![0, 128] inb_S1024x256_S1024x128_0_128
/-- The rows of the tile on the diagonal, first head. -/
abbrev win1 {e : EltTy} (x : Vec F S4096x256 e) : Vec F S1024x128 e := win x (k0_off1 i) (k0_off1_inb i)
/-- The rows of the tile on the diagonal, second head. -/
abbrev win2 {e : EltTy} (x : Vec F S4096x256 e) : Vec F S1024x128 e := win x (k0_off2 i) (k0_off2_inb i)
/-- The row numbers of a tile. -/
abbrev rowIx : IVec S1024x1024 32 := iota .tc S1024x1024 32 [0] iota_S1024x1024_d0_w32
/-- The column numbers of a tile. -/
abbrev colIx : IVec S1024x1024 32 := iota .tc S1024x1024 32 [1] iota_S1024x1024_d1_w32

/-- The gradient of the logits on the diagonal tile, first head. -/
def diagS : FVec F S1024x1024 .bf16 := k0_pay38 (half0 x2) (half0 x3) (win1 i x0) (win1 i x1)

/-- The query gradients after the diagonal tile. -/
def diagD (D : Vec F S4096x256 .f32) : Vec F S4096x256 .f32 :=
  have D1 : Vec F S4096x256 .f32 := VecWindow.put (s := S4096x256) D (k0_off1 i) S1024x128.size
    (k0_pay41 (k0_pay30 (half0 x2)) (diagS i x0 x1 x2 x3) (win1 i D))
  VecWindow.put (s := S4096x256) D1 (k0_off2 i) S1024x128.size
    (k0_pay48 rowIx colIx (k0_pay31 (half1 x2)) (k0_pay33 (half1 x3)) (win2 i x0) (win2 i x1) (win2 i D))

/-- The four carried gradients after the diagonal tile. -/
def diagC : FVec F S1024x128 .f32 × FVec F S1024x128 .f32 × FVec F S1024x128 .f32 × FVec F S1024x128 .f32 :=
  (k0_pay40 (k0_pay34 (F := F)) (k0_pay35 (win1 i x0)) (diagS i x0 x1 x2 x3) (constant S1024x128 .f32 0x00000000#32),
   k0_pay39 (half0 x2) (win1 i x0) (win1 i x1),
   k0_pay47 rowIx colIx (k0_pay31 (half1 x2)) (k0_pay33 (half1 x3)) (k0_pay34 (F := F)) (win2 i x0) (win2 i x1),
   k0_pay46 rowIx colIx (k0_pay31 (half1 x2)) (k0_pay34 (F := F)) (win2 i x0) (win2 i x1))

/-- The query gradients a run of the body leaves, from those it finds. -/
def bodyD (D : Vec F S4096x256 .f32) : Vec F S4096x256 .f32 :=
  loopD i x0 x1 (k0_pay30 (half0 x2)) (k0_pay31 (half1 x2)) (k0_pay32 (half0 x3)) (k0_pay33 (half1 x3)) (diagD i x0 x1 x2 x3 D) (k0_t1_loop i).trips

/-- The four carried gradients at the end of a run. -/
def bodyC : FVec F S1024x128 .f32 × FVec F S1024x128 .f32 × FVec F S1024x128 .f32 × FVec F S1024x128 .f32 :=
  loopC i x0 x1 (k0_pay30 (half0 x2)) (k0_pay31 (half1 x2)) (k0_pay32 (half0 x3)) (k0_pay33 (half1 x3)) (diagC i x0 x1 x2 x3) (k0_t1_loop i).trips

/-- The key gradients a run leaves. -/
def bodyK : Vec F S1024x256 .f32 := join (bodyC i x0 x1 x2 x3).1 (bodyC i x0 x1 x2 x3).2.2.1
/-- The value gradients a run leaves. -/
def bodyV : Vec F S1024x256 .f32 := join (bodyC i x0 x1 x2 x3).2.1 (bodyC i x0 x1 x2 x3).2.2.2

end body

/-- The second loop never runs. -/
theorem t2_trips (i : grid0.Coords) : Scf.trips (k0_t2_loop i).lb (k0_t2_loop i).ub (k0_t2_loop i).st = 0 := by
  have h : ∀ j : Fin 4, Scf.trips (Scalar.addi (Scalar.addi (BitVec.ofNat 32 j.val) 1#32) (Scalar.muli (Scalar.divsi (Scalar.subi 4#32 (Scalar.addi (BitVec.ofNat 32 j.val) 1#32)) 1#32) 1#32)) (Scalar.addi (Scalar.addi (BitVec.ofNat 32 j.val) 1#32) (Scalar.subi 4#32 (Scalar.addi (BitVec.ofNat 32 j.val) 1#32))) 1#32 = 0 := by decide
  exact h (i 2)

/-- So the second loop leaves what it finds and carries what it is given. -/
theorem st2_eq (𝒱 : Variants) (c : Dev nD) (bd : Option 𝒱.V) (i : grid0.Coords) (arg3 : Memref sig .tc .vmem S4096x256 .bf16) (harg3 : arg3.IsWhole) (arg4 : Memref sig .tc .vmem S4096x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4096x256 .f32) (harg7 : arg7.IsWhole) (arg8 : Memref sig .tc .vmem S1024x256 .f32) (harg8 : arg8.IsWhole) (arg9 : Memref sig .tc .vmem S1024x256 .f32) (harg9 : arg9.IsWhole) (v6 v8 v10 v12 : FVec F S1024x128 .bf16) (v79 : BitVec 32) (X_arg3 : BufTy.Contents (Elt F) arg3.view.ty) (X_arg4 : BufTy.Contents (Elt F) arg4.view.ty)
    (G : BufTy.Contents (Elt F) arg7.view.ty) (init : FVec F S1024x128 .f32 × FVec F S1024x128 .f32 × FVec F S1024x128 .f32 × FVec F S1024x128 .f32) :
    st_k0_t2 (F := F) 𝒱 c bd i arg3 harg3 arg4 harg4 arg5 harg5 arg6 harg6 arg7 harg7 arg8 harg8 arg9 harg9 v6 v8 v10 v12 v79 X_arg3 X_arg4 G init (Scf.trips (k0_t2_loop i).lb (k0_t2_loop i).ub (k0_t2_loop i).st) = (init, []) := by
  rw [t2_trips]; rfl

/-- The body's branch: the first key tile of a block of rows. -/
abbrev isFirst (i : grid0.Coords) : Prop := (Scalar.cmpi .ne (Scalar.extui (Scalar.cmpi .eq (BitVec.ofNat 32 (i 2).val) 0#32)) 0#32) = 1#1

set_option maxHeartbeats 1000000 in
/-- A run where the block of query gradients is kept: inputs at their contents in, outputs at the functions above out. -/
theorem run_later (c : Dev nD) (i : grid0.Coords) (arg3 : Memref sig .tc .vmem S4096x256 .bf16) (harg3 : arg3.IsWhole) (arg4 : Memref sig .tc .vmem S4096x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4096x256 .f32) (harg7 : arg7.IsWhole) (arg8 : Memref sig .tc .vmem S1024x256 .f32) (harg8 : arg8.IsWhole) (arg9 : Memref sig .tc .vmem S1024x256 .f32) (harg9 : arg9.IsWhole) (hc0 : ¬ isFirst i)
    (x0 : Vec F S4096x256 .bf16) (x1 : Vec F S4096x256 .bf16) (x2 : Vec F S1024x256 .bf16) (x3 : Vec F S1024x256 .bf16) (D : Vec F S4096x256 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare D ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (bodyD i x0 x1 x2 x3 D) ∗ owns (c : Thread nD τ) arg8 fullShare (bodyK i x0 x1 x2 x3) ∗ owns (c : Thread nD τ) arg9 fullShare (bodyV i x0 x1 x2 x3)) -∗ K ⟨⟩))
          ⊢ wp frame (wpE (defs₀ (F := F)) Variants.none c none) E (cc0_fox_bwd i arg3 harg3 arg4 harg4 arg5 harg5 arg6 harg6 arg7 harg7 arg8 harg8 arg9 harg9) K := by
    intro E K
    simp only [cc0_fox_bwd_eq_skeleton]; unfold cc0_fox_bwd_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    have e0 := harg3.read_unread (Val := Elt F) x0
    have e1 := harg4.read_unread (Val := Elt F) x1
    have e2 := harg5.read_unread (Val := Elt F) x2
    have e3 := harg6.read_unread (Val := Elt F) x3
    have e4 := harg7.read_unread (Val := Elt F) D
    isplitl [H4]
    · iexists _; isplitr; swap; · iexact H4
      ipureintro
      rw [st2_eq (F := F), List.nil_append, View.writes_append]
      refine (st_eq (F := F) Variants.none c none i arg3 harg3 arg4 harg4 arg5 harg5 arg6 harg6 arg7 harg7 arg8 harg8 arg9 harg9 _ _ _ _ _ _ _ _ _ _ le_rfl).2.trans ?_
      refine Eq.trans (b := bodyD i (arg3.view.read (Elt F) (harg3.unread x0)) (arg4.view.read (Elt F) (harg4.unread x1)) (arg5.view.read (Elt F) (harg5.unread x2)) (arg6.view.read (Elt F) (harg6.unread x3)) (arg7.view.read (Elt F) (harg7.unread D))) ?_ (by rw [e0, e1, e2, e3, e4])
      unfold bodyD
      rw [View.read_writes_cons_put arg7.view _ _ _ _ rfl, View.read_writes_cons_put arg7.view _ _ _ _ rfl]
      rfl
    isplitl [H5]
    · iexists _; isplitr; swap; · iexact H5
      ipureintro
      refine (read_join arg8 f5 _ _ _ _).trans ?_
      rw [st2_eq (F := F)]
      refine Eq.trans (b := bodyK i (arg3.view.read (Elt F) (harg3.unread x0)) (arg4.view.read (Elt F) (harg4.unread x1)) (arg5.view.read (Elt F) (harg5.unread x2)) (arg6.view.read (Elt F) (harg6.unread x3))) ?_ (by rw [e0, e1, e2, e3])
      dsimp only
      exact congrArg₂ join ((congrArg (fun z => z.1) (st_eq (F := F) Variants.none c none i arg3 harg3 arg4 harg4 arg5 harg5 arg6 harg6 arg7 harg7 arg8 harg8 arg9 harg9 _ _ _ _ _ _ _ _ _ _ le_rfl).1).trans rfl) ((congrArg (fun z => z.2.2.1) (st_eq (F := F) Variants.none c none i arg3 harg3 arg4 harg4 arg5 harg5 arg6 harg6 arg7 harg7 arg8 harg8 arg9 harg9 _ _ _ _ _ _ _ _ _ _ le_rfl).1).trans rfl)
    iexists _; isplitr; swap; · iexact H6
    ipureintro
    refine (read_join arg9 f6 _ _ _ _).trans ?_
    rw [st2_eq (F := F)]
    refine Eq.trans (b := bodyV i (arg3.view.read (Elt F) (harg3.unread x0)) (arg4.view.read (Elt F) (harg4.unread x1)) (arg5.view.read (Elt F) (harg5.unread x2)) (arg6.view.read (Elt F) (harg6.unread x3))) ?_ (by rw [e0, e1, e2, e3])
    dsimp only
    exact congrArg₂ join ((congrArg (fun z => z.2.1) (st_eq (F := F) Variants.none c none i arg3 harg3 arg4 harg4 arg5 harg5 arg6 harg6 arg7 harg7 arg8 harg8 arg9 harg9 _ _ _ _ _ _ _ _ _ _ le_rfl).1).trans rfl) ((congrArg (fun z => z.2.2.2) (st_eq (F := F) Variants.none c none i arg3 harg3 arg4 harg4 arg5 harg5 arg6 harg6 arg7 harg7 arg8 harg8 arg9 harg9 _ _ _ _ _ _ _ _ _ _ le_rfl).1).trans rfl)

set_option maxHeartbeats 1000000 in
/-- The same where the block of query gradients is first set to zero. -/
theorem run_first (c : Dev nD) (i : grid0.Coords) (arg3 : Memref sig .tc .vmem S4096x256 .bf16) (harg3 : arg3.IsWhole) (arg4 : Memref sig .tc .vmem S4096x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S4096x256 .f32) (harg7 : arg7.IsWhole) (arg8 : Memref sig .tc .vmem S1024x256 .f32) (harg8 : arg8.IsWhole) (arg9 : Memref sig .tc .vmem S1024x256 .f32) (harg9 : arg9.IsWhole) (hc0 : isFirst i)
    (x0 : Vec F S4096x256 .bf16) (x1 : Vec F S4096x256 .bf16) (x2 : Vec F S1024x256 .bf16) (x3 : Vec F S1024x256 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (bodyD i x0 x1 x2 x3 (k0_pay29 (F := F))) ∗ owns (c : Thread nD τ) arg8 fullShare (bodyK i x0 x1 x2 x3) ∗ owns (c : Thread nD τ) arg9 fullShare (bodyV i x0 x1 x2 x3)) -∗ K ⟨⟩))
          ⊢ wp frame (wpE (defs₀ (F := F)) Variants.none c none) E (cc0_fox_bwd i arg3 harg3 arg4 harg4 arg5 harg5 arg6 harg6 arg7 harg7 arg8 harg8 arg9 harg9) K := by
    intro E K
    simp only [cc0_fox_bwd_eq_skeleton]; unfold cc0_fox_bwd_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg3.eq_unread hf0; obtain rfl := harg4.eq_unread hf1; obtain rfl := harg5.eq_unread hf2; obtain rfl := harg6.eq_unread hf3
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    have e0 := harg3.read_unread (Val := Elt F) x0
    have e1 := harg4.read_unread (Val := Elt F) x1
    have e2 := harg5.read_unread (Val := Elt F) x2
    have e3 := harg6.read_unread (Val := Elt F) x3
    isplitl [H4]
    · iexists _; isplitr; swap; · iexact H4
      ipureintro
      rw [st2_eq (F := F), List.nil_append, View.writes_append]
      refine (st_eq (F := F) Variants.none c none i arg3 harg3 arg4 harg4 arg5 harg5 arg6 harg6 arg7 harg7 arg8 harg8 arg9 harg9 _ _ _ _ _ _ _ _ _ _ le_rfl).2.trans ?_
      refine Eq.trans (b := bodyD i (arg3.view.read (Elt F) (harg3.unread x0)) (arg4.view.read (Elt F) (harg4.unread x1)) (arg5.view.read (Elt F) (harg5.unread x2)) (arg6.view.read (Elt F) (harg6.unread x3)) (k0_pay29 (F := F))) ?_ (by rw [e0, e1, e2, e3])
      unfold bodyD
      rw [View.read_writes_cons_put arg7.view _ _ _ _ rfl]
      unfold run_first.sl.v68 run_first.sl.H4_2
      have h1 : arg7.view.read (Elt F) (arg7.view.writes (Elt F) arg7.view.junk (run_first.sl.H4_1 (F := F))) = k0_pay29 := by
        unfold run_first.sl.H4_1
        exact View.read_writes_full arg7.view _ _ _ _
      rw [View.read_writes_cons_put arg7.view _ _ _ _ rfl, View.readAt_unit arg7.view _ (k0_off2_inb i) rfl (k0_off2_inb i),
        View.read_writes_cons_put arg7.view _ _ _ _ rfl, h1,
        VecWindow.window_put_of_disjoint _ _ _ _ _ _ _ 1 (Or.inr (by show 0 + 128 ≤ 128; omega)),
        View.readAt_unit arg7.view _ (k0_off1_inb i) rfl (k0_off1_inb i), h1]
      rfl
    isplitl [H5]
    · iexists _; isplitr; swap; · iexact H5
      ipureintro
      refine (read_join arg8 f5 _ _ _ _).trans ?_
      rw [st2_eq (F := F)]
      refine Eq.trans (b := bodyK i (arg3.view.read (Elt F) (harg3.unread x0)) (arg4.view.read (Elt F) (harg4.unread x1)) (arg5.view.read (Elt F) (harg5.unread x2)) (arg6.view.read (Elt F) (harg6.unread x3))) ?_ (by rw [e0, e1, e2, e3])
      dsimp only
      exact congrArg₂ join ((congrArg (fun z => z.1) (st_eq (F := F) Variants.none c none i arg3 harg3 arg4 harg4 arg5 harg5 arg6 harg6 arg7 harg7 arg8 harg8 arg9 harg9 _ _ _ _ _ _ _ _ _ _ le_rfl).1).trans rfl) ((congrArg (fun z => z.2.2.1) (st_eq (F := F) Variants.none c none i arg3 harg3 arg4 harg4 arg5 harg5 arg6 harg6 arg7 harg7 arg8 harg8 arg9 harg9 _ _ _ _ _ _ _ _ _ _ le_rfl).1).trans rfl)
    iexists _; isplitr; swap; · iexact H6
    ipureintro
    refine (read_join arg9 f6 _ _ _ _).trans ?_
    rw [st2_eq (F := F)]
    refine Eq.trans (b := bodyV i (arg3.view.read (Elt F) (harg3.unread x0)) (arg4.view.read (Elt F) (harg4.unread x1)) (arg5.view.read (Elt F) (harg5.unread x2)) (arg6.view.read (Elt F) (harg6.unread x3))) ?_ (by rw [e0, e1, e2, e3])
    dsimp only
    exact congrArg₂ join ((congrArg (fun z => z.2.1) (st_eq (F := F) Variants.none c none i arg3 harg3 arg4 harg4 arg5 harg5 arg6 harg6 arg7 harg7 arg8 harg8 arg9 harg9 _ _ _ _ _ _ _ _ _ _ le_rfl).1).trans rfl) ((congrArg (fun z => z.2.2.2) (st_eq (F := F) Variants.none c none i arg3 harg3 arg4 harg4 arg5 harg5 arg6 harg6 arg7 harg7 arg8 harg8 arg9 harg9 _ _ _ _ _ _ _ _ _ _ le_rfl).1).trans rfl)

end Cert.KernelIdeal.Fox
-- ==== Proof.Run.lean ====
/- The run of the whole program from one run of the body: the pipeline's windows point by point, over any float
   instance, and the frame. -/
module

public import proofs.«01_k».proof.Proof.Body
public import proofs.«01_k».proof.Proof.Gen.KernelIdeal.Points
public import Idealize.ShloMosaic.Lib.Pipeline.FrameBody
public import Idealize.ShloMosaic.Lib.Pipeline.FrameSuffix
public import Idealize.ShloMosaic.Lib.WordCmp
public import Idealize.ShloMosaic.Lib.Claim

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The branch is taken at the points divisible by four. -/
theorem isFirst_iff (t : Fin cfg0.N) : isFirst (grid0.coords t) ↔ t.val % 4 = 0 := by
  have ht : t.val < 32 := Nat.lt_of_lt_of_eq t.isLt N_0
  have e2 : (grid0.coords t 2).val = t.val / 1 % 4 := Pipeline.Grid.coords_val t 2 (by decide) rfl
  rw [Nat.div_one] at e2
  simp only [isFirst, e2]
  word_cmp

/-! ## What the three output windows hold after each point -/

/-- The block of query gradients after point `n`, from what the point finds in it. -/
def stepAt (c : Dev nD) (n : ℕ) (D : Vec F S4096x256 .f32) : Vec F S4096x256 .f32 :=
  if h : n < cfg0.N then
    bodyD (grid0.coords ⟨n, h⟩) (iblk m c 0 ⟨n, h⟩) (iblk m c 1 ⟨n, h⟩) (iblk m c 2 ⟨n, h⟩) (iblk m c 3 ⟨n, h⟩) D
  else D

/-- The block of query gradients after point `n`: started from zero at every fourth point. -/
def accD (c : Dev nD) : ℕ → Vec F S4096x256 .f32
  | 0 => stepAt m c 0 (k0_pay29 (F := F))
  | n + 1 => stepAt m c (n + 1) (if (n + 1) % 4 = 0 then (k0_pay29 (F := F)) else accD c n)

theorem accD_first (c : Dev nD) (t : Fin cfg0.N) (h : t.val % 4 = 0) :
    accD m c t.val = bodyD (grid0.coords t) (iblk m c 0 t) (iblk m c 1 t) (iblk m c 2 t) (iblk m c 3 t) (k0_pay29 (F := F)) := by
  obtain ⟨n, hn⟩ := t
  cases n with
  | zero =>
    show stepAt m c 0 (k0_pay29 (F := F)) = _
    exact dif_pos hn
  | succ n =>
    show stepAt m c (n + 1) (if (n + 1) % 4 = 0 then (k0_pay29 (F := F)) else accD m c n) = _
    rw [if_pos h]
    exact dif_pos hn

theorem accD_later (c : Dev nD) (t : Fin cfg0.N) (h : ¬ t.val % 4 = 0) :
    accD m c t.val = bodyD (grid0.coords t) (iblk m c 0 t) (iblk m c 1 t) (iblk m c 2 t) (iblk m c 3 t) (accD m c (t.val - 1)) := by
  obtain ⟨n, hn⟩ := t
  cases n with
  | zero => exact absurd rfl h
  | succ n =>
    show stepAt m c (n + 1) (if (n + 1) % 4 = 0 then (k0_pay29 (F := F)) else accD m c n) = _
    rw [if_neg h]
    exact dif_pos hn

/-! ## The pipeline's proof data -/

/-- Every input window at its block, the three outputs at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accD m c t.val
    | ⟨5, _⟩ => bodyK (grid0.coords t) (iblk m c 0 t) (iblk m c 1 t) (iblk m c 2 t) (iblk m c 3 t)
    | ⟨6, _⟩ => bodyV (grid0.coords t) (iblk m c 0 t) (iblk m c 1 t) (iblk m c 2 t) (iblk m c 3 t)
  Φ _ := Pipeline.ΦA spec0 c
  q _ := fullShare
  owed _ := 0

theorem dats_A (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = accD m c t.val := by dsimp only [dats]
theorem after_5 (c : Dev nD) (t : Fin cfg0.N) : (dats m 0 c).after 5 t = bodyK (grid0.coords t) (iblk m c 0 t) (iblk m c 1 t) (iblk m c 2 t) (iblk m c 3 t) := by dsimp only [dats]
theorem after_6 (c : Dev nD) (t : Fin cfg0.N) : (dats m 0 c).after 6 t = bodyV (grid0.coords t) (iblk m c 0 t) (iblk m c 1 t) (iblk m c 2 t) (iblk m c 3 t) := by dsimp only [dats]

theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d
/-- Between two points of one block of rows the query gradients stay where they are. -/
theorem before_4 (c : Dev nD) (t : Fin cfg0.N) (h : ¬ t.val % 4 = 0) (d) : (dats m 0 c).before 4 t d = accD m c (t.val - 1) := by
  have hfl : (cfg0.win 4).flush ⟨t.val - 1, Nat.lt_of_le_of_lt (Nat.sub_le _ _) t.isLt⟩ = false := by
    rw [Bool.eq_false_iff]
    intro hh
    have := (flush0_4 _).mp hh
    simp only at this
    omega
  rw [Dat.before_out_kept (dats m 0 c) 4 rfl t (fun h0 => h (by rw [h0])) hfl (fun _ => rfl) (fun _ _ => rfl) d, after_4]

/-! ## The body obligation -/

abbrev sm0 (t : Fin cfg0.N) : Memref sig .tc .vmem S4096x256 .bf16 := win0_0.stage (cfg0.slots t 0)
abbrev sm1 (t : Fin cfg0.N) : Memref sig .tc .vmem S4096x256 .bf16 := win0_1.stage (cfg0.slots t 1)
abbrev sm2 (t : Fin cfg0.N) : Memref sig .tc .vmem S1024x256 .bf16 := win0_2.stage (cfg0.slots t 2)
abbrev sm3 (t : Fin cfg0.N) : Memref sig .tc .vmem S1024x256 .bf16 := win0_3.stage (cfg0.slots t 3)
abbrev sm4 (t : Fin cfg0.N) : Memref sig .tc .vmem S4096x256 .f32 := win0_4.stage (cfg0.slots t 4)
abbrev sm5 (t : Fin cfg0.N) : Memref sig .tc .vmem S1024x256 .f32 := win0_5.stage (cfg0.slots t 5)
abbrev sm6 (t : Fin cfg0.N) : Memref sig .tc .vmem S1024x256 .f32 := win0_6.stage (cfg0.slots t 6)

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (sm0 t) fullShare ((dats m 0 c).before 0 t d))
    ∗ (∃ d, owns (c : Thread nD τ) (sm1 t) fullShare ((dats m 0 c).before 1 t d))
    ∗ (∃ d, owns (c : Thread nD τ) (sm2 t) fullShare ((dats m 0 c).before 2 t d))
    ∗ (∃ d, owns (c : Thread nD τ) (sm3 t) fullShare ((dats m 0 c).before 3 t d))
    ∗ (∃ d, owns (c : Thread nD τ) (sm4 t) fullShare ((dats m 0 c).before 4 t d))
    ∗ (∃ d, owns (c : Thread nD τ) (sm5 t) fullShare ((dats m 0 c).before 5 t d))
    ∗ (∃ d, owns (c : Thread nD τ) (sm6 t) fullShare ((dats m 0 c).before 6 t d)))

/-- What it returns. -/
def post (c : Dev nD) (t : Fin cfg0.N) : sProp 𝕄 :=
  iprop((dats m 0 c).Φ t.succ ∗ (dats m 0 c).owesAt () t.succ
    ∗ owns (c : Thread nD τ) (sm0 t) fullShare ((dats m 0 c).after 0 t)
    ∗ owns (c : Thread nD τ) (sm1 t) fullShare ((dats m 0 c).after 1 t)
    ∗ owns (c : Thread nD τ) (sm2 t) fullShare ((dats m 0 c).after 2 t)
    ∗ owns (c : Thread nD τ) (sm3 t) fullShare ((dats m 0 c).after 3 t)
    ∗ owns (c : Thread nD τ) (sm4 t) fullShare ((dats m 0 c).after 4 t)
    ∗ owns (c : Thread nD τ) (sm5 t) fullShare ((dats m 0 c).after 5 t)
    ∗ owns (c : Thread nD τ) (sm6 t) fullShare ((dats m 0 c).after 6 t))

set_option maxHeartbeats 800000 in
/-- The body at any point, by the two runs. -/
theorem triple (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  by_cases h0 : t.val % 4 = 0
  · rw [accD_first m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((run_first c (grid0.coords t) _ _ _ _ _ _ _ _ _ _ _ _ _ _ ((isFirst_iff t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [accD_later m c t h0]
    simp only [before_4 m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((run_later c (grid0.coords t) _ _ _ _ _ _ _ _ _ _ _ _ _ _ (fun h => h0 ((isFirst_iff t).mp h)) (iblk m c 0 t) (iblk m c 1 t) (iblk m c 2 t) (iblk m c 3 t) (accD m c (t.val - 1))) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (triple m c t) rfl .rfl fun _ => .rfl

/-! ## The run and the frame -/

set_option backward.isDefEq.respectTransparency.types false in
set_option maxHeartbeats 800000 in
/-- The run of the whole program, with every semaphore counter at zero at the end. -/
theorem run_all : θ_run defs (onTc (τ := τ) (main (F := F))) (s₀ m ρ)
    (fun r => Pipeline.FramePost cfgs (dats m) 0 (Pipeline.afterTail₀ cfgs (dats m) 0 (V0 m) [hostOps1, hostOps1_1]) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := dats_A m) (hΦ := fun _ _ => rfl)

theorem run_post : θ_run defs (onTc (τ := τ) (main (F := F))) (s₀ m ρ)
    (Pipeline.FramePost cfgs (dats m) 0 (Pipeline.afterTail₀ cfgs (dats m) 0 (V0 m) [hostOps1, hostOps1_1])) :=
  (θ_run defs _ _).mono (fun _ h => h.1) (run_all m ρ)

/-- The arguments end unchanged and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (dats_A m) (run_post m ρ)) ((θ_run defs _ _).mono (fun _ h => h.2) (run_all m ρ))

end Cert.KernelIdeal.Fox
-- ==== Proof.Twin.lean ====
/- The printed kernel and its idealization are one text, so the run proved over any floats is the run of both. -/
module

public import proofs.«01_k».proof.Defs
public import proofs.«01_k».proof.Proof.Gen.Kernel
public import proofs.«01_k».proof.Proof.Run

@[expose] public section

set_option maxRecDepth 100000

noncomputable section

namespace Cert.FoxTwin

open Idealize.ShloMosaic Idealize.ShloMosaic.TcCoe Idealize.SL.Sem

theorem main_eq : Cert.Kernel.main (F := Bits) = Cert.KernelIdeal.main (F := Bits) := by
  with_unfolding_all rfl

theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | ⟨0, _⟩, (t, s) => with_unfolding_all rfl
  | ⟨n + 1, h⟩, _ => exact absurd h (Nat.not_lt.2 (Nat.le_add_left _ _))

theorem defs_eq : Cert.Kernel.defs (F := Bits) = Cert.KernelIdeal.defs (F := Bits) := by
  show Pipeline.defs Cert.KernelIdeal.pcfgs _ = _
  exact congrArg (Pipeline.defs Cert.KernelIdeal.pcfgs) bodies_eq

/-- The frame of the printed kernel. -/
theorem quiescent : Cert.quiescent_Kernel := by
  intro m g _
  rw [main_eq, defs_eq]
  exact Cert.KernelIdeal.Fox.quiescent (F := Bits) m g

end Cert.FoxTwin

end
-- ==== Proof.Line.lean ====
/- A straight line of host operations in which every buffer is written once: what the line leaves at an operation's
   result is the operation's function of what the line leaves at its operands. -/
module

public import Idealize.ShloMosaic.Lib.StableHlo.RunRead

@[expose] public section

noncomputable section

namespace Cert.Line

open Idealize.ShloMosaic Idealize.ShloMosaic.StableHlo

variable {τ : Topo} {sig : RefSig} {Val : EltTy → Type}

/-- `W` lists what the operations of `ops` write, in order. -/
def Writes (ops : List (HloOp τ sig Val)) (W : List (Ref sig .tc)) : Prop :=
  ops.map HloOp.writes = W.map fun w => {Proc.devRef (τ := τ) .tc w}

variable {ops : List (HloOp τ sig Val)} {W : List (Ref sig .tc)}

theorem Writes.drop (hW : Writes ops W) (i : ℕ) : Writes (ops.drop i) (W.drop i) := by
  unfold Writes at *
  rw [List.map_drop, hW, List.map_drop]

/-- A buffer that neither operation `i` nor a later one writes is the same before operation `i` as at the end. -/
theorem upto_eq (hW : Writes ops W) (i : ℕ) {r : Ref sig .tc} (hr : r ∉ W.drop i) (V : Valuation τ sig Val) :
    upto ops V i (Proc.devRef .tc r) = after ops V (Proc.devRef .tc r) := by
  have h : after ops V = after (ops.drop i) (upto ops V i) := by
    unfold upto
    conv_lhs => rw [← List.take_append_drop i ops]
    generalize ops.take i = l₁
    generalize ops.drop i = l₂
    clear hW hr
    induction l₁ generalizing V with
    | nil => rfl
    | cons op l ih => exact ih _
  rw [h]
  exact (after_unwritten (W.drop i) (hW.drop i) hr _).symm

/-- What the line leaves at a buffer no later operation writes is what operation `i` leaves there. -/
theorem read_op (hW : Writes ops W) (i : ℕ) {op : HloOp τ sig Val} (hop : ops[i]? = some op) {r : Ref sig .tc}
    (hr : r ∉ W.drop (i + 1)) (V : Valuation τ sig Val) :
    after ops V (Proc.devRef .tc r) = op.result (upto ops V i) (Proc.devRef .tc r) := by
  obtain ⟨hi, he⟩ := List.getElem?_eq_some_iff.1 hop
  have hseg : ops.drop i = op :: ops.drop (i + 1) := by rw [← he]; exact List.drop_eq_getElem_cons hi
  exact after_last_write (W.drop (i + 1)) hseg (hW.drop (i + 1)) hr V

theorem read_arg (hW : Writes ops W) {r : Ref sig .tc} (hr : r ∉ W) (V : Valuation τ sig Val) :
    after ops V (Proc.devRef .tc r) = V (Proc.devRef .tc r) :=
  after_unwritten W hW hr V

theorem read_nullary (hW : Writes ops W) (i : ℕ) {y : Ref sig .tc} {v : y.ty.Contents Val} {hy}
    (hop : ops[i]? = some (nullary y v hy)) (h : y ∉ W.drop (i + 1)) (V : Valuation τ sig Val) :
    after ops V (Proc.devRef .tc y) = v :=
  (read_op hW i hop h V).trans (nullary_result' v hy _)

theorem read_unary (hW : Writes ops W) (i : ℕ) {x y : Ref sig .tc} {f : x.ty.Contents Val → y.ty.Contents Val} {hx hy}
    (hop : ops[i]? = some (unary x y f hx hy)) (h : y ∉ W.drop (i + 1)) (hx' : x ∉ W.drop i) (V : Valuation τ sig Val) :
    after ops V (Proc.devRef .tc y) = f (after ops V (Proc.devRef .tc x)) :=
  (read_op hW i hop h V).trans ((unary_result' f hx hy _).trans (congrArg f (upto_eq hW i hx' V)))

theorem read_binary (hW : Writes ops W) (i : ℕ) {a b y : Ref sig .tc}
    {f : a.ty.Contents Val → b.ty.Contents Val → y.ty.Contents Val} {ha hb hy}
    (hop : ops[i]? = some (binary a b y f ha hb hy)) (h : y ∉ W.drop (i + 1)) (ha' : a ∉ W.drop i) (hb' : b ∉ W.drop i)
    (V : Valuation τ sig Val) :
    after ops V (Proc.devRef .tc y) = f (after ops V (Proc.devRef .tc a)) (after ops V (Proc.devRef .tc b)) :=
  (read_op hW i hop h V).trans ((binary_result' f ha hb hy _).trans
    (congrArg₂ f (upto_eq hW i ha' V) (upto_eq hW i hb' V)))

theorem read_ternary (hW : Writes ops W) (i : ℕ) {c a b y : Ref sig .tc}
    {f : c.ty.Contents Val → a.ty.Contents Val → b.ty.Contents Val → y.ty.Contents Val} {hc ha hb hy}
    (hop : ops[i]? = some (ternary c a b y f hc ha hb hy)) (h : y ∉ W.drop (i + 1)) (hc' : c ∉ W.drop i)
    (ha' : a ∉ W.drop i) (hb' : b ∉ W.drop i) (V : Valuation τ sig Val) :
    after ops V (Proc.devRef .tc y)
      = f (after ops V (Proc.devRef .tc c)) (after ops V (Proc.devRef .tc a)) (after ops V (Proc.devRef .tc b)) := by
  refine (read_op hW i hop h V).trans ((ternary_result' f hc ha hb hy _).trans ?_)
  rw [upto_eq hW i hc' V, upto_eq hW i ha' V, upto_eq hW i hb' V]

theorem read_reshape (hW : Writes ops W) (i : ℕ) {x y : Ref sig .tc} {he hn hx hy}
    (hop : ops[i]? = some (reshape (Val := Val) x y he hn hx hy)) (h : y ∉ W.drop (i + 1)) (hx' : x ∉ W.drop i)
    (V : Valuation τ sig Val) :
    after ops V (Proc.devRef .tc y) = fun j => he ▸ shapeCast y.ty.shape (after ops V (Proc.devRef .tc x)) hn j := by
  refine (read_op hW i hop h V).trans ((reshape_result' he hn hx hy _).trans ?_)
  rw [upto_eq hW i hx' V]

theorem read_nary (hW : Writes ops W) (i : ℕ) {n : ℕ} {xs : Fin n → Ref sig .tc} {y : Ref sig .tc}
    {f : ((k : Fin n) → (xs k).ty.Contents Val) → y.ty.Contents Val} {hxs hy}
    (hop : ops[i]? = some (nary xs y f hxs hy)) (h : y ∉ W.drop (i + 1)) (hx' : ∀ k, xs k ∉ W.drop i)
    (V : Valuation τ sig Val) :
    after ops V (Proc.devRef .tc y) = f fun k => after ops V (Proc.devRef .tc (xs k)) := by
  refine (read_op hW i hop h V).trans ((nary_result' xs f hxs hy _).trans (congrArg f (funext fun k => ?_)))
  exact upto_eq hW i (hx' k) V

end Cert.Line

end
-- ==== Proof.KLine.lean ====
/- The host operations before the call: what each leaves in its buffer, from what the others leave in its operands. -/
module

public import proofs.«01_k».proof.Proof.Line
public import proofs.«01_k».proof.Proof.Gen.KernelIdeal.Frame

@[expose] public section

set_option maxRecDepth 16384

noncomputable section

namespace Cert.KernelIdeal.Fox

open Idealize.ShloMosaic Idealize.ShloMosaic.TcCoe Idealize.ShloMosaic.StableHlo Cert.Line
open Cert.KernelIdeal.Gen

variable {F : FTy → Type} [FloatOps F]
variable (m : (ℓ : Loc nD τ sig) → Buf (Elt F) ℓ) (c : Dev nD)

/-- What the operations before the call write, in order. -/
def preW : List (Ref sig .tc) :=
  [main_cst, main_v0, main_cst_0, main_v1, main_call0_call0_cst, main_call0_call0_v0, main_v2, main_v3, main_cst_1,
   main_v4, main_v5, main_v6, main_v7, main_v8, main_v9, main_v10, main_v11, main_v12, main_v13, main_v14, main_v15,
   main_cst_2, main_v16, main_v17, main_cst_3, main_v18, main_v19, main_v20, main_v21, main_v22, main_cst_4,
   main_v23, main_v24, main_v25, main_v26, main_v27, main_v28, main_v29, main_v30, main_v31, main_v32, main_cst_5,
   main_v33, main_v34, main_v35, main_v36, main_v37, main_v38, main_v39, main_v40, main_v41, main_v42, main_v43,
   main_v44, main_v45, main_v46, main_cst_6, main_v47, main_v48, main_v49, main_cst_7, main_v50, main_cst_8,
   main_v51, main_v52, main_v53, main_v54, main_v55, main_v56, main_v57, main_v58, main_v59, main_v60, main_v61,
   main_v62, main_v63, main_cst_9, main_v64, main_v65, main_v66, main_v67, main_cst_10, main_v68, main_v69, main_v70,
   main_v71, main_cst_11, main_v72, main_cst_12, main_v73, main_v74, main_v75, main_v76, main_cst_13, main_v77,
   main_cst_14, main_v78, main_cst_15, main_v79, main_cst_16, main_v80, main_v81, main_v82, main_v83, main_cst_17,
   main_v84, main_v85, main_v86, main_v87, main_v88, main_v89, main_v90, main_v91, main_v92, main_v93, main_v94,
   main_cst_18, main_v95, main_v96, main_v97, main_v98]

/-- The operations before the call, in order. -/
def preOps : List (HloOp τ sig (Elt F)) := hostOps0 ++ (hostOps0_1 ++ hostOps0_2)

theorem pre_writes : Writes (τ := τ) (Val := Elt F) preOps preW := rfl

theorem K_exists : ∃ f : (b : Ref sig .tc) → Buf (Elt F) ((c.tc : Thread nD τ).loc b),
    ∀ b, f b = after preOps (fun b => m (c, b)) (Proc.devRef .tc b) := ⟨_, fun _ => rfl⟩

/-- What the operations before the call leave in a buffer of device `c`, known by its equations alone. -/
def K (b : Ref sig .tc) : Buf (Elt F) ((c.tc : Thread nD τ).loc b) := Classical.choose (K_exists m c) b

theorem K_after (b : Ref sig .tc) : K m c b = after preOps (fun b => m (c, b)) (Proc.devRef .tc b) :=
  Classical.choose_spec (K_exists m c) b

theorem K_eq (b : Ref sig .tc) : K m c b = V m c b := K_after m c b

theorem k_cst : K m c main_cst = constant (F := F) S_ .f32 0x40000000#32 := by
  simp only [K_after]
  exact read_nullary pre_writes 0 rfl (by decide +kernel) _

theorem k_v0 : K m c main_v0 = Host.log (K m c main_cst) := by
  simp only [K_after]
  exact read_unary pre_writes 1 rfl (by decide +kernel) (by decide +kernel) _

theorem k_cst_0 : K m c main_cst_0 = constant (F := F) S_ .f32 0x3F800000#32 := by
  simp only [K_after]
  exact read_nullary pre_writes 2 rfl (by decide +kernel) _

theorem k_v1 : K m c main_v1 = Host.divf (K m c main_cst_0) (K m c main_v0) := by
  simp only [K_after]
  exact read_binary pre_writes 3 rfl (by decide +kernel) (by decide +kernel) (by decide +kernel) _

theorem k_call0_call0_cst : K m c main_call0_call0_cst = constant (F := F) S_ .f32 0x00000000#32 := by
  simp only [K_after]
  exact read_nullary pre_writes 4 rfl (by decide +kernel) _

theorem k_call0_call0_v0 : K m c main_call0_call0_v0 = broadcastInDim S_ ![] bcast_S_S_ (K m c main_call0_call0_cst) := by
  simp only [K_after]
  exact read_unary pre_writes 5 rfl (by decide +kernel) (by decide +kernel) _

theorem k_v2 : K m c main_v2 = Host.reduceWindowAdd ![1, 4096, 1] ![1, 1, 1] ![0, 4095, 0] ![0, 0, 0] (K m c main_arg3) (K m c main_call0_call0_v0) reduceWindows_S2x4096x8_S2x4096x8_w1s1p0_0_w4096s1p4095_0_w1s1p0_0 h_S_ := by
  simp only [K_after]
  exact read_binary pre_writes 6 rfl (by decide +kernel) (by decide +kernel) (by decide +kernel) _

theorem k_v3 : K m c main_v3 = Host.dotGeneral dot_S2x4096x8x64_S2x4096x8x64_S2x8x4096x4096_3_3_1_1_02_02 none (K m c main_arg0) (K m c main_arg1) := by
  simp only [K_after]
  exact read_binary pre_writes 7 rfl (by decide +kernel) (by decide +kernel) (by decide +kernel) _

theorem k_cst_1 : K m c main_cst_1 = constant (F := F) S_ .f32 0x3E000000#32 := by
  simp only [K_after]
  exact read_nullary pre_writes 8 rfl (by decide +kernel) _

theorem k_v4 : K m c main_v4 = broadcastInDim S2x8x4096x4096 ![] bcast_S_S2x8x4096x4096 (K m c main_cst_1) := by
  simp only [K_after]
  exact read_unary pre_writes 9 rfl (by decide +kernel) (by decide +kernel) _

theorem k_v5 : K m c main_v5 = mulf (K m c main_v3) (K m c main_v4) := by
  simp only [K_after]
  exact read_binary pre_writes 10 rfl (by decide +kernel) (by decide +kernel) (by decide +kernel) _

theorem k_v6 : K m c main_v6 = transpose S2x8x4096 [0, 2, 1] (K m c main_v2) transposes_S2x4096x8_S2x8x4096_0_2_1 := by
  simp only [K_after]
  exact read_unary pre_writes 11 rfl (by decide +kernel) (by decide +kernel) _

theorem k_v7 : K m c main_v7 = broadcastInDim S2x8x4096x1 ![0, 1, 2] bcast_S2x8x4096_S2x8x4096x1_0_1_2 (K m c main_v6) := by
  simp only [K_after]
  exact read_unary pre_writes 12 rfl (by decide +kernel) (by decide +kernel) _

theorem k_v8 : K m c main_v8 = broadcastInDim S2x8x1x4096 ![0, 1, 3] bcast_S2x8x4096_S2x8x1x4096_0_1_3 (K m c main_v6) := by
  simp only [K_after]
  exact read_unary pre_writes 13 rfl (by decide +kernel) (by decide +kernel) _

theorem k_v9 : K m c main_v9 = broadcastInDim S2x8x4096x4096 ![0, 1, 2, 3] bcast_S2x8x4096x1_S2x8x4096x4096_0_1_2_3 (K m c main_v7) := by
  simp only [K_after]
  exact read_unary pre_writes 14 rfl (by decide +kernel) (by decide +kernel) _

theorem k_v10 : K m c main_v10 = broadcastInDim S2x8x4096x4096 ![0, 1, 2, 3] bcast_S2x8x1x4096_S2x8x4096x4096_0_1_2_3 (K m c main_v8) := by
  simp only [K_after]
  exact read_unary pre_writes 15 rfl (by decide +kernel) (by decide +kernel) _

theorem k_v11 : K m c main_v11 = subf (K m c main_v9) (K m c main_v10) := by
  simp only [K_after]
  exact read_binary pre_writes 16 rfl (by decide +kernel) (by decide +kernel) (by decide +kernel) _

theorem k_v12 : K m c main_v12 = addf (K m c main_v5) (K m c main_v11) := by
  simp only [K_after]
  exact read_binary pre_writes 17 rfl (by decide +kernel) (by decide +kernel) (by decide +kernel) _

theorem k_v13 : K m c main_v13 = iotaInDim S2x8x4096x4096 32 2 := by
  simp only [K_after]
  exact read_nullary pre_writes 18 rfl (by decide +kernel) _

theorem k_v14 : K m c main_v14 = iotaInDim S2x8x4096x4096 32 3 := by
  simp only [K_after]
  exact read_nullary pre_writes 19 rfl (by decide +kernel) _

theorem k_v15 : K m c main_v15 = cmpi .sle (K m c main_v14) (K m c main_v13) := by
  simp only [K_after]
  exact read_binary pre_writes 20 rfl (by decide +kernel) (by decide +kernel) (by decide +kernel) _

theorem k_cst_2 : K m c main_cst_2 = constant (F := F) S_ .f32 0xFF800000#32 := by
  simp only [K_after]
  exact read_nullary pre_writes 21 rfl (by decide +kernel) _

theorem k_v16 : K m c main_v16 = broadcastInDim S2x8x4096x4096 ![] bcast_S_S2x8x4096x4096 (K m c main_cst_2) := by
  simp only [K_after]
  exact read_unary pre_writes 22 rfl (by decide +kernel) (by decide +kernel) _

theorem k_v17 : K m c main_v17 = select (K m c main_v15) (K m c main_v12) (K m c main_v16) := by
  simp only [K_after]
  exact read_ternary pre_writes 23 rfl (by decide +kernel) (by decide +kernel) (by decide +kernel) (by decide +kernel) _

theorem k_cst_3 : K m c main_cst_3 = constant (F := F) S_ .f32 0xFF800000#32 := by
  simp only [K_after]
  exact read_nullary pre_writes 24 rfl (by decide +kernel) _

theorem k_v18 : K m c main_v18 = Host.reduce FloatOps.maximumf (K m c main_v17) (K m c main_cst_3) reducesTo_S2x8x4096x4096_S2x8x4096_d3 h_S_ := by
  simp only [K_after]
  exact read_binary pre_writes 25 rfl (by decide +kernel) (by decide +kernel) (by decide +kernel) _

theorem k_v19 : K m c main_v19 = broadcastInDim S2x8x4096x1 ![0, 1, 2] bcast_S2x8x4096_S2x8x4096x1_0_1_2 (K m c main_v18) := by
  simp only [K_after]
  exact read_unary pre_writes 26 rfl (by decide +kernel) (by decide +kernel) _

theorem k_v20 : K m c main_v20 = broadcastInDim S2x8x4096x4096 ![0, 1, 2, 3] bcast_S2x8x4096x1_S2x8x4096x4096_0_1_2_3 (K m c main_v19) := by
  simp only [K_after]
  exact read_unary pre_writes 27 rfl (by decide +kernel) (by decide +kernel) _

theorem k_v21 : K m c main_v21 = subf (K m c main_v17) (K m c main_v20) := by
  simp only [K_after]
  exact read_binary pre_writes 28 rfl (by decide +kernel) (by decide +kernel) (by decide +kernel) _

theorem k_v22 : K m c main_v22 = Host.exp (K m c main_v21) := by
  simp only [K_after]
  exact read_unary pre_writes 29 rfl (by decide +kernel) (by decide +kernel) _

theorem k_cst_4 : K m c main_cst_4 = constant (F := F) S_ .f32 0x00000000#32 := by
  simp only [K_after]
  exact read_nullary pre_writes 30 rfl (by decide +kernel) _

theorem k_v23 : K m c main_v23 = Host.reduceAdd (K m c main_v22) (K m c main_cst_4) reducesTo_S2x8x4096x4096_S2x8x4096_d3 h_S_ := by
  simp only [K_after]
  exact read_binary pre_writes 31 rfl (by decide +kernel) (by decide +kernel) (by decide +kernel) _

theorem k_v24 : K m c main_v24 = broadcastInDim S2x8x4096x1 ![0, 1, 2] bcast_S2x8x4096_S2x8x4096x1_0_1_2 (K m c main_v23) := by
  simp only [K_after]
  exact read_unary pre_writes 32 rfl (by decide +kernel) (by decide +kernel) _

theorem k_v25 : K m c main_v25 = broadcastInDim S2x8x4096x4096 ![0, 1, 2, 3] bcast_S2x8x4096x1_S2x8x4096x4096_0_1_2_3 (K m c main_v24) := by
  simp only [K_after]
  exact read_unary pre_writes 33 rfl (by decide +kernel) (by decide +kernel) _

theorem k_v26 : K m c main_v26 = Host.divf (K m c main_v22) (K m c main_v25) := by
  simp only [K_after]
  exact read_binary pre_writes 34 rfl (by decide +kernel) (by decide +kernel) (by decide +kernel) _

theorem k_v27 : K m c main_v27 = Host.dotGeneral dot_S2x4096x8x64_S2x8x4096x4096_S2x8x64x4096_1_3_3_2_02_01 none (K m c main_arg2) (K m c main_v26) := by
  simp only [K_after]
  exact read_binary pre_writes 35 rfl (by decide +kernel) (by decide +kernel) (by decide +kernel) _

theorem k_v28 : K m c main_v28 = transpose S2x4096x8x64 [0, 3, 1, 2] (K m c main_v27) transposes_S2x8x64x4096_S2x4096x8x64_0_3_1_2 := by
  simp only [K_after]
  exact read_unary pre_writes 36 rfl (by decide +kernel) (by decide +kernel) _

theorem k_v29 : K m c main_v29 = Host.log (K m c main_v24) := by
  simp only [K_after]
  exact read_unary pre_writes 37 rfl (by decide +kernel) (by decide +kernel) _

theorem k_v30 : K m c main_v30 = addf (K m c main_v19) (K m c main_v29) := by
  simp only [K_after]
  exact read_binary pre_writes 38 rfl (by decide +kernel) (by decide +kernel) (by decide +kernel) _

theorem k_v31 : K m c main_v31 = transpose S2x4096x8x1 [0, 2, 1, 3] (K m c main_v30) transposes_S2x8x4096x1_S2x4096x8x1_0_2_1_3 := by
  simp only [K_after]
  exact read_unary pre_writes 39 rfl (by decide +kernel) (by decide +kernel) _

theorem k_v32 : K m c main_v32 = mulf (K m c main_arg4) (K m c main_v28) := by
  simp only [K_after]
  exact read_binary pre_writes 40 rfl (by decide +kernel) (by decide +kernel) (by decide +kernel) _

theorem k_cst_5 : K m c main_cst_5 = constant (F := F) S_ .f32 0x00000000#32 := by
  simp only [K_after]
  exact read_nullary pre_writes 41 rfl (by decide +kernel) _

theorem k_v33 : K m c main_v33 = Host.reduceAdd (K m c main_v32) (K m c main_cst_5) reducesTo_S2x4096x8x64_S2x4096x8_d3 h_S_ := by
  simp only [K_after]
  exact read_binary pre_writes 42 rfl (by decide +kernel) (by decide +kernel) (by decide +kernel) _

theorem k_v34 : K m c main_v34 = broadcastInDim S2x4096x8x1 ![0, 1, 2] bcast_S2x4096x8_S2x4096x8x1_0_1_2 (K m c main_v33) := by
  simp only [K_after]
  exact read_unary pre_writes 43 rfl (by decide +kernel) (by decide +kernel) _

theorem k_v35 : K m c main_v35 = broadcastInDim S2x4096x8 ![] bcast_S_S2x4096x8 (K m c main_v1) := by
  simp only [K_after]
  exact read_unary pre_writes 44 rfl (by decide +kernel) (by decide +kernel) _

theorem k_v36 : K m c main_v36 = mulf (K m c main_v2) (K m c main_v35) := by
  simp only [K_after]
  exact read_binary pre_writes 45 rfl (by decide +kernel) (by decide +kernel) (by decide +kernel) _

theorem k_v37 : K m c main_v37 = broadcastInDim S2x4096x8x1 ![0, 1, 2] bcast_S2x4096x8_S2x4096x8x1_0_1_2 (K m c main_v36) := by
  simp only [K_after]
  exact read_unary pre_writes 46 rfl (by decide +kernel) (by decide +kernel) _

theorem k_v38 : K m c main_v38 = truncf .bf16 (K m c main_v37) bitsLt_bf16_f32 := by
  simp only [K_after]
  exact read_unary pre_writes 47 rfl (by decide +kernel) (by decide +kernel) _

theorem k_v39 : K m c main_v39 = extf .f32 (K m c main_v38) bitsLt_bf16_f32 := by
  simp only [K_after]
  exact read_unary pre_writes 48 rfl (by decide +kernel) (by decide +kernel) _

theorem k_v40 : K m c main_v40 = subf (K m c main_v37) (K m c main_v39) := by
  simp only [K_after]
  exact read_binary pre_writes 49 rfl (by decide +kernel) (by decide +kernel) (by decide +kernel) _

theorem k_v41 : K m c main_v41 = truncf .bf16 (K m c main_v40) bitsLt_bf16_f32 := by
  simp only [K_after]
  exact read_unary pre_writes 50 rfl (by decide +kernel) (by decide +kernel) _

theorem k_v42 : K m c main_v42 = extf .f32 (K m c main_v41) bitsLt_bf16_f32 := by
  simp only [K_after]
  exact read_unary pre_writes 51 rfl (by decide +kernel) (by decide +kernel) _

theorem k_v43 : K m c main_v43 = subf (K m c main_v37) (K m c main_v39) := by
  simp only [K_after]
  exact read_binary pre_writes 52 rfl (by decide +kernel) (by decide +kernel) (by decide +kernel) _

theorem k_v44 : K m c main_v44 = subf (K m c main_v43) (K m c main_v42) := by
  simp only [K_after]
  exact read_binary pre_writes 53 rfl (by decide +kernel) (by decide +kernel) (by decide +kernel) _

theorem k_v45 : K m c main_v45 = truncf .bf16 (K m c main_v44) bitsLt_bf16_f32 := by
  simp only [K_after]
  exact read_unary pre_writes 54 rfl (by decide +kernel) (by decide +kernel) _

theorem k_v46 : K m c main_v46 = extf .f32 (K m c main_v45) bitsLt_bf16_f32 := by
  simp only [K_after]
  exact read_unary pre_writes 55 rfl (by decide +kernel) (by decide +kernel) _

theorem k_cst_6 : K m c main_cst_6 = constant (F := F) S_ .f32 0x3E000000#32 := by
  simp only [K_after]
  exact read_nullary pre_writes 56 rfl (by decide +kernel) _

theorem k_v47 : K m c main_v47 = mulf (K m c main_cst_6) (K m c main_v1) := by
  simp only [K_after]
  exact read_binary pre_writes 57 rfl (by decide +kernel) (by decide +kernel) (by decide +kernel) _

theorem k_v48 : K m c main_v48 = broadcastInDim S2x4096x8x64 ![] bcast_S_S2x4096x8x64 (K m c main_v47) := by
  simp only [K_after]
  exact read_unary pre_writes 58 rfl (by decide +kernel) (by decide +kernel) _

theorem k_v49 : K m c main_v49 = mulf (K m c main_arg0) (K m c main_v48) := by
  simp only [K_after]
  exact read_binary pre_writes 59 rfl (by decide +kernel) (by decide +kernel) (by decide +kernel) _

theorem k_cst_7 : K m c main_cst_7 = constant (F := F) S_ .f32 0x00000000#32 := by
  simp only [K_after]
  exact read_nullary pre_writes 60 rfl (by decide +kernel) _

theorem k_v50 : K m c main_v50 = broadcastInDim S2x4096x8x1 ![] bcast_S_S2x4096x8x1 (K m c main_cst_7) := by
  simp only [K_after]
  exact read_unary pre_writes 61 rfl (by decide +kernel) (by decide +kernel) _

theorem k_cst_8 : K m c main_cst_8 = constant (F := F) S_ .f32 0x3F800000#32 := by
  simp only [K_after]
  exact read_nullary pre_writes 62 rfl (by decide +kernel) _

theorem k_v51 : K m c main_v51 = broadcastInDim S2x4096x8x3 ![] bcast_S_S2x4096x8x3 (K m c main_cst_8) := by
  simp only [K_after]
  exact read_unary pre_writes 63 rfl (by decide +kernel) (by decide +kernel) _

theorem k_v52 : K m c main_v52 = broadcastInDim S2x4096x8x1 ![] bcast_S_S2x4096x8x1 (K m c main_v1) := by
  simp only [K_after]
  exact read_unary pre_writes 64 rfl (by decide +kernel) (by decide +kernel) _

theorem k_v53 : K m c main_v53 = mulf (K m c main_v31) (K m c main_v52) := by
  simp only [K_after]
  exact read_binary pre_writes 65 rfl (by decide +kernel) (by decide +kernel) (by decide +kernel) _

theorem k_v54 : K m c main_v54 = Host.negf (K m c main_v53) := by
  simp only [K_after]
  exact read_unary pre_writes 66 rfl (by decide +kernel) (by decide +kernel) _

theorem k_v55 : K m c main_v55 = truncf .bf16 (K m c main_v54) bitsLt_bf16_f32 := by
  simp only [K_after]
  exact read_unary pre_writes 67 rfl (by decide +kernel) (by decide +kernel) _

theorem k_v56 : K m c main_v56 = extf .f32 (K m c main_v55) bitsLt_bf16_f32 := by
  simp only [K_after]
  exact read_unary pre_writes 68 rfl (by decide +kernel) (by decide +kernel) _

theorem k_v57 : K m c main_v57 = subf (K m c main_v54) (K m c main_v56) := by
  simp only [K_after]
  exact read_binary pre_writes 69 rfl (by decide +kernel) (by decide +kernel) (by decide +kernel) _

theorem k_v58 : K m c main_v58 = truncf .bf16 (K m c main_v57) bitsLt_bf16_f32 := by
  simp only [K_after]
  exact read_unary pre_writes 70 rfl (by decide +kernel) (by decide +kernel) _

theorem k_v59 : K m c main_v59 = extf .f32 (K m c main_v58) bitsLt_bf16_f32 := by
  simp only [K_after]
  exact read_unary pre_writes 71 rfl (by decide +kernel) (by decide +kernel) _

theorem k_v60 : K m c main_v60 = subf (K m c main_v54) (K m c main_v56) := by
  simp only [K_after]
  exact read_binary pre_writes 72 rfl (by decide +kernel) (by decide +kernel) (by decide +kernel) _

theorem k_v61 : K m c main_v61 = subf (K m c main_v60) (K m c main_v59) := by
  simp only [K_after]
  exact read_binary pre_writes 73 rfl (by decide +kernel) (by decide +kernel) (by decide +kernel) _

theorem k_v62 : K m c main_v62 = truncf .bf16 (K m c main_v61) bitsLt_bf16_f32 := by
  simp only [K_after]
  exact read_unary pre_writes 74 rfl (by decide +kernel) (by decide +kernel) _

theorem k_v63 : K m c main_v63 = extf .f32 (K m c main_v62) bitsLt_bf16_f32 := by
  simp only [K_after]
  exact read_unary pre_writes 75 rfl (by decide +kernel) (by decide +kernel) _

theorem k_cst_9 : K m c main_cst_9 = constant (F := F) S_ .f32 0x00000000#32 := by
  simp only [K_after]
  exact read_nullary pre_writes 76 rfl (by decide +kernel) _

theorem k_v64 : K m c main_v64 = broadcastInDim S2x4096x8x54 ![] bcast_S_S2x4096x8x54 (K m c main_cst_9) := by
  simp only [K_after]
  exact read_unary pre_writes 77 rfl (by decide +kernel) (by decide +kernel) _

theorem k_v65 : K m c main_v65 = concatenate S2x4096x8x128 3 [⟨S2x4096x8x64, (K m c main_v49)⟩, ⟨S2x4096x8x1, (K m c main_v50)⟩, ⟨S2x4096x8x3, (K m c main_v51)⟩, ⟨S2x4096x8x1, (K m c main_v39)⟩, ⟨S2x4096x8x1, (K m c main_v42)⟩, ⟨S2x4096x8x1, (K m c main_v46)⟩, ⟨S2x4096x8x1, (K m c main_v56)⟩, ⟨S2x4096x8x1, (K m c main_v59)⟩, ⟨S2x4096x8x1, (K m c main_v63)⟩, ⟨S2x4096x8x54, (K m c main_v64)⟩] concatenates_S2x4096x8x64_S2x4096x8x1_S2x4096x8x3_S2x4096x8x1_S2x4096x8x1_S2x4096x8x1_S2x4096x8x1_S2x4096x8x1_S2x4096x8x1_S2x4096x8x54_S2x4096x8x128_d3 := by
  rw [show K m c = _ from funext (K_after m c)]
  exact read_nary (pre_writes (F := F)) 78 rfl (by decide +kernel) (by decide +kernel) _

theorem k_v66 : K m c main_v66 = truncf .bf16 (K m c main_v65) bitsLt_bf16_f32 := by
  simp only [K_after]
  exact read_unary pre_writes 79 rfl (by decide +kernel) (by decide +kernel) _

theorem k_v67 : K m c main_v67 = shapeCast _ (K m c main_v66) shapeCasts_S2x4096x8x128_S8192x1024 := by
  simp only [K_after]
  exact read_reshape pre_writes 80 rfl (by decide +kernel) (by decide +kernel) _

theorem k_cst_10 : K m c main_cst_10 = constant (F := F) S_ .f32 0x00000000#32 := by
  simp only [K_after]
  exact read_nullary pre_writes 81 rfl (by decide +kernel) _

theorem k_v68 : K m c main_v68 = broadcastInDim S2x4096x8x1 ![] bcast_S_S2x4096x8x1 (K m c main_cst_10) := by
  simp only [K_after]
  exact read_unary pre_writes 82 rfl (by decide +kernel) (by decide +kernel) _

theorem k_v69 : K m c main_v69 = Host.negf (K m c main_v39) := by
  simp only [K_after]
  exact read_unary pre_writes 83 rfl (by decide +kernel) (by decide +kernel) _

theorem k_v70 : K m c main_v70 = Host.negf (K m c main_v42) := by
  simp only [K_after]
  exact read_unary pre_writes 84 rfl (by decide +kernel) (by decide +kernel) _

theorem k_v71 : K m c main_v71 = Host.negf (K m c main_v46) := by
  simp only [K_after]
  exact read_unary pre_writes 85 rfl (by decide +kernel) (by decide +kernel) _

theorem k_cst_11 : K m c main_cst_11 = constant (F := F) S_ .f32 0x3F800000#32 := by
  simp only [K_after]
  exact read_nullary pre_writes 86 rfl (by decide +kernel) _

theorem k_v72 : K m c main_v72 = broadcastInDim S2x4096x8x6 ![] bcast_S_S2x4096x8x6 (K m c main_cst_11) := by
  simp only [K_after]
  exact read_unary pre_writes 87 rfl (by decide +kernel) (by decide +kernel) _

theorem k_cst_12 : K m c main_cst_12 = constant (F := F) S_ .f32 0x00000000#32 := by
  simp only [K_after]
  exact read_nullary pre_writes 88 rfl (by decide +kernel) _

theorem k_v73 : K m c main_v73 = broadcastInDim S2x4096x8x54 ![] bcast_S_S2x4096x8x54 (K m c main_cst_12) := by
  simp only [K_after]
  exact read_unary pre_writes 89 rfl (by decide +kernel) (by decide +kernel) _

theorem k_v74 : K m c main_v74 = concatenate S2x4096x8x128 3 [⟨S2x4096x8x64, (K m c main_arg1)⟩, ⟨S2x4096x8x1, (K m c main_v68)⟩, ⟨S2x4096x8x1, (K m c main_v69)⟩, ⟨S2x4096x8x1, (K m c main_v70)⟩, ⟨S2x4096x8x1, (K m c main_v71)⟩, ⟨S2x4096x8x6, (K m c main_v72)⟩, ⟨S2x4096x8x54, (K m c main_v73)⟩] concatenates_S2x4096x8x64_S2x4096x8x1_S2x4096x8x1_S2x4096x8x1_S2x4096x8x1_S2x4096x8x6_S2x4096x8x54_S2x4096x8x128_d3 := by
  rw [show K m c = _ from funext (K_after m c)]
  exact read_nary (pre_writes (F := F)) 90 rfl (by decide +kernel) (by decide +kernel) _

theorem k_v75 : K m c main_v75 = truncf .bf16 (K m c main_v74) bitsLt_bf16_f32 := by
  simp only [K_after]
  exact read_unary pre_writes 91 rfl (by decide +kernel) (by decide +kernel) _

theorem k_v76 : K m c main_v76 = shapeCast _ (K m c main_v75) shapeCasts_S2x4096x8x128_S8192x1024 := by
  simp only [K_after]
  exact read_reshape pre_writes 92 rfl (by decide +kernel) (by decide +kernel) _

theorem k_cst_13 : K m c main_cst_13 = constant (F := F) S_ .f32 0x3F800000#32 := by
  simp only [K_after]
  exact read_nullary pre_writes 93 rfl (by decide +kernel) _

theorem k_v77 : K m c main_v77 = broadcastInDim S2x4096x8x1 ![] bcast_S_S2x4096x8x1 (K m c main_cst_13) := by
  simp only [K_after]
  exact read_unary pre_writes 94 rfl (by decide +kernel) (by decide +kernel) _

theorem k_cst_14 : K m c main_cst_14 = constant (F := F) S_ .f32 0x00000000#32 := by
  simp only [K_after]
  exact read_nullary pre_writes 95 rfl (by decide +kernel) _

theorem k_v78 : K m c main_v78 = broadcastInDim S2x4096x8x9 ![] bcast_S_S2x4096x8x9 (K m c main_cst_14) := by
  simp only [K_after]
  exact read_unary pre_writes 96 rfl (by decide +kernel) (by decide +kernel) _

theorem k_cst_15 : K m c main_cst_15 = constant (F := F) S_ .f32 0x3F800000#32 := by
  simp only [K_after]
  exact read_nullary pre_writes 97 rfl (by decide +kernel) _

theorem k_v79 : K m c main_v79 = broadcastInDim S2x4096x8x3 ![] bcast_S_S2x4096x8x3 (K m c main_cst_15) := by
  simp only [K_after]
  exact read_unary pre_writes 98 rfl (by decide +kernel) (by decide +kernel) _

theorem k_cst_16 : K m c main_cst_16 = constant (F := F) S_ .f32 0x00000000#32 := by
  simp only [K_after]
  exact read_nullary pre_writes 99 rfl (by decide +kernel) _

theorem k_v80 : K m c main_v80 = broadcastInDim S2x4096x8x51 ![] bcast_S_S2x4096x8x51 (K m c main_cst_16) := by
  simp only [K_after]
  exact read_unary pre_writes 100 rfl (by decide +kernel) (by decide +kernel) _

theorem k_v81 : K m c main_v81 = concatenate S2x4096x8x128 3 [⟨S2x4096x8x64, (K m c main_arg2)⟩, ⟨S2x4096x8x1, (K m c main_v77)⟩, ⟨S2x4096x8x9, (K m c main_v78)⟩, ⟨S2x4096x8x3, (K m c main_v79)⟩, ⟨S2x4096x8x51, (K m c main_v80)⟩] concatenates_S2x4096x8x64_S2x4096x8x1_S2x4096x8x9_S2x4096x8x3_S2x4096x8x51_S2x4096x8x128_d3 := by
  rw [show K m c = _ from funext (K_after m c)]
  exact read_nary (pre_writes (F := F)) 101 rfl (by decide +kernel) (by decide +kernel) _

theorem k_v82 : K m c main_v82 = truncf .bf16 (K m c main_v81) bitsLt_bf16_f32 := by
  simp only [K_after]
  exact read_unary pre_writes 102 rfl (by decide +kernel) (by decide +kernel) _

theorem k_v83 : K m c main_v83 = shapeCast _ (K m c main_v82) shapeCasts_S2x4096x8x128_S8192x1024 := by
  simp only [K_after]
  exact read_reshape pre_writes 103 rfl (by decide +kernel) (by decide +kernel) _

theorem k_cst_17 : K m c main_cst_17 = constant (F := F) S_ .f32 0x00000000#32 := by
  simp only [K_after]
  exact read_nullary pre_writes 104 rfl (by decide +kernel) _

theorem k_v84 : K m c main_v84 = broadcastInDim S2x4096x8x10 ![] bcast_S_S2x4096x8x10 (K m c main_cst_17) := by
  simp only [K_after]
  exact read_unary pre_writes 105 rfl (by decide +kernel) (by decide +kernel) _

theorem k_v85 : K m c main_v85 = Host.negf (K m c main_v34) := by
  simp only [K_after]
  exact read_unary pre_writes 106 rfl (by decide +kernel) (by decide +kernel) _

theorem k_v86 : K m c main_v86 = truncf .bf16 (K m c main_v85) bitsLt_bf16_f32 := by
  simp only [K_after]
  exact read_unary pre_writes 107 rfl (by decide +kernel) (by decide +kernel) _

theorem k_v87 : K m c main_v87 = extf .f32 (K m c main_v86) bitsLt_bf16_f32 := by
  simp only [K_after]
  exact read_unary pre_writes 108 rfl (by decide +kernel) (by decide +kernel) _

theorem k_v88 : K m c main_v88 = subf (K m c main_v85) (K m c main_v87) := by
  simp only [K_after]
  exact read_binary pre_writes 109 rfl (by decide +kernel) (by decide +kernel) (by decide +kernel) _

theorem k_v89 : K m c main_v89 = truncf .bf16 (K m c main_v88) bitsLt_bf16_f32 := by
  simp only [K_after]
  exact read_unary pre_writes 110 rfl (by decide +kernel) (by decide +kernel) _

theorem k_v90 : K m c main_v90 = extf .f32 (K m c main_v89) bitsLt_bf16_f32 := by
  simp only [K_after]
  exact read_unary pre_writes 111 rfl (by decide +kernel) (by decide +kernel) _

theorem k_v91 : K m c main_v91 = subf (K m c main_v85) (K m c main_v87) := by
  simp only [K_after]
  exact read_binary pre_writes 112 rfl (by decide +kernel) (by decide +kernel) (by decide +kernel) _

theorem k_v92 : K m c main_v92 = subf (K m c main_v91) (K m c main_v90) := by
  simp only [K_after]
  exact read_binary pre_writes 113 rfl (by decide +kernel) (by decide +kernel) (by decide +kernel) _

theorem k_v93 : K m c main_v93 = truncf .bf16 (K m c main_v92) bitsLt_bf16_f32 := by
  simp only [K_after]
  exact read_unary pre_writes 114 rfl (by decide +kernel) (by decide +kernel) _

theorem k_v94 : K m c main_v94 = extf .f32 (K m c main_v93) bitsLt_bf16_f32 := by
  simp only [K_after]
  exact read_unary pre_writes 115 rfl (by decide +kernel) (by decide +kernel) _

theorem k_cst_18 : K m c main_cst_18 = constant (F := F) S_ .f32 0x00000000#32 := by
  simp only [K_after]
  exact read_nullary pre_writes 116 rfl (by decide +kernel) _

theorem k_v95 : K m c main_v95 = broadcastInDim S2x4096x8x51 ![] bcast_S_S2x4096x8x51 (K m c main_cst_18) := by
  simp only [K_after]
  exact read_unary pre_writes 117 rfl (by decide +kernel) (by decide +kernel) _

theorem k_v96 : K m c main_v96 = concatenate S2x4096x8x128 3 [⟨S2x4096x8x64, (K m c main_arg4)⟩, ⟨S2x4096x8x10, (K m c main_v84)⟩, ⟨S2x4096x8x1, (K m c main_v87)⟩, ⟨S2x4096x8x1, (K m c main_v90)⟩, ⟨S2x4096x8x1, (K m c main_v94)⟩, ⟨S2x4096x8x51, (K m c main_v95)⟩] concatenates_S2x4096x8x64_S2x4096x8x10_S2x4096x8x1_S2x4096x8x1_S2x4096x8x1_S2x4096x8x51_S2x4096x8x128_d3 := by
  rw [show K m c = _ from funext (K_after m c)]
  exact read_nary (pre_writes (F := F)) 118 rfl (by decide +kernel) (by decide +kernel) _

theorem k_v97 : K m c main_v97 = truncf .bf16 (K m c main_v96) bitsLt_bf16_f32 := by
  simp only [K_after]
  exact read_unary pre_writes 119 rfl (by decide +kernel) (by decide +kernel) _

theorem k_v98 : K m c main_v98 = shapeCast _ (K m c main_v97) shapeCasts_S2x4096x8x128_S8192x1024 := by
  simp only [K_after]
  exact read_reshape pre_writes 120 rfl (by decide +kernel) (by decide +kernel) _

theorem k_arg0 : K m c main_arg0 = m ((c.tc : Thread nD τ).loc main_arg0) := by
  rw [K_after]
  exact read_arg pre_writes (by decide +kernel) _

theorem k_arg1 : K m c main_arg1 = m ((c.tc : Thread nD τ).loc main_arg1) := by
  rw [K_after]
  exact read_arg pre_writes (by decide +kernel) _

theorem k_arg2 : K m c main_arg2 = m ((c.tc : Thread nD τ).loc main_arg2) := by
  rw [K_after]
  exact read_arg pre_writes (by decide +kernel) _

theorem k_arg3 : K m c main_arg3 = m ((c.tc : Thread nD τ).loc main_arg3) := by
  rw [K_after]
  exact read_arg pre_writes (by decide +kernel) _

theorem k_arg4 : K m c main_arg4 = m ((c.tc : Thread nD τ).loc main_arg4) := by
  rw [K_after]
  exact read_arg pre_writes (by decide +kernel) _

end Cert.KernelIdeal.Fox

end
-- ==== Proof.Math.lean ====
/- The mathematics of one head: causal softmax attention with a decayed running sum, and its gradients, over the reals.
   A finite input makes every quantity of both programs a real number; the lemmas here say which. -/
module

public import Idealize.ShloMosaic.PureOps.Ideal.Laws
public import Mathlib.Analysis.SpecialFunctions.Pow.Real

@[expose] public section

noncomputable section

namespace Cert.FoxMath

open Idealize.ShloMosaic

/-! ## Real numbers among the extended reals -/

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, EReal.coe_add, ih]

theorem coe_sum_mul {ι : Type*} (s : Finset ι) (f g : ι → ℝ) :
    ∑ i ∈ s, (f i : EReal) * (g i : EReal) = ((∑ i ∈ s, f i * g i : ℝ) : EReal) := by
  rw [← coe_sum]
  exact Finset.sum_congr rfl fun i _ => (EReal.coe_mul _ _).symm

theorem coe_div {x y : ℝ} (hy : y ≠ 0) : Ideal.div (x : EReal) (y : EReal) = ((x / y : ℝ) : EReal) := by
  rw [Ideal.div_coe hy, ← EReal.coe_mul, mul_one_div]

theorem coe_log {x : ℝ} (hx : 0 < x) : Ideal.log (x : EReal) = ((Real.log x : ℝ) : EReal) := by
  rw [Ideal.log_coe, if_neg (not_le.2 hx)]

theorem coe_exp (x : ℝ) : Ideal.exp (x : EReal) = ((Real.exp x : ℝ) : EReal) := rfl

theorem coe_exp2 (x : ℝ) : Ideal.exp2 (x : EReal) = ((Real.exp (x * Real.log 2) : ℝ) : EReal) := by
  rw [Ideal.exp2_coe]
  show (((2 : ℝ) ^ x : ℝ) : EReal) = _
  rw [Real.rpow_def_of_pos (by norm_num), mul_comm]

/-- A finite extended real is a real number. -/
theorem exists_coe {x : EReal} (h1 : x ≠ ⊥) (h2 : x ≠ ⊤) : ∃ r : ℝ, x = (r : EReal) :=
  ⟨x.toReal, (EReal.coe_toReal h2 h1).symm⟩

/-- A maximum, started from the least element, over values of which none is the greatest and one is not the least. -/
theorem fold_max_real {ι : Type*} (s : Finset ι) (f : ι → EReal) (hf : ∀ i ∈ s, f i ≠ ⊤) {a : ι} (ha : a ∈ s) (hb : f a ≠ ⊥) :
    ∃ r : ℝ, s.fold max ⊥ f = (r : EReal) := by
  classical
  have h1 : s.fold max ⊥ f ≠ ⊤ := by
    have h : s.fold max ⊥ f < ⊤ := (Finset.fold_max_lt _).2 ⟨bot_lt_top, fun i hi => lt_of_le_of_ne le_top (hf i hi)⟩
    exact h.ne
  have h2 : s.fold max ⊥ f ≠ ⊥ := by
    have h : ⊥ < s.fold max ⊥ f := (Finset.lt_fold_max _).2 (Or.inr ⟨a, ha, bot_lt_iff_ne_bot.2 hb⟩)
    exact h.ne'
  exact exists_coe h2 h1

/-- A left fold of sums over real numbers is real. -/
theorem foldl_add_real {ι : Type*} (l : List ι) (f : ι → EReal) (hf : ∀ i, ∃ r : ℝ, f i = (r : EReal)) (x : EReal)
    (hx : ∃ r : ℝ, x = (r : EReal)) : ∃ r : ℝ, l.foldl (fun a i => a + f i) x = (r : EReal) := by
  induction l generalizing x with
  | nil => exact hx
  | cons i l ih =>
    obtain ⟨a, rfl⟩ := hx
    obtain ⟨b, hb⟩ := hf i
    exact ih _ ⟨a + b, by rw [EReal.coe_add, ← hb]⟩

/-! ## One head -/

/-- The real arguments of one head: queries, keys, values, the cotangent of the output, and the running sum of the log
    decay. -/
structure Hd (n : ℕ) where
  q : Fin n → Fin 64 → ℝ
  k : Fin n → Fin 64 → ℝ
  v : Fin n → Fin 64 → ℝ
  d : Fin n → Fin 64 → ℝ
  c : Fin n → ℝ

namespace Hd

variable {n : ℕ} (H : Hd n)

/-- The logit of query `i` at key `j`. -/
def s (i j : Fin n) : ℝ := (∑ a, H.q i a * H.k j a) * 0.125 + (H.c i - H.c j)

/-- Its exponential, zero after the query. -/
def E (i j : Fin n) : ℝ := if j.val ≤ i.val then Real.exp (H.s i j) else 0

/-- The sum of the exponentials. -/
def Z (i : Fin n) : ℝ := ∑ j, H.E i j

/-- The probability of key `j` for query `i`. -/
def p (i j : Fin n) : ℝ := H.E i j / H.Z i

/-- The cotangent of the probability. -/
def w (i j : Fin n) : ℝ := ∑ a, H.d i a * H.v j a

/-- The row sum of probability times its cotangent. -/
def δ (i : Fin n) : ℝ := ∑ j, H.p i j * H.w i j

/-- The cotangent of the logit. -/
def ds (i j : Fin n) : ℝ := H.p i j * (H.w i j - H.δ i)

def dq (i : Fin n) (a : Fin 64) : ℝ := ∑ j, H.ds i j * 0.125 * H.k j a
def dk (j : Fin n) (a : Fin 64) : ℝ := ∑ i, H.ds i j * 0.125 * H.q i a
def dv (j : Fin n) (a : Fin 64) : ℝ := ∑ i, H.d i a * H.p i j
def dc (i : Fin n) : ℝ := (∑ j, H.ds i j) - ∑ j, H.ds j i

theorem E_nonneg (i j : Fin n) : 0 ≤ H.E i j := by
  unfold E; split
  · exact (Real.exp_pos _).le
  · exact le_rfl

theorem Z_pos (i : Fin n) : 0 < H.Z i := by
  refine Finset.sum_pos' (fun j _ => H.E_nonneg i j) ⟨i, Finset.mem_univ _, ?_⟩
  unfold E; rw [if_pos le_rfl]; exact Real.exp_pos _

/-- The exponentials with the row's shift `μ` taken off the logits. -/
def e (μ : Fin n → ℝ) (i j : Fin n) : ℝ := if j.val ≤ i.val then Real.exp (H.s i j - μ i) else 0

theorem e_eq (μ : Fin n → ℝ) (i j : Fin n) : H.e μ i j = H.E i j * Real.exp (-μ i) := by
  unfold e E; split
  · rw [sub_eq_add_neg, Real.exp_add]
  · rw [zero_mul]

theorem sum_e (μ : Fin n → ℝ) (i : Fin n) : ∑ j, H.e μ i j = H.Z i * Real.exp (-μ i) := by
  simp only [e_eq, ← Finset.sum_mul]; rfl

theorem sum_e_pos (μ : Fin n → ℝ) (i : Fin n) : 0 < ∑ j, H.e μ i j := by
  rw [sum_e]; exact mul_pos (H.Z_pos i) (Real.exp_pos _)

theorem e_div (μ : Fin n → ℝ) (i j : Fin n) : H.e μ i j / (∑ j', H.e μ i j') = H.p i j := by
  rw [sum_e, e_eq, mul_div_mul_right _ _ (Real.exp_pos _).ne']; rfl

/-- The shift comes back with the logarithm of the sum. -/
theorem lse_eq (μ : Fin n → ℝ) (i : Fin n) : μ i + Real.log (∑ j, H.e μ i j) = Real.log (H.Z i) := by
  rw [sum_e, Real.log_mul (H.Z_pos i).ne' (Real.exp_pos _).ne', Real.log_exp]; ring

/-- A probability from the logit and the logarithm of the sum. -/
theorem exp_lse {i j : Fin n} (h : j.val ≤ i.val) : Real.exp (H.s i j - Real.log (H.Z i)) = H.p i j := by
  rw [Real.exp_sub, Real.exp_log (H.Z_pos i), p, E, if_pos h]

theorem p_masked {i j : Fin n} (h : ¬ j.val ≤ i.val) : H.p i j = 0 := by
  rw [p, E, if_neg h, zero_div]

/-- The row sum is the cotangent's product with the output. -/
theorem δ_eq (i : Fin n) : ∑ a, H.d i a * (∑ j, H.v j a * H.p i j) = H.δ i := by
  simp only [δ, w, Finset.mul_sum]
  rw [Finset.sum_comm]
  exact Finset.sum_congr rfl fun j _ => Finset.sum_congr rfl fun a _ => by ring

/-- The softmax's derivative through its quotient. -/
theorem ds_quotient (μ : Fin n → ℝ) (i j : Fin n) :
    (H.w i j / (∑ j', H.e μ i j')
        + -(∑ j', H.w i j' * (1 / ((∑ j', H.e μ i j') * (∑ j', H.e μ i j'))) * H.e μ i j')) * H.e μ i j = H.ds i j := by
  have hl : (∑ j', H.e μ i j') ≠ 0 := (H.sum_e_pos μ i).ne'
  have hδ : ∑ j', H.w i j' * (1 / ((∑ j', H.e μ i j') * (∑ j', H.e μ i j'))) * H.e μ i j'
      = H.δ i / (∑ j', H.e μ i j') := by
    rw [δ, Finset.sum_div]
    refine Finset.sum_congr rfl fun j' _ => ?_
    rw [← H.e_div μ i j']
    field_simp
  rw [hδ, ds, ← H.e_div μ i j]
  field_simp
  ring

theorem ds_masked {i j : Fin n} (h : ¬ j.val ≤ i.val) : H.ds i j = 0 := by
  rw [ds, H.p_masked h, zero_mul]

end Hd

/-! ## Rows of 128 lanes: 64 entries, 13 terms, zeros -/

/-- A row of 64 entries, then thirteen more, then zeros. -/
def aug (x : Fin 64 → ℝ) (t : Fin 13 → ℝ) (l : Fin 128) : ℝ :=
  if h : l.val < 64 then x ⟨l.val, h⟩ else if h' : l.val - 64 < 13 then t ⟨l.val - 64, h'⟩ else 0

/-- Two such rows multiplied lane by lane and summed. -/
theorem sum_aug (x y : Fin 64 → ℝ) (t u : Fin 13 → ℝ) :
    ∑ l, aug x t l * aug y u l = (∑ a, x a * y a) + ∑ a, t a * u a := by
  rw [show (∑ l : Fin 128, aug x t l * aug y u l) = ∑ l : Fin (64 + (13 + 51)), aug x t l * aug y u l from rfl,
    Fin.sum_univ_add, Fin.sum_univ_add]
  have h1 : ∀ a : Fin 64, aug x t (Fin.castAdd (13 + 51) a) = x a := fun a => by
    unfold aug
    exact dif_pos a.isLt
  have h1' : ∀ a : Fin 64, aug y u (Fin.castAdd (13 + 51) a) = y a := fun a => by
    unfold aug
    exact dif_pos a.isLt
  have h2 : ∀ (z : Fin 64 → ℝ) (w : Fin 13 → ℝ) (a : Fin 13), aug z w (Fin.natAdd 64 (Fin.castAdd 51 a)) = w a := fun z w a => by
    have e : (Fin.natAdd 64 (Fin.castAdd 51 a) : Fin 128).val = 64 + a.val := rfl
    unfold aug
    rw [dif_neg (by rw [e]; omega), dif_pos (by rw [e]; omega)]
    exact congrArg w (Fin.ext (by show 64 + a.val - 64 = a.val; omega))
  have h3 : ∀ (z : Fin 64 → ℝ) (w : Fin 13 → ℝ) (a : Fin 51), aug z w (Fin.natAdd 64 (Fin.natAdd 13 a)) = 0 := fun z w a => by
    have e : (Fin.natAdd 64 (Fin.natAdd 13 a) : Fin 128).val = 64 + (13 + a.val) := rfl
    unfold aug
    rw [dif_neg (by rw [e]; omega), dif_neg (by rw [e]; omega)]
  simp only [h1, h1', h2, h3, mul_zero, Finset.sum_const_zero, add_zero]

end Cert.FoxMath

end
-- ==== Proof.Heads.lean ====
/- The arrays' heads as real rows, and the running sums, which both programs compute by one operation. -/
module

public import proofs.«01_k».proof.Proof.Math
public import Idealize.ShloMosaic.Lib.Pointwise

@[expose] public section

noncomputable section

namespace Cert.FoxMath

open Idealize.ShloMosaic

/-- An array over batch, token, head and feature. -/
abbrev A4 := (⟨4, ![2, 4096, 8, 64]⟩ : Shape).Idx → EReal
/-- An array over batch, token and head. -/
abbrev A3 := (⟨3, ![2, 4096, 8]⟩ : Shape).Idx → EReal

/-- Every entry is a real number. -/
def AllReal {ι : Type} (x : ι → EReal) : Prop := ∀ i, ∃ r : ℝ, x i = (r : EReal)

theorem AllReal.coe {ι : Type} {x : ι → EReal} (h : AllReal x) (i : ι) : x i = ((x i).toReal : EReal) := by
  obtain ⟨r, hr⟩ := h i
  rw [hr, EReal.toReal_coe]

/-- One head of the arguments, the running sum given. -/
def hdOf (q k v d : A4) (c : A3) (b : Fin 2) (h : Fin 8) : Hd 4096 where
  q i a := (q (ix4 b i h a)).toReal
  k i a := (k (ix4 b i h a)).toReal
  v i a := (v (ix4 b i h a)).toReal
  d i a := (d (ix4 b i h a)).toReal
  c i := (c (ix3 b i h)).toReal

/-- A windowed sum of real numbers from a real initial value is real. -/
theorem allReal_window {s t : Shape} {window strides lo hi : Fin s.rank → ℕ} (hw : s.ReduceWindows window strides lo hi t)
    {x : s.Idx → EReal} {v : EReal} (hx : AllReal x) (hv : ∃ r : ℝ, v = (r : EReal)) :
    AllReal (Ideal.hostReduceWindowAdd window strides lo hi hw x v) := by
  intro j
  refine foldl_add_real _ _ (fun n => ?_) _ hv
  split
  · exact hx _
  · exact hv

theorem allReal_cumsum {s t u : Shape} {window strides lo hi : Fin s.rank → ℕ} {x : FVec Ideal s .f32} {v : FVec Ideal u .f32}
    (hw : s.ReduceWindows window strides lo hi t) (hu : 0 < u.numel) (hx : AllReal x) (hv : AllReal v) :
    AllReal (Host.reduceWindowAdd window strides lo hi x v hw hu : FVec Ideal t .f32) := by
  unfold Host.reduceWindowAdd
  rw [Ideal.hostReduceWindowAdd_def]
  exact allReal_window hw hx (hv _)

/-! ## The constants -/

theorem eighth : Ideal.ofBits FTy.f32 1040187392#32 = ((0.125 : ℝ) : EReal) := by
  simp [Ideal.ofBits, Ideal.ieee, -EReal.coe_mul]; norm_num

theorem neg_inf : Ideal.ofBits FTy.f32 4286578688#32 = (⊥ : EReal) := by
  simp [Ideal.ofBits, Ideal.ieee]

theorem two : Ideal.ofBits FTy.f32 1073741824#32 = ((2 : ℝ) : EReal) := by
  simp [Ideal.ofBits, Ideal.ieee, -EReal.coe_mul]; norm_num

/-- The causal mask, as the programs test it. -/
theorem causal {α : Type} (i j : Fin 4096) (x y : α) :
    Scalar.select (IntOp.cmpi CmpIPredicate.sle (BitVec.ofNat 32 j.val) (BitVec.ofNat 32 i.val)) x y = if j.val ≤ i.val then x else y := by
  have hi := i.isLt
  have hj := j.isLt
  have e : (BitVec.ofNat 32 j.val).sle (BitVec.ofNat 32 i.val) = decide (j.val ≤ i.val) := by
    rw [BitVec.sle_eq_decide, BitVec.toInt_eq_toNat_of_lt (by simp; omega), BitVec.toInt_eq_toNat_of_lt (by simp; omega)]
    simp
    omega
  have h : IntOp.cmpi .sle (BitVec.ofNat 32 j.val) (BitVec.ofNat 32 i.val) = if j.val ≤ i.val then 1#1 else 0#1 := by
    simp only [IntOp.cmpi]
    rw [e]
    by_cases h : j.val ≤ i.val <;> simp [h]
  rw [h]
  by_cases h : j.val ≤ i.val <;> simp [h, Scalar.select]

/-- The maximum of a row of logits is real. -/
theorem max_row {u : Shape} {x : FVec Ideal ⟨4, ![2, 8, 4096, 4096]⟩ .f32} {v : FVec Ideal u .f32}
    (hs : (⟨4, ![2, 8, 4096, 4096]⟩ : Shape).ReducesTo [3] ⟨3, ![2, 8, 4096]⟩) (hu : 0 < u.numel)
    (hv : v (Shape.Idx.first hu) = (⊥ : EReal)) (b : Fin 2) (h : Fin 8) (i : Fin 4096)
    (hx : ∀ j, x (ix4 b h i j) ≠ (⊤ : EReal)) (hd : x (ix4 b h i i) ≠ (⊥ : EReal)) :
    ∃ r : ℝ, Host.reduce (FloatOps.maximumf (F := Ideal) (φ := .f32)) x v hs hu (ix3 b h i) = (r : EReal) := by
  rw [Host.reduce_eq_fold_single _ x v hs (by decide +kernel) hu, hv]
  have e : ∀ j : Fin 4096, (show (⟨4, ![2, 8, 4096, 4096]⟩ : Shape).Reduces [3] ⟨3, ![2, 8, 4096]⟩ by decide +kernel).lift (ix3 b h i) j = ix4 b h i j :=
    fun j => funext fun a => Fin.ext (by match a with | ⟨0, _⟩ => rfl | ⟨1, _⟩ => rfl | ⟨2, _⟩ => rfl | ⟨3, _⟩ => rfl)
  refine fold_max_real Finset.univ _ (fun j _ => ?_) (a := i) (Finset.mem_univ _) ?_
  · exact ((congrArg x (e j)).trans_ne (hx j))
  · exact ((congrArg x (e i)).trans_ne hd)

end Cert.FoxMath

end
-- ==== Proof.KHost.lean ====
/- The kernel's host operations before the call, read at an index: the real rows they prepare. -/
module

public import proofs.«01_k».proof.Proof.KLine
public import proofs.«01_k».proof.Proof.Heads

@[expose] public section

set_option maxRecDepth 16384

noncomputable section

namespace Cert.KernelIdeal.Fox

open Idealize.ShloMosaic Idealize.ShloMosaic.TcCoe Cert.FoxMath
open Cert.KernelIdeal.Gen

variable (m : (ℓ : Loc nD τ sig) → Buf (Elt Ideal) ℓ) (c : Dev nD)

abbrev a0 : A4 := m ((c.tc : Thread nD τ).loc main_arg0)
abbrev a1 : A4 := m ((c.tc : Thread nD τ).loc main_arg1)
abbrev a2 : A4 := m ((c.tc : Thread nD τ).loc main_arg2)
abbrev a3 : A3 := m ((c.tc : Thread nD τ).loc main_arg3)
abbrev a4 : A4 := m ((c.tc : Thread nD τ).loc main_arg4)

/-- The arguments of device `c` are real. -/
structure Real : Prop where
  r0 : AllReal (a0 m c)
  r1 : AllReal (a1 m c)
  r2 : AllReal (a2 m c)
  r3 : AllReal (a3 m c)
  r4 : AllReal (a4 m c)

/-- The running sum of the log decay. -/
abbrev kC : A3 := K m c main_v2

/-- Head `h` of batch `b`. -/
abbrev kH (b : Fin 2) (h : Fin 8) : Hd 4096 := hdOf (a0 m c) (a1 m c) (a2 m c) (a4 m c) (kC m c) b h

variable {m c} (hr : Real m c)
include hr

theorem real_c : AllReal (kC m c) := by
  unfold kC
  rw [k_v2, k_arg3, k_call0_call0_v0, k_call0_call0_cst]
  refine allReal_cumsum _ _ hr.r3 fun i => ⟨0, ?_⟩
  pointwise
  simp

variable (b : Fin 2) (h : Fin 8)

theorem q_at (i : Fin 4096) (a : Fin 64) : a0 m c (ix4 b i h a) = (((kH m c b h).q i a : ℝ) : EReal) := hr.r0.coe _
theorem k_at (i : Fin 4096) (a : Fin 64) : a1 m c (ix4 b i h a) = (((kH m c b h).k i a : ℝ) : EReal) := hr.r1.coe _
theorem v_at (i : Fin 4096) (a : Fin 64) : a2 m c (ix4 b i h a) = (((kH m c b h).v i a : ℝ) : EReal) := hr.r2.coe _
theorem d_at (i : Fin 4096) (a : Fin 64) : a4 m c (ix4 b i h a) = (((kH m c b h).d i a : ℝ) : EReal) := hr.r4.coe _
theorem c_at (i : Fin 4096) : (K m c main_v2 : S2x4096x8.Idx → EReal) (ix3 b i h) = (((kH m c b h).c i : ℝ) : EReal) := (real_c hr).coe _

theorem logit_at (i j : Fin 4096) :
    (K m c main_v17 : S2x8x4096x4096.Idx → EReal) (ix4 b h i j) = if j.val ≤ i.val then (((kH m c b h).s i j : ℝ) : EReal) else ⊥ := by
  rw [k_v17, k_v15, k_v14, k_v13, k_v16, k_cst_2, k_v12, k_v11, k_v10, k_v9, k_v8, k_v7, k_v6, k_v5, k_v4, k_cst_1, k_v3, k_arg0, k_arg1]
  pointwise
  rw [causal, eighth, neg_inf]
  split
  · rename_i hm
    simp only [q_at hr, k_at hr, c_at hr]
    rw [coe_sum_mul, ← EReal.coe_mul, ← EReal.coe_sub, ← EReal.coe_add]
    rfl
  · rfl

/-- The rows' maxima. -/
def kμ (m : (ℓ : Loc nD τ sig) → Buf (Elt Ideal) ℓ) (c : Dev nD) (b : Fin 2) (h : Fin 8) (i : Fin 4096) : ℝ :=
  ((K m c main_v18 : S2x8x4096.Idx → EReal) (ix3 b h i)).toReal

theorem max_at (i : Fin 4096) : (K m c main_v18 : S2x8x4096.Idx → EReal) (ix3 b h i) = ((kμ m c b h i : ℝ) : EReal) := by
  have hx : ∃ r : ℝ, (K m c main_v18 : S2x8x4096.Idx → EReal) (ix3 b h i) = (r : EReal) := by
    rw [k_v18, k_cst_3]
    refine max_row _ _ ?_ b h i (fun j => ?_) ?_
    · pointwise
      exact neg_inf
    · rw [logit_at hr]; split
      · exact EReal.coe_ne_top _
      · exact bot_ne_top
    · rw [logit_at hr, if_pos le_rfl]
      exact EReal.coe_ne_bot _
  obtain ⟨r, hx⟩ := hx
  unfold kμ
  rw [hx, EReal.toReal_coe]

theorem e_at (i j : Fin 4096) :
    (K m c main_v22 : S2x8x4096x4096.Idx → EReal) (ix4 b h i j) = (((kH m c b h).e (kμ m c b h) i j : ℝ) : EReal) := by
  rw [k_v22, k_v21, k_v20, k_v19]
  pointwise
  rw [logit_at hr, max_at hr, Hd.e]
  split
  · rw [← EReal.coe_sub, Ideal.exp_coe]
  · rw [EReal.bot_sub, Ideal.exp_bot, EReal.coe_zero]

theorem sum_at (i : Fin 4096) :
    (K m c main_v23 : S2x8x4096.Idx → EReal) (ix3 b h i) = ((∑ j, (kH m c b h).e (kμ m c b h) i j : ℝ) : EReal) := by
  rw [k_v23, k_cst_4]
  pointwise
  simp only [e_at hr, coe_sum, zero_add]

theorem p_at (i j : Fin 4096) :
    (K m c main_v26 : S2x8x4096x4096.Idx → EReal) (ix4 b h i j) = (((kH m c b h).p i j : ℝ) : EReal) := by
  rw [k_v26, k_v25, k_v24]
  pointwise
  rw [e_at hr, sum_at hr, coe_div ((kH m c b h).sum_e_pos _ i).ne', Hd.e_div]

theorem out_at (i : Fin 4096) (a : Fin 64) :
    (K m c main_v28 : S2x4096x8x64.Idx → EReal) (ix4 b i h a) = ((∑ j, (kH m c b h).v j a * (kH m c b h).p i j : ℝ) : EReal) := by
  rw [k_v28, k_v27, k_arg2]
  pointwise
  simp only [p_at hr, v_at hr, coe_sum_mul]

omit hr in
/-- The logarithm of a row's sum, laid out by token. -/
theorem lse_read (x y : FVec Ideal S2x8x4096 .f32) (i : Fin 4096) :
    (transpose S2x4096x8x1 [0, 2, 1, 3] (addf (broadcastInDim S2x8x4096x1 ![0, 1, 2] bcast_S2x8x4096_S2x8x4096x1_0_1_2 x)
      (Host.log (broadcastInDim S2x8x4096x1 ![0, 1, 2] bcast_S2x8x4096_S2x8x4096x1_0_1_2 y)))
      transposes_S2x8x4096x1_S2x4096x8x1_0_2_1_3 : S2x4096x8x1.Idx → EReal) (ix4 b i h 0)
      = (x (ix3 b h i) : EReal) + Ideal.log (y (ix3 b h i)) := by
  pointwise

theorem lse_at (i : Fin 4096) :
    (K m c main_v31 : S2x4096x8x1.Idx → EReal) (ix4 b i h 0) = ((Real.log ((kH m c b h).Z i) : ℝ) : EReal) := by
  rw [k_v31, k_v30, k_v29, k_v24, k_v19]
  refine (lse_read b h _ _ i).trans ?_
  rw [max_at hr, sum_at hr, coe_log ((kH m c b h).sum_e_pos _ i), ← EReal.coe_add]
  exact congrArg _ (Hd.lse_eq (kH m c b h) (kμ m c b h) i)

theorem delta_at (i : Fin 4096) :
    (K m c main_v34 : S2x4096x8x1.Idx → EReal) (ix4 b i h 0) = (((kH m c b h).δ i : ℝ) : EReal) := by
  rw [k_v34, k_v33, k_cst_5, k_v32, k_arg4]
  pointwise
  simp only [out_at hr, d_at hr, coe_sum_mul, zero_add]
  rw [Hd.δ_eq]

omit hr in
theorem log2e_at : (K m c main_v1 : S_.Idx → EReal) ix0 = ((1 / Real.log 2 : ℝ) : EReal) := by
  rw [k_v1, k_cst_0, k_v0, k_cst]
  pointwise
  rw [two, coe_log (by norm_num), ← EReal.coe_one, coe_div (Real.log_pos (by norm_num)).ne']

end Cert.KernelIdeal.Fox

end
-- ==== Proof.Pay.lean ====
/- The body's arithmetic read at an index, at the ideal instance: each of its matrix products as a sum. -/
module

public import proofs.«01_k».proof.Proof.Body
public import Idealize.ShloMosaic.Lib.Pointwise

@[expose] public section

set_option maxRecDepth 16384

noncomputable section

namespace Cert.KernelIdeal.Fox

open Idealize.ShloMosaic Idealize.ShloMosaic.TcCoe
open Cert.KernelIdeal.Gen

/-- A tile of rows by one head's lanes. -/
abbrev Tile := (⟨2, ![1024, 128]⟩ : Shape).Idx → EReal

/-- The weight of key row `r` for query row `i`: a power of two of the product of the two augmented rows. -/
def tP (k q : Tile) (r i : Fin 1024) : EReal := Ideal.exp2 (∑ l : Fin 128, k (ix2 r l) * q (ix2 i l))
/-- The product of an augmented value row and an augmented output-gradient row. -/
def tG (v d : Tile) (r i : Fin 1024) : EReal := ∑ l : Fin 128, v (ix2 r l) * d (ix2 i l)
/-- The weights of a tile on the diagonal: zero above it. -/
def tPd (k q : Tile) (r i : Fin 1024) : EReal := if r.val ≤ i.val then tP k q r i else 0

theorem mask_select (r i : Fin 1024) (a b : EReal) :
    Scalar.select (IntOp.cmpi .sge (BitVec.ofNat 32 i.val) (BitVec.ofNat 32 r.val)) a b = if r.val ≤ i.val then a else b := by
  have hr := r.isLt
  have hi := i.isLt
  have h : IntOp.cmpi .sge (BitVec.ofNat 32 i.val) (BitVec.ofNat 32 r.val) = if r.val ≤ i.val then 1#1 else 0#1 := by
    have e : (BitVec.ofNat 32 r.val).sle (BitVec.ofNat 32 i.val) = decide (r.val ≤ i.val) := by
      rw [BitVec.sle_eq_decide, BitVec.toInt_eq_toNat_of_lt (by simp; omega), BitVec.toInt_eq_toNat_of_lt (by simp; omega)]
      simp
      omega
    simp only [IntOp.cmpi]
    rw [e]
    by_cases h : r.val ≤ i.val <;> simp [h]
  rw [h]
  by_cases h : r.val ≤ i.val <;> simp [h, Scalar.select]

theorem pay30_apply (x : Vec Ideal S1024x128 .bf16) (r : Fin 1024) (l : Fin 128) : k0_pay30 (F := Ideal) x (ix2 r l) = x (ix2 r l) := by
  pointwise [k0_pay30]

theorem pay31_apply (x : Vec Ideal S1024x128 .bf16) (r : Fin 1024) (l : Fin 128) : k0_pay31 (F := Ideal) x (ix2 r l) = x (ix2 r l) := by
  pointwise [k0_pay31]
theorem pay32_apply (x : Vec Ideal S1024x128 .bf16) (r : Fin 1024) (l : Fin 128) : k0_pay32 (F := Ideal) x (ix2 r l) = x (ix2 r l) := by
  pointwise [k0_pay32]
theorem pay33_apply (x : Vec Ideal S1024x128 .bf16) (r : Fin 1024) (l : Fin 128) : k0_pay33 (F := Ideal) x (ix2 r l) = x (ix2 r l) := by
  pointwise [k0_pay33]
theorem pay34_apply (r : Fin 1024) (l : Fin 128) : k0_pay34 (F := Ideal) (ix2 r l) = 0 := by
  pointwise [k0_pay34]
theorem pay29_apply (r : Fin 4096) (l : Fin 256) : k0_pay29 (F := Ideal) (ix2 r l) = 0 := by
  pointwise [k0_pay29]

/-! ## A tile below the diagonal -/

theorem pay5_apply (k q : Vec Ideal S1024x128 .bf16) (r i : Fin 1024) : k0_pay5 (F := Ideal) k q (ix2 r i) = tP k q r i := by
  pointwise [k0_pay5, k0_pay3, tP]
  rfl
theorem pay12_apply (k q : Vec Ideal S1024x128 .bf16) (r i : Fin 1024) : k0_pay12 (F := Ideal) k q (ix2 r i) = tP k q r i := by
  pointwise [k0_pay12, k0_pay10, tP]
  rfl
theorem pay6_apply (k v q d : Vec Ideal S1024x128 .bf16) (r i : Fin 1024) :
    k0_pay6 (F := Ideal) k v q d (ix2 r i) = tP k q r i * tG v d r i := by
  pointwise [k0_pay6, k0_pay4, pay5_apply, tG]
theorem pay13_apply (k v q d : Vec Ideal S1024x128 .bf16) (r i : Fin 1024) :
    k0_pay13 (F := Ideal) k v q d (ix2 r i) = tP k q r i * tG v d r i := by
  pointwise [k0_pay13, k0_pay11, pay12_apply, tG]
theorem pay7_apply (k : FVec Ideal S1024x128 .bf16) (a : FVec Ideal S1024x128 .f32) (q d : Vec Ideal S1024x128 .bf16) (r : Fin 1024) (l : Fin 128) :
    k0_pay7 (F := Ideal) k a q d (ix2 r l) = a (ix2 r l) + ∑ i : Fin 1024, tP k q r i * d (ix2 i l) := by
  pointwise [k0_pay7, k0_pay4, pay5_apply]
theorem pay14_apply (k : FVec Ideal S1024x128 .bf16) (a : FVec Ideal S1024x128 .f32) (q d : Vec Ideal S1024x128 .bf16) (r : Fin 1024) (l : Fin 128) :
    k0_pay14 (F := Ideal) k a q d (ix2 r l) = a (ix2 r l) + ∑ i : Fin 1024, tP k q r i * d (ix2 i l) := by
  pointwise [k0_pay14, k0_pay11, pay12_apply]
theorem pay8_apply (k v : FVec Ideal S1024x128 .bf16) (a : FVec Ideal S1024x128 .f32) (q d : Vec Ideal S1024x128 .bf16) (r : Fin 1024) (l : Fin 128) :
    k0_pay8 (F := Ideal) k v a q d (ix2 r l) = a (ix2 r l) + ∑ i : Fin 1024, (tP k q r i * tG v d r i) * q (ix2 i l) := by
  pointwise [k0_pay8, k0_pay3, pay6_apply]
theorem pay15_apply (k v : FVec Ideal S1024x128 .bf16) (a : FVec Ideal S1024x128 .f32) (q d : Vec Ideal S1024x128 .bf16) (r : Fin 1024) (l : Fin 128) :
    k0_pay15 (F := Ideal) k v a q d (ix2 r l) = a (ix2 r l) + ∑ i : Fin 1024, (tP k q r i * tG v d r i) * q (ix2 i l) := by
  pointwise [k0_pay15, k0_pay10, pay13_apply]
theorem pay9_apply (k v : FVec Ideal S1024x128 .bf16) (q d : Vec Ideal S1024x128 .bf16) (a : FVec Ideal S1024x128 .f32) (i : Fin 1024) (l : Fin 128) :
    k0_pay9 (F := Ideal) k v q d a (ix2 i l) = a (ix2 i l) + ∑ r : Fin 1024, (tP k q r i * tG v d r i) * k (ix2 r l) := by
  pointwise [k0_pay9, pay6_apply]
theorem pay1_apply (k v : FVec Ideal S1024x128 .bf16) (q d : Vec Ideal S1024x128 .bf16) (a : FVec Ideal S1024x128 .f32) (i : Fin 1024) (l : Fin 128) :
    k0_pay1 (F := Ideal) k (k0_pay13 k v q d) a (ix2 i l) = a (ix2 i l) + ∑ r : Fin 1024, (tP k q r i * tG v d r i) * k (ix2 r l) := by
  pointwise [k0_pay1, pay13_apply]

/-! ## The tile on the diagonal -/

theorem pay37_apply (k q : Vec Ideal S1024x128 .bf16) (r i : Fin 1024) : k0_pay37 (F := Ideal) k q (ix2 r i) = tPd k q r i := by
  pointwise [k0_pay37, k0_pay30, k0_pay35, tPd, tP]
  rw [mask_select, mask_select]
  by_cases h : r.val ≤ i.val
  · rw [if_pos h, if_pos h, if_pos h]; rfl
  · rw [if_neg h, if_neg h]
theorem pay44_apply (k q : Vec Ideal S1024x128 .bf16) (r i : Fin 1024) : k0_pay44 (F := Ideal) rowIx colIx k q (ix2 r i) = tPd k q r i := by
  pointwise [k0_pay44, k0_pay42, rowIx, colIx, tPd, tP]
  rw [mask_select, mask_select]
  by_cases h : r.val ≤ i.val
  · rw [if_pos h, if_pos h, if_pos h]; rfl
  · rw [if_neg h, if_neg h]
theorem pay38_apply (k v q d : Vec Ideal S1024x128 .bf16) (r i : Fin 1024) :
    k0_pay38 (F := Ideal) k v q d (ix2 r i) = tPd k q r i * tG v d r i := by
  pointwise [k0_pay38, k0_pay32, k0_pay36, pay37_apply, tG]
theorem pay45_apply (k v q d : Vec Ideal S1024x128 .bf16) (r i : Fin 1024) :
    k0_pay45 (F := Ideal) rowIx colIx k v q d (ix2 r i) = tPd k q r i * tG v d r i := by
  pointwise [k0_pay45, k0_pay43, pay44_apply, tG]
theorem pay39_apply (k q d : Vec Ideal S1024x128 .bf16) (r : Fin 1024) (l : Fin 128) :
    k0_pay39 (F := Ideal) k q d (ix2 r l) = ∑ i : Fin 1024, tPd k q r i * d (ix2 i l) := by
  pointwise [k0_pay39, k0_pay36, pay37_apply, pay34_apply]
theorem pay46_apply (k q d : Vec Ideal S1024x128 .bf16) (r : Fin 1024) (l : Fin 128) :
    k0_pay46 (F := Ideal) rowIx colIx k (k0_pay34 (F := Ideal)) q d (ix2 r l) = ∑ i : Fin 1024, tPd k q r i * d (ix2 i l) := by
  pointwise [k0_pay46, k0_pay43, pay44_apply, pay34_apply]
theorem pay40_apply (k v q d : Vec Ideal S1024x128 .bf16) (r : Fin 1024) (l : Fin 128) :
    k0_pay40 (F := Ideal) (k0_pay34 (F := Ideal)) (k0_pay35 q) (k0_pay38 k v q d) (constant S1024x128 .f32 0x00000000#32) (ix2 r l)
      = ∑ i : Fin 1024, (tPd k q r i * tG v d r i) * q (ix2 i l) := by
  pointwise [k0_pay40, k0_pay35, pay38_apply, pay34_apply]
theorem pay47_apply (k v q d : Vec Ideal S1024x128 .bf16) (r : Fin 1024) (l : Fin 128) :
    k0_pay47 (F := Ideal) rowIx colIx k v (k0_pay34 (F := Ideal)) q d (ix2 r l) = ∑ i : Fin 1024, (tPd k q r i * tG v d r i) * q (ix2 i l) := by
  pointwise [k0_pay47, k0_pay42, pay45_apply, pay34_apply]
theorem pay41_apply (k : FVec Ideal S1024x128 .bf16) (s : FVec Ideal S1024x1024 .bf16) (a : FVec Ideal S1024x128 .f32) (i : Fin 1024) (l : Fin 128) :
    k0_pay41 (F := Ideal) k s a (ix2 i l) = a (ix2 i l) + ∑ r : Fin 1024, s (ix2 r i) * k (ix2 r l) := by
  pointwise [k0_pay41]
theorem pay48_apply (k v : FVec Ideal S1024x128 .bf16) (q d : Vec Ideal S1024x128 .bf16) (a : FVec Ideal S1024x128 .f32) (i : Fin 1024) (l : Fin 128) :
    k0_pay48 (F := Ideal) rowIx colIx k v q d a (ix2 i l) = a (ix2 i l) + ∑ r : Fin 1024, (tPd k q r i * tG v d r i) * k (ix2 r l) := by
  pointwise [k0_pay48, pay45_apply]

end Cert.KernelIdeal.Fox
-- ==== Proof.Tiles.lean ====
/- What one run of the body leaves, element by element at the ideal instance: sums over all the query rows of a block
   for the keys and values, and over the rows of one key tile for the queries. -/
module

public import proofs.«01_k».proof.Proof.Pay

@[expose] public section

set_option maxRecDepth 16384

noncomputable section

namespace Cert.KernelIdeal.Fox

open Idealize.ShloMosaic Idealize.ShloMosaic.TcCoe
open Cert.KernelIdeal.Gen

/-- A block of all the query rows of one batch entry and of two heads. -/
abbrev Blk := S4096x256.Idx → EReal
/-- A tile of key rows of two heads. -/
abbrev KTile := S1024x256.Idx → EReal

/-- Row `r` of tile `j` of a block. -/
def rowN (j : ℕ) (r : Fin 1024) : Fin 4096 := ⟨(1024 * j + r.val) % 4096, Nat.mod_lt _ (by omega)⟩
/-- Lane `l` of head `h` of a pair. -/
def lane (h : Fin 2) (l : Fin 128) : Fin 256 := ⟨128 * h.val + l.val, by omega⟩
/-- One head's part of tile `j` of a block. -/
def tile (X : Blk) (j : ℕ) (h : Fin 2) : Tile := fun y => X (ix2 (rowN j (y 0)) (lane h (y 1)))
/-- One head's part of a key tile. -/
def part (x : KTile) (h : Fin 2) : Tile := fun y => x (ix2 (y 0) (lane h (y 1)))

theorem rowN_val (j : ℕ) (hj : j < 4) (r : Fin 1024) : (rowN j r).val = 1024 * j + r.val := by
  have := r.isLt
  show (1024 * j + r.val) % 4096 = _
  omega

theorem win_tile (X : Blk) (off : Fin 2 → ℕ) (inb : ∀ a, off a + S1024x128.size a ≤ S4096x256.size a) (j : ℕ) (hj : j < 4) (h : Fin 2)
    (e : off = ![1024 * j, 128 * h.val]) : VecWindow.window (s := S4096x256) X off S1024x128.size inb = tile X j h := by
  subst e
  funext y
  refine congrArg X (funext fun a => Fin.ext ?_)
  match a with
  | ⟨0, _⟩ =>
    have hy : (y 0).val < 1024 := (y 0).isLt
    show 1024 * j + 1 * (y 0).val = (1024 * j + (y 0).val) % 4096
    omega
  | ⟨1, _⟩ =>
    show 128 * h.val + 1 * (y 1).val = 128 * h.val + (y 1).val
    omega

theorem half_part (x : KTile) (off : Fin 2 → ℕ) (inb : ∀ a, off a + S1024x128.size a ≤ S1024x256.size a) (h : Fin 2)
    (e : off = ![0, 128 * h.val]) : VecWindow.window (s := S1024x256) x off S1024x128.size inb = part x h := by
  subst e
  funext y
  refine congrArg x (funext fun a => Fin.ext ?_)
  match a with
  | ⟨0, _⟩ =>
    show 0 + 1 * (y 0).val = (y 0).val
    omega
  | ⟨1, _⟩ =>
    show 128 * h.val + 1 * (y 1).val = 128 * h.val + (y 1).val
    omega

theorem tile_put (X : Blk) (off : Fin 2 → ℕ) (w : Tile) (j : ℕ) (hj : j < 4) (h : Fin 2) (e : off = ![1024 * j, 128 * h.val])
    (j' : ℕ) (hj' : j' < 4) (h' : Fin 2) :
    tile (VecWindow.put (s := S4096x256) X off S1024x128.size w) j' h' = if j' = j ∧ h' = h then w else tile X j' h' := by
  subst e
  funext y
  have hy0 : (y 0).val < 1024 := (y 0).isLt
  have hy1 : (y 1).val < 128 := (y 1).isLt
  have er : (rowN j' (y 0)).val = 1024 * j' + (y 0).val := rowN_val j' hj' (y 0)
  show (if g : _ then w (Rect.unitLocal (s := S4096x256) (off := ![1024 * j, 128 * h.val]) (size := S1024x128.size) (ix2 (rowN j' (y 0)) (lane h' (y 1))) g) else X (ix2 (rowN j' (y 0)) (lane h' (y 1)))) = _
  by_cases hc : j' = j ∧ h' = h
  · rw [if_pos hc]
    obtain ⟨rfl, rfl⟩ := hc
    rw [dif_pos]
    · refine congrArg w (funext fun a => Fin.ext ?_)
      match a with
      | ⟨0, _⟩ =>
        show (rowN j' (y 0)).val - 1024 * j' = (y 0).val
        omega
      | ⟨1, _⟩ =>
        show 128 * h'.val + (y 1).val - 128 * h'.val = (y 1).val
        omega
    · intro a
      match a with
      | ⟨0, _⟩ => exact ⟨by show 1024 * j' ≤ (rowN j' (y 0)).val; omega, by show (rowN j' (y 0)).val < 1024 * j' + 1024; omega⟩
      | ⟨1, _⟩ => exact ⟨by show 128 * h'.val ≤ 128 * h'.val + (y 1).val; omega, by show 128 * h'.val + (y 1).val < 128 * h'.val + 128; omega⟩
  · rw [if_neg hc, dif_neg]
    · rfl
    · intro g
      have g0 := g 0
      have g1 := g 1
      change 1024 * j ≤ (rowN j' (y 0)).val ∧ (rowN j' (y 0)).val < 1024 * j + 1024 at g0
      change 128 * h.val ≤ 128 * h'.val + (y 1).val ∧ 128 * h'.val + (y 1).val < 128 * h.val + 128 at g1
      exact hc ⟨by omega, Fin.ext (by omega)⟩

/-! ## The offsets and the number of trips -/

theorem trips_eq (i : grid0.Coords) : (k0_t1_loop i).trips = 3 - (i 2).val := by
  have h : ∀ j : Fin 4, Scf.trips (Scalar.addi (BitVec.ofNat 32 j.val) 1#32) (Scalar.addi (Scalar.addi (BitVec.ofNat 32 j.val) 1#32) (Scalar.muli (Scalar.divsi (Scalar.subi 4#32 (Scalar.addi (BitVec.ofNat 32 j.val) 1#32)) 1#32) 1#32)) 1#32 = 3 - j.val := by
    decide
  exact h (i 2)

theorem off1_eq (i : grid0.Coords) : k0_off1 i = ![1024 * (i 2).val, 128 * (0 : Fin 2).val] := by
  have h : ∀ j : Fin 4, (Scalar.indexCast (Scalar.muli (BitVec.ofNat 32 j.val) 1024#32) : Index).toNat = 1024 * j.val := by decide
  exact congrArg (fun z : ℕ => (![z, 0] : Fin 2 → ℕ)) (h (i 2))
theorem off2_eq (i : grid0.Coords) : k0_off2 i = ![1024 * (i 2).val, 128 * (1 : Fin 2).val] := by
  have h : ∀ j : Fin 4, (Scalar.indexCast (Scalar.muli (BitVec.ofNat 32 j.val) 1024#32) : Index).toNat = 1024 * j.val := by decide
  exact congrArg (fun z : ℕ => (![z, 128] : Fin 2 → ℕ)) (h (i 2))
theorem off34_toNat (j : Fin 4) (k : ℕ) (hk : k < 3) :
    (Scalar.indexCast (Scalar.muli (Scf.iv (Scalar.addi (BitVec.ofNat 32 j.val) 1#32) 1#32 k) 1024#32) : Index).toNat = 1024 * (j.val + 1 + k) := by
  have h : ∀ (j : Fin 4) (k : Fin 3), (Scalar.indexCast (Scalar.muli (Scf.iv (Scalar.addi (BitVec.ofNat 32 j.val) 1#32) 1#32 k.val) 1024#32) : Index).toNat = 1024 * (j.val + 1 + k.val) := by decide
  exact h j ⟨k, hk⟩
theorem off3_eq (i : grid0.Coords) (k : Fin (k0_t1_loop i).trips) : k0_off3 i k = ![1024 * ((i 2).val + 1 + k.val), 128 * (0 : Fin 2).val] := by
  have hk : k.val < 3 := by have := k.isLt; have := trips_eq i; omega
  exact congrArg (fun z : ℕ => (![z, 0] : Fin 2 → ℕ)) (off34_toNat (i 2) k.val hk)
theorem off4_eq (i : grid0.Coords) (k : Fin (k0_t1_loop i).trips) : k0_off4 i k = ![1024 * ((i 2).val + 1 + k.val), 128 * (1 : Fin 2).val] := by
  have hk : k.val < 3 := by have := k.isLt; have := trips_eq i; omega
  exact congrArg (fun z : ℕ => (![z, 128] : Fin 2 → ℕ)) (off34_toNat (i 2) k.val hk)

/-! ## What one tile of query rows gives -/

/-- To the gradient of key row `r`, lane `l`; -/
def cK (k v q d : Tile) (r : Fin 1024) (l : Fin 128) : EReal := ∑ i : Fin 1024, (tP k q r i * tG v d r i) * q (ix2 i l)
/-- of value row `r`; -/
def cV (k q d : Tile) (r : Fin 1024) (l : Fin 128) : EReal := ∑ i : Fin 1024, tP k q r i * d (ix2 i l)
/-- of query row `i`. -/
def cQ (k v q d : Tile) (i : Fin 1024) (l : Fin 128) : EReal := ∑ r : Fin 1024, (tP k q r i * tG v d r i) * k (ix2 r l)
/-- The same on the diagonal. -/
def cKd (k v q d : Tile) (r : Fin 1024) (l : Fin 128) : EReal := ∑ i : Fin 1024, (tPd k q r i * tG v d r i) * q (ix2 i l)
def cVd (k q d : Tile) (r : Fin 1024) (l : Fin 128) : EReal := ∑ i : Fin 1024, tPd k q r i * d (ix2 i l)
def cQd (k v q d : Tile) (i : Fin 1024) (l : Fin 128) : EReal := ∑ r : Fin 1024, (tPd k q r i * tG v d r i) * k (ix2 r l)

section loop
variable (i : grid0.Coords) (x0 x1 : Vec Ideal S4096x256 .bf16) (v6 v8 v10 v12 : FVec Ideal S1024x128 .bf16)

theorem loopC_apply (a : FVec Ideal S1024x128 .f32 × FVec Ideal S1024x128 .f32 × FVec Ideal S1024x128 .f32 × FVec Ideal S1024x128 .f32)
    (n : ℕ) (hn : n ≤ 3 - (i 2).val) (r : Fin 1024) (l : Fin 128) :
    (loopC (F := Ideal) i x0 x1 v6 v8 v10 v12 a n).1 (ix2 r l)
        = a.1 (ix2 r l) + ∑ k ∈ Finset.range n, cK v6 v10 (tile x0 ((i 2).val + 1 + k) 0) (tile x1 ((i 2).val + 1 + k) 0) r l
    ∧ (loopC (F := Ideal) i x0 x1 v6 v8 v10 v12 a n).2.1 (ix2 r l)
        = a.2.1 (ix2 r l) + ∑ k ∈ Finset.range n, cV v6 (tile x0 ((i 2).val + 1 + k) 0) (tile x1 ((i 2).val + 1 + k) 0) r l
    ∧ (loopC (F := Ideal) i x0 x1 v6 v8 v10 v12 a n).2.2.1 (ix2 r l)
        = a.2.2.1 (ix2 r l) + ∑ k ∈ Finset.range n, cK v8 v12 (tile x0 ((i 2).val + 1 + k) 1) (tile x1 ((i 2).val + 1 + k) 1) r l
    ∧ (loopC (F := Ideal) i x0 x1 v6 v8 v10 v12 a n).2.2.2 (ix2 r l)
        = a.2.2.2 (ix2 r l) + ∑ k ∈ Finset.range n, cV v8 (tile x0 ((i 2).val + 1 + k) 1) (tile x1 ((i 2).val + 1 + k) 1) r l := by
  induction n with
  | zero => simp [loopC]
  | succ n ih =>
    obtain ⟨e1, e2, e3, e4⟩ := ih (by omega)
    have ht : n < (k0_t1_loop i).trips := by rw [trips_eq]; omega
    have hj : (i 2).val + 1 + n < 4 := by omega
    simp only [loopC, dif_pos ht, stepC, Finset.sum_range_succ, ← add_assoc]
    simp only [win]
    rw [win_tile x0 _ _ _ hj 0 (off3_eq i ⟨n, ht⟩), win_tile x1 _ _ _ hj 0 (off3_eq i ⟨n, ht⟩),
      win_tile x0 _ _ _ hj 1 (off4_eq i ⟨n, ht⟩), win_tile x1 _ _ _ hj 1 (off4_eq i ⟨n, ht⟩),
      pay8_apply, pay7_apply, pay15_apply, pay14_apply, e1, e2, e3, e4]
    exact ⟨rfl, rfl, rfl, rfl⟩

/-- The operands of one head of a pair. -/
def hd (a b : Tile) (h : Fin 2) : Tile := if h = 0 then a else b

theorem loopD_tile (D : Vec Ideal S4096x256 .f32) (n : ℕ) (hn : n ≤ 3 - (i 2).val) (j : ℕ) (hj : j < 4) (h : Fin 2) (r : Fin 1024) (l : Fin 128) :
    tile (loopD (F := Ideal) i x0 x1 v6 v8 v10 v12 D n) j h (ix2 r l)
      = if (i 2).val < j ∧ j < (i 2).val + 1 + n then tile D j h (ix2 r l) + cQ (hd v6 v8 h) (hd v10 v12 h) (tile x0 j h) (tile x1 j h) r l
        else tile D j h (ix2 r l) := by
  induction n with
  | zero => rw [if_neg (by omega)]; rfl
  | succ n ih =>
    have e := ih (by omega)
    have ht : n < (k0_t1_loop i).trips := by rw [trips_eq]; omega
    have hb : (i 2).val < 4 := (i 2).isLt
    have hjn : (i 2).val + 1 + n < 4 := by omega
    simp only [loopD, dif_pos ht, stepD]
    simp only [win]
    rw [win_tile x0 _ _ _ hjn 0 (off3_eq i ⟨n, ht⟩), win_tile x1 _ _ _ hjn 0 (off3_eq i ⟨n, ht⟩),
      win_tile x0 _ _ _ hjn 1 (off4_eq i ⟨n, ht⟩), win_tile x1 _ _ _ hjn 1 (off4_eq i ⟨n, ht⟩),
      win_tile _ _ _ _ hjn 0 (off3_eq i ⟨n, ht⟩), win_tile _ _ _ _ hjn 1 (off4_eq i ⟨n, ht⟩)]
    rw [tile_put _ _ _ _ hjn 1 (off4_eq i ⟨n, ht⟩) j hj h, tile_put _ _ _ _ hjn 0 (off3_eq i ⟨n, ht⟩) j hj h]
    by_cases hjc : j = (i 2).val + 1 + n
    · rw [if_neg (by omega)] at e
      rw [if_pos (show (i 2).val < j ∧ j < (i 2).val + 1 + (n + 1) by omega)]
      subst hjc
      match h with
      | ⟨0, _⟩ =>
        rw [if_neg (fun z => by simpa using congrArg Fin.val z.2), if_pos ⟨rfl, rfl⟩, pay9_apply]
        exact congrArg (· + _) e
      | ⟨1, _⟩ =>
        rw [if_pos ⟨rfl, rfl⟩, pay1_apply]
        exact congrArg (· + _) e
    · rw [if_neg (fun z => hjc z.1), if_neg (fun z => hjc z.1), e]
      by_cases hc : (i 2).val < j ∧ j < (i 2).val + 1 + n
      · rw [if_pos hc, if_pos (by omega)]
      · rw [if_neg hc, if_neg (by omega)]

end loop

/-! ## The tile on the diagonal, and the whole run -/

section body
variable (i : grid0.Coords) (x0 x1 : Vec Ideal S4096x256 .bf16) (x2 x3 : Vec Ideal S1024x256 .bf16)

theorem pay30_eq (x : Vec Ideal S1024x128 .bf16) : k0_pay30 (F := Ideal) x = x := shapeCast_self _ _
theorem pay31_eq (x : Vec Ideal S1024x128 .bf16) : k0_pay31 (F := Ideal) x = x := shapeCast_self _ _
theorem pay32_eq (x : Vec Ideal S1024x128 .bf16) : k0_pay32 (F := Ideal) x = x := shapeCast_self _ _
theorem pay33_eq (x : Vec Ideal S1024x128 .bf16) : k0_pay33 (F := Ideal) x = x := shapeCast_self _ _

theorem half0_part (x : Vec Ideal S1024x256 .bf16) : half0 (F := Ideal) x = part x 0 := half_part x _ _ 0 rfl
theorem half1_part (x : Vec Ideal S1024x256 .bf16) : half1 (F := Ideal) x = part x 1 := half_part x _ _ 1 rfl

theorem diagC_apply (r : Fin 1024) (l : Fin 128) :
    (diagC (F := Ideal) i x0 x1 x2 x3).1 (ix2 r l) = cKd (part x2 0) (part x3 0) (tile x0 (i 2).val 0) (tile x1 (i 2).val 0) r l
    ∧ (diagC (F := Ideal) i x0 x1 x2 x3).2.1 (ix2 r l) = cVd (part x2 0) (tile x0 (i 2).val 0) (tile x1 (i 2).val 0) r l
    ∧ (diagC (F := Ideal) i x0 x1 x2 x3).2.2.1 (ix2 r l) = cKd (part x2 1) (part x3 1) (tile x0 (i 2).val 1) (tile x1 (i 2).val 1) r l
    ∧ (diagC (F := Ideal) i x0 x1 x2 x3).2.2.2 (ix2 r l) = cVd (part x2 1) (tile x0 (i 2).val 1) (tile x1 (i 2).val 1) r l := by
  have hb : (i 2).val < 4 := (i 2).isLt
  unfold diagC diagS
  dsimp only
  rw [half0_part, half0_part, half1_part, half1_part, pay31_eq, pay33_eq]
  simp only [win1, win2, win]
  rw [win_tile x0 _ _ _ hb 0 (off1_eq i), win_tile x1 _ _ _ hb 0 (off1_eq i),
    win_tile x0 _ _ _ hb 1 (off2_eq i), win_tile x1 _ _ _ hb 1 (off2_eq i), pay40_apply, pay39_apply, pay47_apply, pay46_apply]
  exact ⟨rfl, rfl, rfl, rfl⟩

theorem diagD_tile (D : Vec Ideal S4096x256 .f32) (j : ℕ) (hj : j < 4) (h : Fin 2) (r : Fin 1024) (l : Fin 128) :
    tile (diagD (F := Ideal) i x0 x1 x2 x3 D) j h (ix2 r l)
      = if j = (i 2).val then tile D j h (ix2 r l) + cQd (part x2 h) (part x3 h) (tile x0 j h) (tile x1 j h) r l
        else tile D j h (ix2 r l) := by
  have hb : (i 2).val < 4 := (i 2).isLt
  unfold diagD diagS
  dsimp only
  rw [half0_part, half0_part, half1_part, half1_part, pay30_eq, pay31_eq, pay33_eq]
  simp only [win1, win2, win]
  rw [win_tile x0 _ _ _ hb 0 (off1_eq i), win_tile x1 _ _ _ hb 0 (off1_eq i),
    win_tile x0 _ _ _ hb 1 (off2_eq i), win_tile x1 _ _ _ hb 1 (off2_eq i),
    win_tile _ _ _ _ hb 0 (off1_eq i), win_tile _ _ _ _ hb 1 (off2_eq i)]
  rw [tile_put _ _ _ _ hb 1 (off2_eq i) j hj h, tile_put _ _ _ _ hb 0 (off1_eq i) j hj h]
  by_cases hjc : j = (i 2).val
  · rw [if_pos hjc]
    subst hjc
    match h with
    | ⟨0, _⟩ =>
      rw [if_neg (fun z => by simpa using congrArg Fin.val z.2), if_pos ⟨rfl, rfl⟩, pay41_apply]
      simp only [pay38_apply]
      rfl
    | ⟨1, _⟩ =>
      rw [if_pos ⟨rfl, rfl⟩, pay48_apply]
      rfl
  · rw [if_neg (fun z => hjc z.1), if_neg (fun z => hjc z.1), if_neg hjc]

/-- The weight of key row `r` of tile `kb` for query row `i`, over the whole block: zero for the rows before it. -/
def wP (k : Tile) (x : Blk) (kb : ℕ) (h : Fin 2) (r : Fin 1024) (i : Fin 4096) : EReal :=
  if 1024 * kb + r.val ≤ i.val then Ideal.exp2 (∑ l : Fin 128, k (ix2 r l) * x (ix2 i (lane h l))) else 0
/-- The product of value row `r` and output-gradient row `i`. -/
def wG (v : Tile) (x : Blk) (h : Fin 2) (r : Fin 1024) (i : Fin 4096) : EReal := ∑ l : Fin 128, v (ix2 r l) * x (ix2 i (lane h l))

theorem sum_rows (f : Fin 4096 → EReal) : ∑ i, f i = ∑ j : Fin 4, ∑ r : Fin 1024, f (rowN j.val r) := by
  rw [← Fintype.sum_prod_type', ← (finProdFinEquiv (m := 4) (n := 1024)).sum_comp]
  refine Finset.sum_congr rfl fun x _ => congrArg f (Fin.ext ?_)
  have h1 := x.1.isLt
  have h2 := x.2.isLt
  rw [rowN_val _ h1]
  show x.2.val + 1024 * x.1.val = _
  omega

theorem wP_lt (k : Tile) (x : Blk) (kb : ℕ) (j : ℕ) (hj : j < 4) (h : Fin 2) (r i : Fin 1024) (c : j < kb) : wP k x kb h r (rowN j i) = 0 := by
  have := i.isLt
  unfold wP
  rw [rowN_val j hj, if_neg (by omega)]
theorem wP_gt (k : Tile) (x : Blk) (kb : ℕ) (j : ℕ) (hj : j < 4) (h : Fin 2) (r i : Fin 1024) (c : kb < j) : wP k x kb h r (rowN j i) = tP k (tile x j h) r i := by
  have := r.isLt
  unfold wP
  rw [rowN_val j hj, if_pos (by omega)]
  rfl
theorem wP_eq (k : Tile) (x : Blk) (kb : ℕ) (hj : kb < 4) (h : Fin 2) (r i : Fin 1024) : wP k x kb h r (rowN kb i) = tPd k (tile x kb h) r i := by
  unfold wP tPd
  rw [rowN_val kb hj]
  by_cases c : r.val ≤ i.val
  · rw [if_pos c, if_pos (by omega)]; rfl
  · rw [if_neg c, if_neg (by omega)]

theorem split_sum (f : Fin 4096 → EReal) (g : ℕ → EReal) (d : EReal) (kb : ℕ) (hkb : kb < 4)
    (h0 : ∀ j, j < 4 → j < kb → ∑ r : Fin 1024, f (rowN j r) = 0) (h1 : ∑ r : Fin 1024, f (rowN kb r) = d)
    (h2 : ∀ j, j < 4 → kb < j → ∑ r : Fin 1024, f (rowN j r) = g j) :
    d + ∑ k ∈ Finset.range (3 - kb), g (kb + 1 + k) = ∑ i, f i := by
  rw [sum_rows, Fin.sum_univ_four]
  match kb, hkb with
  | 0, _ =>
    simp only [Finset.sum_range_succ, Finset.sum_range_zero]
    show d + (0 + g 1 + g 2 + g 3) = ∑ r, f (rowN 0 r) + ∑ r, f (rowN 1 r) + ∑ r, f (rowN 2 r) + ∑ r, f (rowN 3 r)
    rw [h1, h2 1 (by omega) (by omega), h2 2 (by omega) (by omega), h2 3 (by omega) (by omega), zero_add]
    simp only [add_assoc]
  | 1, _ =>
    simp only [Finset.sum_range_succ, Finset.sum_range_zero]
    show d + (0 + g 2 + g 3) = ∑ r, f (rowN 0 r) + ∑ r, f (rowN 1 r) + ∑ r, f (rowN 2 r) + ∑ r, f (rowN 3 r)
    rw [h1, h0 0 (by omega) (by omega), h2 2 (by omega) (by omega), h2 3 (by omega) (by omega), zero_add, zero_add]
    simp only [add_assoc]
  | 2, _ =>
    simp only [Finset.sum_range_succ, Finset.sum_range_zero]
    show d + (0 + g 3) = ∑ r, f (rowN 0 r) + ∑ r, f (rowN 1 r) + ∑ r, f (rowN 2 r) + ∑ r, f (rowN 3 r)
    rw [h1, h0 0 (by omega) (by omega), h0 1 (by omega) (by omega), h2 3 (by omega) (by omega), zero_add, zero_add, zero_add]
  | 3, _ =>
    show d + 0 = ∑ r, f (rowN 0 r) + ∑ r, f (rowN 1 r) + ∑ r, f (rowN 2 r) + ∑ r, f (rowN 3 r)
    rw [h1, h0 0 (by omega) (by omega), h0 1 (by omega) (by omega), h0 2 (by omega) (by omega), zero_add, zero_add, zero_add, add_zero]

theorem join_lane (a b : Tile) (r : Fin 1024) (h : Fin 2) (l : Fin 128) : join (F := Ideal) a b (ix2 r (lane h l)) = hd a b h (ix2 r l) := by
  have hl := l.isLt
  unfold join
  match h with
  | ⟨0, _⟩ =>
    refine (dif_pos (show 128 * 0 + l.val < 128 by omega)).trans ?_
    show a _ = a _
    refine congrArg a (funext fun x => Fin.ext ?_)
    match x with
    | ⟨0, _⟩ => rfl
    | ⟨1, _⟩ => show 128 * 0 + l.val = l.val; omega
  | ⟨1, _⟩ =>
    refine (dif_neg (show ¬ 128 * 1 + l.val < 128 by omega)).trans ?_
    show b _ = b _
    refine congrArg b (funext fun x => Fin.ext ?_)
    match x with
    | ⟨0, _⟩ => rfl
    | ⟨1, _⟩ => show 128 * 1 + l.val - 128 = l.val; omega

theorem bodyK_apply (r : Fin 1024) (h : Fin 2) (l : Fin 128) :
    bodyK (F := Ideal) i x0 x1 x2 x3 (ix2 r (lane h l))
      = ∑ t : Fin 4096, (wP (part x2 h) x0 (i 2).val h r t * wG (part x3 h) x1 h r t) * x0 (ix2 t (lane h l)) := by
  have hb : (i 2).val < 4 := (i 2).isLt
  have key : ∀ h, cKd (part x2 h) (part x3 h) (tile x0 (i 2).val h) (tile x1 (i 2).val h) r l
      + ∑ k ∈ Finset.range (3 - (i 2).val), cK (part x2 h) (part x3 h) (tile x0 ((i 2).val + 1 + k) h) (tile x1 ((i 2).val + 1 + k) h) r l
      = ∑ t : Fin 4096, (wP (part x2 h) x0 (i 2).val h r t * wG (part x3 h) x1 h r t) * x0 (ix2 t (lane h l)) := fun h =>
    split_sum _ (fun j => cK (part x2 h) (part x3 h) (tile x0 j h) (tile x1 j h) r l) _ _ hb
      (fun j hj c => Finset.sum_eq_zero fun t _ => by rw [wP_lt _ _ _ j hj h r t c, zero_mul, zero_mul])
      (Finset.sum_congr rfl fun t _ => by rw [wP_eq _ _ _ hb h r t]; rfl)
      (fun j hj c => Finset.sum_congr rfl fun t _ => by rw [wP_gt _ _ _ j hj h r t c]; rfl)
  unfold bodyK
  rw [join_lane, ← key h]
  unfold bodyC
  rw [trips_eq]
  have e := loopC_apply i x0 x1 (k0_pay30 (half0 x2)) (k0_pay31 (half1 x2)) (k0_pay32 (half0 x3)) (k0_pay33 (half1 x3)) (diagC i x0 x1 x2 x3) _ le_rfl r l
  have d := diagC_apply i x0 x1 x2 x3 r l
  rw [pay30_eq, pay31_eq, pay32_eq, pay33_eq, half0_part, half0_part, half1_part, half1_part] at e ⊢
  match h with
  | ⟨0, _⟩ => exact e.1.trans (by rw [d.1]; rfl)
  | ⟨1, _⟩ => exact e.2.2.1.trans (by rw [d.2.2.1]; rfl)

theorem bodyV_apply (r : Fin 1024) (h : Fin 2) (l : Fin 128) :
    bodyV (F := Ideal) i x0 x1 x2 x3 (ix2 r (lane h l)) = ∑ t : Fin 4096, wP (part x2 h) x0 (i 2).val h r t * x1 (ix2 t (lane h l)) := by
  have hb : (i 2).val < 4 := (i 2).isLt
  have key : ∀ h, cVd (part x2 h) (tile x0 (i 2).val h) (tile x1 (i 2).val h) r l
      + ∑ k ∈ Finset.range (3 - (i 2).val), cV (part x2 h) (tile x0 ((i 2).val + 1 + k) h) (tile x1 ((i 2).val + 1 + k) h) r l
      = ∑ t : Fin 4096, wP (part x2 h) x0 (i 2).val h r t * x1 (ix2 t (lane h l)) := fun h =>
    split_sum _ (fun j => cV (part x2 h) (tile x0 j h) (tile x1 j h) r l) _ _ hb
      (fun j hj c => Finset.sum_eq_zero fun t _ => by rw [wP_lt _ _ _ j hj h r t c, zero_mul])
      (Finset.sum_congr rfl fun t _ => by rw [wP_eq _ _ _ hb h r t]; rfl)
      (fun j hj c => Finset.sum_congr rfl fun t _ => by rw [wP_gt _ _ _ j hj h r t c]; rfl)
  unfold bodyV
  rw [join_lane, ← key h]
  unfold bodyC
  rw [trips_eq]
  have e := loopC_apply i x0 x1 (k0_pay30 (half0 x2)) (k0_pay31 (half1 x2)) (k0_pay32 (half0 x3)) (k0_pay33 (half1 x3)) (diagC i x0 x1 x2 x3) _ le_rfl r l
  have d := diagC_apply i x0 x1 x2 x3 r l
  rw [pay30_eq, pay31_eq, pay32_eq, pay33_eq, half0_part, half0_part, half1_part, half1_part] at e ⊢
  match h with
  | ⟨0, _⟩ => exact e.2.1.trans (by rw [d.2.1]; rfl)
  | ⟨1, _⟩ => exact e.2.2.2.trans (by rw [d.2.2.2]; rfl)

/-- A run adds to the gradient of query row `t` the terms of the tile's key rows. -/
theorem bodyD_apply (D : Vec Ideal S4096x256 .f32) (t : Fin 4096) (h : Fin 2) (l : Fin 128) :
    bodyD (F := Ideal) i x0 x1 x2 x3 D (ix2 t (lane h l))
      = D (ix2 t (lane h l)) + ∑ r : Fin 1024, (wP (part x2 h) x0 (i 2).val h r t * wG (part x3 h) x1 h r t) * part x2 h (ix2 r l) := by
  have hb : (i 2).val < 4 := (i 2).isLt
  have ht := t.isLt
  obtain ⟨j, r, hj, rfl⟩ : ∃ (j : ℕ) (r : Fin 1024), j < 4 ∧ t = rowN j r :=
    ⟨t.val / 1024, ⟨t.val % 1024, Nat.mod_lt _ (by omega)⟩, by omega, Fin.ext (by rw [rowN_val _ (by omega)]; show t.val = 1024 * (t.val / 1024) + t.val % 1024; omega)⟩
  unfold bodyD
  rw [trips_eq]
  have e := loopD_tile i x0 x1 (k0_pay30 (half0 x2)) (k0_pay31 (half1 x2)) (k0_pay32 (half0 x3)) (k0_pay33 (half1 x3)) (diagD i x0 x1 x2 x3 D) _ le_rfl j hj h r l
  have d := diagD_tile i x0 x1 x2 x3 D j hj h r l
  refine e.trans ?_
  rw [d, pay30_eq, pay31_eq, pay32_eq, pay33_eq, half0_part, half0_part, half1_part, half1_part]
  have e2 : hd (part x2 0) (part x2 1) h = part x2 h := by match h with | ⟨0, _⟩ => rfl | ⟨1, _⟩ => rfl
  have e3 : hd (part x3 0) (part x3 1) h = part x3 h := by match h with | ⟨0, _⟩ => rfl | ⟨1, _⟩ => rfl
  rw [e2, e3]
  rcases lt_trichotomy j (i 2).val with c | c | c
  · rw [if_neg (by omega), if_neg (by omega)]
    rw [Finset.sum_eq_zero fun z _ => by rw [wP_lt _ _ _ j hj h z r c, zero_mul, zero_mul], add_zero]
    rfl
  · rw [if_neg (by omega), if_pos c]
    subst c
    refine congrArg (_ + ·) (Finset.sum_congr rfl fun z _ => ?_)
    rw [wP_eq _ _ _ hb h z r]; rfl
  · rw [if_pos (by omega), if_neg (by omega)]
    refine congrArg (_ + ·) (Finset.sum_congr rfl fun z _ => ?_)
    rw [wP_gt _ _ _ j hj h z r c]; rfl

end body

end Cert.KernelIdeal.Fox
-- ==== Proof.Arrays.lean ====
/- The three result arrays of the call, element by element at the ideal instance, from its four argument arrays. -/
module

public import proofs.«01_k».proof.Proof.Tiles
public import proofs.«01_k».proof.Proof.Run
public import Idealize.ShloMosaic.Lib.Pipeline.ValueKit

@[expose] public section

set_option maxRecDepth 16384

noncomputable section

namespace Cert.KernelIdeal.Fox

open Idealize.ShloMosaic Idealize.ShloMosaic.TcCoe
open Cert.KernelIdeal.Gen
open Idealize.ShloMosaic.Pipeline (Dat Cfg Window)

/-- The rows of one batch entry, at the lanes of one head. -/
abbrev Head := Fin 4096 → Fin 128 → EReal
/-- A whole array of the call. -/
abbrev Arr := S8192x1024.Idx → EReal

/-- Row `i` of batch entry `b`. -/
def grow (b : Fin 2) (i : Fin 4096) : Fin 8192 := ⟨4096 * b.val + i.val, by omega⟩
/-- Lane `l` of head `h`. -/
def gcol (h : Fin 8) (l : Fin 128) : Fin 1024 := ⟨128 * h.val + l.val, by omega⟩
/-- One head of one batch entry. -/
def head (A : Arr) (b : Fin 2) (h : Fin 8) : Head := fun i l => A (ix2 (grow b i) (gcol h l))

/-- The weight of key row `r` for query row `i`. -/
def hP (k q : Head) (r i : Fin 4096) : EReal := if r.val ≤ i.val then Ideal.exp2 (∑ l : Fin 128, k r l * q i l) else 0
/-- The product of value row `r` and output-gradient row `i`. -/
def hG (v d : Head) (r i : Fin 4096) : EReal := ∑ l : Fin 128, v r l * d i l
/-- The gradient of query row `i`. -/
def hQ (k v q d : Head) (i : Fin 4096) (l : Fin 128) : EReal := ∑ r : Fin 4096, (hP k q r i * hG v d r i) * k r l
/-- The gradient of key row `r`. -/
def hK (k v q d : Head) (r : Fin 4096) (l : Fin 128) : EReal := ∑ i : Fin 4096, (hP k q r i * hG v d r i) * q i l
/-- The gradient of value row `r`. -/
def hV (k q d : Head) (r : Fin 4096) (l : Fin 128) : EReal := ∑ i : Fin 4096, hP k q r i * d i l

/-! ## The blocks of a point -/

theorem lt32 (t : Fin cfg0.N) : t.val < 32 := Nat.lt_of_lt_of_eq t.isLt N_0
/-- The batch entry of a point; -/
def bOf (t : Fin cfg0.N) : Fin 2 := ⟨t.val / 16, by have := lt32 t; omega⟩
/-- the head of a point's pair; -/
def hOf (t : Fin cfg0.N) (h : Fin 2) : Fin 8 := ⟨2 * (t.val / 4 % 4) + h.val, by omega⟩

theorem kb_eq (t : Fin cfg0.N) : (grid0.coords t 2).val = t.val % 4 := by
  have e2 : (grid0.coords t 2).val = t.val / 1 % 4 := Pipeline.Grid.coords_val t 2 (by decide) rfl
  rw [e2, Nat.div_one]

theorem index_0 : ∀ t : Fin cfg0.N, win0_0.index t 0 = t.val / 16 ∧ win0_0.index t 1 = t.val / 4 % 4 := by decide +kernel
theorem index_1 : ∀ t : Fin cfg0.N, win0_1.index t 0 = t.val / 16 ∧ win0_1.index t 1 = t.val / 4 % 4 := by decide +kernel
theorem index_2 : ∀ t : Fin cfg0.N, win0_2.index t 0 = t.val / 16 * 4 + t.val % 4 ∧ win0_2.index t 1 = t.val / 4 % 4 := by decide +kernel
theorem index_3 : ∀ t : Fin cfg0.N, win0_3.index t 0 = t.val / 16 * 4 + t.val % 4 ∧ win0_3.index t 1 = t.val / 4 % 4 := by decide +kernel
theorem index_4 : ∀ t : Fin cfg0.N, win0_4.index t 0 = t.val / 16 ∧ win0_4.index t 1 = t.val / 4 % 4 := by decide +kernel
theorem index_5 : ∀ t : Fin cfg0.N, win0_5.index t 0 = t.val / 16 * 4 + t.val % 4 ∧ win0_5.index t 1 = t.val / 4 % 4 := by decide +kernel
theorem index_6 : ∀ t : Fin cfg0.N, win0_6.index t 0 = t.val / 16 * 4 + t.val % 4 ∧ win0_6.index t 1 = t.val / 4 % 4 := by decide +kernel

variable (m : (ℓ : Loc nD τ sig) → Buf (Elt Ideal) ℓ) (c : Dev nD)

/-- The call's four arguments. -/
abbrev qA : Arr := V m c main_v67
abbrev dA : Arr := V m c main_v98
abbrev kA : Arr := V m c main_v76
abbrev vA : Arr := V m c main_v83

theorem blk_0 (t : Fin cfg0.N) (i : Fin 4096) (h : Fin 2) (l : Fin 128) :
    (iblk m c 0 t : Vec Ideal S4096x256 .bf16) (ix2 i (lane h l)) = head (qA m c) (bOf t) (hOf t h) i l := by
  have e := index_0 t
  unfold head
  blk_simp [iblk]
  refine congrArg (qA m c) (funext fun a => Fin.ext ?_)
  match a with
  | ⟨0, _⟩ =>
    show win0_0.index t 0 * 4096 + 1 * i.val = 4096 * (t.val / 16) + i.val
    rw [e.1]; omega
  | ⟨1, _⟩ =>
    show win0_0.index t 1 * 256 + 1 * (128 * h.val + l.val) = 128 * (2 * (t.val / 4 % 4) + h.val) + l.val
    rw [e.2]; omega
theorem blk_1 (t : Fin cfg0.N) (i : Fin 4096) (h : Fin 2) (l : Fin 128) :
    (iblk m c 1 t : Vec Ideal S4096x256 .bf16) (ix2 i (lane h l)) = head (dA m c) (bOf t) (hOf t h) i l := by
  have e := index_1 t
  unfold head
  blk_simp [iblk]
  refine congrArg (dA m c) (funext fun a => Fin.ext ?_)
  match a with
  | ⟨0, _⟩ =>
    show win0_1.index t 0 * 4096 + 1 * i.val = 4096 * (t.val / 16) + i.val
    rw [e.1]; omega
  | ⟨1, _⟩ =>
    show win0_1.index t 1 * 256 + 1 * (128 * h.val + l.val) = 128 * (2 * (t.val / 4 % 4) + h.val) + l.val
    rw [e.2]; omega
theorem blk_2 (t : Fin cfg0.N) (r : Fin 1024) (h : Fin 2) (l : Fin 128) :
    part (iblk m c 2 t : Vec Ideal S1024x256 .bf16) h (ix2 r l) = head (kA m c) (bOf t) (hOf t h) (rowN (t.val % 4) r) l := by
  have e := index_2 t
  have er := rowN_val (t.val % 4) (Nat.mod_lt _ (by omega)) r
  unfold head part
  blk_simp [iblk]
  refine congrArg (kA m c) (funext fun a => Fin.ext ?_)
  match a with
  | ⟨0, _⟩ =>
    show win0_2.index t 0 * 1024 + 1 * r.val = 4096 * (t.val / 16) + (rowN (t.val % 4) r).val
    rw [e.1, er]; omega
  | ⟨1, _⟩ =>
    show win0_2.index t 1 * 256 + 1 * (128 * h.val + l.val) = 128 * (2 * (t.val / 4 % 4) + h.val) + l.val
    rw [e.2]; omega
theorem blk_3 (t : Fin cfg0.N) (r : Fin 1024) (h : Fin 2) (l : Fin 128) :
    part (iblk m c 3 t : Vec Ideal S1024x256 .bf16) h (ix2 r l) = head (vA m c) (bOf t) (hOf t h) (rowN (t.val % 4) r) l := by
  have e := index_3 t
  have er := rowN_val (t.val % 4) (Nat.mod_lt _ (by omega)) r
  unfold head part
  blk_simp [iblk]
  refine congrArg (vA m c) (funext fun a => Fin.ext ?_)
  match a with
  | ⟨0, _⟩ =>
    show win0_3.index t 0 * 1024 + 1 * r.val = 4096 * (t.val / 16) + (rowN (t.val % 4) r).val
    rw [e.1, er]; omega
  | ⟨1, _⟩ =>
    show win0_3.index t 1 * 256 + 1 * (128 * h.val + l.val) = 128 * (2 * (t.val / 4 % 4) + h.val) + l.val
    rw [e.2]; omega

theorem wP_blk (t : Fin cfg0.N) (h : Fin 2) (r : Fin 1024) (i : Fin 4096) :
    wP (part (iblk m c 2 t : Vec Ideal S1024x256 .bf16) h) (iblk m c 0 t : Vec Ideal S4096x256 .bf16) (grid0.coords t 2).val h r i
      = hP (head (kA m c) (bOf t) (hOf t h)) (head (qA m c) (bOf t) (hOf t h)) (rowN (t.val % 4) r) i := by
  have er := rowN_val (t.val % 4) (Nat.mod_lt _ (by omega)) r
  unfold wP hP
  rw [kb_eq, er]
  simp only [blk_0, blk_2]
theorem wG_blk (t : Fin cfg0.N) (h : Fin 2) (r : Fin 1024) (i : Fin 4096) :
    wG (part (iblk m c 3 t : Vec Ideal S1024x256 .bf16) h) (iblk m c 1 t : Vec Ideal S4096x256 .bf16) h r i
      = hG (head (vA m c) (bOf t) (hOf t h)) (head (dA m c) (bOf t) (hOf t h)) (rowN (t.val % 4) r) i := by
  unfold wG hG
  simp only [blk_1, blk_3]

theorem afterK_apply (t : Fin cfg0.N) (r : Fin 1024) (h : Fin 2) (l : Fin 128) :
    bodyK (F := Ideal) (grid0.coords t) (iblk m c 0 t) (iblk m c 1 t) (iblk m c 2 t) (iblk m c 3 t) (ix2 r (lane h l))
      = hK (head (kA m c) (bOf t) (hOf t h)) (head (vA m c) (bOf t) (hOf t h)) (head (qA m c) (bOf t) (hOf t h)) (head (dA m c) (bOf t) (hOf t h)) (rowN (t.val % 4) r) l := by
  rw [bodyK_apply]
  refine Finset.sum_congr rfl fun i _ => ?_
  rw [wP_blk, wG_blk, blk_0]
theorem afterV_apply (t : Fin cfg0.N) (r : Fin 1024) (h : Fin 2) (l : Fin 128) :
    bodyV (F := Ideal) (grid0.coords t) (iblk m c 0 t) (iblk m c 1 t) (iblk m c 2 t) (iblk m c 3 t) (ix2 r (lane h l))
      = hV (head (kA m c) (bOf t) (hOf t h)) (head (qA m c) (bOf t) (hOf t h)) (head (dA m c) (bOf t) (hOf t h)) (rowN (t.val % 4) r) l := by
  rw [bodyV_apply]
  refine Finset.sum_congr rfl fun i _ => ?_
  rw [wP_blk, blk_1]

/-- What the key rows of one tile give to the gradient of query row `i`. -/
def tileQ (b : Fin 2) (H : Fin 8) (i : Fin 4096) (l : Fin 128) (kb : ℕ) : EReal :=
  ∑ r : Fin 1024, (hP (head (kA m c) b H) (head (qA m c) b H) (rowN kb r) i * hG (head (vA m c) b H) (head (dA m c) b H) (rowN kb r) i) * head (kA m c) b H (rowN kb r) l

theorem stepD_apply (t : Fin cfg0.N) (D : Vec Ideal S4096x256 .f32) (i : Fin 4096) (h : Fin 2) (l : Fin 128) :
    bodyD (F := Ideal) (grid0.coords t) (iblk m c 0 t) (iblk m c 1 t) (iblk m c 2 t) (iblk m c 3 t) D (ix2 i (lane h l))
      = D (ix2 i (lane h l)) + tileQ m c (bOf t) (hOf t h) i l (t.val % 4) := by
  rw [bodyD_apply]
  refine congrArg (_ + ·) (Finset.sum_congr rfl fun r _ => ?_)
  rw [wP_blk, wG_blk, blk_2]

theorem accD_apply (t : Fin cfg0.N) (ht : t.val % 4 = 3) (i : Fin 4096) (h : Fin 2) (l : Fin 128) :
    accD (F := Ideal) m c t.val (ix2 i (lane h l))
      = hQ (head (kA m c) (bOf t) (hOf t h)) (head (vA m c) (bOf t) (hOf t h)) (head (qA m c) (bOf t) (hOf t h)) (head (dA m c) (bOf t) (hOf t h)) i l := by
  have h32 := lt32 t
  have hN := N_0
  have key : ∀ n, (hn : n < cfg0.N) → n / 4 = t.val / 4 → ∀ D, bodyD (F := Ideal) (grid0.coords ⟨n, hn⟩) (iblk m c 0 ⟨n, hn⟩) (iblk m c 1 ⟨n, hn⟩) (iblk m c 2 ⟨n, hn⟩) (iblk m c 3 ⟨n, hn⟩) D (ix2 i (lane h l))
      = D (ix2 i (lane h l)) + tileQ m c (bOf t) (hOf t h) i l (n % 4) := fun n hn e D => by
    rw [stepD_apply m c ⟨n, hn⟩]
    have e1 : bOf ⟨n, hn⟩ = bOf t := Fin.ext (by show n / 16 = t.val / 16; omega)
    have e2 : hOf ⟨n, hn⟩ h = hOf t h := Fin.ext (by show 2 * (n / 4 % 4) + h.val = 2 * (t.val / 4 % 4) + h.val; rw [e])
    rw [e1, e2]
  obtain ⟨n, hn⟩ := t
  obtain ⟨s, rfl⟩ : ∃ s, n = s + 3 := ⟨n - 3, by simp only at ht; omega⟩
  simp only at ht key h32
  have a0 := accD_first (F := Ideal) m c ⟨s, by omega⟩ (by show s % 4 = 0; omega)
  have a1 := accD_later (F := Ideal) m c ⟨s + 1, by omega⟩ (by show ¬ (s + 1) % 4 = 0; omega)
  have a2 := accD_later (F := Ideal) m c ⟨s + 2, by omega⟩ (by show ¬ (s + 2) % 4 = 0; omega)
  have a3 := accD_later (F := Ideal) m c ⟨s + 3, by omega⟩ (by show ¬ (s + 3) % 4 = 0; omega)
  simp only [Nat.add_sub_cancel, show s + 2 - 1 = s + 1 by omega, show s + 3 - 1 = s + 2 by omega] at a0 a1 a2 a3
  show accD m c (s + 3) (ix2 i (lane h l)) = _
  rw [a3, key _ _ (by omega), a2, key _ _ (by omega), a1, key _ _ (by omega), a0, key _ _ (by omega), pay29_apply, zero_add,
    show s % 4 = 0 by omega, show (s + 1) % 4 = 1 by omega, show (s + 2) % 4 = 2 by omega, show (s + 3) % 4 = 3 by omega]
  unfold hQ
  rw [sum_rows, Fin.sum_univ_four]
  rfl

/-! ## The result arrays -/

/-- The batch entry, the row, the head and the lane of an element. -/
def eB (y : S8192x1024.Idx) : Fin 2 := ⟨(y 0).val / 4096, by have : (y 0).val < 8192 := (y 0).isLt; omega⟩
def eR (y : S8192x1024.Idx) : Fin 4096 := ⟨(y 0).val % 4096, Nat.mod_lt _ (by omega)⟩
def eH (y : S8192x1024.Idx) : Fin 8 := ⟨(y 1).val / 128, by have : (y 1).val < 1024 := (y 1).isLt; omega⟩
def eL (y : S8192x1024.Idx) : Fin 128 := ⟨(y 1).val % 128, Nat.mod_lt _ (by omega)⟩

/-- The array whose heads are given. -/
def ofHeads (f : Fin 2 → Fin 8 → Head) : Arr := fun y => f (eB y) (eH y) (eR y) (eL y)

theorem head_ofHeads (f : Fin 2 → Fin 8 → Head) (b : Fin 2) (h : Fin 8) : head (ofHeads f) b h = f b h := by
  funext i l
  have hi := i.isLt
  have hl := l.isLt
  have e1 : eB (ix2 (grow b i) (gcol h l)) = b := Fin.ext (by show (4096 * b.val + i.val) / 4096 = b.val; omega)
  have e2 : eR (ix2 (grow b i) (gcol h l)) = i := Fin.ext (by show (4096 * b.val + i.val) % 4096 = i.val; omega)
  have e3 : eH (ix2 (grow b i) (gcol h l)) = h := Fin.ext (by show (128 * h.val + l.val) / 128 = h.val; omega)
  have e4 : eL (ix2 (grow b i) (gcol h l)) = l := Fin.ext (by show (128 * h.val + l.val) % 128 = l.val; omega)
  show f _ _ _ _ = _
  rw [e1, e2, e3, e4]

/-- The gradient of the queries, of the keys, of the values. -/
def resQ : Arr := ofHeads fun b h => hQ (head (kA m c) b h) (head (vA m c) b h) (head (qA m c) b h) (head (dA m c) b h)
def resK : Arr := ofHeads fun b h => hK (head (kA m c) b h) (head (vA m c) b h) (head (qA m c) b h) (head (dA m c) b h)
def resV : Arr := ofHeads fun b h => hV (head (kA m c) b h) (head (qA m c) b h) (head (dA m c) b h)

theorem lane_split (x : Fin 256) : ∃ h l, x = lane h l :=
  ⟨⟨x.val / 128, by omega⟩, ⟨x.val % 128, Nat.mod_lt _ (by omega)⟩, Fin.ext (by show x.val = 128 * (x.val / 128) + x.val % 128; omega)⟩

theorem ofHeads_apply (f : Fin 2 → Fin 8 → Head) (b : Fin 2) (h : Fin 8) (i : Fin 4096) (l : Fin 128) (y : S8192x1024.Idx)
    (h0 : (y 0).val = 4096 * b.val + i.val) (h1 : (y 1).val = 128 * h.val + l.val) : ofHeads f y = f b h i l := by
  have hy : y = ix2 (grow b i) (gcol h l) := funext fun a => Fin.ext (match a with
    | ⟨0, _⟩ => h0
    | ⟨1, _⟩ => h1)
  rw [hy]
  exact congrFun (congrFun (head_ofHeads f b h) i) l

theorem resQ_apply (b : Fin 2) (h : Fin 8) (i : Fin 4096) (l : Fin 128) (y : S8192x1024.Idx)
    (h0 : (y 0).val = 4096 * b.val + i.val) (h1 : (y 1).val = 128 * h.val + l.val) : resQ m c y = hQ (head (kA m c) b h) (head (vA m c) b h) (head (qA m c) b h) (head (dA m c) b h) i l :=
  ofHeads_apply _ b h i l y h0 h1
theorem resK_apply (b : Fin 2) (h : Fin 8) (i : Fin 4096) (l : Fin 128) (y : S8192x1024.Idx)
    (h0 : (y 0).val = 4096 * b.val + i.val) (h1 : (y 1).val = 128 * h.val + l.val) : resK m c y = hK (head (kA m c) b h) (head (vA m c) b h) (head (qA m c) b h) (head (dA m c) b h) i l :=
  ofHeads_apply _ b h i l y h0 h1
theorem resV_apply (b : Fin 2) (h : Fin 8) (i : Fin 4096) (l : Fin 128) (y : S8192x1024.Idx)
    (h0 : (y 0).val = 4096 * b.val + i.val) (h1 : (y 1).val = 128 * h.val + l.val) : resV m c y = hV (head (kA m c) b h) (head (qA m c) b h) (head (dA m c) b h) i l :=
  ofHeads_apply _ b h i l y h0 h1

theorem arr_4 : (dats (F := Ideal) m 0 c).arrAt 4 cfg0.N = resQ m c := by
  refine (dats m 0 c).arrAt_eq_of_covers 4 _ (by decide +kernel) fun t hf y => ?_
  have ht : t.val % 4 = 3 := (flush0_4 t).mp hf
  have e := index_4 t
  blk_simp
  rw [after_4]
  obtain ⟨i, x, rfl⟩ : ∃ (i : Fin 4096) (x : Fin 256), y = (ix2 i x : S4096x256.Idx) := ⟨y 0, y 1, funext fun a => match a with | ⟨0, _⟩ => rfl | ⟨1, _⟩ => rfl⟩
  obtain ⟨h, l, rfl⟩ := lane_split x
  refine (accD_apply m c t ht i h l).trans (resQ_apply m c (bOf t) (hOf t h) i l _ ?_ ?_).symm
  · show win0_4.index t 0 * 4096 + 1 * i.val = 4096 * (t.val / 16) + i.val
    rw [e.1]; omega
  · show win0_4.index t 1 * 256 + 1 * (128 * h.val + l.val) = 128 * (2 * (t.val / 4 % 4) + h.val) + l.val
    rw [e.2]; omega
theorem arr_5 : (dats (F := Ideal) m 0 c).arrAt 5 cfg0.N = resK m c := by
  refine (dats m 0 c).arrAt_eq_of_covers 5 _ (by decide +kernel) fun t hf y => ?_
  have er := fun i => rowN_val (t.val % 4) (Nat.mod_lt _ (by omega)) i
  have e := index_5 t
  blk_simp
  rw [after_5]
  obtain ⟨i, x, rfl⟩ : ∃ (i : Fin 1024) (x : Fin 256), y = (ix2 i x : S1024x256.Idx) := ⟨y 0, y 1, funext fun a => match a with | ⟨0, _⟩ => rfl | ⟨1, _⟩ => rfl⟩
  obtain ⟨h, l, rfl⟩ := lane_split x
  refine (afterK_apply m c t i h l).trans (resK_apply m c (bOf t) (hOf t h) (rowN (t.val % 4) i) l _ ?_ ?_).symm
  · show win0_5.index t 0 * 1024 + 1 * i.val = 4096 * (t.val / 16) + (rowN (t.val % 4) i).val
    rw [e.1, er]; omega
  · show win0_5.index t 1 * 256 + 1 * (128 * h.val + l.val) = 128 * (2 * (t.val / 4 % 4) + h.val) + l.val
    rw [e.2]; omega
theorem arr_6 : (dats (F := Ideal) m 0 c).arrAt 6 cfg0.N = resV m c := by
  refine (dats m 0 c).arrAt_eq_of_covers 6 _ (by decide +kernel) fun t hf y => ?_
  have er := fun i => rowN_val (t.val % 4) (Nat.mod_lt _ (by omega)) i
  have e := index_6 t
  blk_simp
  rw [after_6]
  obtain ⟨i, x, rfl⟩ : ∃ (i : Fin 1024) (x : Fin 256), y = (ix2 i x : S1024x256.Idx) := ⟨y 0, y 1, funext fun a => match a with | ⟨0, _⟩ => rfl | ⟨1, _⟩ => rfl⟩
  obtain ⟨h, l, rfl⟩ := lane_split x
  refine (afterV_apply m c t i h l).trans (resV_apply m c (bOf t) (hOf t h) (rowN (t.val % 4) i) l _ ?_ ?_).symm
  · show win0_6.index t 0 * 1024 + 1 * i.val = 4096 * (t.val / 16) + (rowN (t.val % 4) i).val
    rw [e.1, er]; omega
  · show win0_6.index t 1 * 256 + 1 * (128 * h.val + l.val) = 128 * (2 * (t.val / 4 % 4) + h.val) + l.val
    rw [e.2]; omega

end Cert.KernelIdeal.Fox
-- ==== Proof.KRows.lean ====
/- The four arrays the call reads, row by row. -/
module

public import proofs.«01_k».proof.Proof.KHost
public import proofs.«01_k».proof.Proof.Arrays

@[expose] public section

set_option maxRecDepth 16384

noncomputable section

namespace Cert.KernelIdeal.Fox

open Idealize.ShloMosaic Idealize.ShloMosaic.TcCoe Cert.FoxMath
open Cert.KernelIdeal.Gen

variable {m : (ℓ : Loc nD τ sig) → Buf (Elt Ideal) ℓ} {c : Dev nD} (hr : Real m c)
include hr
variable (b : Fin 2) (h : Fin 8)

/-! ## The four arrays' rows -/

omit hr in
/-- The arrays laid out as rows of eight heads. -/
theorem rows_read (x : FVec Ideal S2x4096x8x128 .bf16) (i : Fin 4096) (l : Fin 128) :
    (shapeCast S8192x1024 x shapeCasts_S2x4096x8x128_S8192x1024 : S8192x1024.Idx → EReal) (ix2 (grow b i) (gcol h l)) = x (ix4 b i h l) := by
  pointwise
  refine congrArg x ?_
  have hl := l.isLt
  have hi := i.isLt
  have e0 : (grow b i).val = 4096 * b.val + i.val := rfl
  have e1 : (gcol h l).val = 128 * h.val + l.val := rfl
  congr 1 <;> apply Fin.ext <;> simp only [e0, e1] <;> omega

theorem q_scaled (i : Fin 4096) (a : Fin 64) :
    (K m c main_v49 : S2x4096x8x64.Idx → EReal) (ix4 b i h a) = (((kH m c b h).q i a * (0.125 * (1 / Real.log 2)) : ℝ) : EReal) := by
  rw [k_v49, k_v48, k_v47, k_cst_6, k_arg0]
  pointwise
  simp only [q_at hr]
  rw [log2e_at, eighth, ← EReal.coe_mul, ← EReal.coe_mul]

theorem c_scaled (i : Fin 4096) (z : Fin 1) :
    (K m c main_v37 : S2x4096x8x1.Idx → EReal) (ix4 b i h z) = (((kH m c b h).c i * (1 / Real.log 2) : ℝ) : EReal) := by
  rw [k_v37, k_v36, k_v35]
  pointwise
  rw [c_at hr, log2e_at, ← EReal.coe_mul]

theorem lse_scaled (i : Fin 4096) (z : Fin 1) :
    (K m c main_v54 : S2x4096x8x1.Idx → EReal) (ix4 b i h z)
      = ((-(Real.log ((kH m c b h).Z i) * (1 / Real.log 2)) : ℝ) : EReal) := by
  rw [k_v54, k_v53, k_v52, Subsingleton.elim z 0]
  pointwise
  rw [lse_at hr, log2e_at, ← EReal.coe_mul, ← EReal.coe_neg]

theorem delta_neg (i : Fin 4096) (z : Fin 1) :
    (K m c main_v85 : S2x4096x8x1.Idx → EReal) (ix4 b i h z) = ((-(kH m c b h).δ i : ℝ) : EReal) := by
  rw [k_v85, Subsingleton.elim z 0]
  pointwise
  rw [delta_at hr, ← EReal.coe_neg]

/-! A real number's three parts are itself and two zeros. -/

theorem c_hi (i : Fin 4096) (z : Fin 1) :
    (K m c main_v39 : S2x4096x8x1.Idx → EReal) (ix4 b i h z) = (((kH m c b h).c i * (1 / Real.log 2) : ℝ) : EReal) := by
  rw [k_v39, k_v38]
  pointwise
  exact c_scaled hr b h i z

theorem c_mid (i : Fin 4096) (z : Fin 1) : (K m c main_v42 : S2x4096x8x1.Idx → EReal) (ix4 b i h z) = ((0 : ℝ) : EReal) := by
  rw [k_v42, k_v41, k_v40]
  pointwise
  rw [c_hi hr, c_scaled hr, ← EReal.coe_sub, sub_self]

theorem c_lo (i : Fin 4096) (z : Fin 1) : (K m c main_v46 : S2x4096x8x1.Idx → EReal) (ix4 b i h z) = ((0 : ℝ) : EReal) := by
  rw [k_v46, k_v45, k_v44, k_v43]
  pointwise
  rw [c_hi hr, c_mid hr, c_scaled hr, ← EReal.coe_sub, ← EReal.coe_sub, sub_self, sub_self]

theorem lse_hi (i : Fin 4096) (z : Fin 1) :
    (K m c main_v56 : S2x4096x8x1.Idx → EReal) (ix4 b i h z)
      = ((-(Real.log ((kH m c b h).Z i) * (1 / Real.log 2)) : ℝ) : EReal) := by
  rw [k_v56, k_v55]
  pointwise
  exact lse_scaled hr b h i z

theorem lse_mid (i : Fin 4096) (z : Fin 1) : (K m c main_v59 : S2x4096x8x1.Idx → EReal) (ix4 b i h z) = ((0 : ℝ) : EReal) := by
  rw [k_v59, k_v58, k_v57]
  pointwise
  rw [lse_hi hr, lse_scaled hr, ← EReal.coe_sub, sub_self]

theorem lse_lo (i : Fin 4096) (z : Fin 1) : (K m c main_v63 : S2x4096x8x1.Idx → EReal) (ix4 b i h z) = ((0 : ℝ) : EReal) := by
  rw [k_v63, k_v62, k_v61, k_v60]
  pointwise
  rw [lse_hi hr, lse_mid hr, lse_scaled hr, ← EReal.coe_sub, ← EReal.coe_sub, sub_self, sub_self]

theorem delta_hi (i : Fin 4096) (z : Fin 1) :
    (K m c main_v87 : S2x4096x8x1.Idx → EReal) (ix4 b i h z) = ((-(kH m c b h).δ i : ℝ) : EReal) := by
  rw [k_v87, k_v86]
  pointwise
  exact delta_neg hr b h i z

theorem delta_mid (i : Fin 4096) (z : Fin 1) : (K m c main_v90 : S2x4096x8x1.Idx → EReal) (ix4 b i h z) = ((0 : ℝ) : EReal) := by
  rw [k_v90, k_v89, k_v88]
  pointwise
  rw [delta_hi hr, delta_neg hr, ← EReal.coe_sub, sub_self]

theorem delta_lo (i : Fin 4096) (z : Fin 1) : (K m c main_v94 : S2x4096x8x1.Idx → EReal) (ix4 b i h z) = ((0 : ℝ) : EReal) := by
  rw [k_v94, k_v93, k_v92, k_v91]
  pointwise
  rw [delta_hi hr, delta_mid hr, delta_neg hr, ← EReal.coe_sub, ← EReal.coe_sub, sub_self, sub_self]

/-- The row of a query: itself scaled, ones against the key's decay, its own decay, its normaliser. -/
def rowQ (H : Hd 4096) (i : Fin 4096) : Fin 128 → ℝ :=
  aug (fun a => H.q i a * (0.125 * (1 / Real.log 2)))
    ![0, 1, 1, 1, H.c i * (1 / Real.log 2), 0, 0, -(Real.log (H.Z i) * (1 / Real.log 2)), 0, 0, 0, 0, 0]

/-- The row of a key: itself, its decay, ones against the query's decay and normaliser. -/
def rowK (H : Hd 4096) (r : Fin 4096) : Fin 128 → ℝ :=
  aug (H.k r) ![0, -(H.c r * (1 / Real.log 2)), 0, 0, 1, 1, 1, 1, 1, 1, 0, 0, 0]

/-- The row of a value: itself, and ones against the row sum. -/
def rowV (H : Hd 4096) (r : Fin 4096) : Fin 128 → ℝ := aug (H.v r) ![1, 0, 0, 0, 0, 0, 0, 0, 0, 0, 1, 1, 1]

/-- The row of an output's cotangent: itself, and the row sum. -/
def rowD (H : Hd 4096) (i : Fin 4096) : Fin 128 → ℝ := aug (H.d i) ![0, 0, 0, 0, 0, 0, 0, 0, 0, 0, -H.δ i, 0, 0]

end Cert.KernelIdeal.Fox

end
-- ==== Proof.KCats.lean ====
/- The four arrays the call reads are the rows of each head. -/
module

public import proofs.«01_k».proof.Proof.KRows

@[expose] public section

set_option maxRecDepth 16384

noncomputable section

namespace Cert.KernelIdeal.Fox

open Idealize.ShloMosaic Idealize.ShloMosaic.TcCoe Cert.FoxMath
open Cert.KernelIdeal.Gen

variable {m : (ℓ : Loc nD τ sig) → Buf (Elt Ideal) ℓ} {c : Dev nD} (hr : Real m c)
include hr
variable (b : Fin 2) (h : Fin 8)

theorem cat_q (i : Fin 4096) (l : Fin 128) :
    (K m c main_v65 : S2x4096x8x128.Idx → EReal) (ix4 b i h l) = ((rowQ (kH m c b h) i l : ℝ) : EReal) := by
  rw [k_v65, k_v64, k_cst_9, k_v51, k_cst_8, k_v50, k_cst_7]
  pointwise
  simp only [q_scaled hr, c_hi hr, c_mid hr, c_lo hr, lse_hi hr, lse_mid hr, lse_lo hr]
  obtain ⟨l, hl⟩ := l
  unfold rowQ aug
  simp only
  by_cases h64 : l < 64
  · rw [dif_pos h64, dif_pos h64]
  · obtain ⟨a, rfl⟩ := Nat.exists_eq_add_of_le (Nat.le_of_not_lt h64)
    by_cases h13 : a < 13
    · interval_cases a <;> simp
    · rw [dif_neg h64, dif_neg h64, dif_neg (by omega : ¬ 64 + a - 64 < 13)]
      iterate 12 (try rw [dif_neg (by omega)])
      rfl

theorem cat_k (r : Fin 4096) (l : Fin 128) :
    (K m c main_v74 : S2x4096x8x128.Idx → EReal) (ix4 b r h l) = ((rowK (kH m c b h) r l : ℝ) : EReal) := by
  rw [k_v74, k_v73, k_cst_12, k_v72, k_cst_11, k_v71, k_v70, k_v69, k_v68, k_cst_10, k_arg1]
  pointwise
  simp only [k_at hr, c_hi hr, c_mid hr, c_lo hr]
  obtain ⟨l, hl⟩ := l
  unfold rowK aug
  simp only
  by_cases h64 : l < 64
  · rw [dif_pos h64, dif_pos h64]
  · obtain ⟨a, rfl⟩ := Nat.exists_eq_add_of_le (Nat.le_of_not_lt h64)
    by_cases h13 : a < 13
    · interval_cases a <;> simp
    · rw [dif_neg h64, dif_neg h64, dif_neg (by omega : ¬ 64 + a - 64 < 13)]
      iterate 12 (try rw [dif_neg (by omega)])
      rfl

theorem cat_v (r : Fin 4096) (l : Fin 128) :
    (K m c main_v81 : S2x4096x8x128.Idx → EReal) (ix4 b r h l) = ((rowV (kH m c b h) r l : ℝ) : EReal) := by
  rw [k_v81, k_v80, k_cst_16, k_v79, k_cst_15, k_v78, k_cst_14, k_v77, k_cst_13, k_arg2]
  pointwise
  simp only [v_at hr]
  obtain ⟨l, hl⟩ := l
  unfold rowV aug
  simp only
  by_cases h64 : l < 64
  · rw [dif_pos h64, dif_pos h64]
  · obtain ⟨a, rfl⟩ := Nat.exists_eq_add_of_le (Nat.le_of_not_lt h64)
    by_cases h13 : a < 13
    · interval_cases a <;> simp
    · rw [dif_neg h64, dif_neg h64, dif_neg (by omega : ¬ 64 + a - 64 < 13)]
      iterate 12 (try rw [dif_neg (by omega)])
      rfl

theorem cat_d (i : Fin 4096) (l : Fin 128) :
    (K m c main_v96 : S2x4096x8x128.Idx → EReal) (ix4 b i h l) = ((rowD (kH m c b h) i l : ℝ) : EReal) := by
  rw [k_v96, k_v95, k_cst_18, k_v84, k_cst_17, k_arg4]
  pointwise
  simp only [d_at hr, delta_hi hr, delta_mid hr, delta_lo hr]
  obtain ⟨l, hl⟩ := l
  unfold rowD aug
  simp only
  by_cases h64 : l < 64
  · rw [dif_pos h64, dif_pos h64]
  · obtain ⟨a, rfl⟩ := Nat.exists_eq_add_of_le (Nat.le_of_not_lt h64)
    by_cases h13 : a < 13
    · interval_cases a <;> simp
    · rw [dif_neg h64, dif_neg h64, dif_neg (by omega : ¬ 64 + a - 64 < 13)]
      iterate 12 (try rw [dif_neg (by omega)])
      rfl

theorem head_q : head (qA m c) b h = fun i l => ((rowQ (kH m c b h) i l : ℝ) : EReal) := by
  funext i l
  have e : qA m c = K m c main_v67 := (K_eq m c _).symm
  unfold head
  rw [e, k_v67, k_v66]
  refine (rows_read b h _ i l).trans ?_
  pointwise
  exact cat_q hr b h i l

theorem head_k : head (kA m c) b h = fun r l => ((rowK (kH m c b h) r l : ℝ) : EReal) := by
  funext i l
  have e : kA m c = K m c main_v76 := (K_eq m c _).symm
  unfold head
  rw [e, k_v76, k_v75]
  refine (rows_read b h _ i l).trans ?_
  pointwise
  exact cat_k hr b h i l

theorem head_v : head (vA m c) b h = fun r l => ((rowV (kH m c b h) r l : ℝ) : EReal) := by
  funext i l
  have e : vA m c = K m c main_v83 := (K_eq m c _).symm
  unfold head
  rw [e, k_v83, k_v82]
  refine (rows_read b h _ i l).trans ?_
  pointwise
  exact cat_v hr b h i l

theorem head_d : head (dA m c) b h = fun i l => ((rowD (kH m c b h) i l : ℝ) : EReal) := by
  funext i l
  have e : dA m c = K m c main_v98 := (K_eq m c _).symm
  unfold head
  rw [e, k_v98, k_v97]
  refine (rows_read b h _ i l).trans ?_
  pointwise
  exact cat_d hr b h i l

end Cert.KernelIdeal.Fox

end
-- ==== Proof.KVal.lean ====
/- The call's three results on the rows of a head: the gradients, and their sums in the lanes that carried ones. -/
module

public import proofs.«01_k».proof.Proof.KCats

@[expose] public section

noncomputable section

namespace Cert.KernelIdeal.Fox

open Idealize.ShloMosaic Idealize.ShloMosaic.TcCoe Cert.FoxMath
open Cert.KernelIdeal.Gen

variable (H : Hd 4096)

/-- A row of real lanes, as the call sees it. -/
abbrev up (x : Fin 4096 → Fin 128 → ℝ) : Head := fun i l => ((x i l : ℝ) : EReal)

theorem dot_kq (r i : Fin 4096) : ∑ l, rowK H r l * rowQ H i l = (H.s i r - Real.log (H.Z i)) * (1 / Real.log 2) := by
  unfold rowK rowQ
  rw [sum_aug]
  have e : ∑ a, H.k r a * (H.q i a * (0.125 * (1 / Real.log 2))) = (∑ a, H.q i a * H.k r a) * 0.125 * (1 / Real.log 2) := by
    rw [Finset.sum_mul, Finset.sum_mul]
    exact Finset.sum_congr rfl fun a _ => by ring
  rw [e, Hd.s]
  generalize ∑ a, H.q i a * H.k r a = x
  simp only [Fin.sum_univ_succ]
  simp
  ring

theorem dot_vd (r i : Fin 4096) : ∑ l, rowV H r l * rowD H i l = H.w i r - H.δ i := by
  unfold rowV rowD
  rw [sum_aug, show ∑ a, H.v r a * H.d i a = H.w i r from Finset.sum_congr rfl fun a _ => mul_comm _ _]
  generalize H.w i r = x
  simp only [Fin.sum_univ_succ]
  simp
  ring

theorem val_p (r i : Fin 4096) : hP (up (rowK H)) (up (rowQ H)) r i = ((H.p i r : ℝ) : EReal) := by
  unfold hP
  split
  · rename_i hm
    have hl : Real.log 2 ≠ 0 := (Real.log_pos (by norm_num)).ne'
    rw [coe_sum_mul, dot_kq, coe_exp2, one_div, inv_mul_cancel_right₀ hl, H.exp_lse hm]
  · rename_i hm
    rw [H.p_masked hm, EReal.coe_zero]

theorem val_g (r i : Fin 4096) : hG (up (rowV H)) (up (rowD H)) r i = ((H.w i r - H.δ i : ℝ) : EReal) := by
  unfold hG
  rw [coe_sum_mul, dot_vd]

theorem val_ds (r i : Fin 4096) :
    hP (up (rowK H)) (up (rowQ H)) r i * hG (up (rowV H)) (up (rowD H)) r i = ((H.ds i r : ℝ) : EReal) := by
  rw [val_p, val_g, ← EReal.coe_mul]; rfl

theorem val_q (i : Fin 4096) (l : Fin 128) :
    hQ (up (rowK H)) (up (rowV H)) (up (rowQ H)) (up (rowD H)) i l = ((∑ r, H.ds i r * rowK H r l : ℝ) : EReal) := by
  unfold hQ
  simp only [val_ds, coe_sum_mul]

theorem val_k (r : Fin 4096) (l : Fin 128) :
    hK (up (rowK H)) (up (rowV H)) (up (rowQ H)) (up (rowD H)) r l = ((∑ i, H.ds i r * rowQ H i l : ℝ) : EReal) := by
  unfold hK
  simp only [val_ds, coe_sum_mul]

theorem val_v (r : Fin 4096) (l : Fin 128) :
    hV (up (rowK H)) (up (rowQ H)) (up (rowD H)) r l = ((∑ i, H.p i r * rowD H i l : ℝ) : EReal) := by
  unfold hV
  simp only [val_p, coe_sum_mul]

/-- The first 64 lanes of a row are its entries. -/
theorem aug_low (x : Fin 64 → ℝ) (t : Fin 13 → ℝ) (a : Fin 64) (l : Fin 128) (hl : l.val = a.val) : aug x t l = x a := by
  unfold aug
  rw [dif_pos (by omega : l.val < 64)]
  exact congrArg x (Fin.ext hl)

/-- The next lanes are the terms. -/
theorem aug_high (x : Fin 64 → ℝ) (t : Fin 13 → ℝ) (a : Fin 13) (l : Fin 128) (hl : l.val = 64 + a.val) : aug x t l = t a := by
  unfold aug
  rw [dif_neg (by omega : ¬ l.val < 64), dif_pos (by omega : l.val - 64 < 13)]
  exact congrArg t (Fin.ext (by show l.val - 64 = a.val; omega))

theorem lane_q (i : Fin 4096) (a : Fin 64) (l : Fin 128) (hl : l.val = a.val) : (∑ r, H.ds i r * rowK H r l) * 0.125 = H.dq i a := by
  rw [Finset.sum_mul, Hd.dq]
  refine Finset.sum_congr rfl fun r _ => ?_
  unfold rowK
  rw [aug_low _ _ a l hl]
  ring

theorem lane_k (r : Fin 4096) (a : Fin 64) (l : Fin 128) (hl : l.val = a.val) :
    (∑ i, H.ds i r * rowQ H i l) * Real.log 2 = H.dk r a := by
  rw [Finset.sum_mul, Hd.dk]
  refine Finset.sum_congr rfl fun i _ => ?_
  unfold rowQ
  rw [aug_low _ _ a l hl]
  have h2 : Real.log 2 ≠ 0 := (Real.log_pos (by norm_num)).ne'
  field_simp

theorem lane_v (r : Fin 4096) (a : Fin 64) (l : Fin 128) (hl : l.val = a.val) : ∑ i, H.p i r * rowD H i l = H.dv r a := by
  rw [Hd.dv]
  refine Finset.sum_congr rfl fun i _ => ?_
  unfold rowD
  rw [aug_low _ _ a l hl]
  ring

theorem lane_sum_q (i : Fin 4096) (l : Fin 128) (hl : l.val = 68) : ∑ r, H.ds i r * rowK H r l = ∑ r, H.ds i r := by
  refine Finset.sum_congr rfl fun r _ => ?_
  unfold rowK
  rw [aug_high _ _ 4 l hl]
  simp

theorem lane_sum_k (r : Fin 4096) (l : Fin 128) (hl : l.val = 65) : ∑ i, H.ds i r * rowQ H i l = ∑ i, H.ds i r := by
  refine Finset.sum_congr rfl fun i _ => ?_
  unfold rowQ
  rw [aug_high _ _ 1 l hl]
  simp

end Cert.KernelIdeal.Fox

end
-- ==== Proof.Tail.lean ====
/- The host operations after the call: what each leaves in its buffer, and the values the results take. -/
module

public import proofs.«01_k».proof.Proof.Line
public import proofs.«01_k».proof.Proof.Arrays

@[expose] public section

set_option maxRecDepth 16384

noncomputable section

namespace Cert.KernelIdeal.Fox

open Idealize.ShloMosaic Idealize.ShloMosaic.TcCoe Idealize.ShloMosaic.StableHlo Cert.Line
open Cert.KernelIdeal.Gen
open Idealize.ShloMosaic.Pipeline (Dat Cfg Window)

variable (m : (ℓ : Loc nD τ sig) → Buf (Elt Ideal) ℓ) (c : Dev nD)

/-- What the operations after the call write, in order. -/
def postW : List (Ref sig .tc) :=
  [main_v100, main_v101, main_v102, main_v103, main_v104, main_v105, main_v106, main_v107, main_v108, main_cst_19,
   main_v109, main_v110, main_v111, main_cst_20, main_v112, main_v113, main_v114, main_v115, main_call1_cst,
   main_call1_v0, main_v116]

/-- The operations after the call, in order. -/
def postOps : List (HloOp τ sig (Elt Ideal)) := hostOps1 ++ hostOps1_1

theorem post_writes : Writes (τ := τ) (Val := Elt Ideal) postOps postW := rfl

/-- What the operations after the call find. -/
def entry : Valuation τ sig (Elt Ideal) :=
  Pipeline.withArrays spec0 c (V0 m c) fun w => (dats m 0 c).arrAt w cfg0.N

theorem T_exists : ∃ f : (b : Ref sig .tc) → Buf (Elt Ideal) ((c.tc : Thread nD τ).loc b),
    ∀ b, f b = after postOps (entry m c) (Proc.devRef .tc b) := ⟨_, fun _ => rfl⟩

/-- What the program leaves in a buffer of device `c`, known by its equations alone. -/
def T (b : Ref sig .tc) : Buf (Elt Ideal) ((c.tc : Thread nD τ).loc b) := Classical.choose (T_exists m c) b

theorem T_after (b : Ref sig .tc) : T m c b = after postOps (entry m c) (Proc.devRef .tc b) :=
  Classical.choose_spec (T_exists m c) b

theorem T_eq (b : Ref sig .tc) : T m c b = Pipeline.afterTail₀ cfgs (dats m) 0 (V0 m) [hostOps1, hostOps1_1] c b :=
  T_after m c b

theorem t_v100 : T m c main_v100 = shapeCast _ (T m c main_v99_0) shapeCasts_S8192x1024_S2x4096x8x128 := by
  simp only [T_after]
  exact read_reshape post_writes 0 rfl (by decide +kernel) (by decide +kernel) _

theorem t_v101 : T m c main_v101 = shapeCast _ (T m c main_v99_1) shapeCasts_S8192x1024_S2x4096x8x128 := by
  simp only [T_after]
  exact read_reshape post_writes 1 rfl (by decide +kernel) (by decide +kernel) _

theorem t_v102 : T m c main_v102 = shapeCast _ (T m c main_v99_2) shapeCasts_S8192x1024_S2x4096x8x128 := by
  simp only [T_after]
  exact read_reshape post_writes 2 rfl (by decide +kernel) (by decide +kernel) _

theorem t_v103 : T m c main_v103 = extractStridedSlice S2x4096x8x1 ![0, 0, 0, 68] (T m c main_v100) slices_S2x4096x8x128_S2x4096x8x1_0_0_0_68 := by
  simp only [T_after]
  exact read_unary post_writes 3 rfl (by decide +kernel) (by decide +kernel) _

theorem t_v104 : T m c main_v104 = shapeCast _ (T m c main_v103) shapeCasts_S2x4096x8x1_S2x4096x8 := by
  simp only [T_after]
  exact read_reshape post_writes 4 rfl (by decide +kernel) (by decide +kernel) _

theorem t_v105 : T m c main_v105 = extractStridedSlice S2x4096x8x1 ![0, 0, 0, 65] (T m c main_v101) slices_S2x4096x8x128_S2x4096x8x1_0_0_0_65 := by
  simp only [T_after]
  exact read_unary post_writes 5 rfl (by decide +kernel) (by decide +kernel) _

theorem t_v106 : T m c main_v106 = shapeCast _ (T m c main_v105) shapeCasts_S2x4096x8x1_S2x4096x8 := by
  simp only [T_after]
  exact read_reshape post_writes 6 rfl (by decide +kernel) (by decide +kernel) _

theorem t_v107 : T m c main_v107 = subf (F := Ideal) (s := S2x4096x8) (φ := .f32) (T m c main_v104) (T m c main_v106) := by
  simp only [T_after]
  exact read_binary post_writes 7 rfl (by decide +kernel) (by decide +kernel) (by decide +kernel) _

theorem t_v108 : T m c main_v108 = extractStridedSlice S2x4096x8x64 ![0, 0, 0, 0] (T m c main_v100) slices_S2x4096x8x128_S2x4096x8x64_0_0_0_0 := by
  simp only [T_after]
  exact read_unary post_writes 8 rfl (by decide +kernel) (by decide +kernel) _

theorem t_cst_19 : T m c main_cst_19 = constant (F := Ideal) S_ .f32 0x3E000000#32 := by
  simp only [T_after]
  exact read_nullary post_writes 9 rfl (by decide +kernel) _

theorem t_v109 : T m c main_v109 = broadcastInDim S2x4096x8x64 ![] bcast_S_S2x4096x8x64 (T m c main_cst_19) := by
  simp only [T_after]
  exact read_unary post_writes 10 rfl (by decide +kernel) (by decide +kernel) _

theorem t_v110 : T m c main_v110 = mulf (F := Ideal) (s := S2x4096x8x64) (φ := .f32) (T m c main_v108) (T m c main_v109) := by
  simp only [T_after]
  exact read_binary post_writes 11 rfl (by decide +kernel) (by decide +kernel) (by decide +kernel) _

theorem t_v111 : T m c main_v111 = extractStridedSlice S2x4096x8x64 ![0, 0, 0, 0] (T m c main_v101) slices_S2x4096x8x128_S2x4096x8x64_0_0_0_0 := by
  simp only [T_after]
  exact read_unary post_writes 12 rfl (by decide +kernel) (by decide +kernel) _

theorem t_cst_20 : T m c main_cst_20 = constant (F := Ideal) S_ .f32 0x40000000#32 := by
  simp only [T_after]
  exact read_nullary post_writes 13 rfl (by decide +kernel) _

theorem t_v112 : T m c main_v112 = Host.log (F := Ideal) (s := S_) (φ := .f32) (T m c main_cst_20) := by
  simp only [T_after]
  exact read_unary post_writes 14 rfl (by decide +kernel) (by decide +kernel) _

theorem t_v113 : T m c main_v113 = broadcastInDim S2x4096x8x64 ![] bcast_S_S2x4096x8x64 (T m c main_v112) := by
  simp only [T_after]
  exact read_unary post_writes 15 rfl (by decide +kernel) (by decide +kernel) _

theorem t_v114 : T m c main_v114 = mulf (F := Ideal) (s := S2x4096x8x64) (φ := .f32) (T m c main_v111) (T m c main_v113) := by
  simp only [T_after]
  exact read_binary post_writes 16 rfl (by decide +kernel) (by decide +kernel) (by decide +kernel) _

theorem t_v115 : T m c main_v115 = extractStridedSlice S2x4096x8x64 ![0, 0, 0, 0] (T m c main_v102) slices_S2x4096x8x128_S2x4096x8x64_0_0_0_0 := by
  simp only [T_after]
  exact read_unary post_writes 17 rfl (by decide +kernel) (by decide +kernel) _

theorem t_call1_cst : T m c main_call1_cst = constant (F := Ideal) S_ .f32 0x00000000#32 := by
  simp only [T_after]
  exact read_nullary post_writes 18 rfl (by decide +kernel) _

theorem t_call1_v0 : T m c main_call1_v0 = broadcastInDim S_ ![] bcast_S_S_ (T m c main_call1_cst) := by
  simp only [T_after]
  exact read_unary post_writes 19 rfl (by decide +kernel) (by decide +kernel) _

theorem t_v116 : T m c main_v116 = Host.reduceWindowAdd (F := Ideal) (s := S2x4096x8) (t := S2x4096x8) (u := S_) (φ := .f32) ![1, 4096, 1] ![1, 1, 1] ![0, 0, 0] ![0, 4095, 0] (T m c main_v107) (T m c main_call1_v0) reduceWindows_S2x4096x8_S2x4096x8_w1s1p0_0_w4096s1p0_4095_w1s1p0_0 h_S_ := by
  simp only [T_after]
  exact read_binary post_writes 20 rfl (by decide +kernel) (by decide +kernel) (by decide +kernel) _

theorem t_v99_0 : (T m c main_v99_0 : Arr) = resQ m c := by
  refine (T_after m c _).trans ((read_arg post_writes (by decide +kernel) _).trans ?_)
  exact (Pipeline.withArrays_arr spec0 launch0.win.arr_inj c (V0 m c) _ 4).trans (arr_4 m c)
theorem t_v99_1 : (T m c main_v99_1 : Arr) = resK m c := by
  refine (T_after m c _).trans ((read_arg post_writes (by decide +kernel) _).trans ?_)
  exact (Pipeline.withArrays_arr spec0 launch0.win.arr_inj c (V0 m c) _ 5).trans (arr_5 m c)
theorem t_v99_2 : (T m c main_v99_2 : Arr) = resV m c := by
  refine (T_after m c _).trans ((read_arg post_writes (by decide +kernel) _).trans ?_)
  exact (Pipeline.withArrays_arr spec0 launch0.win.arr_inj c (V0 m c) _ 6).trans (arr_6 m c)

end Cert.KernelIdeal.Fox

end
-- ==== Proof.KOut.lean ====
/- The kernel's results on real arguments: the gradients of each head. -/
module

public import proofs.«01_k».proof.Proof.KVal
public import proofs.«01_k».proof.Proof.Tail

@[expose] public section

set_option maxRecDepth 16384

noncomputable section

namespace Cert.KernelIdeal.Fox

open Idealize.ShloMosaic Idealize.ShloMosaic.TcCoe Cert.FoxMath
open Cert.KernelIdeal.Gen

variable {m : (ℓ : Loc nD τ sig) → Buf (Elt Ideal) ℓ} {c : Dev nD} (hr : Real m c)
variable (b : Fin 2) (h : Fin 8)

/-- The rows of eight heads laid out by batch, token and head. -/
theorem heads_read (x : FVec Ideal S8192x1024 .f32) (i : Fin 4096) (l : Fin 128) :
    (shapeCast S2x4096x8x128 x shapeCasts_S8192x1024_S2x4096x8x128 : S2x4096x8x128.Idx → EReal) (ix4 b i h l) = x (ix2 (grow b i) (gcol h l)) := by
  pointwise
  refine congrArg x ?_
  have hl := l.isLt
  have hi := i.isLt
  have hh := h.isLt
  have hb := b.isLt
  have e0 : (grow b i).val = 4096 * b.val + i.val := rfl
  have e1 : (gcol h l).val = 128 * h.val + l.val := rfl
  congr 1 <;> apply Fin.ext <;> simp only [e0, e1] <;> omega

include hr

theorem dq_lane (i : Fin 4096) (l : Fin 128) :
    (T m c main_v100 : S2x4096x8x128.Idx → EReal) (ix4 b i h l)
      = ((∑ r, (kH m c b h).ds i r * rowK (kH m c b h) r l : ℝ) : EReal) := by
  rw [t_v100]
  refine (heads_read b h _ i l).trans ((congrFun (t_v99_0 m c) _).trans ((resQ_apply m c b h i l _ rfl rfl).trans ?_))
  rw [head_k hr, head_v hr, head_q hr, head_d hr]
  exact val_q _ i l

theorem dk_lane (r : Fin 4096) (l : Fin 128) :
    (T m c main_v101 : S2x4096x8x128.Idx → EReal) (ix4 b r h l)
      = ((∑ i, (kH m c b h).ds i r * rowQ (kH m c b h) i l : ℝ) : EReal) := by
  rw [t_v101]
  refine (heads_read b h _ r l).trans ((congrFun (t_v99_1 m c) _).trans ((resK_apply m c b h r l _ rfl rfl).trans ?_))
  rw [head_k hr, head_v hr, head_q hr, head_d hr]
  exact val_k _ r l

theorem dv_lane (r : Fin 4096) (l : Fin 128) :
    (T m c main_v102 : S2x4096x8x128.Idx → EReal) (ix4 b r h l)
      = ((∑ i, (kH m c b h).p i r * rowD (kH m c b h) i l : ℝ) : EReal) := by
  rw [t_v102]
  refine (heads_read b h _ r l).trans ((congrFun (t_v99_2 m c) _).trans ((resV_apply m c b h r l _ rfl rfl).trans ?_))
  rw [head_k hr, head_q hr, head_d hr]
  exact val_v _ r l

theorem dq_out (i : Fin 4096) (a : Fin 64) :
    (T m c main_v110 : S2x4096x8x64.Idx → EReal) (ix4 b i h a) = (((kH m c b h).dq i a : ℝ) : EReal) := by
  rw [t_v110, t_v109, t_cst_19, t_v108]
  pointwise
  rw [dq_lane hr, eighth, ← EReal.coe_mul]
  exact congrArg _ (lane_q _ i a _ (by simp))

theorem dk_out (r : Fin 4096) (a : Fin 64) :
    (T m c main_v114 : S2x4096x8x64.Idx → EReal) (ix4 b r h a) = (((kH m c b h).dk r a : ℝ) : EReal) := by
  rw [t_v114, t_v113, t_v112, t_cst_20, t_v111]
  pointwise
  rw [dk_lane hr, two, coe_log (by norm_num), ← EReal.coe_mul]
  exact congrArg _ (lane_k _ r a _ (by simp))

theorem dv_out (r : Fin 4096) (a : Fin 64) :
    (T m c main_v115 : S2x4096x8x64.Idx → EReal) (ix4 b r h a) = (((kH m c b h).dv r a : ℝ) : EReal) := by
  rw [t_v115]
  pointwise
  rw [dv_lane hr]
  exact congrArg _ (lane_v _ r a _ (by simp))

theorem dc_out (i : Fin 4096) :
    (T m c main_v107 : S2x4096x8.Idx → EReal) (ix3 b i h) = (((kH m c b h).dc i : ℝ) : EReal) := by
  rw [t_v107, t_v106, t_v105, t_v104, t_v103]
  pointwise
  rw [dq_lane hr, dk_lane hr, lane_sum_q _ _ _ (by simp), lane_sum_k _ _ _ (by simp), ← EReal.coe_sub]
  rfl

end Cert.KernelIdeal.Fox

end
-- ==== Proof.RLine.lean ====
/- The reference's host operations in order, their run, and what each leaves in its buffer from what the others leave in
   its operands. -/
module

public import proofs.«01_k».proof.Proof.Line
public import proofs.«01_k».proof.Proof.Gen.ReferenceIdeal
public import Idealize.ShloMosaic.Lib.StableHlo.Run

@[expose] public section

set_option maxRecDepth 16384

noncomputable section

namespace Cert.ReferenceIdeal.Fox

open Idealize.ShloMosaic Idealize.ShloMosaic.TcCoe Idealize.ShloMosaic.StableHlo Cert.Line
open Cert.ReferenceIdeal Cert.ReferenceIdeal.Gen Idealize.SL.Sem

variable {F : FTy → Type} [FloatOps F]
/-- The operations of the reference's program: the running sum. -/
abbrev lineA : List (HloOp τ sig (Elt F)) :=
  [ TRef.nullary (TRef.of (T := ⟨S_, .f32⟩) main_call0_call0_cst) (constant S_ .f32 0x00000000#32),
    TRef.unary (TRef.of (T := ⟨S_, .f32⟩) main_call0_call0_cst) (TRef.of (T := ⟨S_, .f32⟩) main_call0_call0_v0) (broadcastInDim S_ ![] bcast_S_S_),
    TRef.binary (TRef.of (T := ⟨S2x4096x8, .f32⟩) main_arg3) (TRef.of (T := ⟨S_, .f32⟩) main_call0_call0_v0) (TRef.of (T := ⟨S2x4096x8, .f32⟩) main_v0) (fun x v => Host.reduceWindowAdd ![1, 4096, 1] ![1, 1, 1] ![0, 4095, 0] ![0, 0, 0] x v reduceWindows_S2x4096x8_S2x4096x8_w1s1p0_0_w4096s1p4095_0_w1s1p0_0 h_S_) ]

/-- The operations of the reference's program: the softmax of the logits. -/
abbrev lineB : List (HloOp τ sig (Elt F)) :=
  [ binary main_arg0 main_arg1 main_v1 ((fun l r => Host.dotGeneral dot_S2x4096x8x64_S2x4096x8x64_S2x8x4096x4096_3_3_1_1_02_02 none l r) : (⟨S2x4096x8x64, .f32⟩ : BufTy).Contents (Elt F) → (⟨S2x4096x8x64, .f32⟩ : BufTy).Contents (Elt F) → (⟨S2x8x4096x4096, .f32⟩ : BufTy).Contents (Elt F)),
    nullary main_cst (constant S_ .f32 0x3E000000#32),
    unary main_cst main_v2 (broadcastInDim S2x8x4096x4096 ![] bcast_S_S2x8x4096x4096 : (⟨S_, .f32⟩ : BufTy).Contents (Elt F) → (⟨S2x8x4096x4096, .f32⟩ : BufTy).Contents (Elt F)),
    binary main_v1 main_v2 main_v3 (mulf : (⟨S2x8x4096x4096, .f32⟩ : BufTy).Contents (Elt F) → (⟨S2x8x4096x4096, .f32⟩ : BufTy).Contents (Elt F) → (⟨S2x8x4096x4096, .f32⟩ : BufTy).Contents (Elt F)),
    unary main_v0 main_v4 ((transpose S2x8x4096 [0, 2, 1] · transposes_S2x4096x8_S2x8x4096_0_2_1) : (⟨S2x4096x8, .f32⟩ : BufTy).Contents (Elt F) → (⟨S2x8x4096, .f32⟩ : BufTy).Contents (Elt F)),
    unary main_v4 main_v5 (broadcastInDim S2x8x4096x1 ![0, 1, 2] bcast_S2x8x4096_S2x8x4096x1_0_1_2 : (⟨S2x8x4096, .f32⟩ : BufTy).Contents (Elt F) → (⟨S2x8x4096x1, .f32⟩ : BufTy).Contents (Elt F)),
    unary main_v4 main_v6 (broadcastInDim S2x8x1x4096 ![0, 1, 3] bcast_S2x8x4096_S2x8x1x4096_0_1_3 : (⟨S2x8x4096, .f32⟩ : BufTy).Contents (Elt F) → (⟨S2x8x1x4096, .f32⟩ : BufTy).Contents (Elt F)),
    unary main_v5 main_v7 (broadcastInDim S2x8x4096x4096 ![0, 1, 2, 3] bcast_S2x8x4096x1_S2x8x4096x4096_0_1_2_3 : (⟨S2x8x4096x1, .f32⟩ : BufTy).Contents (Elt F) → (⟨S2x8x4096x4096, .f32⟩ : BufTy).Contents (Elt F)),
    unary main_v6 main_v8 (broadcastInDim S2x8x4096x4096 ![0, 1, 2, 3] bcast_S2x8x1x4096_S2x8x4096x4096_0_1_2_3 : (⟨S2x8x1x4096, .f32⟩ : BufTy).Contents (Elt F) → (⟨S2x8x4096x4096, .f32⟩ : BufTy).Contents (Elt F)),
    binary main_v7 main_v8 main_v9 (subf : (⟨S2x8x4096x4096, .f32⟩ : BufTy).Contents (Elt F) → (⟨S2x8x4096x4096, .f32⟩ : BufTy).Contents (Elt F) → (⟨S2x8x4096x4096, .f32⟩ : BufTy).Contents (Elt F)),
    binary main_v3 main_v9 main_v10 (addf : (⟨S2x8x4096x4096, .f32⟩ : BufTy).Contents (Elt F) → (⟨S2x8x4096x4096, .f32⟩ : BufTy).Contents (Elt F) → (⟨S2x8x4096x4096, .f32⟩ : BufTy).Contents (Elt F)),
    nullary main_v11 (iotaInDim S2x8x4096x4096 32 2),
    nullary main_v12 (iotaInDim S2x8x4096x4096 32 3),
    binary main_v12 main_v11 main_v13 (cmpi .sle : (⟨S2x8x4096x4096, .i32⟩ : BufTy).Contents (Elt F) → (⟨S2x8x4096x4096, .i32⟩ : BufTy).Contents (Elt F) → (⟨S2x8x4096x4096, .i1⟩ : BufTy).Contents (Elt F)),
    nullary main_cst_0 (constant S_ .f32 0xFF800000#32),
    unary main_cst_0 main_v14 (broadcastInDim S2x8x4096x4096 ![] bcast_S_S2x8x4096x4096 : (⟨S_, .f32⟩ : BufTy).Contents (Elt F) → (⟨S2x8x4096x4096, .f32⟩ : BufTy).Contents (Elt F)),
    ternary main_v13 main_v10 main_v14 main_v15 (select : (⟨S2x8x4096x4096, .i1⟩ : BufTy).Contents (Elt F) → (⟨S2x8x4096x4096, .f32⟩ : BufTy).Contents (Elt F) → (⟨S2x8x4096x4096, .f32⟩ : BufTy).Contents (Elt F) → (⟨S2x8x4096x4096, .f32⟩ : BufTy).Contents (Elt F)),
    nullary main_cst_1 (constant S_ .f32 0x00000000#32),
    unary main_cst_1 main_v16 (broadcastInDim S2x8x4096x4096 ![] bcast_S_S2x8x4096x4096 : (⟨S_, .f32⟩ : BufTy).Contents (Elt F) → (⟨S2x8x4096x4096, .f32⟩ : BufTy).Contents (Elt F)),
    nullary main_cst_2 (constant S_ .f32 0xFF800000#32),
    binary main_v15 main_cst_2 main_v17 ((fun x v => Host.reduce FloatOps.maximumf x v reducesTo_S2x8x4096x4096_S2x8x4096_d3 h_S_) : (⟨S2x8x4096x4096, .f32⟩ : BufTy).Contents (Elt F) → (⟨S_, .f32⟩ : BufTy).Contents (Elt F) → (⟨S2x8x4096, .f32⟩ : BufTy).Contents (Elt F)),
    reshape main_v17 main_v18 (rfl : (.f32 : EltTy) = .f32) shapeCasts_S2x8x4096_S2x8x4096x1,
    unary main_v18 main_v19 (broadcastInDim S2x8x4096x4096 ![0, 1, 2, 3] bcast_S2x8x4096x1_S2x8x4096x4096_0_1_2_3 : (⟨S2x8x4096x1, .f32⟩ : BufTy).Contents (Elt F) → (⟨S2x8x4096x4096, .f32⟩ : BufTy).Contents (Elt F)),
    binary main_v15 main_v19 main_v20 (cmpf .oeq : (⟨S2x8x4096x4096, .f32⟩ : BufTy).Contents (Elt F) → (⟨S2x8x4096x4096, .f32⟩ : BufTy).Contents (Elt F) → (⟨S2x8x4096x4096, .i1⟩ : BufTy).Contents (Elt F)),
    unary main_v20 main_v21 (uitofp .f32 : (⟨S2x8x4096x4096, .i1⟩ : BufTy).Contents (Elt F) → (⟨S2x8x4096x4096, .f32⟩ : BufTy).Contents (Elt F)),
    nullary main_cst_3 (constant S_ .f32 0x00000000#32),
    binary main_v21 main_cst_3 main_v22 ((fun x v => Host.reduceAdd x v reducesTo_S2x8x4096x4096_S2x8x4096_d3 h_S_) : (⟨S2x8x4096x4096, .f32⟩ : BufTy).Contents (Elt F) → (⟨S_, .f32⟩ : BufTy).Contents (Elt F) → (⟨S2x8x4096, .f32⟩ : BufTy).Contents (Elt F)),
    nullary main_cst_4 (constant S_ .f32 0xFF800000#32),
    unary main_cst_4 main_v23 (broadcastInDim S2x8x4096 ![] bcast_S_S2x8x4096 : (⟨S_, .f32⟩ : BufTy).Contents (Elt F) → (⟨S2x8x4096, .f32⟩ : BufTy).Contents (Elt F)),
    binary main_v23 main_v17 main_v24 (maximumf : (⟨S2x8x4096, .f32⟩ : BufTy).Contents (Elt F) → (⟨S2x8x4096, .f32⟩ : BufTy).Contents (Elt F) → (⟨S2x8x4096, .f32⟩ : BufTy).Contents (Elt F)),
    nullary main_cst_5 (constant S_ .f32 0xFF800000#32),
    unary main_cst_5 main_v25 (broadcastInDim S2x8x4096 ![] bcast_S_S2x8x4096 : (⟨S_, .f32⟩ : BufTy).Contents (Elt F) → (⟨S2x8x4096, .f32⟩ : BufTy).Contents (Elt F)),
    binary main_v17 main_v25 main_v26 (cmpf .ogt : (⟨S2x8x4096, .f32⟩ : BufTy).Contents (Elt F) → (⟨S2x8x4096, .f32⟩ : BufTy).Contents (Elt F) → (⟨S2x8x4096, .i1⟩ : BufTy).Contents (Elt F)),
    nullary main_cst_6 (constant S_ .f32 0xFF800000#32),
    unary main_cst_6 main_v27 (broadcastInDim S2x8x4096 ![] bcast_S_S2x8x4096 : (⟨S_, .f32⟩ : BufTy).Contents (Elt F) → (⟨S2x8x4096, .f32⟩ : BufTy).Contents (Elt F)),
    binary main_v17 main_v27 main_v28 (cmpf .oeq : (⟨S2x8x4096, .f32⟩ : BufTy).Contents (Elt F) → (⟨S2x8x4096, .f32⟩ : BufTy).Contents (Elt F) → (⟨S2x8x4096, .i1⟩ : BufTy).Contents (Elt F)),
    nullary main_cst_7 (constant S_ .f32 0x3F800000#32),
    unary main_cst_7 main_v29 (broadcastInDim S2x8x4096 ![] bcast_S_S2x8x4096 : (⟨S_, .f32⟩ : BufTy).Contents (Elt F) → (⟨S2x8x4096, .f32⟩ : BufTy).Contents (Elt F)),
    nullary main_cst_8 (constant S_ .f32 0x00000000#32),
    unary main_cst_8 main_v30 (broadcastInDim S2x8x4096 ![] bcast_S_S2x8x4096 : (⟨S_, .f32⟩ : BufTy).Contents (Elt F) → (⟨S2x8x4096, .f32⟩ : BufTy).Contents (Elt F)),
    nullary main_cst_9 (constant S_ .f32 0x3F000000#32),
    unary main_cst_9 main_v31 (broadcastInDim S2x8x4096 ![] bcast_S_S2x8x4096 : (⟨S_, .f32⟩ : BufTy).Contents (Elt F) → (⟨S2x8x4096, .f32⟩ : BufTy).Contents (Elt F)),
    ternary main_v28 main_v31 main_v30 main_v32 (select : (⟨S2x8x4096, .i1⟩ : BufTy).Contents (Elt F) → (⟨S2x8x4096, .f32⟩ : BufTy).Contents (Elt F) → (⟨S2x8x4096, .f32⟩ : BufTy).Contents (Elt F) → (⟨S2x8x4096, .f32⟩ : BufTy).Contents (Elt F)),
    ternary main_v26 main_v29 main_v32 main_v33 (select : (⟨S2x8x4096, .i1⟩ : BufTy).Contents (Elt F) → (⟨S2x8x4096, .f32⟩ : BufTy).Contents (Elt F) → (⟨S2x8x4096, .f32⟩ : BufTy).Contents (Elt F) → (⟨S2x8x4096, .f32⟩ : BufTy).Contents (Elt F)),
    unary main_v24 main_v34 (broadcastInDim S2x8x4096x1 ![0, 1, 2] bcast_S2x8x4096_S2x8x4096x1_0_1_2 : (⟨S2x8x4096, .f32⟩ : BufTy).Contents (Elt F) → (⟨S2x8x4096x1, .f32⟩ : BufTy).Contents (Elt F)),
    unary main_v34 main_v35 (broadcastInDim S2x8x4096x4096 ![0, 1, 2, 3] bcast_S2x8x4096x1_S2x8x4096x4096_0_1_2_3 : (⟨S2x8x4096x1, .f32⟩ : BufTy).Contents (Elt F) → (⟨S2x8x4096x4096, .f32⟩ : BufTy).Contents (Elt F)),
    binary main_v15 main_v35 main_v36 (subf : (⟨S2x8x4096x4096, .f32⟩ : BufTy).Contents (Elt F) → (⟨S2x8x4096x4096, .f32⟩ : BufTy).Contents (Elt F) → (⟨S2x8x4096x4096, .f32⟩ : BufTy).Contents (Elt F)),
    unary main_v36 main_v37 (Host.exp : (⟨S2x8x4096x4096, .f32⟩ : BufTy).Contents (Elt F) → (⟨S2x8x4096x4096, .f32⟩ : BufTy).Contents (Elt F)),
    nullary main_cst_10 (constant S_ .f32 0x00000000#32),
    binary main_v37 main_cst_10 main_v38 ((fun x v => Host.reduceAdd x v reducesTo_S2x8x4096x4096_S2x8x4096_d3 h_S_) : (⟨S2x8x4096x4096, .f32⟩ : BufTy).Contents (Elt F) → (⟨S_, .f32⟩ : BufTy).Contents (Elt F) → (⟨S2x8x4096, .f32⟩ : BufTy).Contents (Elt F)),
    unary main_v38 main_v39 (broadcastInDim S2x8x4096x1 ![0, 1, 2] bcast_S2x8x4096_S2x8x4096x1_0_1_2 : (⟨S2x8x4096, .f32⟩ : BufTy).Contents (Elt F) → (⟨S2x8x4096x1, .f32⟩ : BufTy).Contents (Elt F)),
    unary main_v39 main_v40 (broadcastInDim S2x8x4096x4096 ![0, 1, 2, 3] bcast_S2x8x4096x1_S2x8x4096x4096_0_1_2_3 : (⟨S2x8x4096x1, .f32⟩ : BufTy).Contents (Elt F) → (⟨S2x8x4096x4096, .f32⟩ : BufTy).Contents (Elt F)),
    binary main_v37 main_v40 main_v41 (Host.divf : (⟨S2x8x4096x4096, .f32⟩ : BufTy).Contents (Elt F) → (⟨S2x8x4096x4096, .f32⟩ : BufTy).Contents (Elt F) → (⟨S2x8x4096x4096, .f32⟩ : BufTy).Contents (Elt F)),
    binary main_v39 main_v39 main_v42 (mulf : (⟨S2x8x4096x1, .f32⟩ : BufTy).Contents (Elt F) → (⟨S2x8x4096x1, .f32⟩ : BufTy).Contents (Elt F) → (⟨S2x8x4096x1, .f32⟩ : BufTy).Contents (Elt F)),
    nullary main_cst_11 (constant S_ .f32 0x3F800000#32),
    unary main_cst_11 main_v43 (broadcastInDim S2x8x4096x1 ![] bcast_S_S2x8x4096x1 : (⟨S_, .f32⟩ : BufTy).Contents (Elt F) → (⟨S2x8x4096x1, .f32⟩ : BufTy).Contents (Elt F)),
    binary main_v43 main_v42 main_v44 (Host.divf : (⟨S2x8x4096x1, .f32⟩ : BufTy).Contents (Elt F) → (⟨S2x8x4096x1, .f32⟩ : BufTy).Contents (Elt F) → (⟨S2x8x4096x1, .f32⟩ : BufTy).Contents (Elt F)),
    binary main_arg2 main_v41 main_v45 ((fun l r => Host.dotGeneral dot_S2x4096x8x64_S2x8x4096x4096_S2x8x64x4096_1_3_3_2_02_01 none l r) : (⟨S2x4096x8x64, .f32⟩ : BufTy).Contents (Elt F) → (⟨S2x8x4096x4096, .f32⟩ : BufTy).Contents (Elt F) → (⟨S2x8x64x4096, .f32⟩ : BufTy).Contents (Elt F)),
    unary main_v45 main_v46 ((transpose S2x4096x8x64 [0, 3, 1, 2] · transposes_S2x8x64x4096_S2x4096x8x64_0_3_1_2) : (⟨S2x8x64x4096, .f32⟩ : BufTy).Contents (Elt F) → (⟨S2x4096x8x64, .f32⟩ : BufTy).Contents (Elt F)) ]

/-- The operations of the reference's program: the cotangents. -/
abbrev lineC : List (HloOp τ sig (Elt F)) :=
  [ unary main_arg4 main_v47 ((transpose S2x8x64x4096 [0, 2, 3, 1] · transposes_S2x4096x8x64_S2x8x64x4096_0_2_3_1) : (⟨S2x4096x8x64, .f32⟩ : BufTy).Contents (Elt F) → (⟨S2x8x64x4096, .f32⟩ : BufTy).Contents (Elt F)),
    binary main_v47 main_arg2 main_v48 ((fun l r => Host.dotGeneral dot_S2x8x64x4096_S2x4096x8x64_S2x8x4096x4096_2_3_3_1_01_02 none l r) : (⟨S2x8x64x4096, .f32⟩ : BufTy).Contents (Elt F) → (⟨S2x4096x8x64, .f32⟩ : BufTy).Contents (Elt F) → (⟨S2x8x4096x4096, .f32⟩ : BufTy).Contents (Elt F)),
    binary main_v47 main_v41 main_v49 ((fun l r => Host.dotGeneral dot_S2x8x64x4096_S2x8x4096x4096_S2x8x64x4096_3_2_2_3_01_01 none l r) : (⟨S2x8x64x4096, .f32⟩ : BufTy).Contents (Elt F) → (⟨S2x8x4096x4096, .f32⟩ : BufTy).Contents (Elt F) → (⟨S2x8x64x4096, .f32⟩ : BufTy).Contents (Elt F)),
    unary main_v49 main_v50 ((transpose S2x4096x8x64 [0, 3, 1, 2] · transposes_S2x8x64x4096_S2x4096x8x64_0_3_1_2) : (⟨S2x8x64x4096, .f32⟩ : BufTy).Contents (Elt F) → (⟨S2x4096x8x64, .f32⟩ : BufTy).Contents (Elt F)),
    unary main_v44 main_v51 (broadcastInDim S2x8x4096x4096 ![0, 1, 2, 3] bcast_S2x8x4096x1_S2x8x4096x4096_0_1_2_3 : (⟨S2x8x4096x1, .f32⟩ : BufTy).Contents (Elt F) → (⟨S2x8x4096x4096, .f32⟩ : BufTy).Contents (Elt F)),
    binary main_v48 main_v51 main_v52 (mulf : (⟨S2x8x4096x4096, .f32⟩ : BufTy).Contents (Elt F) → (⟨S2x8x4096x4096, .f32⟩ : BufTy).Contents (Elt F) → (⟨S2x8x4096x4096, .f32⟩ : BufTy).Contents (Elt F)),
    binary main_v52 main_v37 main_v53 (mulf : (⟨S2x8x4096x4096, .f32⟩ : BufTy).Contents (Elt F) → (⟨S2x8x4096x4096, .f32⟩ : BufTy).Contents (Elt F) → (⟨S2x8x4096x4096, .f32⟩ : BufTy).Contents (Elt F)),
    nullary main_cst_12 (constant S_ .f32 0x00000000#32),
    binary main_v53 main_cst_12 main_v54 ((fun x v => Host.reduceAdd x v reducesTo_S2x8x4096x4096_S2x8x4096_d3 h_S_) : (⟨S2x8x4096x4096, .f32⟩ : BufTy).Contents (Elt F) → (⟨S_, .f32⟩ : BufTy).Contents (Elt F) → (⟨S2x8x4096, .f32⟩ : BufTy).Contents (Elt F)),
    reshape main_v54 main_v55 (rfl : (.f32 : EltTy) = .f32) shapeCasts_S2x8x4096_S2x8x4096x1,
    unary main_v55 main_v56 (Host.negf : (⟨S2x8x4096x1, .f32⟩ : BufTy).Contents (Elt F) → (⟨S2x8x4096x1, .f32⟩ : BufTy).Contents (Elt F)),
    unary main_v39 main_v57 (broadcastInDim S2x8x4096x4096 ![0, 1, 2, 3] bcast_S2x8x4096x1_S2x8x4096x4096_0_1_2_3 : (⟨S2x8x4096x1, .f32⟩ : BufTy).Contents (Elt F) → (⟨S2x8x4096x4096, .f32⟩ : BufTy).Contents (Elt F)),
    binary main_v48 main_v57 main_v58 (Host.divf : (⟨S2x8x4096x4096, .f32⟩ : BufTy).Contents (Elt F) → (⟨S2x8x4096x4096, .f32⟩ : BufTy).Contents (Elt F) → (⟨S2x8x4096x4096, .f32⟩ : BufTy).Contents (Elt F)),
    nullary main_cst_13 (constant S_ .f32 0x00000000#32),
    binary main_v56 main_cst_13 main_v59 ((fun x v => Host.reduceAdd x v reducesTo_S2x8x4096x1_S2x8x4096_d3 h_S_) : (⟨S2x8x4096x1, .f32⟩ : BufTy).Contents (Elt F) → (⟨S_, .f32⟩ : BufTy).Contents (Elt F) → (⟨S2x8x4096, .f32⟩ : BufTy).Contents (Elt F)),
    unary main_v59 main_v60 (broadcastInDim S2x8x4096x4096 ![0, 1, 2] bcast_S2x8x4096_S2x8x4096x4096_0_1_2 : (⟨S2x8x4096, .f32⟩ : BufTy).Contents (Elt F) → (⟨S2x8x4096x4096, .f32⟩ : BufTy).Contents (Elt F)),
    binary main_v58 main_v60 main_v61 (addf : (⟨S2x8x4096x4096, .f32⟩ : BufTy).Contents (Elt F) → (⟨S2x8x4096x4096, .f32⟩ : BufTy).Contents (Elt F) → (⟨S2x8x4096x4096, .f32⟩ : BufTy).Contents (Elt F)),
    binary main_v61 main_v37 main_v62 (mulf : (⟨S2x8x4096x4096, .f32⟩ : BufTy).Contents (Elt F) → (⟨S2x8x4096x4096, .f32⟩ : BufTy).Contents (Elt F) → (⟨S2x8x4096x4096, .f32⟩ : BufTy).Contents (Elt F)),
    nullary main_cst_14 (constant S_ .f32 0x00000000#32),
    unary main_cst_14 main_v63 (broadcastInDim S2x8x4096x4096 ![] bcast_S_S2x8x4096x4096 : (⟨S_, .f32⟩ : BufTy).Contents (Elt F) → (⟨S2x8x4096x4096, .f32⟩ : BufTy).Contents (Elt F)),
    ternary main_v13 main_v62 main_v63 main_v64 (select : (⟨S2x8x4096x4096, .i1⟩ : BufTy).Contents (Elt F) → (⟨S2x8x4096x4096, .f32⟩ : BufTy).Contents (Elt F) → (⟨S2x8x4096x4096, .f32⟩ : BufTy).Contents (Elt F) → (⟨S2x8x4096x4096, .f32⟩ : BufTy).Contents (Elt F)),
    nullary main_cst_15 (constant S_ .f32 0x00000000#32),
    binary main_v64 main_cst_15 main_v65 ((fun x v => Host.reduceAdd x v reducesTo_S2x8x4096x4096_S2x8x4096_d3 h_S_) : (⟨S2x8x4096x4096, .f32⟩ : BufTy).Contents (Elt F) → (⟨S_, .f32⟩ : BufTy).Contents (Elt F) → (⟨S2x8x4096, .f32⟩ : BufTy).Contents (Elt F)),
    reshape main_v65 main_v66 (rfl : (.f32 : EltTy) = .f32) shapeCasts_S2x8x4096_S2x8x4096x1,
    unary main_v64 main_v67 (Host.negf : (⟨S2x8x4096x4096, .f32⟩ : BufTy).Contents (Elt F) → (⟨S2x8x4096x4096, .f32⟩ : BufTy).Contents (Elt F)),
    nullary main_cst_16 (constant S_ .f32 0x00000000#32),
    binary main_v67 main_cst_16 main_v68 ((fun x v => Host.reduceAdd x v reducesTo_S2x8x4096x4096_S2x8x4096_d2 h_S_) : (⟨S2x8x4096x4096, .f32⟩ : BufTy).Contents (Elt F) → (⟨S_, .f32⟩ : BufTy).Contents (Elt F) → (⟨S2x8x4096, .f32⟩ : BufTy).Contents (Elt F)),
    reshape main_v68 main_v69 (rfl : (.f32 : EltTy) = .f32) shapeCasts_S2x8x4096_S2x8x1x4096,
    nullary main_cst_17 (constant S_ .f32 0x00000000#32),
    binary main_v69 main_cst_17 main_v70 ((fun x v => Host.reduceAdd x v reducesTo_S2x8x1x4096_S2x8x4096_d2 h_S_) : (⟨S2x8x1x4096, .f32⟩ : BufTy).Contents (Elt F) → (⟨S_, .f32⟩ : BufTy).Contents (Elt F) → (⟨S2x8x4096, .f32⟩ : BufTy).Contents (Elt F)),
    nullary main_cst_18 (constant S_ .f32 0x00000000#32),
    binary main_v66 main_cst_18 main_v71 ((fun x v => Host.reduceAdd x v reducesTo_S2x8x4096x1_S2x8x4096_d3 h_S_) : (⟨S2x8x4096x1, .f32⟩ : BufTy).Contents (Elt F) → (⟨S_, .f32⟩ : BufTy).Contents (Elt F) → (⟨S2x8x4096, .f32⟩ : BufTy).Contents (Elt F)),
    binary main_v70 main_v71 main_v72 (addf : (⟨S2x8x4096, .f32⟩ : BufTy).Contents (Elt F) → (⟨S2x8x4096, .f32⟩ : BufTy).Contents (Elt F) → (⟨S2x8x4096, .f32⟩ : BufTy).Contents (Elt F)),
    unary main_v72 main_v73 ((transpose S2x4096x8 [0, 2, 1] · transposes_S2x8x4096_S2x4096x8_0_2_1) : (⟨S2x8x4096, .f32⟩ : BufTy).Contents (Elt F) → (⟨S2x4096x8, .f32⟩ : BufTy).Contents (Elt F)),
    nullary main_cst_19 (constant S_ .f32 0x3E000000#32),
    unary main_cst_19 main_v74 (broadcastInDim S2x8x4096x4096 ![] bcast_S_S2x8x4096x4096 : (⟨S_, .f32⟩ : BufTy).Contents (Elt F) → (⟨S2x8x4096x4096, .f32⟩ : BufTy).Contents (Elt F)),
    binary main_v64 main_v74 main_v75 (mulf : (⟨S2x8x4096x4096, .f32⟩ : BufTy).Contents (Elt F) → (⟨S2x8x4096x4096, .f32⟩ : BufTy).Contents (Elt F) → (⟨S2x8x4096x4096, .f32⟩ : BufTy).Contents (Elt F)),
    binary main_v75 main_arg0 main_v76 ((fun l r => Host.dotGeneral dot_S2x8x4096x4096_S2x4096x8x64_S2x8x4096x64_2_1_3_3_01_02 none l r) : (⟨S2x8x4096x4096, .f32⟩ : BufTy).Contents (Elt F) → (⟨S2x4096x8x64, .f32⟩ : BufTy).Contents (Elt F) → (⟨S2x8x4096x64, .f32⟩ : BufTy).Contents (Elt F)),
    unary main_v76 main_v77 ((transpose S2x4096x8x64 [0, 2, 1, 3] · transposes_S2x8x4096x64_S2x4096x8x64_0_2_1_3) : (⟨S2x8x4096x64, .f32⟩ : BufTy).Contents (Elt F) → (⟨S2x4096x8x64, .f32⟩ : BufTy).Contents (Elt F)),
    binary main_v75 main_arg1 main_v78 ((fun l r => Host.dotGeneral dot_S2x8x4096x4096_S2x4096x8x64_S2x8x4096x64_3_1_2_3_01_02 none l r) : (⟨S2x8x4096x4096, .f32⟩ : BufTy).Contents (Elt F) → (⟨S2x4096x8x64, .f32⟩ : BufTy).Contents (Elt F) → (⟨S2x8x4096x64, .f32⟩ : BufTy).Contents (Elt F)),
    unary main_v78 main_v79 ((transpose S2x4096x8x64 [0, 2, 1, 3] · transposes_S2x8x4096x64_S2x4096x8x64_0_2_1_3) : (⟨S2x8x4096x64, .f32⟩ : BufTy).Contents (Elt F) → (⟨S2x4096x8x64, .f32⟩ : BufTy).Contents (Elt F)) ]

/-- The operations of the reference's program: the reverse running sum. -/
abbrev lineD : List (HloOp τ sig (Elt F)) :=
  [ TRef.nullary (TRef.of (T := ⟨S_, .f32⟩) main_call1_call0_cst) (constant S_ .f32 0x00000000#32),
    TRef.unary (TRef.of (T := ⟨S_, .f32⟩) main_call1_call0_cst) (TRef.of (T := ⟨S_, .f32⟩) main_call1_call0_v0) (broadcastInDim S_ ![] bcast_S_S_),
    TRef.binary (TRef.of (T := ⟨S2x4096x8, .f32⟩) main_v73) (TRef.of (T := ⟨S_, .f32⟩) main_call1_call0_v0) (TRef.of (T := ⟨S2x4096x8, .f32⟩) main_v80) (fun x v => Host.reduceWindowAdd ![1, 4096, 1] ![1, 1, 1] ![0, 0, 0] ![0, 4095, 0] x v reduceWindows_S2x4096x8_S2x4096x8_w1s1p0_0_w4096s1p0_4095_w1s1p0_0 h_S_) ]

/-- The operations of the reference's program, in order. -/
abbrev ops : List (HloOp τ sig (Elt F)) := (lineA ++ lineB) ++ (lineC ++ lineD)

theorem body_first : fn_cumsum.body (F := F) (.of main_arg3) main_call0 = seq lineA := rfl

theorem body_last : fn_cumsum_1.body (F := F) (.of main_v73) main_call1 = seq lineD := rfl

theorem part_first (c : Dev nD) : main_part0 (F := F) c = (seq lineA >>= fun _ => seq lineB) := by
  unfold main_part0
  rw [body_first]
  rfl

theorem part_last (c : Dev nD) : main_part1 (F := F) c = (seq lineC >>= fun _ => seq lineD) := by
  unfold main_part1
  rw [body_last, bind_pure_unit]
  rfl

theorem main_eq (c : Dev nD) : main (F := F) c = seq ops := by
  unfold main
  rw [part_first, part_last, ← seq_append, ← seq_append, ← seq_append]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., binary_bufs_sub .., nullary_bufs_sub ..,
   unary_bufs_sub .., binary_bufs_sub .., unary_bufs_sub .., unary_bufs_sub .., unary_bufs_sub .., unary_bufs_sub ..,
   unary_bufs_sub .., binary_bufs_sub .., binary_bufs_sub .., nullary_bufs_sub .., nullary_bufs_sub ..,
   binary_bufs_sub .., nullary_bufs_sub .., unary_bufs_sub .., ternary_bufs_sub .., nullary_bufs_sub ..,
   unary_bufs_sub .., nullary_bufs_sub .., binary_bufs_sub .., reshape_bufs_sub .., unary_bufs_sub ..,
   binary_bufs_sub .., unary_bufs_sub .., nullary_bufs_sub .., binary_bufs_sub .., nullary_bufs_sub ..,
   unary_bufs_sub .., binary_bufs_sub .., nullary_bufs_sub .., unary_bufs_sub .., binary_bufs_sub ..,
   nullary_bufs_sub .., unary_bufs_sub .., binary_bufs_sub .., nullary_bufs_sub .., unary_bufs_sub ..,
   nullary_bufs_sub .., unary_bufs_sub .., nullary_bufs_sub .., unary_bufs_sub .., ternary_bufs_sub ..,
   ternary_bufs_sub .., unary_bufs_sub .., unary_bufs_sub .., binary_bufs_sub .., unary_bufs_sub ..,
   nullary_bufs_sub .., binary_bufs_sub .., unary_bufs_sub .., unary_bufs_sub .., binary_bufs_sub ..,
   binary_bufs_sub .., nullary_bufs_sub .., unary_bufs_sub .., binary_bufs_sub .., binary_bufs_sub ..,
   unary_bufs_sub .., unary_bufs_sub .., binary_bufs_sub .., binary_bufs_sub .., unary_bufs_sub ..,
   unary_bufs_sub .., binary_bufs_sub .., binary_bufs_sub .., nullary_bufs_sub .., binary_bufs_sub ..,
   reshape_bufs_sub .., unary_bufs_sub .., unary_bufs_sub .., binary_bufs_sub .., nullary_bufs_sub ..,
   binary_bufs_sub .., unary_bufs_sub .., binary_bufs_sub .., binary_bufs_sub .., nullary_bufs_sub ..,
   unary_bufs_sub .., ternary_bufs_sub .., nullary_bufs_sub .., binary_bufs_sub .., reshape_bufs_sub ..,
   unary_bufs_sub .., nullary_bufs_sub .., binary_bufs_sub .., reshape_bufs_sub .., nullary_bufs_sub ..,
   binary_bufs_sub .., nullary_bufs_sub .., binary_bufs_sub .., binary_bufs_sub .., unary_bufs_sub ..,
   nullary_bufs_sub .., unary_bufs_sub .., binary_bufs_sub .., binary_bufs_sub .., unary_bufs_sub ..,
   binary_bufs_sub .., unary_bufs_sub .., nullary_bufs_sub .., unary_bufs_sub .., binary_bufs_sub ..⟩

/-- What the operations write, in order. -/
def opsW : List (Ref sig .tc) :=
  [main_call0_call0_cst, main_call0_call0_v0, main_v0, main_v1, main_cst, main_v2, main_v3, main_v4, main_v5,
   main_v6, main_v7, main_v8, main_v9, main_v10, main_v11, main_v12, main_v13, main_cst_0, main_v14, main_v15,
   main_cst_1, main_v16, main_cst_2, main_v17, main_v18, main_v19, main_v20, main_v21, main_cst_3, main_v22,
   main_cst_4, main_v23, main_v24, main_cst_5, main_v25, main_v26, main_cst_6, main_v27, main_v28, main_cst_7,
   main_v29, main_cst_8, main_v30, main_cst_9, main_v31, main_v32, main_v33, main_v34, main_v35, main_v36, main_v37,
   main_cst_10, main_v38, main_v39, main_v40, main_v41, main_v42, main_cst_11, main_v43, main_v44, main_v45,
   main_v46, main_v47, main_v48, main_v49, main_v50, main_v51, main_v52, main_v53, main_cst_12, main_v54, main_v55,
   main_v56, main_v57, main_v58, main_cst_13, main_v59, main_v60, main_v61, main_v62, main_cst_14, main_v63,
   main_v64, main_cst_15, main_v65, main_v66, main_v67, main_cst_16, main_v68, main_v69, main_cst_17, main_v70,
   main_cst_18, main_v71, main_v72, main_v73, main_cst_19, main_v74, main_v75, main_v76, main_v77, main_v78,
   main_v79, main_call1_call0_cst, main_call1_call0_v0, main_v80]

theorem ops_writes : Writes (τ := τ) (Val := Elt F) ops opsW := rfl

variable (m : (ℓ : Loc nD τ sig) → Buf (Elt F) ℓ) (c : Dev nD)

theorem R_exists : ∃ f : (b : Ref sig .tc) → Buf (Elt F) ((c.tc : Thread nD τ).loc b),
    ∀ b, f b = after ops (launchContents m c) (Proc.devRef .tc b) := ⟨_, fun _ => rfl⟩

/-- What the program leaves in a buffer of device `c`, known by its equations alone. -/
def R (b : Ref sig .tc) : Buf (Elt F) ((c.tc : Thread nD τ).loc b) := Classical.choose (R_exists m c) b

theorem R_after (b : Ref sig .tc) : R m c b = after ops (launchContents m c) (Proc.devRef .tc b) :=
  Classical.choose_spec (R_exists m c) b

/-- Every fair run ends with every buffer as the operations leave it. -/
theorem run (ρ : Dev nD → PrngReg) :
    θ_run defs (onTc (τ := τ) (main (F := F))) ⟨m, fun _ => 0, ρ⟩ fun r => ∀ (c : Dev nD) (b : Ref sig .tc),
      r.2.mem ((c.tc : Thread nD τ).loc b) = R m c b := by
  simp only [R_after]
  exact run_seq scopedRefs_eq scopedSems_eq defs main (fun _ => ops) main_eq (fun _ => ops_sub) m ρ

theorem r_call0_call0_cst : R m c main_call0_call0_cst = constant (F := F) S_ .f32 0x00000000#32 := by
  simp only [R_after]
  exact read_nullary ops_writes 0 rfl (by decide +kernel) _

theorem r_call0_call0_v0 : R m c main_call0_call0_v0 = broadcastInDim S_ ![] bcast_S_S_ (R m c main_call0_call0_cst) := by
  simp only [R_after]
  exact read_unary ops_writes 1 rfl (by decide +kernel) (by decide +kernel) _

theorem r_v0 : R m c main_v0 = Host.reduceWindowAdd ![1, 4096, 1] ![1, 1, 1] ![0, 4095, 0] ![0, 0, 0] (R m c main_arg3) (R m c main_call0_call0_v0) reduceWindows_S2x4096x8_S2x4096x8_w1s1p0_0_w4096s1p4095_0_w1s1p0_0 h_S_ := by
  simp only [R_after]
  exact read_binary ops_writes 2 rfl (by decide +kernel) (by decide +kernel) (by decide +kernel) _

theorem r_v1 : R m c main_v1 = Host.dotGeneral dot_S2x4096x8x64_S2x4096x8x64_S2x8x4096x4096_3_3_1_1_02_02 none (R m c main_arg0) (R m c main_arg1) := by
  simp only [R_after]
  exact read_binary ops_writes 3 rfl (by decide +kernel) (by decide +kernel) (by decide +kernel) _

theorem r_cst : R m c main_cst = constant (F := F) S_ .f32 0x3E000000#32 := by
  simp only [R_after]
  exact read_nullary ops_writes 4 rfl (by decide +kernel) _

theorem r_v2 : R m c main_v2 = broadcastInDim S2x8x4096x4096 ![] bcast_S_S2x8x4096x4096 (R m c main_cst) := by
  simp only [R_after]
  exact read_unary ops_writes 5 rfl (by decide +kernel) (by decide +kernel) _

theorem r_v3 : R m c main_v3 = mulf (R m c main_v1) (R m c main_v2) := by
  simp only [R_after]
  exact read_binary ops_writes 6 rfl (by decide +kernel) (by decide +kernel) (by decide +kernel) _

theorem r_v4 : R m c main_v4 = transpose S2x8x4096 [0, 2, 1] (R m c main_v0) transposes_S2x4096x8_S2x8x4096_0_2_1 := by
  simp only [R_after]
  exact read_unary ops_writes 7 rfl (by decide +kernel) (by decide +kernel) _

theorem r_v5 : R m c main_v5 = broadcastInDim S2x8x4096x1 ![0, 1, 2] bcast_S2x8x4096_S2x8x4096x1_0_1_2 (R m c main_v4) := by
  simp only [R_after]
  exact read_unary ops_writes 8 rfl (by decide +kernel) (by decide +kernel) _

theorem r_v6 : R m c main_v6 = broadcastInDim S2x8x1x4096 ![0, 1, 3] bcast_S2x8x4096_S2x8x1x4096_0_1_3 (R m c main_v4) := by
  simp only [R_after]
  exact read_unary ops_writes 9 rfl (by decide +kernel) (by decide +kernel) _

theorem r_v7 : R m c main_v7 = broadcastInDim S2x8x4096x4096 ![0, 1, 2, 3] bcast_S2x8x4096x1_S2x8x4096x4096_0_1_2_3 (R m c main_v5) := by
  simp only [R_after]
  exact read_unary ops_writes 10 rfl (by decide +kernel) (by decide +kernel) _

theorem r_v8 : R m c main_v8 = broadcastInDim S2x8x4096x4096 ![0, 1, 2, 3] bcast_S2x8x1x4096_S2x8x4096x4096_0_1_2_3 (R m c main_v6) := by
  simp only [R_after]
  exact read_unary ops_writes 11 rfl (by decide +kernel) (by decide +kernel) _

theorem r_v9 : R m c main_v9 = subf (R m c main_v7) (R m c main_v8) := by
  simp only [R_after]
  exact read_binary ops_writes 12 rfl (by decide +kernel) (by decide +kernel) (by decide +kernel) _

theorem r_v10 : R m c main_v10 = addf (R m c main_v3) (R m c main_v9) := by
  simp only [R_after]
  exact read_binary ops_writes 13 rfl (by decide +kernel) (by decide +kernel) (by decide +kernel) _

theorem r_v11 : R m c main_v11 = iotaInDim S2x8x4096x4096 32 2 := by
  simp only [R_after]
  exact read_nullary ops_writes 14 rfl (by decide +kernel) _

theorem r_v12 : R m c main_v12 = iotaInDim S2x8x4096x4096 32 3 := by
  simp only [R_after]
  exact read_nullary ops_writes 15 rfl (by decide +kernel) _

theorem r_v13 : R m c main_v13 = cmpi .sle (R m c main_v12) (R m c main_v11) := by
  simp only [R_after]
  exact read_binary ops_writes 16 rfl (by decide +kernel) (by decide +kernel) (by decide +kernel) _

theorem r_cst_0 : R m c main_cst_0 = constant (F := F) S_ .f32 0xFF800000#32 := by
  simp only [R_after]
  exact read_nullary ops_writes 17 rfl (by decide +kernel) _

theorem r_v14 : R m c main_v14 = broadcastInDim S2x8x4096x4096 ![] bcast_S_S2x8x4096x4096 (R m c main_cst_0) := by
  simp only [R_after]
  exact read_unary ops_writes 18 rfl (by decide +kernel) (by decide +kernel) _

theorem r_v15 : R m c main_v15 = select (R m c main_v13) (R m c main_v10) (R m c main_v14) := by
  simp only [R_after]
  exact read_ternary ops_writes 19 rfl (by decide +kernel) (by decide +kernel) (by decide +kernel) (by decide +kernel) _

theorem r_cst_2 : R m c main_cst_2 = constant (F := F) S_ .f32 0xFF800000#32 := by
  simp only [R_after]
  exact read_nullary ops_writes 22 rfl (by decide +kernel) _

theorem r_v17 : R m c main_v17 = Host.reduce FloatOps.maximumf (R m c main_v15) (R m c main_cst_2) reducesTo_S2x8x4096x4096_S2x8x4096_d3 h_S_ := by
  simp only [R_after]
  exact read_binary ops_writes 23 rfl (by decide +kernel) (by decide +kernel) (by decide +kernel) _

theorem r_cst_4 : R m c main_cst_4 = constant (F := F) S_ .f32 0xFF800000#32 := by
  simp only [R_after]
  exact read_nullary ops_writes 30 rfl (by decide +kernel) _

theorem r_v23 : R m c main_v23 = broadcastInDim S2x8x4096 ![] bcast_S_S2x8x4096 (R m c main_cst_4) := by
  simp only [R_after]
  exact read_unary ops_writes 31 rfl (by decide +kernel) (by decide +kernel) _

theorem r_v24 : R m c main_v24 = maximumf (R m c main_v23) (R m c main_v17) := by
  simp only [R_after]
  exact read_binary ops_writes 32 rfl (by decide +kernel) (by decide +kernel) (by decide +kernel) _

theorem r_v34 : R m c main_v34 = broadcastInDim S2x8x4096x1 ![0, 1, 2] bcast_S2x8x4096_S2x8x4096x1_0_1_2 (R m c main_v24) := by
  simp only [R_after]
  exact read_unary ops_writes 47 rfl (by decide +kernel) (by decide +kernel) _

theorem r_v35 : R m c main_v35 = broadcastInDim S2x8x4096x4096 ![0, 1, 2, 3] bcast_S2x8x4096x1_S2x8x4096x4096_0_1_2_3 (R m c main_v34) := by
  simp only [R_after]
  exact read_unary ops_writes 48 rfl (by decide +kernel) (by decide +kernel) _

theorem r_v36 : R m c main_v36 = subf (R m c main_v15) (R m c main_v35) := by
  simp only [R_after]
  exact read_binary ops_writes 49 rfl (by decide +kernel) (by decide +kernel) (by decide +kernel) _

theorem r_v37 : R m c main_v37 = Host.exp (R m c main_v36) := by
  simp only [R_after]
  exact read_unary ops_writes 50 rfl (by decide +kernel) (by decide +kernel) _

theorem r_cst_10 : R m c main_cst_10 = constant (F := F) S_ .f32 0x00000000#32 := by
  simp only [R_after]
  exact read_nullary ops_writes 51 rfl (by decide +kernel) _

theorem r_v38 : R m c main_v38 = Host.reduceAdd (R m c main_v37) (R m c main_cst_10) reducesTo_S2x8x4096x4096_S2x8x4096_d3 h_S_ := by
  simp only [R_after]
  exact read_binary ops_writes 52 rfl (by decide +kernel) (by decide +kernel) (by decide +kernel) _

theorem r_v39 : R m c main_v39 = broadcastInDim S2x8x4096x1 ![0, 1, 2] bcast_S2x8x4096_S2x8x4096x1_0_1_2 (R m c main_v38) := by
  simp only [R_after]
  exact read_unary ops_writes 53 rfl (by decide +kernel) (by decide +kernel) _

theorem r_v40 : R m c main_v40 = broadcastInDim S2x8x4096x4096 ![0, 1, 2, 3] bcast_S2x8x4096x1_S2x8x4096x4096_0_1_2_3 (R m c main_v39) := by
  simp only [R_after]
  exact read_unary ops_writes 54 rfl (by decide +kernel) (by decide +kernel) _

theorem r_v41 : R m c main_v41 = Host.divf (R m c main_v37) (R m c main_v40) := by
  simp only [R_after]
  exact read_binary ops_writes 55 rfl (by decide +kernel) (by decide +kernel) (by decide +kernel) _

theorem r_v42 : R m c main_v42 = mulf (R m c main_v39) (R m c main_v39) := by
  simp only [R_after]
  exact read_binary ops_writes 56 rfl (by decide +kernel) (by decide +kernel) (by decide +kernel) _

theorem r_cst_11 : R m c main_cst_11 = constant (F := F) S_ .f32 0x3F800000#32 := by
  simp only [R_after]
  exact read_nullary ops_writes 57 rfl (by decide +kernel) _

theorem r_v43 : R m c main_v43 = broadcastInDim S2x8x4096x1 ![] bcast_S_S2x8x4096x1 (R m c main_cst_11) := by
  simp only [R_after]
  exact read_unary ops_writes 58 rfl (by decide +kernel) (by decide +kernel) _

theorem r_v44 : R m c main_v44 = Host.divf (R m c main_v43) (R m c main_v42) := by
  simp only [R_after]
  exact read_binary ops_writes 59 rfl (by decide +kernel) (by decide +kernel) (by decide +kernel) _

theorem r_v47 : R m c main_v47 = transpose S2x8x64x4096 [0, 2, 3, 1] (R m c main_arg4) transposes_S2x4096x8x64_S2x8x64x4096_0_2_3_1 := by
  simp only [R_after]
  exact read_unary ops_writes 62 rfl (by decide +kernel) (by decide +kernel) _

theorem r_v48 : R m c main_v48 = Host.dotGeneral dot_S2x8x64x4096_S2x4096x8x64_S2x8x4096x4096_2_3_3_1_01_02 none (R m c main_v47) (R m c main_arg2) := by
  simp only [R_after]
  exact read_binary ops_writes 63 rfl (by decide +kernel) (by decide +kernel) (by decide +kernel) _

theorem r_v49 : R m c main_v49 = Host.dotGeneral dot_S2x8x64x4096_S2x8x4096x4096_S2x8x64x4096_3_2_2_3_01_01 none (R m c main_v47) (R m c main_v41) := by
  simp only [R_after]
  exact read_binary ops_writes 64 rfl (by decide +kernel) (by decide +kernel) (by decide +kernel) _

theorem r_v50 : R m c main_v50 = transpose S2x4096x8x64 [0, 3, 1, 2] (R m c main_v49) transposes_S2x8x64x4096_S2x4096x8x64_0_3_1_2 := by
  simp only [R_after]
  exact read_unary ops_writes 65 rfl (by decide +kernel) (by decide +kernel) _

theorem r_v51 : R m c main_v51 = broadcastInDim S2x8x4096x4096 ![0, 1, 2, 3] bcast_S2x8x4096x1_S2x8x4096x4096_0_1_2_3 (R m c main_v44) := by
  simp only [R_after]
  exact read_unary ops_writes 66 rfl (by decide +kernel) (by decide +kernel) _

theorem r_v52 : R m c main_v52 = mulf (R m c main_v48) (R m c main_v51) := by
  simp only [R_after]
  exact read_binary ops_writes 67 rfl (by decide +kernel) (by decide +kernel) (by decide +kernel) _

theorem r_v53 : R m c main_v53 = mulf (R m c main_v52) (R m c main_v37) := by
  simp only [R_after]
  exact read_binary ops_writes 68 rfl (by decide +kernel) (by decide +kernel) (by decide +kernel) _

theorem r_cst_12 : R m c main_cst_12 = constant (F := F) S_ .f32 0x00000000#32 := by
  simp only [R_after]
  exact read_nullary ops_writes 69 rfl (by decide +kernel) _

theorem r_v54 : R m c main_v54 = Host.reduceAdd (R m c main_v53) (R m c main_cst_12) reducesTo_S2x8x4096x4096_S2x8x4096_d3 h_S_ := by
  simp only [R_after]
  exact read_binary ops_writes 70 rfl (by decide +kernel) (by decide +kernel) (by decide +kernel) _

theorem r_v55 : R m c main_v55 = shapeCast _ (R m c main_v54) shapeCasts_S2x8x4096_S2x8x4096x1 := by
  simp only [R_after]
  exact read_reshape ops_writes 71 rfl (by decide +kernel) (by decide +kernel) _

theorem r_v56 : R m c main_v56 = Host.negf (R m c main_v55) := by
  simp only [R_after]
  exact read_unary ops_writes 72 rfl (by decide +kernel) (by decide +kernel) _

theorem r_v57 : R m c main_v57 = broadcastInDim S2x8x4096x4096 ![0, 1, 2, 3] bcast_S2x8x4096x1_S2x8x4096x4096_0_1_2_3 (R m c main_v39) := by
  simp only [R_after]
  exact read_unary ops_writes 73 rfl (by decide +kernel) (by decide +kernel) _

theorem r_v58 : R m c main_v58 = Host.divf (R m c main_v48) (R m c main_v57) := by
  simp only [R_after]
  exact read_binary ops_writes 74 rfl (by decide +kernel) (by decide +kernel) (by decide +kernel) _

theorem r_cst_13 : R m c main_cst_13 = constant (F := F) S_ .f32 0x00000000#32 := by
  simp only [R_after]
  exact read_nullary ops_writes 75 rfl (by decide +kernel) _

theorem r_v59 : R m c main_v59 = Host.reduceAdd (R m c main_v56) (R m c main_cst_13) reducesTo_S2x8x4096x1_S2x8x4096_d3 h_S_ := by
  simp only [R_after]
  exact read_binary ops_writes 76 rfl (by decide +kernel) (by decide +kernel) (by decide +kernel) _

theorem r_v60 : R m c main_v60 = broadcastInDim S2x8x4096x4096 ![0, 1, 2] bcast_S2x8x4096_S2x8x4096x4096_0_1_2 (R m c main_v59) := by
  simp only [R_after]
  exact read_unary ops_writes 77 rfl (by decide +kernel) (by decide +kernel) _

theorem r_v61 : R m c main_v61 = addf (R m c main_v58) (R m c main_v60) := by
  simp only [R_after]
  exact read_binary ops_writes 78 rfl (by decide +kernel) (by decide +kernel) (by decide +kernel) _

theorem r_v62 : R m c main_v62 = mulf (R m c main_v61) (R m c main_v37) := by
  simp only [R_after]
  exact read_binary ops_writes 79 rfl (by decide +kernel) (by decide +kernel) (by decide +kernel) _

theorem r_cst_14 : R m c main_cst_14 = constant (F := F) S_ .f32 0x00000000#32 := by
  simp only [R_after]
  exact read_nullary ops_writes 80 rfl (by decide +kernel) _

theorem r_v63 : R m c main_v63 = broadcastInDim S2x8x4096x4096 ![] bcast_S_S2x8x4096x4096 (R m c main_cst_14) := by
  simp only [R_after]
  exact read_unary ops_writes 81 rfl (by decide +kernel) (by decide +kernel) _

theorem r_v64 : R m c main_v64 = select (R m c main_v13) (R m c main_v62) (R m c main_v63) := by
  simp only [R_after]
  exact read_ternary ops_writes 82 rfl (by decide +kernel) (by decide +kernel) (by decide +kernel) (by decide +kernel) _

theorem r_cst_15 : R m c main_cst_15 = constant (F := F) S_ .f32 0x00000000#32 := by
  simp only [R_after]
  exact read_nullary ops_writes 83 rfl (by decide +kernel) _

theorem r_v65 : R m c main_v65 = Host.reduceAdd (R m c main_v64) (R m c main_cst_15) reducesTo_S2x8x4096x4096_S2x8x4096_d3 h_S_ := by
  simp only [R_after]
  exact read_binary ops_writes 84 rfl (by decide +kernel) (by decide +kernel) (by decide +kernel) _

theorem r_v66 : R m c main_v66 = shapeCast _ (R m c main_v65) shapeCasts_S2x8x4096_S2x8x4096x1 := by
  simp only [R_after]
  exact read_reshape ops_writes 85 rfl (by decide +kernel) (by decide +kernel) _

theorem r_v67 : R m c main_v67 = Host.negf (R m c main_v64) := by
  simp only [R_after]
  exact read_unary ops_writes 86 rfl (by decide +kernel) (by decide +kernel) _

theorem r_cst_16 : R m c main_cst_16 = constant (F := F) S_ .f32 0x00000000#32 := by
  simp only [R_after]
  exact read_nullary ops_writes 87 rfl (by decide +kernel) _

theorem r_v68 : R m c main_v68 = Host.reduceAdd (R m c main_v67) (R m c main_cst_16) reducesTo_S2x8x4096x4096_S2x8x4096_d2 h_S_ := by
  simp only [R_after]
  exact read_binary ops_writes 88 rfl (by decide +kernel) (by decide +kernel) (by decide +kernel) _

theorem r_v69 : R m c main_v69 = shapeCast _ (R m c main_v68) shapeCasts_S2x8x4096_S2x8x1x4096 := by
  simp only [R_after]
  exact read_reshape ops_writes 89 rfl (by decide +kernel) (by decide +kernel) _

theorem r_cst_17 : R m c main_cst_17 = constant (F := F) S_ .f32 0x00000000#32 := by
  simp only [R_after]
  exact read_nullary ops_writes 90 rfl (by decide +kernel) _

theorem r_v70 : R m c main_v70 = Host.reduceAdd (R m c main_v69) (R m c main_cst_17) reducesTo_S2x8x1x4096_S2x8x4096_d2 h_S_ := by
  simp only [R_after]
  exact read_binary ops_writes 91 rfl (by decide +kernel) (by decide +kernel) (by decide +kernel) _

theorem r_cst_18 : R m c main_cst_18 = constant (F := F) S_ .f32 0x00000000#32 := by
  simp only [R_after]
  exact read_nullary ops_writes 92 rfl (by decide +kernel) _

theorem r_v71 : R m c main_v71 = Host.reduceAdd (R m c main_v66) (R m c main_cst_18) reducesTo_S2x8x4096x1_S2x8x4096_d3 h_S_ := by
  simp only [R_after]
  exact read_binary ops_writes 93 rfl (by decide +kernel) (by decide +kernel) (by decide +kernel) _

theorem r_v72 : R m c main_v72 = addf (R m c main_v70) (R m c main_v71) := by
  simp only [R_after]
  exact read_binary ops_writes 94 rfl (by decide +kernel) (by decide +kernel) (by decide +kernel) _

theorem r_v73 : R m c main_v73 = transpose S2x4096x8 [0, 2, 1] (R m c main_v72) transposes_S2x8x4096_S2x4096x8_0_2_1 := by
  simp only [R_after]
  exact read_unary ops_writes 95 rfl (by decide +kernel) (by decide +kernel) _

theorem r_cst_19 : R m c main_cst_19 = constant (F := F) S_ .f32 0x3E000000#32 := by
  simp only [R_after]
  exact read_nullary ops_writes 96 rfl (by decide +kernel) _

theorem r_v74 : R m c main_v74 = broadcastInDim S2x8x4096x4096 ![] bcast_S_S2x8x4096x4096 (R m c main_cst_19) := by
  simp only [R_after]
  exact read_unary ops_writes 97 rfl (by decide +kernel) (by decide +kernel) _

theorem r_v75 : R m c main_v75 = mulf (R m c main_v64) (R m c main_v74) := by
  simp only [R_after]
  exact read_binary ops_writes 98 rfl (by decide +kernel) (by decide +kernel) (by decide +kernel) _

theorem r_v76 : R m c main_v76 = Host.dotGeneral dot_S2x8x4096x4096_S2x4096x8x64_S2x8x4096x64_2_1_3_3_01_02 none (R m c main_v75) (R m c main_arg0) := by
  simp only [R_after]
  exact read_binary ops_writes 99 rfl (by decide +kernel) (by decide +kernel) (by decide +kernel) _

theorem r_v77 : R m c main_v77 = transpose S2x4096x8x64 [0, 2, 1, 3] (R m c main_v76) transposes_S2x8x4096x64_S2x4096x8x64_0_2_1_3 := by
  simp only [R_after]
  exact read_unary ops_writes 100 rfl (by decide +kernel) (by decide +kernel) _

theorem r_v78 : R m c main_v78 = Host.dotGeneral dot_S2x8x4096x4096_S2x4096x8x64_S2x8x4096x64_3_1_2_3_01_02 none (R m c main_v75) (R m c main_arg1) := by
  simp only [R_after]
  exact read_binary ops_writes 101 rfl (by decide +kernel) (by decide +kernel) (by decide +kernel) _

theorem r_v79 : R m c main_v79 = transpose S2x4096x8x64 [0, 2, 1, 3] (R m c main_v78) transposes_S2x8x4096x64_S2x4096x8x64_0_2_1_3 := by
  simp only [R_after]
  exact read_unary ops_writes 102 rfl (by decide +kernel) (by decide +kernel) _

theorem r_call1_call0_cst : R m c main_call1_call0_cst = constant (F := F) S_ .f32 0x00000000#32 := by
  simp only [R_after]
  exact read_nullary ops_writes 103 rfl (by decide +kernel) _

theorem r_call1_call0_v0 : R m c main_call1_call0_v0 = broadcastInDim S_ ![] bcast_S_S_ (R m c main_call1_call0_cst) := by
  simp only [R_after]
  exact read_unary ops_writes 104 rfl (by decide +kernel) (by decide +kernel) _

theorem r_v80 : R m c main_v80 = Host.reduceWindowAdd ![1, 4096, 1] ![1, 1, 1] ![0, 0, 0] ![0, 4095, 0] (R m c main_v73) (R m c main_call1_call0_v0) reduceWindows_S2x4096x8_S2x4096x8_w1s1p0_0_w4096s1p0_4095_w1s1p0_0 h_S_ := by
  simp only [R_after]
  exact read_binary ops_writes 105 rfl (by decide +kernel) (by decide +kernel) (by decide +kernel) _

theorem r_arg0 : R m c main_arg0 = m ((c.tc : Thread nD τ).loc main_arg0) := by
  rw [R_after]
  exact read_arg ops_writes (by decide +kernel) _

theorem r_arg1 : R m c main_arg1 = m ((c.tc : Thread nD τ).loc main_arg1) := by
  rw [R_after]
  exact read_arg ops_writes (by decide +kernel) _

theorem r_arg2 : R m c main_arg2 = m ((c.tc : Thread nD τ).loc main_arg2) := by
  rw [R_after]
  exact read_arg ops_writes (by decide +kernel) _

theorem r_arg3 : R m c main_arg3 = m ((c.tc : Thread nD τ).loc main_arg3) := by
  rw [R_after]
  exact read_arg ops_writes (by decide +kernel) _

theorem r_arg4 : R m c main_arg4 = m ((c.tc : Thread nD τ).loc main_arg4) := by
  rw [R_after]
  exact read_arg ops_writes (by decide +kernel) _

end Cert.ReferenceIdeal.Fox

end
-- ==== Proof.RHost.lean ====
/- The reference's host operations read at an index, on real arguments: the same gradients of each head. -/
module

public import proofs.«01_k».proof.Proof.RLine
public import proofs.«01_k».proof.Proof.Heads

@[expose] public section

set_option maxRecDepth 16384

noncomputable section

namespace Cert.ReferenceIdeal.Fox

open Idealize.ShloMosaic Idealize.ShloMosaic.TcCoe Cert.FoxMath
open Cert.ReferenceIdeal.Gen

variable (m : (ℓ : Loc nD τ sig) → Buf (Elt Ideal) ℓ) (c : Dev nD)

abbrev a0 : A4 := m ((c.tc : Thread nD τ).loc main_arg0)
abbrev a1 : A4 := m ((c.tc : Thread nD τ).loc main_arg1)
abbrev a2 : A4 := m ((c.tc : Thread nD τ).loc main_arg2)
abbrev a3 : A3 := m ((c.tc : Thread nD τ).loc main_arg3)
abbrev a4 : A4 := m ((c.tc : Thread nD τ).loc main_arg4)

/-- The arguments of device `c` are real. -/
structure Real : Prop where
  r0 : AllReal (a0 m c)
  r1 : AllReal (a1 m c)
  r2 : AllReal (a2 m c)
  r3 : AllReal (a3 m c)
  r4 : AllReal (a4 m c)

/-- The running sum of the log decay. -/
abbrev rC : A3 := R m c main_v0

/-- Head `h` of batch `b`. -/
abbrev rH (b : Fin 2) (h : Fin 8) : Hd 4096 := hdOf (a0 m c) (a1 m c) (a2 m c) (a4 m c) (rC m c) b h

variable {m c} (hr : Real m c)
include hr

theorem real_c : AllReal (rC m c) := by
  unfold rC
  rw [r_v0, r_arg3, r_call0_call0_v0, r_call0_call0_cst]
  refine allReal_cumsum _ _ hr.r3 fun i => ⟨0, ?_⟩
  pointwise
  simp

variable (b : Fin 2) (h : Fin 8)

theorem q_at (i : Fin 4096) (a : Fin 64) : a0 m c (ix4 b i h a) = (((rH m c b h).q i a : ℝ) : EReal) := hr.r0.coe _
theorem k_at (i : Fin 4096) (a : Fin 64) : a1 m c (ix4 b i h a) = (((rH m c b h).k i a : ℝ) : EReal) := hr.r1.coe _
theorem v_at (i : Fin 4096) (a : Fin 64) : a2 m c (ix4 b i h a) = (((rH m c b h).v i a : ℝ) : EReal) := hr.r2.coe _
theorem d_at (i : Fin 4096) (a : Fin 64) : a4 m c (ix4 b i h a) = (((rH m c b h).d i a : ℝ) : EReal) := hr.r4.coe _
theorem c_at (i : Fin 4096) : (R m c main_v0 : S2x4096x8.Idx → EReal) (ix3 b i h) = (((rH m c b h).c i : ℝ) : EReal) := (real_c hr).coe _

theorem logit_at (i j : Fin 4096) :
    (R m c main_v15 : S2x8x4096x4096.Idx → EReal) (ix4 b h i j) = if j.val ≤ i.val then (((rH m c b h).s i j : ℝ) : EReal) else ⊥ := by
  rw [r_v15, r_v14, r_cst_0, r_v13, r_v12, r_v11, r_v10, r_v9, r_v8, r_v7, r_v6, r_v5, r_v4, r_v3, r_v2, r_cst, r_v1, r_arg0, r_arg1]
  pointwise
  rw [causal, eighth, neg_inf]
  split
  · rename_i hm
    simp only [q_at hr, k_at hr, c_at hr]
    rw [coe_sum_mul, ← EReal.coe_mul, ← EReal.coe_sub, ← EReal.coe_add]
    rfl
  · rfl

/-- The rows' maxima. -/
def rμ (m : (ℓ : Loc nD τ sig) → Buf (Elt Ideal) ℓ) (c : Dev nD) (b : Fin 2) (h : Fin 8) (i : Fin 4096) : ℝ :=
  ((R m c main_v17 : S2x8x4096.Idx → EReal) (ix3 b h i)).toReal

theorem max_at (i : Fin 4096) : (R m c main_v17 : S2x8x4096.Idx → EReal) (ix3 b h i) = ((rμ m c b h i : ℝ) : EReal) := by
  have hx : ∃ r : ℝ, (R m c main_v17 : S2x8x4096.Idx → EReal) (ix3 b h i) = (r : EReal) := by
    rw [r_v17, r_cst_2]
    refine max_row _ _ ?_ b h i (fun j => ?_) ?_
    · pointwise
      exact neg_inf
    · rw [logit_at hr]; split
      · exact EReal.coe_ne_top _
      · exact bot_ne_top
    · rw [logit_at hr, if_pos le_rfl]
      exact EReal.coe_ne_bot _
  obtain ⟨r, hx⟩ := hx
  unfold rμ
  rw [hx, EReal.toReal_coe]

theorem shift_at (i : Fin 4096) : (R m c main_v24 : S2x8x4096.Idx → EReal) (ix3 b h i) = ((rμ m c b h i : ℝ) : EReal) := by
  rw [r_v24, r_v23, r_cst_4]
  pointwise
  rw [max_at hr, neg_inf]
  exact max_eq_right (bot_le : (⊥ : EReal) ≤ _)

theorem e_at (i j : Fin 4096) :
    (R m c main_v37 : S2x8x4096x4096.Idx → EReal) (ix4 b h i j) = (((rH m c b h).e (rμ m c b h) i j : ℝ) : EReal) := by
  rw [r_v37, r_v36, r_v35, r_v34]
  pointwise
  rw [logit_at hr, shift_at hr, Hd.e]
  split
  · rw [← EReal.coe_sub, Ideal.exp_coe]
  · rw [EReal.bot_sub, Ideal.exp_bot, EReal.coe_zero]

/-- The sum of a row. -/
abbrev rL (m : (ℓ : Loc nD τ sig) → Buf (Elt Ideal) ℓ) (c : Dev nD) (b : Fin 2) (h : Fin 8) (i : Fin 4096) : ℝ :=
  ∑ j, (rH m c b h).e (rμ m c b h) i j

omit hr in
theorem rL_pos (i : Fin 4096) : 0 < rL m c b h i := (rH m c b h).sum_e_pos _ i

theorem sum_at (i : Fin 4096) (z : Fin 1) :
    (R m c main_v39 : S2x8x4096x1.Idx → EReal) (ix4 b h i z) = ((rL m c b h i : ℝ) : EReal) := by
  rw [r_v39, r_v38, r_cst_10]
  pointwise
  simp only [e_at hr, coe_sum, zero_add]

theorem p_at (i j : Fin 4096) :
    (R m c main_v41 : S2x8x4096x4096.Idx → EReal) (ix4 b h i j) = (((rH m c b h).p i j : ℝ) : EReal) := by
  rw [r_v41, r_v40]
  pointwise
  rw [e_at hr, sum_at hr, coe_div (rL_pos b h i).ne', Hd.e_div]

theorem inv_at (i : Fin 4096) (z : Fin 1) :
    (R m c main_v44 : S2x8x4096x1.Idx → EReal) (ix4 b h i z) = ((1 / (rL m c b h i * rL m c b h i) : ℝ) : EReal) := by
  rw [r_v44, r_v43, r_cst_11, r_v42]
  pointwise
  rw [sum_at hr, ← EReal.coe_mul, ← EReal.coe_one, coe_div (mul_pos (rL_pos b h i) (rL_pos b h i)).ne']

theorem d_tr (i : Fin 4096) (a : Fin 64) :
    (R m c main_v47 : S2x8x64x4096.Idx → EReal) (ix4 b h a i) = (((rH m c b h).d i a : ℝ) : EReal) := by
  rw [r_v47, r_arg4]
  pointwise
  exact d_at hr b h i a

theorem w_at (i j : Fin 4096) :
    (R m c main_v48 : S2x8x4096x4096.Idx → EReal) (ix4 b h i j) = (((rH m c b h).w i j : ℝ) : EReal) := by
  rw [r_v48, r_arg2]
  pointwise
  simp only [d_tr hr, v_at hr]
  rw [coe_sum_mul]; rfl

theorem dv_out (j : Fin 4096) (a : Fin 64) :
    (R m c main_v50 : S2x4096x8x64.Idx → EReal) (ix4 b j h a) = (((rH m c b h).dv j a : ℝ) : EReal) := by
  rw [r_v50, r_v49]
  pointwise
  simp only [d_tr hr, p_at hr]
  rw [coe_sum_mul]; rfl

theorem term_at (i j : Fin 4096) :
    (R m c main_v53 : S2x8x4096x4096.Idx → EReal) (ix4 b h i j)
      = (((rH m c b h).w i j * (1 / (rL m c b h i * rL m c b h i)) * (rH m c b h).e (rμ m c b h) i j : ℝ) : EReal) := by
  rw [r_v53, r_v52, r_v51]
  pointwise
  rw [w_at hr, inv_at hr, e_at hr, ← EReal.coe_mul, ← EReal.coe_mul]

theorem terms_at (i : Fin 4096) (z : Fin 1) :
    (R m c main_v56 : S2x8x4096x1.Idx → EReal) (ix4 b h i z)
      = ((-(∑ j, (rH m c b h).w i j * (1 / (rL m c b h i * rL m c b h i)) * (rH m c b h).e (rμ m c b h) i j) : ℝ) : EReal) := by
  rw [r_v56, r_v55, r_v54, r_cst_12, Subsingleton.elim z 0]
  pointwise
  simp only [term_at hr, coe_sum, zero_add]
  rw [← EReal.coe_neg]

theorem ds_open (i j : Fin 4096) :
    (R m c main_v62 : S2x8x4096x4096.Idx → EReal) (ix4 b h i j) = (((rH m c b h).ds i j : ℝ) : EReal) := by
  rw [r_v62, r_v61, r_v60, r_v59, r_cst_13, r_v58, r_v57]
  pointwise
  simp only [terms_at hr, w_at hr, sum_at hr, e_at hr]
  rw [coe_div (rL_pos b h i).ne', ← (rH m c b h).ds_quotient (rμ m c b h) i j]
  simp only [Finset.univ_unique, Finset.sum_singleton, zero_add]
  rw [← EReal.coe_add, ← EReal.coe_mul]

theorem ds_at (i j : Fin 4096) :
    (R m c main_v64 : S2x8x4096x4096.Idx → EReal) (ix4 b h i j) = (((rH m c b h).ds i j : ℝ) : EReal) := by
  rw [r_v64, r_v63, r_cst_14, r_v13, r_v12, r_v11]
  pointwise
  rw [causal, ds_open hr]
  split
  · rfl
  · rename_i hm
    rw [Hd.ds_masked _ hm, EReal.coe_zero]

theorem ds_scaled (i j : Fin 4096) :
    (R m c main_v75 : S2x8x4096x4096.Idx → EReal) (ix4 b h i j) = (((rH m c b h).ds i j * 0.125 : ℝ) : EReal) := by
  rw [r_v75, r_v74, r_cst_19]
  pointwise
  rw [ds_at hr, eighth, ← EReal.coe_mul]

theorem dk_out (j : Fin 4096) (a : Fin 64) :
    (R m c main_v77 : S2x4096x8x64.Idx → EReal) (ix4 b j h a) = (((rH m c b h).dk j a : ℝ) : EReal) := by
  rw [r_v77, r_v76, r_arg0]
  pointwise
  simp only [ds_scaled hr, q_at hr]
  rw [coe_sum_mul]; rfl

theorem dq_out (i : Fin 4096) (a : Fin 64) :
    (R m c main_v79 : S2x4096x8x64.Idx → EReal) (ix4 b i h a) = (((rH m c b h).dq i a : ℝ) : EReal) := by
  rw [r_v79, r_v78, r_arg1]
  pointwise
  simp only [ds_scaled hr, k_at hr]
  rw [coe_sum_mul]; rfl

theorem row_at (i : Fin 4096) (z : Fin 1) :
    (R m c main_v66 : S2x8x4096x1.Idx → EReal) (ix4 b h i z) = ((∑ j, (rH m c b h).ds i j : ℝ) : EReal) := by
  rw [r_v66, r_v65, r_cst_15, Subsingleton.elim z 0]
  pointwise
  simp only [ds_at hr, coe_sum, zero_add]

theorem neg_at (i j : Fin 4096) :
    (R m c main_v67 : S2x8x4096x4096.Idx → EReal) (ix4 b h i j) = ((-(rH m c b h).ds i j : ℝ) : EReal) := by
  rw [r_v67]
  pointwise
  rw [ds_at hr, ← EReal.coe_neg]

theorem colsum_at (j : Fin 4096) :
    (R m c main_v68 : S2x8x4096.Idx → EReal) (ix3 b h j) = ((-(∑ i, (rH m c b h).ds i j) : ℝ) : EReal) := by
  rw [r_v68, r_cst_16]
  pointwise
  simp only [neg_at hr]
  rw [coe_sum, Finset.sum_neg_distrib]

theorem col_at (j : Fin 4096) (z : Fin 1) :
    (R m c main_v69 : S2x8x1x4096.Idx → EReal) (ix4 b h z j) = ((-(∑ i, (rH m c b h).ds i j) : ℝ) : EReal) := by
  rw [r_v69]
  refine (shapeCast_apply (s := S2x8x4096) (t := S2x8x1x4096) _ _ (ix4 b h z j) (ix3 b h j) ?_).trans (colsum_at hr b h j)
  rw [Shape.rowMajor_val_three, Shape.rowMajor_val_four]
  have hz : z.val = 0 := by omega
  show (b.val * 8 + h.val) * 4096 + j.val = ((b.val * 8 + h.val) * 1 + z.val) * 4096 + j.val
  rw [hz]
  omega

theorem dc_out (i : Fin 4096) :
    (R m c main_v73 : S2x4096x8.Idx → EReal) (ix3 b i h) = (((rH m c b h).dc i : ℝ) : EReal) := by
  rw [r_v73, r_v72, r_v71, r_cst_18, r_v70, r_cst_17]
  pointwise
  simp only [row_at hr, col_at hr, Finset.univ_unique, Finset.sum_singleton, zero_add]
  rw [← EReal.coe_add, Hd.dc]
  exact congrArg _ (by ring)

end Cert.ReferenceIdeal.Fox

end
-- ==== Proof.Value.lean ====
/- The two programs end with equal results: both compute the gradients of each head, and the running sum of the decay's
   cotangents by one operation. -/
module

public import proofs.«01_k».proof.Defs
public import proofs.«01_k».proof.Proof.KOut
public import proofs.«01_k».proof.Proof.RHost
public import Idealize.ShloMosaic.Lib.ReduceAll

@[expose] public section

set_option maxRecDepth 16384

noncomputable section

namespace Cert.FoxValue

open Idealize.ShloMosaic Idealize.ShloMosaic.TcCoe Idealize.SL.Sem Cert.FoxMath

/-! ## The precondition -/

theorem facts_pre : Cert.Pre_finite.Facts := ⟨by decide, by decide, by decide, by decide, by decide⟩

theorem inf_top : Ideal.ofBits FTy.f32 0x7F800000#32 = (⊤ : EReal) := by
  simp [Ideal.ofBits, Ideal.ieee]

/-- An array whose every magnitude is below infinity is real. -/
theorem real_of_below {s : Shape} {axes : List (Fin s.rank)} (x : FVec Ideal s .f32)
    (hb : (⟨0, ![]⟩ : Shape).BroadcastsInDim s (![] : Fin 0 → Fin s.rank)) (hs : s.ReducesTo axes ⟨0, ![]⟩)
    (hu : 0 < (⟨0, ![]⟩ : Shape).numel) (init : IVec ⟨0, ![]⟩ 1)
    (e : Host.reduce IntOp.andi (cmpf .olt (Host.absf x) (broadcastInDim s ![] hb (constant (F := Ideal) ⟨0, ![]⟩ .f32 0x7F800000#32)))
      init hs hu ix0 = 1#1) : AllReal (x : s.Idx → EReal) := fun i => by
  haveI : Subsingleton (⟨0, ![]⟩ : Shape).Idx := ⟨fun a b => funext fun k => k.elim0⟩
  have h1 := Host.reduce_andi_all _ _ _ _ _ e i
  have h2 : Ideal.cmp .olt (max (x i : EReal) (-(x i : EReal))) (Ideal.ofBits .f32 0x7F800000#32) = 1#1 := h1
  rw [inf_top] at h2
  have h3 : max (x i : EReal) (-(x i : EReal)) < ⊤ := (Ideal.cmp_olt_eq_one _ _).1 h2
  rw [max_lt_iff] at h3
  refine exists_coe (fun h => ?_) h3.1.ne
  rw [h] at h3
  simp at h3

section
variable [hp : Cert.Pre_finite.Facts]

theorem real_of_pre (m : (ℓ : Loc Cert.KernelIdeal.nD Cert.KernelIdeal.τ Cert.KernelIdeal.sig) → Buf (Elt Ideal) ℓ)
    (h : Cert.Pre_KernelIdeal_finite m) (c : Dev Cert.KernelIdeal.nD) : Cert.KernelIdeal.Fox.Real m c := by
  have e := congrFun (h c) ix0
  unfold Cert.Pre_finite.fn Cert.Pre_finite.fn_part1 at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_below _ _ _ _ _ e0, real_of_below _ _ _ _ _ e1, real_of_below _ _ _ _ _ e2, real_of_below _ _ _ _ _ e3,
    real_of_below _ _ _ _ _ e4⟩
end

/-! ## The results -/

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}
  {c : Dev Cert.KernelIdeal.nD}

/-- The two memories hold the same arguments. -/
structure Same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) : Prop where
  s0 : Cert.ReferenceIdeal.Fox.a0 m' c = Cert.KernelIdeal.Fox.a0 m c
  s1 : Cert.ReferenceIdeal.Fox.a1 m' c = Cert.KernelIdeal.Fox.a1 m c
  s2 : Cert.ReferenceIdeal.Fox.a2 m' c = Cert.KernelIdeal.Fox.a2 m c
  s3 : Cert.ReferenceIdeal.Fox.a3 m' c = Cert.KernelIdeal.Fox.a3 m c
  s4 : Cert.ReferenceIdeal.Fox.a4 m' c = Cert.KernelIdeal.Fox.a4 m c

variable (hs : Same m m' c) (hr : Cert.KernelIdeal.Fox.Real m c)
include hs

theorem same_real (hr : Cert.KernelIdeal.Fox.Real m c) : Cert.ReferenceIdeal.Fox.Real m' c :=
  ⟨hs.s0 ▸ hr.r0, hs.s1 ▸ hr.r1, hs.s2 ▸ hr.r2, hs.s3 ▸ hr.r3, hs.s4 ▸ hr.r4⟩

/-- The running sum is one operation of one argument. -/
theorem same_c : Cert.ReferenceIdeal.Fox.rC m' c = Cert.KernelIdeal.Fox.kC m c := by
  have h := hs.s3
  unfold Cert.ReferenceIdeal.Fox.rC Cert.KernelIdeal.Fox.kC
  rw [Cert.ReferenceIdeal.Fox.r_v0, Cert.ReferenceIdeal.Fox.r_arg3, Cert.ReferenceIdeal.Fox.r_call0_call0_v0,
    Cert.ReferenceIdeal.Fox.r_call0_call0_cst, Cert.KernelIdeal.Fox.k_v2, Cert.KernelIdeal.Fox.k_arg3,
    Cert.KernelIdeal.Fox.k_call0_call0_v0, Cert.KernelIdeal.Fox.k_call0_call0_cst]
  exact congrArg (fun x => Host.reduceWindowAdd (F := Ideal) (φ := .f32) (s := ⟨3, ![2, 4096, 8]⟩) (t := ⟨3, ![2, 4096, 8]⟩)
    (u := ⟨0, ![]⟩) ![1, 4096, 1] ![1, 1, 1] ![0, 4095, 0] ![0, 0, 0] x _ _ _) h

theorem same_h (b : Fin 2) (h : Fin 8) : Cert.ReferenceIdeal.Fox.rH m' c b h = Cert.KernelIdeal.Fox.kH m c b h := by
  unfold Cert.ReferenceIdeal.Fox.rH Cert.KernelIdeal.Fox.kH
  rw [hs.s0, hs.s1, hs.s2, hs.s4, same_c hs]

omit hs in
theorem idx4 (y : (⟨4, ![2, 4096, 8, 64]⟩ : Shape).Idx) :
    ∃ (b : Fin 2) (i : Fin 4096) (h : Fin 8) (a : Fin 64), y = ix4 b i h a :=
  ⟨y 0, y 1, y 2, y 3, funext fun k => match k with | ⟨0, _⟩ => rfl | ⟨1, _⟩ => rfl | ⟨2, _⟩ => rfl | ⟨3, _⟩ => rfl⟩

omit hs in
theorem idx3 (y : (⟨3, ![2, 4096, 8]⟩ : Shape).Idx) : ∃ (b : Fin 2) (i : Fin 4096) (h : Fin 8), y = ix3 b i h :=
  ⟨y 0, y 1, y 2, funext fun k => match k with | ⟨0, _⟩ => rfl | ⟨1, _⟩ => rfl | ⟨2, _⟩ => rfl⟩

include hr

theorem same_dq : (Cert.ReferenceIdeal.Fox.R m' c Cert.ReferenceIdeal.main_v79 : A4)
    = (Cert.KernelIdeal.Fox.T m c Cert.KernelIdeal.main_v110 : A4) := by
  funext y
  obtain ⟨b, i, h, a, rfl⟩ := idx4 y
  refine (Cert.ReferenceIdeal.Fox.dq_out (same_real hs hr) b h i a).trans (Eq.trans ?_ (Cert.KernelIdeal.Fox.dq_out hr b h i a).symm)
  rw [same_h hs]

theorem same_dk : (Cert.ReferenceIdeal.Fox.R m' c Cert.ReferenceIdeal.main_v77 : A4)
    = (Cert.KernelIdeal.Fox.T m c Cert.KernelIdeal.main_v114 : A4) := by
  funext y
  obtain ⟨b, i, h, a, rfl⟩ := idx4 y
  refine (Cert.ReferenceIdeal.Fox.dk_out (same_real hs hr) b h i a).trans (Eq.trans ?_ (Cert.KernelIdeal.Fox.dk_out hr b h i a).symm)
  rw [same_h hs]

theorem same_dv : (Cert.ReferenceIdeal.Fox.R m' c Cert.ReferenceIdeal.main_v50 : A4)
    = (Cert.KernelIdeal.Fox.T m c Cert.KernelIdeal.main_v115 : A4) := by
  funext y
  obtain ⟨b, i, h, a, rfl⟩ := idx4 y
  refine (Cert.ReferenceIdeal.Fox.dv_out (same_real hs hr) b h i a).trans (Eq.trans ?_ (Cert.KernelIdeal.Fox.dv_out hr b h i a).symm)
  rw [same_h hs]

theorem same_dc : (Cert.ReferenceIdeal.Fox.R m' c Cert.ReferenceIdeal.main_v73 : A3)
    = (Cert.KernelIdeal.Fox.T m c Cert.KernelIdeal.main_v107 : A3) := by
  funext y
  obtain ⟨b, i, h, rfl⟩ := idx3 y
  refine (Cert.ReferenceIdeal.Fox.dc_out (same_real hs hr) b h i).trans (Eq.trans ?_ (Cert.KernelIdeal.Fox.dc_out hr b h i).symm)
  rw [same_h hs]

theorem same_df : (Cert.ReferenceIdeal.Fox.R m' c Cert.ReferenceIdeal.main_v80 : A3)
    = (Cert.KernelIdeal.Fox.T m c Cert.KernelIdeal.main_v116 : A3) := by
  have h := same_dc hs hr
  rw [Cert.ReferenceIdeal.Fox.r_v80, Cert.ReferenceIdeal.Fox.r_call1_call0_v0, Cert.ReferenceIdeal.Fox.r_call1_call0_cst,
    Cert.KernelIdeal.Fox.t_v116, Cert.KernelIdeal.Fox.t_call1_v0, Cert.KernelIdeal.Fox.t_call1_cst]
  exact congrArg (fun x => Host.reduceWindowAdd (F := Ideal) (φ := .f32) (s := ⟨3, ![2, 4096, 8]⟩) (t := ⟨3, ![2, 4096, 8]⟩)
    (u := ⟨0, ![]⟩) ![1, 4096, 1] ![1, 1, 1] ![0, 0, 0] ![0, 4095, 0] x _ _ _) h

end Cert.FoxValue

end
-- ==== Proof.WDown.lean ====
/- The weight gradient of the second feed-forward product: each element of the call's result is the sum over the tokens,
   and so is the reference's. -/
module

public import proofs.«01_k».proof.Proof.Gen.Kernel2Ideal.Frame
public import proofs.«01_k».proof.Proof.Gen.Reference2Ideal.Run
public import proofs.«01_k».proof.Defs
public import proofs.«01_k».proof.Proof.Line
public import Idealize.ShloMosaic.Lib.Pipeline.ValueKit
public import Idealize.ShloMosaic.Lib.Pointwise

@[expose] public section

set_option maxRecDepth 16384

noncomputable section

namespace Cert.Kernel2Ideal.WDown

open Idealize.ShloMosaic Idealize.ShloMosaic.TcCoe Idealize.SL.Sem Idealize.ShloMosaic.StableHlo Cert.Line
open Cert.Kernel2Ideal Cert.Kernel2Ideal.Gen
open Idealize.ShloMosaic.Pipeline (Dat Cfg Window)

/-- The product of two matrices of token rows, contracted over the tokens. -/
def prodT (A : S8192x4096.Idx → EReal) (B : S8192x1024.Idx → EReal) : S4096x1024.Idx → EReal :=
  fun y => ∑ t : Fin 8192, A (ix2 t (y 0)) * B (ix2 t (y 1))

theorem pay_apply (x0 : Vec Ideal S8192x512 .bf16) (x1 : Vec Ideal S8192x1024 .bf16) (f : Fin 512) (d : Fin 1024) :
    k0_pay3 (F := Ideal) (k0_pay2 (k0_pay1 (F := Ideal)) x0 x1) (ix2 f d) = ∑ t : Fin 8192, x0 (ix2 t f) * x1 (ix2 t d) := by
  pointwise [k0_pay3, k0_pay2, k0_pay1]

theorem index_0 : ∀ t : Fin cfg0.N, win0_0.index t 0 = 0 ∧ win0_0.index t 1 = t.val := by decide +kernel
theorem index_1 : ∀ t : Fin cfg0.N, win0_1.index t 0 = 0 ∧ win0_1.index t 1 = 0 := by decide +kernel
theorem index_2 : ∀ t : Fin cfg0.N, win0_2.index t 0 = t.val ∧ win0_2.index t 1 = 0 := by decide +kernel

variable (m : (ℓ : Loc nD τ sig) → Buf (Elt Ideal) ℓ) (c : Dev nD)

theorem V_v0 : (V m c main_v0 : S8192x4096.Idx → EReal) = m ((c.tc : Thread nD τ).loc main_arg0) :=
  read_unary (τ := τ) (Val := Elt Ideal) (ops := hostOps0) (W := [main_v0, main_v1]) rfl 0 rfl (by decide) (by decide) _
theorem V_v1 : (V m c main_v1 : S8192x1024.Idx → EReal) = m ((c.tc : Thread nD τ).loc main_arg2) := by
  refine (read_unary (τ := τ) (Val := Elt Ideal) (ops := hostOps0) (W := [main_v0, main_v1]) rfl 1 rfl (by decide) (by decide) _).trans ?_
  exact read_arg (τ := τ) (Val := Elt Ideal) (ops := hostOps0) (W := [main_v0, main_v1]) (r := main_arg2) rfl (by decide) _

theorem arr_2 : ((dats (F := Ideal) m 0 c).arrAt 2 cfg0.N : S4096x1024.Idx → EReal) = prodT (V m c main_v0) (V m c main_v1) := by
  refine (dats m 0 c).arrAt_eq_of_covers 2 _ (by decide +kernel) fun t hf y => ?_
  have e0 := index_0 t
  have e1 := index_1 t
  have e2 := index_2 t
  blk_simp
  rw [after0_2]
  obtain ⟨f, d, rfl⟩ : ∃ (f : Fin 512) (d : Fin 1024), y = (ix2 f d : S512x1024.Idx) := ⟨y 0, y 1, funext fun a => match a with | ⟨0, _⟩ => rfl | ⟨1, _⟩ => rfl⟩
  unfold outsAt0
  frame_out
  rw [pay_apply]
  unfold prodT
  refine Fin.sum_fin_congr fun k => ?_
  blk_simp [iblk]
  refine congrArg₂ (· * ·) (congrArg (V m c main_v0) (funext fun a => Fin.ext ?_)) (congrArg (V m c main_v1) (funext fun a => Fin.ext ?_))
  · match a with
    | ⟨0, _⟩ =>
      show win0_0.index t 0 * 8192 + 1 * k.val = k.val
      rw [e0.1]; omega
    | ⟨1, _⟩ =>
      show win0_0.index t 1 * 512 + 1 * f.val = win0_2.index t 0 * 512 + 1 * f.val
      rw [e0.2, e2.1]
  · match a with
    | ⟨0, _⟩ =>
      show win0_1.index t 0 * 8192 + 1 * k.val = k.val
      rw [e1.1]; omega
    | ⟨1, _⟩ =>
      show win0_1.index t 1 * 1024 + 1 * d.val = win0_2.index t 1 * 1024 + 1 * d.val
      rw [e1.2, e2.2]

/-- What the call's program leaves in its result. -/
theorem tail_v3 : (Pipeline.afterTail₀ cfgs (dats (F := Ideal) m) 0 (V0 m) [hostOps1] c main_v3 : S4096x1024.Idx → EReal)
    = prodT (m ((c.tc : Thread nD τ).loc main_arg0)) (m ((c.tc : Thread nD τ).loc main_arg2)) := by
  refine (read_unary (τ := τ) (Val := Elt Ideal) (ops := hostOps1) (W := [main_v3]) rfl 0 rfl (by decide) (by decide) _).trans ?_
  refine Eq.trans (read_arg (τ := τ) (Val := Elt Ideal) (ops := hostOps1) (W := [main_v3]) (r := main_v2) rfl (by decide) _) ?_
  refine (Pipeline.withArrays_arr spec0 launch0.win.arr_inj c (V0 m c) _ 2).trans ((arr_2 m c).trans ?_)
  rw [V_v0, V_v1]

/-- The reference's term. -/
theorem ref_term (A : S8192x4096.Idx → EReal) (B : S8192x1024.Idx → EReal) :
    (transpose Cert.Reference2Ideal.S4096x1024 [1, 0] (Host.dotGeneral (F := Ideal) (φ₁ := .f32) (φ₂ := .f32) Cert.Reference2Ideal.dot_S8192x1024_S8192x4096_S1024x4096_0_0_1_1_n_n none B A) Cert.Reference2Ideal.Gen.facts.transposes_S1024x4096_S4096x1024_1_0 : S4096x1024.Idx → EReal) = prodT A B := by
  funext y
  obtain ⟨f, d, rfl⟩ : ∃ (f : Fin 4096) (d : Fin 1024), y = (ix2 f d : S4096x1024.Idx) := ⟨y 0, y 1, funext fun a => match a with | ⟨0, _⟩ => rfl | ⟨1, _⟩ => rfl⟩
  pointwise
  exact Finset.sum_congr rfl fun k _ => mul_comm _ _

/-- The reference ends with its arguments as given and every counter at zero. -/
theorem ref_quiescent : Cert.quiescent_Reference2Ideal := fun m g _ =>
  (θ_run Cert.Reference2Ideal.defs _ _).mono (fun r h => ⟨fun c => (h c).2, sem_eq_zero_of_no_sems (by decide) r.2⟩)
    (Cert.Reference2Ideal.Value.run m g)

/-- Both programs end with the weight gradient. -/
theorem equal_results : Cert.algebraic_Kernel2Ideal_Reference2Ideal := by
  intro m g m' g' _ hs
  refine ⟨fun c => prodT (m ((c.tc : Thread nD τ).loc main_arg0)) (m ((c.tc : Thread nD τ).loc main_arg2)), ?_, ?_⟩
  · refine (θ_run defs _ _).mono (fun r h c => ?_) (Gen.run_main m g)
    have hb := fun b h1 h2 => (h c).2 b (Pipeline.mem_restRefs_of b h1 h2)
    exact ⟨(hb main_v3 (by decide) (by decide)).trans (tail_v3 m c),
      (hb main_arg0 (by decide) (by decide)).trans (Gen.W_main_arg0 m (dats m) c),
      (hb main_arg1 (by decide) (by decide)).trans (Gen.W_main_arg1 m (dats m) c),
      (hb main_arg2 (by decide) (by decide)).trans (Gen.W_main_arg2 m (dats m) c)⟩
  · refine (θ_run Cert.Reference2Ideal.defs _ _).mono (fun r h c => ⟨?_, (h c).2⟩) (Cert.Reference2Ideal.Value.run m' g')
    refine (h c).1.trans ((ref_term _ _).trans ?_)
    rw [(hs c).1, (hs c).2.2]

end Cert.Kernel2Ideal.WDown

end
-- ==== Proof.WUp.lean ====
/- The weight gradient of the first feed-forward product: each element of the call's result is the sum over the tokens,
   and so is the reference's. -/
module

public import proofs.«01_k».proof.Proof.Gen.Kernel3Ideal.Frame
public import proofs.«01_k».proof.Proof.Gen.Reference3Ideal.Run
public import proofs.«01_k».proof.Defs
public import proofs.«01_k».proof.Proof.Line
public import Idealize.ShloMosaic.Lib.Pipeline.ValueKit
public import Idealize.ShloMosaic.Lib.Pointwise

@[expose] public section

set_option maxRecDepth 16384

noncomputable section

namespace Cert.Kernel3Ideal.WUp

open Idealize.ShloMosaic Idealize.ShloMosaic.TcCoe Idealize.SL.Sem Idealize.ShloMosaic.StableHlo Cert.Line
open Cert.Kernel3Ideal Cert.Kernel3Ideal.Gen
open Idealize.ShloMosaic.Pipeline (Dat Cfg Window)

/-- The product of two matrices of token rows, contracted over the tokens. -/
def prodT (A : S8192x1024.Idx → EReal) (B : S8192x4096.Idx → EReal) : S1024x4096.Idx → EReal :=
  fun y => ∑ t : Fin 8192, A (ix2 t (y 0)) * B (ix2 t (y 1))

/-- The same, the columns in eight blocks. -/
def prodB (A : S8192x1024.Idx → EReal) (B : S8192x4096.Idx → EReal) : S8x1024x512.Idx → EReal :=
  fun y => ∑ t : Fin 8192, A (ix2 t (y 1)) * B (ix2 t ⟨512 * (y 0).val + (y 2).val, by have h0 : (y 0).val < 8 := (y 0).isLt; have h2 : (y 2).val < 512 := (y 2).isLt; omega⟩)

theorem pay_apply (x0 : Vec Ideal S8192x1024 .bf16) (x1 : Vec Ideal S8192x512 .bf16) (u : Fin 1) (d : Fin 1024) (f : Fin 512) :
    k0_pay3 (F := Ideal) (k0_pay2 (k0_pay1 (F := Ideal)) x0 x1) (ix3 u d f) = ∑ t : Fin 8192, x0 (ix2 t d) * x1 (ix2 t f) := by
  pointwise [k0_pay3, k0_pay2, k0_pay1]

theorem index_0 : ∀ t : Fin cfg0.N, win0_0.index t 0 = 0 ∧ win0_0.index t 1 = 0 := by decide +kernel
theorem index_1 : ∀ t : Fin cfg0.N, win0_1.index t 0 = 0 ∧ win0_1.index t 1 = t.val := by decide +kernel
theorem index_2 : ∀ t : Fin cfg0.N, win0_2.index t 0 = t.val ∧ win0_2.index t 1 = 0 ∧ win0_2.index t 2 = 0 := by decide +kernel

variable (m : (ℓ : Loc nD τ sig) → Buf (Elt Ideal) ℓ) (c : Dev nD)

theorem V_v0 : (V m c main_v0 : S8192x1024.Idx → EReal) = m ((c.tc : Thread nD τ).loc main_arg0) :=
  read_unary (τ := τ) (Val := Elt Ideal) (ops := hostOps0) (W := [main_v0, main_v1]) rfl 0 rfl (by decide) (by decide) _
theorem V_v1 : (V m c main_v1 : S8192x4096.Idx → EReal) = m ((c.tc : Thread nD τ).loc main_arg2) := by
  refine (read_unary (τ := τ) (Val := Elt Ideal) (ops := hostOps0) (W := [main_v0, main_v1]) rfl 1 rfl (by decide) (by decide) _).trans ?_
  exact read_arg (τ := τ) (Val := Elt Ideal) (ops := hostOps0) (W := [main_v0, main_v1]) (r := main_arg2) rfl (by decide) _

theorem arr_2 : ((dats (F := Ideal) m 0 c).arrAt 2 cfg0.N : S8x1024x512.Idx → EReal) = prodB (V m c main_v0) (V m c main_v1) := by
  refine (dats m 0 c).arrAt_eq_of_covers 2 _ (by decide +kernel) fun t hf y => ?_
  have e0 := index_0 t
  have e1 := index_1 t
  have e2 := index_2 t
  blk_simp
  rw [after0_2]
  obtain ⟨u, d, f, rfl⟩ : ∃ (u : Fin 1) (d : Fin 1024) (f : Fin 512), y = (ix3 u d f : S1x1024x512.Idx) := ⟨y 0, y 1, y 2, funext fun a => match a with | ⟨0, _⟩ => rfl | ⟨1, _⟩ => rfl | ⟨2, _⟩ => rfl⟩
  unfold outsAt0
  frame_out
  rw [pay_apply]
  unfold prodB
  refine Fin.sum_fin_congr fun k => ?_
  blk_simp [iblk]
  have hu := u.isLt
  refine congrArg₂ (· * ·) (congrArg (V m c main_v0) (funext fun a => Fin.ext ?_)) (congrArg (V m c main_v1) (funext fun a => Fin.ext ?_))
  · match a with
    | ⟨0, _⟩ =>
      show win0_0.index t 0 * 8192 + 1 * k.val = k.val
      rw [e0.1]; omega
    | ⟨1, _⟩ =>
      show win0_0.index t 1 * 1024 + 1 * d.val = win0_2.index t 1 * 1024 + 1 * d.val
      rw [e0.2, e2.2.1]
  · match a with
    | ⟨0, _⟩ =>
      show win0_1.index t 0 * 8192 + 1 * k.val = k.val
      rw [e1.1]; omega
    | ⟨1, _⟩ =>
      show win0_1.index t 1 * 512 + 1 * f.val = 512 * win0_2.index t 0 + (win0_2.index t 2 * 512 + f.val)
      rw [e1.2, e2.1, e2.2.2]; omega

/-- The operations after the call, read at an element. -/
theorem unblock (A : S8192x1024.Idx → EReal) (B : S8192x4096.Idx → EReal) :
    (shapeCast S1024x4096 (transpose (α := EReal) S1024x8x512 [1, 0, 2] (prodB A B) transposes_S8x1024x512_S1024x8x512_1_0_2) shapeCasts_S1024x8x512_S1024x4096 : S1024x4096.Idx → EReal)
      = prodT A B := by
  funext y
  obtain ⟨d, f, rfl⟩ : ∃ (d : Fin 1024) (f : Fin 4096), y = (ix2 d f : S1024x4096.Idx) := ⟨y 0, y 1, funext fun a => match a with | ⟨0, _⟩ => rfl | ⟨1, _⟩ => rfl⟩
  pointwise
  unfold prodB prodT
  refine Finset.sum_congr rfl fun k _ => ?_
  have hd := d.isLt
  have hf := f.isLt
  congr 1
  refine congrArg B ?_
  congr 1
  apply Fin.ext
  show 512 * (f.val / 512) + f.val % 512 = f.val
  omega

/-- What the call's program leaves in its result. -/
theorem tail_v5 : (Pipeline.afterTail₀ cfgs (dats (F := Ideal) m) 0 (V0 m) [hostOps1] c main_v5 : S1024x4096.Idx → EReal)
    = prodT (m ((c.tc : Thread nD τ).loc main_arg0)) (m ((c.tc : Thread nD τ).loc main_arg2)) := by
  have hW : Writes (τ := τ) (Val := Elt Ideal) hostOps1 [main_v3, main_v4, main_v5] := rfl
  have key : ∀ E : Valuation τ sig (Elt Ideal), (E (Proc.devRef .tc main_v2) : S8x1024x512.Idx → EReal) = prodB (V m c main_v0) (V m c main_v1) →
      (after hostOps1 E (Proc.devRef .tc main_v5) : S1024x4096.Idx → EReal) = prodT (m ((c.tc : Thread nD τ).loc main_arg0)) (m ((c.tc : Thread nD τ).loc main_arg2)) := fun E hE => by
    have h2 : (after hostOps1 E (Proc.devRef .tc main_v2) : S8x1024x512.Idx → EReal) = prodB (V m c main_v0) (V m c main_v1) :=
      (read_arg hW (r := main_v2) (by decide) _).trans hE
    have h3 : (after hostOps1 E (Proc.devRef .tc main_v3) : S8x1024x512.Idx → EReal) = prodB (V m c main_v0) (V m c main_v1) :=
      (read_unary hW 0 rfl (by decide) (by decide) _).trans h2
    have h4 := read_unary (τ := τ) (Val := Elt Ideal) hW 1 rfl (by decide) (by decide) E
    have h5 := read_reshape (τ := τ) (Val := Elt Ideal) hW 2 rfl (by decide) (by decide) E
    rw [V_v0, V_v1] at h3
    refine h5.trans (Eq.trans ?_ (unblock _ _))
    refine congrArg (fun x => shapeCast S1024x4096 x shapeCasts_S1024x8x512_S1024x4096) (h4.trans ?_)
    exact congrArg (fun x => transpose S1024x8x512 [1, 0, 2] x transposes_S8x1024x512_S1024x8x512_1_0_2) h3
  exact key _ ((Pipeline.withArrays_arr spec0 launch0.win.arr_inj c (V0 m c) _ 2).trans (arr_2 m c))

/-- The reference's term. -/
theorem ref_term (A : S8192x1024.Idx → EReal) (B : S8192x4096.Idx → EReal) :
    (transpose Cert.Reference3Ideal.S1024x4096 [1, 0] (Host.dotGeneral (F := Ideal) (φ₁ := .f32) (φ₂ := .f32) Cert.Reference3Ideal.dot_S8192x4096_S8192x1024_S4096x1024_0_0_1_1_n_n none B A) Cert.Reference3Ideal.Gen.facts.transposes_S4096x1024_S1024x4096_1_0 : S1024x4096.Idx → EReal) = prodT A B := by
  funext y
  obtain ⟨d, f, rfl⟩ : ∃ (d : Fin 1024) (f : Fin 4096), y = (ix2 d f : S1024x4096.Idx) := ⟨y 0, y 1, funext fun a => match a with | ⟨0, _⟩ => rfl | ⟨1, _⟩ => rfl⟩
  pointwise
  exact Finset.sum_congr rfl fun k _ => mul_comm _ _

/-- The reference ends with its arguments as given and every counter at zero. -/
theorem ref_quiescent : Cert.quiescent_Reference3Ideal := fun m g _ =>
  (θ_run Cert.Reference3Ideal.defs _ _).mono (fun r h => ⟨fun c => (h c).2, sem_eq_zero_of_no_sems (by decide) r.2⟩)
    (Cert.Reference3Ideal.Value.run m g)

/-- Both programs end with the weight gradient. -/
theorem equal_results : Cert.algebraic_Kernel3Ideal_Reference3Ideal := by
  intro m g m' g' _ hs
  refine ⟨fun c => prodT (m ((c.tc : Thread nD τ).loc main_arg0)) (m ((c.tc : Thread nD τ).loc main_arg2)), ?_, ?_⟩
  · refine (θ_run defs _ _).mono (fun r h c => ?_) (Gen.run_main m g)
    have hb := fun b h1 h2 => (h c).2 b (Pipeline.mem_restRefs_of b h1 h2)
    exact ⟨(hb main_v5 (by decide) (by decide)).trans (tail_v5 m c),
      (hb main_arg0 (by decide) (by decide)).trans (Gen.W_main_arg0 m (dats m) c),
      (hb main_arg1 (by decide) (by decide)).trans (Gen.W_main_arg1 m (dats m) c),
      (hb main_arg2 (by decide) (by decide)).trans (Gen.W_main_arg2 m (dats m) c)⟩
  · refine (θ_run Cert.Reference3Ideal.defs _ _).mono (fun r h c => ⟨?_, (h c).2⟩) (Cert.Reference3Ideal.Value.run m' g')
    refine (h c).1.trans ((ref_term _ _).trans ?_)
    rw [(hs c).1, (hs c).2.2]

end Cert.Kernel3Ideal.WUp

end
-- ==== Proof.MlpFwd.lean ====
/- The feed-forward block's forward call: at each token the output projection, the normalisation, the squared rectifier
   and the two products, the loss and its derivative; and the reference's terms for the same. -/
module

public import proofs.«01_k».proof.Proof.Gen.Kernel5Ideal.Frame
public import proofs.«01_k».proof.Proof.Gen.Reference5Ideal.Run
public import proofs.«01_k».proof.Defs
public import proofs.«01_k».proof.Proof.Line
public import Idealize.ShloMosaic.Lib.Pipeline.ValueKit
public import Idealize.ShloMosaic.Lib.Pointwise

@[expose] public section

set_option maxRecDepth 16384

noncomputable section

namespace Cert.Kernel5Ideal.Mlp

open Idealize.ShloMosaic Idealize.ShloMosaic.TcCoe Idealize.SL.Sem Idealize.ShloMosaic.StableHlo Cert.Line
open Cert.Kernel5Ideal Cert.Kernel5Ideal.Gen
open Idealize.ShloMosaic.Pipeline (Dat Cfg Window)

/-! ## The block, an element at a time -/

/-- The residual stream after the output projection. -/
def resid (X M : S8192x1024.Idx → EReal) (Wo : S1024x1024.Idx → EReal) (t : Fin 8192) (d : Fin 1024) : EReal :=
  X (ix2 t d) + ∑ e : Fin 1024, M (ix2 t e) * Wo (ix2 e d)

/-- A row normalised and scaled. -/
def normed (h : Fin 8192 → Fin 1024 → EReal) (G : S1024.Idx → EReal) (t : Fin 8192) (d : Fin 1024) : EReal :=
  h t d * Ideal.rsqrt (Ideal.div (∑ k, h t k * h t k) (Ideal.ofBits FTy.f32 0x44800000#32) + Ideal.ofBits FTy.f32 0x358637BD#32)
    * G (ix1 d)

/-- The hidden layer: the squared rectifier of the first product. -/
def hidden (n : Fin 8192 → Fin 1024 → EReal) (Wu : S1024x4096.Idx → EReal) (t : Fin 8192) (f : Fin 4096) : EReal :=
  max (∑ d, n t d * Wu (ix2 d f)) 0 * max (∑ d, n t d * Wu (ix2 d f)) 0

/-- The output less the target. -/
def error (h : Fin 8192 → Fin 1024 → EReal) (u : Fin 8192 → Fin 4096 → EReal) (Wd : S4096x1024.Idx → EReal)
    (T : S8192x1024.Idx → EReal) (t : Fin 8192) (d : Fin 1024) : EReal :=
  h t d + ∑ f, u t f * Wd (ix2 f d) - T (ix2 t d)

/-- A token's share of the loss, twice. -/
def share (e : Fin 8192 → Fin 1024 → EReal) (t : Fin 8192) : EReal :=
  (∑ d, e t d * e t d) * Ideal.ofBits FTy.f32 0x3A800000#32

/-! ## A tile's values -/

theorem pay2_apply (x : Vec Ideal S512x1024 .f32) (a : Vec Ideal S512x512 .bf16) (w : Vec Ideal S512x1024 .bf16) (b : Vec Ideal S512x512 .bf16) (w' : Vec Ideal S512x1024 .bf16) (r : Fin 512) (d : Fin 1024) :
    k0_pay2 (F := Ideal) x a w b w' (ix2 r d) = x (ix2 r d) + ∑ k : Fin 512, a (ix2 r k) * w (ix2 k d) + ∑ k : Fin 512, b (ix2 r k) * w' (ix2 k d) := by
  pointwise [k0_pay2]

theorem pay3_apply (x : Vec Ideal S512x1024 .f32) (a : Vec Ideal S512x512 .bf16) (w : Vec Ideal S512x1024 .bf16) (b : Vec Ideal S512x512 .bf16) (w' : Vec Ideal S512x1024 .bf16) (g : Vec Ideal S1x1024 .f32) (r : Fin 512) (d : Fin 1024) :
    k0_pay3 (F := Ideal) x a w b w' g (ix2 r d)
      = k0_pay2 (F := Ideal) x a w b w' (ix2 r d) * Ideal.rsqrt (Ideal.div (∑ k, k0_pay2 (F := Ideal) x a w b w' (ix2 r k) * k0_pay2 (F := Ideal) x a w b w' (ix2 r k)) (Ideal.ofBits FTy.f32 0x44800000#32) + Ideal.ofBits FTy.f32 0x358637BD#32)
        * g (ix2 0 d) := by
  unfold k0_pay3
  generalize k0_pay2 (F := Ideal) x a w b w' = h
  pointwise

/-- The hidden layer's block of columns: the first product's block, rectified and squared. -/
def sq (x : S512x1024.Idx → EReal) (w : S1x1024x512.Idx → EReal) (r f : Fin 512) : EReal :=
  max (∑ k : Fin 1024, x (ix2 r k) * w (ix3 0 k f)) 0 * max (∑ k : Fin 1024, x (ix2 r k) * w (ix3 0 k f)) 0

section
variable (x : FVec Ideal S512x1024 .bf16) (w : Vec Ideal S1x1024x512 .bf16) (r f : Fin 512)
theorem pay4_apply : k0_pay4 (F := Ideal) x w (ix2 r f) = sq x w r f := by pointwise [k0_pay4]; rfl
theorem pay5_apply : k0_pay5 (F := Ideal) x w (ix2 r f) = sq x w r f := by pointwise [k0_pay5]; rfl
theorem pay6_apply : k0_pay6 (F := Ideal) x w (ix2 r f) = sq x w r f := by pointwise [k0_pay6]; rfl
theorem pay7_apply : k0_pay7 (F := Ideal) x w (ix2 r f) = sq x w r f := by pointwise [k0_pay7]; rfl
theorem pay8_apply : k0_pay8 (F := Ideal) x w (ix2 r f) = sq x w r f := by pointwise [k0_pay8]; rfl
theorem pay9_apply : k0_pay9 (F := Ideal) x w (ix2 r f) = sq x w r f := by pointwise [k0_pay9]; rfl
theorem pay10_apply : k0_pay10 (F := Ideal) x w (ix2 r f) = sq x w r f := by pointwise [k0_pay10]; rfl
theorem pay12_apply : k0_pay12 (F := Ideal) (k0_pay11 (F := Ideal) x w) (FloatOps.ofBits FTy.f32 0#32) (ix2 r f) = sq x w r f := by
  pointwise [k0_pay12, k0_pay11]; rfl
end

theorem pay14_apply (h : FVec Ideal S512x1024 .f32) (hid : Vec Ideal S512x4096 .bf16) (w : Vec Ideal S4096x1024 .bf16) (t : Vec Ideal S512x1024 .f32) (r : Fin 512) (d : Fin 1024) :
    k0_pay14 (F := Ideal) h hid w t (ix2 r d) = (h (ix2 r d) + ∑ f : Fin 4096, hid (ix2 r f) * w (ix2 f d) - t (ix2 r d)) * Ideal.ofBits FTy.f32 0x3A800000#32 := by
  pointwise [k0_pay14, k0_pay13]

theorem pay13_apply (h : FVec Ideal S512x1024 .f32) (hid : Vec Ideal S512x4096 .bf16) (w : Vec Ideal S4096x1024 .bf16) (t : Vec Ideal S512x1024 .f32) (r : Fin 512) (d : Fin 1024) :
    k0_pay13 (F := Ideal) h hid w t (ix2 r d) = h (ix2 r d) + ∑ f : Fin 4096, hid (ix2 r f) * w (ix2 f d) - t (ix2 r d) := by
  pointwise [k0_pay13]

theorem pay16_apply (h : FVec Ideal S512x1024 .f32) (hid : Vec Ideal S512x4096 .bf16) (w : Vec Ideal S4096x1024 .bf16) (t : Vec Ideal S512x1024 .f32) (o : Vec Ideal S8x128 .f32) (i : Fin 8) (j : Fin 128) :
    k0_pay16 (F := Ideal) h hid w t o (ix2 i j)
      = o (ix2 i j) + Ideal.ofBits FTy.f32 0x3F000000#32 * ∑ r : Fin 512, (∑ d : Fin 1024, k0_pay13 (F := Ideal) h hid w t (ix2 r d) * k0_pay13 (F := Ideal) h hid w t (ix2 r d)) * Ideal.ofBits FTy.f32 0x3A800000#32 := by
  unfold k0_pay16
  generalize k0_pay13 (F := Ideal) h hid w t = e
  pointwise

/-! ## The blocks the tile reads -/

variable (m : (ℓ : Loc nD τ sig) → Buf (Elt Ideal) ℓ) (c : Dev nD)

theorem index_0 : ∀ t : Fin cfg0.N, win0_0.index t 0 = t.val ∧ win0_0.index t 1 = 0 := by decide +kernel
theorem index_1 : ∀ t : Fin cfg0.N, win0_1.index t 0 = t.val ∧ win0_1.index t 1 = 0 := by decide +kernel
theorem index_2 : ∀ t : Fin cfg0.N, win0_2.index t 0 = t.val ∧ win0_2.index t 1 = 0 := by decide +kernel
theorem index_3 : ∀ t : Fin cfg0.N, win0_3.index t 0 = t.val ∧ win0_3.index t 1 = 0 := by decide +kernel
theorem index_4 : ∀ t : Fin cfg0.N, win0_4.index t 0 = 0 ∧ win0_4.index t 1 = 0 := by decide +kernel
theorem index_5 : ∀ t : Fin cfg0.N, win0_5.index t 0 = 0 ∧ win0_5.index t 1 = 0 := by decide +kernel
theorem index_6 : ∀ t : Fin cfg0.N, win0_6.index t 0 = 0 ∧ win0_6.index t 1 = 0 ∧ win0_6.index t 2 = 0 := by decide +kernel
theorem index_7 : ∀ t : Fin cfg0.N, win0_7.index t 0 = 0 ∧ win0_7.index t 1 = 0 := by decide +kernel
theorem index_8 : ∀ t : Fin cfg0.N, win0_8.index t 0 = t.val ∧ win0_8.index t 1 = 0 := by decide +kernel
theorem index_9 : ∀ t : Fin cfg0.N, win0_9.index t 0 = t.val ∧ win0_9.index t 1 = 0 := by decide +kernel
theorem index_10 : ∀ t : Fin cfg0.N, win0_10.index t 0 = t.val ∧ win0_10.index t 1 = 0 := by decide +kernel
theorem index_11 : ∀ t : Fin cfg0.N, win0_11.index t 0 = t.val ∧ win0_11.index t 1 = 0 := by decide +kernel
theorem index_13 : ∀ t : Fin cfg0.N, win0_13.index t 0 = 0 ∧ win0_13.index t 1 = 0 := by decide +kernel

theorem lt16 (t : Fin cfg0.N) : t.val < 16 := lt_of_lt_of_eq t.isLt (show cfg0.N = 16 from N_0)

/-- Row `r` of tile `t`, among all the tokens. -/
def tok (t : Fin cfg0.N) (r : Fin 512) : Fin 8192 := ⟨512 * t.val + r.val, by have := lt16 t; have := r.isLt; omega⟩

theorem blk_0 (t : Fin cfg0.N) (r : Fin 512) (d : Fin 1024) :
    (iblk m c 0 t : S512x1024.Idx → EReal) (ix2 r d) = (V m c main_arg0 : S8192x1024.Idx → EReal) (ix2 (tok t r) d) := by
  blk_simp [iblk]
  refine congrArg (V m c main_arg0) (funext fun a => Fin.ext ?_)
  match a with
  | ⟨0, _⟩ => show win0_0.index t 0 * 512 + 1 * r.val = 512 * t.val + r.val; rw [(index_0 t).1]; omega
  | ⟨1, _⟩ => show win0_0.index t 1 * 1024 + 1 * d.val = d.val; rw [(index_0 t).2]; omega
theorem blk_1 (t : Fin cfg0.N) (r : Fin 512) (d : Fin 512) :
    (iblk m c 1 t : S512x512.Idx → EReal) (ix2 r d) = (V m c main_v4 : S8192x512.Idx → EReal) (ix2 (tok t r) d) := by
  blk_simp [iblk]
  refine congrArg (V m c main_v4) (funext fun a => Fin.ext ?_)
  match a with
  | ⟨0, _⟩ => show win0_1.index t 0 * 512 + 1 * r.val = 512 * t.val + r.val; rw [(index_1 t).1]; omega
  | ⟨1, _⟩ => show win0_1.index t 1 * 512 + 1 * d.val = d.val; rw [(index_1 t).2]; omega
theorem blk_2 (t : Fin cfg0.N) (r : Fin 512) (d : Fin 512) :
    (iblk m c 2 t : S512x512.Idx → EReal) (ix2 r d) = (V m c main_v5 : S8192x512.Idx → EReal) (ix2 (tok t r) d) := by
  blk_simp [iblk]
  refine congrArg (V m c main_v5) (funext fun a => Fin.ext ?_)
  match a with
  | ⟨0, _⟩ => show win0_2.index t 0 * 512 + 1 * r.val = 512 * t.val + r.val; rw [(index_2 t).1]; omega
  | ⟨1, _⟩ => show win0_2.index t 1 * 512 + 1 * d.val = d.val; rw [(index_2 t).2]; omega
theorem blk_3 (t : Fin cfg0.N) (r : Fin 512) (d : Fin 1024) :
    (iblk m c 3 t : S512x1024.Idx → EReal) (ix2 r d) = (V m c main_arg2 : S8192x1024.Idx → EReal) (ix2 (tok t r) d) := by
  blk_simp [iblk]
  refine congrArg (V m c main_arg2) (funext fun a => Fin.ext ?_)
  match a with
  | ⟨0, _⟩ => show win0_3.index t 0 * 512 + 1 * r.val = 512 * t.val + r.val; rw [(index_3 t).1]; omega
  | ⟨1, _⟩ => show win0_3.index t 1 * 1024 + 1 * d.val = d.val; rw [(index_3 t).2]; omega
theorem blk_4 (t : Fin cfg0.N) (y : S1024x1024.Idx) :
    (iblk m c 4 t : S1024x1024.Idx → EReal) y = (V m c main_v6 : S1024x1024.Idx → EReal) y := by
  blk_simp [iblk]
  refine congrArg (V m c main_v6) (funext fun a => Fin.ext ?_)
  match a with
  | ⟨0, _⟩ => show win0_4.index t 0 * 1024 + 1 * (y 0).val = (y 0).val; rw [(index_4 t).1]; omega
  | ⟨1, _⟩ => show win0_4.index t 1 * 1024 + 1 * (y 1).val = (y 1).val; rw [(index_4 t).2]; omega
theorem blk_5 (t : Fin cfg0.N) (d : Fin 1024) :
    (iblk m c 5 t : S1x1024.Idx → EReal) (ix2 0 d) = (V m c main_v7 : S1x1024.Idx → EReal) (ix2 0 d) := by
  blk_simp [iblk]
  refine congrArg (V m c main_v7) (funext fun a => Fin.ext ?_)
  match a with
  | ⟨0, _⟩ => exact (index_5 t).1
  | ⟨1, _⟩ => show win0_5.index t 1 * 1024 + 1 * d.val = d.val; rw [(index_5 t).2]; omega
theorem blk_6 (t : Fin cfg0.N) (y : S8x1024x512.Idx) :
    (iblk m c 6 t : S8x1024x512.Idx → EReal) y = (V m c main_v3 : S8x1024x512.Idx → EReal) y := by
  blk_simp [iblk]
  refine congrArg (V m c main_v3) (funext fun a => Fin.ext ?_)
  match a with
  | ⟨0, _⟩ => show win0_6.index t 0 * 8 + 1 * (y 0).val = (y 0).val; rw [(index_6 t).1]; omega
  | ⟨1, _⟩ => show win0_6.index t 1 * 1024 + 1 * (y 1).val = (y 1).val; rw [(index_6 t).2.1]; omega
  | ⟨2, _⟩ => show win0_6.index t 2 * 512 + 1 * (y 2).val = (y 2).val; rw [(index_6 t).2.2]; omega
theorem blk_7 (t : Fin cfg0.N) (y : S4096x1024.Idx) :
    (iblk m c 7 t : S4096x1024.Idx → EReal) y = (V m c main_v8 : S4096x1024.Idx → EReal) y := by
  blk_simp [iblk]
  refine congrArg (V m c main_v8) (funext fun a => Fin.ext ?_)
  match a with
  | ⟨0, _⟩ => show win0_7.index t 0 * 4096 + 1 * (y 0).val = (y 0).val; rw [(index_7 t).1]; omega
  | ⟨1, _⟩ => show win0_7.index t 1 * 1024 + 1 * (y 1).val = (y 1).val; rw [(index_7 t).2]; omega

/-! ## The host lines before the call -/

/-- What the host lines before the call write, in order. -/
abbrev wr : List (Ref sig .tc) := [main_v0, main_v1, main_v2, main_v3, main_v4, main_v5, main_v6, main_v7, main_v8]

theorem V_arg0 : (V m c main_arg0 : S8192x1024.Idx → EReal) = m ((c.tc : Thread nD τ).loc main_arg0) :=
  read_arg (τ := τ) (Val := Elt Ideal) (ops := hostOps0) (W := wr) (r := main_arg0) rfl (by decide) _
theorem V_arg2 : (V m c main_arg2 : S8192x1024.Idx → EReal) = m ((c.tc : Thread nD τ).loc main_arg2) :=
  read_arg (τ := τ) (Val := Elt Ideal) (ops := hostOps0) (W := wr) (r := main_arg2) rfl (by decide) _
theorem V_v0 : (V m c main_v0 : S8192x1024.Idx → EReal) = m ((c.tc : Thread nD τ).loc main_arg1) := by
  refine (read_unary (τ := τ) (Val := Elt Ideal) (ops := hostOps0) (W := wr) rfl 0 rfl (by decide) (by decide) _).trans ?_
  exact read_arg (τ := τ) (Val := Elt Ideal) (ops := hostOps0) (W := wr) (r := main_arg1) rfl (by decide) _
theorem V_v6 : (V m c main_v6 : S1024x1024.Idx → EReal) = m ((c.tc : Thread nD τ).loc main_arg3) := by
  refine (read_unary (τ := τ) (Val := Elt Ideal) (ops := hostOps0) (W := wr) rfl 6 rfl (by decide) (by decide) _).trans ?_
  exact read_arg (τ := τ) (Val := Elt Ideal) (ops := hostOps0) (W := wr) (r := main_arg3) rfl (by decide) _
theorem V_v8 : (V m c main_v8 : S4096x1024.Idx → EReal) = m ((c.tc : Thread nD τ).loc main_arg6) := by
  refine (read_unary (τ := τ) (Val := Elt Ideal) (ops := hostOps0) (W := wr) rfl 8 rfl (by decide) (by decide) _).trans ?_
  exact read_arg (τ := τ) (Val := Elt Ideal) (ops := hostOps0) (W := wr) (r := main_arg6) rfl (by decide) _

theorem V_v4 (t : Fin 8192) (e : Fin 512) :
    (V m c main_v4 : S8192x512.Idx → EReal) (ix2 t e) = (m ((c.tc : Thread nD τ).loc main_arg1) : S8192x1024.Idx → EReal) (ix2 t ⟨e.val, by omega⟩) := by
  have h : (V m c main_v4 : S8192x512.Idx → EReal) = extractStridedSlice (α := EReal) S8192x512 ![0, 0] (V m c main_v0) slices_S8192x1024_S8192x512_0_0 := read_unary (τ := τ) (Val := Elt Ideal) (ops := hostOps0) (W := wr) rfl 4 rfl (by decide) (by decide) _
  refine (congrFun h (ix2 t e)).trans ?_
  refine Eq.trans ?_ (congrFun (V_v0 m c) _)
  refine congrArg (V m c main_v0) (funext fun a => Fin.ext ?_)
  match a with
  | ⟨0, _⟩ => show 0 + t.val = t.val; omega
  | ⟨1, _⟩ => show 0 + e.val = e.val; omega
theorem V_v5 (t : Fin 8192) (e : Fin 512) :
    (V m c main_v5 : S8192x512.Idx → EReal) (ix2 t e) = (m ((c.tc : Thread nD τ).loc main_arg1) : S8192x1024.Idx → EReal) (ix2 t ⟨512 + e.val, by omega⟩) := by
  have h : (V m c main_v5 : S8192x512.Idx → EReal) = extractStridedSlice (α := EReal) S8192x512 ![0, 512] (V m c main_v0) slices_S8192x1024_S8192x512_0_512 := read_unary (τ := τ) (Val := Elt Ideal) (ops := hostOps0) (W := wr) rfl 5 rfl (by decide) (by decide) _
  refine (congrFun h (ix2 t e)).trans ?_
  refine Eq.trans ?_ (congrFun (V_v0 m c) _)
  refine congrArg (V m c main_v0) (funext fun a => Fin.ext ?_)
  match a with
  | ⟨0, _⟩ => show 0 + t.val = t.val; omega
  | ⟨1, _⟩ => show 512 + e.val = 512 + e.val; rfl

theorem row_form (x : S1024.Idx → EReal) (d : Fin 1024) :
    (shapeCast S1x1024 x shapeCasts_S1024_S1x1024 : S1x1024.Idx → EReal) (ix2 0 d) = x (ix1 d) := by
  pointwise
theorem V_v7 (d : Fin 1024) :
    (V m c main_v7 : S1x1024.Idx → EReal) (ix2 0 d) = (m ((c.tc : Thread nD τ).loc main_arg4) : S1024.Idx → EReal) (ix1 d) := by
  have h : (V m c main_v7 : S1x1024.Idx → EReal) = shapeCast (α := EReal) S1x1024 (V m c main_arg4) shapeCasts_S1024_S1x1024 := read_reshape (τ := τ) (Val := Elt Ideal) (ops := hostOps0) (W := wr) rfl 7 rfl (by decide) (by decide) _
  have h0 : (V m c main_arg4 : S1024.Idx → EReal) = m ((c.tc : Thread nD τ).loc main_arg4) := read_arg (τ := τ) (Val := Elt Ideal) (ops := hostOps0) (W := wr) (r := main_arg4) rfl (by decide) _
  rw [h, h0]
  exact row_form _ d

theorem blocks (x : S1024x4096.Idx → EReal) (b : Fin 8) (d : Fin 1024) (f : Fin 512) :
    (transpose S8x1024x512 [1, 0, 2] (shapeCast S1024x8x512 x shapeCasts_S1024x4096_S1024x8x512) transposes_S1024x8x512_S8x1024x512_1_0_2 : S8x1024x512.Idx → EReal) (ix3 b d f) = x (ix2 d ⟨512 * b.val + f.val, by omega⟩) := by
  pointwise
  refine congrArg x ?_
  congr 1
  apply Fin.ext
  simp
  omega
theorem V_v3 (b : Fin 8) (d : Fin 1024) (f : Fin 512) :
    (V m c main_v3 : S8x1024x512.Idx → EReal) (ix3 b d f) = (m ((c.tc : Thread nD τ).loc main_arg5) : S1024x4096.Idx → EReal) (ix2 d ⟨512 * b.val + f.val, by omega⟩) := by
  have h1 : (V m c main_v1 : S1024x8x512.Idx → EReal) = shapeCast (α := EReal) S1024x8x512 (V m c main_arg5) shapeCasts_S1024x4096_S1024x8x512 := read_reshape (τ := τ) (Val := Elt Ideal) (ops := hostOps0) (W := wr) rfl 1 rfl (by decide) (by decide) _
  have h2 : (V m c main_v2 : S8x1024x512.Idx → EReal) = transpose (α := EReal) S8x1024x512 [1, 0, 2] (V m c main_v1) transposes_S1024x8x512_S8x1024x512_1_0_2 := read_unary (τ := τ) (Val := Elt Ideal) (ops := hostOps0) (W := wr) rfl 2 rfl (by decide) (by decide) _
  have h3 : (V m c main_v3 : S8x1024x512.Idx → EReal) = V m c main_v2 := read_unary (τ := τ) (Val := Elt Ideal) (ops := hostOps0) (W := wr) rfl 3 rfl (by decide) (by decide) _
  have h0 : (V m c main_arg5 : S1024x4096.Idx → EReal) = m ((c.tc : Thread nD τ).loc main_arg5) := read_arg (τ := τ) (Val := Elt Ideal) (ops := hostOps0) (W := wr) (r := main_arg5) rfl (by decide) _
  rw [h3, h2, h1, h0]
  exact blocks _ b d f

/-! ## The tile's values, among all the tokens -/

/-- The arguments, as the block's. -/
abbrev aX : S8192x1024.Idx → EReal := m ((c.tc : Thread nD τ).loc main_arg0)
abbrev aM : S8192x1024.Idx → EReal := m ((c.tc : Thread nD τ).loc main_arg1)
abbrev aT : S8192x1024.Idx → EReal := m ((c.tc : Thread nD τ).loc main_arg2)
abbrev aWo : S1024x1024.Idx → EReal := m ((c.tc : Thread nD τ).loc main_arg3)
abbrev aG : S1024.Idx → EReal := m ((c.tc : Thread nD τ).loc main_arg4)
abbrev aWu : S1024x4096.Idx → EReal := m ((c.tc : Thread nD τ).loc main_arg5)
abbrev aWd : S4096x1024.Idx → EReal := m ((c.tc : Thread nD τ).loc main_arg6)

/-- The block's values. -/
def H : Fin 8192 → Fin 1024 → EReal := resid (aX m c) (aM m c) (aWo m c)
def N : Fin 8192 → Fin 1024 → EReal := normed (H m c) (aG m c)
def U : Fin 8192 → Fin 4096 → EReal := hidden (N m c) (aWu m c)
def E : Fin 8192 → Fin 1024 → EReal := error (H m c) (U m c) (aWd m c) (aT m c)

theorem ld_top (x : S1024x1024.Idx → EReal) (inb) (k : Fin 512) (d : Fin 1024) :
    View.ld (Val := Elt Ideal) (e' := .bf16) x (Rect.unit (s := S1024x1024) ![0, 0] ![512, 1024] inb) (ix2 k d) = x (ix2 ⟨k.val, by omega⟩ d) :=
  View.ld_unit_apply_of _ _ _ _ _ _ fun a => match a with
    | ⟨0, _⟩ => by show k.val = 0 + k.val; omega
    | ⟨1, _⟩ => by show d.val = 0 + d.val; omega
theorem ld_bot (x : S1024x1024.Idx → EReal) (inb) (k : Fin 512) (d : Fin 1024) :
    View.ld (Val := Elt Ideal) (e' := .bf16) x (Rect.unit (s := S1024x1024) ![512, 0] ![512, 1024] inb) (ix2 k d) = x (ix2 ⟨512 + k.val, by omega⟩ d) :=
  View.ld_unit_apply_of _ _ _ _ _ _ fun a => match a with
    | ⟨0, _⟩ => by show 512 + k.val = 512 + k.val; rfl
    | ⟨1, _⟩ => by show d.val = 0 + d.val; omega
theorem ld_blk (b : ℕ) (hb : b < 8) (x : S8x1024x512.Idx → EReal) (inb) (k : Fin 1024) (f : Fin 512) :
    View.ld (Val := Elt Ideal) (e' := .bf16) x (Rect.unit (s := S8x1024x512) ![b, 0, 0] ![1, 1024, 512] inb) (ix3 0 k f) = x (ix3 ⟨b, hb⟩ k f) :=
  View.ld_unit_apply_of _ _ _ _ _ _ fun a => match a with
    | ⟨0, _⟩ => by show b = b + 0; rfl
    | ⟨1, _⟩ => by show k.val = 0 + k.val; omega
    | ⟨2, _⟩ => by show f.val = 0 + f.val; omega

/-- The tile's residual stream, as the operations leave it. -/
abbrev hT (t : Fin cfg0.N) : Vec Ideal S512x1024 .f32 :=
  k0_pay2 (F := Ideal) (iblk m c 0 t) (iblk m c 1 t)
    (View.ld (iblk m c 4 t) (Rect.unit ![0, 0] ![512, 1024] inb_S1024x1024_S512x1024_0_0)) (iblk m c 2 t)
    (View.ld (iblk m c 4 t) (Rect.unit ![512, 0] ![512, 1024] inb_S1024x1024_S512x1024_512_0))
/-- The tile's normalised rows, as the operations leave them. -/
abbrev nT (t : Fin cfg0.N) : Vec Ideal S512x1024 .bf16 :=
  k0_pay3 (F := Ideal) (iblk m c 0 t) (iblk m c 1 t)
    (View.ld (iblk m c 4 t) (Rect.unit ![0, 0] ![512, 1024] inb_S1024x1024_S512x1024_0_0)) (iblk m c 2 t)
    (View.ld (iblk m c 4 t) (Rect.unit ![512, 0] ![512, 1024] inb_S1024x1024_S512x1024_512_0)) (iblk m c 5 t)

theorem hT_apply (t : Fin cfg0.N) (r : Fin 512) (d : Fin 1024) : hT m c t (ix2 r d) = H m c (tok t r) d := by
  unfold hT
  rw [pay2_apply, blk_0]
  unfold H resid
  rw [V_arg0]
  have hs : (∑ e : Fin 1024, aM m c (ix2 (tok t r) e) * aWo m c (ix2 e d))
      = (∑ k : Fin 512, aM m c (ix2 (tok t r) ⟨k.val, by omega⟩) * aWo m c (ix2 ⟨k.val, by omega⟩ d))
        + ∑ k : Fin 512, aM m c (ix2 (tok t r) ⟨512 + k.val, by omega⟩) * aWo m c (ix2 ⟨512 + k.val, by omega⟩ d) :=
    Fin.sum_univ_add (a := 512) (b := 512) fun e => aM m c (ix2 (tok t r) e) * aWo m c (ix2 e d)
  rw [hs, ← add_assoc]
  refine congrArg₂ (· + ·) (congrArg₂ (· + ·) rfl (Fin.sum_fin_congr fun k => ?_)) (Fin.sum_fin_congr fun k => ?_)
  · rw [blk_1, V_v4]
    refine congrArg₂ (· * ·) rfl ((ld_top _ _ k d).trans ((blk_4 m c t _).trans (congrFun (V_v6 m c) _)))
  · rw [blk_2, V_v5]
    refine congrArg₂ (· * ·) rfl ((ld_bot _ _ k d).trans ((blk_4 m c t _).trans (congrFun (V_v6 m c) _)))

theorem nT_apply (t : Fin cfg0.N) (r : Fin 512) (d : Fin 1024) : nT m c t (ix2 r d) = N m c (tok t r) d := by
  unfold nT
  rw [pay3_apply, blk_5, V_v7]
  have hh := hT_apply m c t r
  unfold hT at hh
  simp only [hh]
  rfl

theorem sq_apply (t : Fin cfg0.N) (b : ℕ) (hb : b < 8) (inb) (r f : Fin 512) :
    sq (nT m c t) (View.ld (Val := Elt Ideal) (e' := .bf16) (iblk m c 6 t) (Rect.unit (s := S8x1024x512) ![b, 0, 0] ![1, 1024, 512] inb)) r f
      = U m c (tok t r) ⟨512 * b + f.val, by omega⟩ := by
  have h : (∑ k : Fin 1024, nT m c t (ix2 r k) * View.ld (Val := Elt Ideal) (e' := .bf16) (iblk m c 6 t) (Rect.unit (s := S8x1024x512) ![b, 0, 0] ![1, 1024, 512] inb) (ix3 0 k f))
      = ∑ d : Fin 1024, N m c (tok t r) d * aWu m c (ix2 d ⟨512 * b + f.val, by omega⟩) :=
    Fin.sum_fin_congr fun k => congrArg₂ (· * ·) (nT_apply m c t r k)
      ((ld_blk b hb _ _ k f).trans ((blk_6 m c t _).trans (V_v3 m c ⟨b, hb⟩ k f)))
  unfold sq
  rw [h]
  rfl

/-- The eight stores of the tile's hidden layer, the last first. -/
abbrev uL (t : Fin cfg0.N) : List (View.Piece (Elt Ideal) S512x4096 .bf16) :=
  [⟨Rect.unit (s := S512x4096) ![0, 3584] ![512, 512] inb_S512x4096_S512x512_0_3584, k0_pay12 (F := Ideal) (k0_pay11 (F := Ideal) (nT m c t) (View.ld (iblk m c 6 t) (Rect.unit ![7, 0, 0] ![1, 1024, 512] inb_S8x1024x512_S1x1024x512_7_0_0))) (FloatOps.ofBits FTy.f32 0#32)⟩,
   ⟨Rect.unit (s := S512x4096) ![0, 3072] ![512, 512] inb_S512x4096_S512x512_0_3072, k0_pay10 (F := Ideal) (nT m c t) (View.ld (iblk m c 6 t) (Rect.unit ![6, 0, 0] ![1, 1024, 512] inb_S8x1024x512_S1x1024x512_6_0_0))⟩,
   ⟨Rect.unit (s := S512x4096) ![0, 2560] ![512, 512] inb_S512x4096_S512x512_0_2560, k0_pay9 (F := Ideal) (nT m c t) (View.ld (iblk m c 6 t) (Rect.unit ![5, 0, 0] ![1, 1024, 512] inb_S8x1024x512_S1x1024x512_5_0_0))⟩,
   ⟨Rect.unit (s := S512x4096) ![0, 2048] ![512, 512] inb_S512x4096_S512x512_0_2048, k0_pay8 (F := Ideal) (nT m c t) (View.ld (iblk m c 6 t) (Rect.unit ![4, 0, 0] ![1, 1024, 512] inb_S8x1024x512_S1x1024x512_4_0_0))⟩,
   ⟨Rect.unit (s := S512x4096) ![0, 1536] ![512, 512] inb_S512x4096_S512x512_0_1536, k0_pay7 (F := Ideal) (nT m c t) (View.ld (iblk m c 6 t) (Rect.unit ![3, 0, 0] ![1, 1024, 512] inb_S8x1024x512_S1x1024x512_3_0_0))⟩,
   ⟨Rect.unit (s := S512x4096) ![0, 1024] ![512, 512] inb_S512x4096_S512x512_0_1024, k0_pay6 (F := Ideal) (nT m c t) (View.ld (iblk m c 6 t) (Rect.unit ![2, 0, 0] ![1, 1024, 512] inb_S8x1024x512_S1x1024x512_2_0_0))⟩,
   ⟨Rect.unit (s := S512x4096) ![0, 512] ![512, 512] inb_S512x4096_S512x512_0_512, k0_pay5 (F := Ideal) (nT m c t) (View.ld (iblk m c 6 t) (Rect.unit ![1, 0, 0] ![1, 1024, 512] inb_S8x1024x512_S1x1024x512_1_0_0))⟩,
   ⟨Rect.unit (s := S512x4096) ![0, 0] ![512, 512] inb_S512x4096_S512x512_0_0, k0_pay4 (F := Ideal) (nT m c t) (View.ld (iblk m c 6 t) (Rect.unit ![0, 0, 0] ![1, 1024, 512] inb_S8x1024x512_S1x1024x512_0_0_0))⟩]

theorem uL_apply (t : Fin cfg0.N) (r : Fin 512) (f : Fin 4096) : View.canon (uL m c t) (ix2 r f) = U m c (tok t r) f := by
  canon_tiles x h
  all_goals
    obtain ⟨r', f', rfl⟩ : ∃ (r' : Fin 512) (f' : Fin 512), x = ix2 r' f' := ⟨x 0, x 1, funext fun a => match a with | ⟨0, _⟩ => rfl | ⟨1, _⟩ => rfl⟩
  all_goals obtain rfl : r = r' := Fin.ext h0
  · exact (pay12_apply _ _ r f').trans ((sq_apply m c t 7 (by decide) _ r f').trans (congrArg (U m c (tok t r)) (Fin.ext h1.symm)))
  · exact (pay10_apply _ _ r f').trans ((sq_apply m c t 6 (by decide) _ r f').trans (congrArg (U m c (tok t r)) (Fin.ext h1.symm)))
  · exact (pay9_apply _ _ r f').trans ((sq_apply m c t 5 (by decide) _ r f').trans (congrArg (U m c (tok t r)) (Fin.ext h1.symm)))
  · exact (pay8_apply _ _ r f').trans ((sq_apply m c t 4 (by decide) _ r f').trans (congrArg (U m c (tok t r)) (Fin.ext h1.symm)))
  · exact (pay7_apply _ _ r f').trans ((sq_apply m c t 3 (by decide) _ r f').trans (congrArg (U m c (tok t r)) (Fin.ext h1.symm)))
  · exact (pay6_apply _ _ r f').trans ((sq_apply m c t 2 (by decide) _ r f').trans (congrArg (U m c (tok t r)) (Fin.ext h1.symm)))
  · exact (pay5_apply _ _ r f').trans ((sq_apply m c t 1 (by decide) _ r f').trans (congrArg (U m c (tok t r)) (Fin.ext h1.symm)))
  · exact (pay4_apply _ _ r f').trans ((sq_apply m c t 0 (by decide) _ r f').trans (congrArg (U m c (tok t r)) (Fin.ext ((by show 512 * 0 + f'.val = f'.val; omega : 512 * 0 + f'.val = f'.val).trans h1.symm))))

/-- The tile's hidden layer. -/
def uT (t : Fin cfg0.N) : Vec Ideal S512x4096 .bf16 := View.canon (uL m c t)

theorem uT_read (t : Fin cfg0.N) (v : View sig .tc .vmem S512x4096 .bf16) (inb) :
    v.readCov (uL m c t) (Rect.unit ![0, 0] ![512, 4096] inb).toLoadRect = uT m c t := by
  rw [View.readCov_eq_canon']
  funext j
  refine congrArg (View.canon (uL m c t)) (funext fun a => Fin.ext ?_)
  match a with
  | ⟨0, _⟩ => show 0 + 1 * (j 0).val = (j 0).val; omega
  | ⟨1, _⟩ => show 0 + 1 * (j 1).val = (j 1).val; omega

theorem eT_apply (t : Fin cfg0.N) (r : Fin 512) (d : Fin 1024) :
    k0_pay13 (F := Ideal) (hT m c t) (uT m c t) (iblk m c 7 t) (iblk m c 3 t) (ix2 r d) = E m c (tok t r) d := by
  rw [pay13_apply, hT_apply, blk_3, V_arg2]
  unfold E error
  refine congrArg (fun s => H m c (tok t r) d + s - aT m c (ix2 (tok t r) d)) (Fin.sum_fin_congr fun f => ?_)
  exact congrArg₂ (· * ·) (uL_apply m c t r f) ((blk_7 m c t _).trans (congrFun (V_v8 m c) _))

theorem out_8 (t : Fin cfg0.N) : (outsAt0 m c t.val t.isLt).1 = hT m c t := by
  rcases Decidable.em (t.val % 16 = 0) with h0 | h0
  · rw [outsAt0_A m c t h0]
    dsimp only
    frame_out
    rfl
  · rw [outsAt0_B m c t h0]
    dsimp only
    frame_out
    rfl
theorem out_9 (t : Fin cfg0.N) : (outsAt0 m c t.val t.isLt).2.1 = nT m c t := by
  rcases Decidable.em (t.val % 16 = 0) with h0 | h0
  · rw [outsAt0_A m c t h0]
    dsimp only
    frame_out
    rfl
  · rw [outsAt0_B m c t h0]
    dsimp only
    frame_out
    rfl
theorem out_10 (t : Fin cfg0.N) : (outsAt0 m c t.val t.isLt).2.2.1 = uT m c t := by
  rcases Decidable.em (t.val % 16 = 0) with h0 | h0
  · rw [outsAt0_A m c t h0]
    dsimp only
    frame_out
    rfl
  · rw [outsAt0_B m c t h0]
    dsimp only
    frame_out
    rfl
theorem out_11 (t : Fin cfg0.N) : (outsAt0 m c t.val t.isLt).2.2.2.1 = k0_pay14 (F := Ideal) (hT m c t) (uT m c t) (iblk m c 7 t) (iblk m c 3 t) := by
  rcases Decidable.em (t.val % 16 = 0) with h0 | h0
  · rw [outsAt0_A m c t h0]
    dsimp only
    frame_out
    exact congrArg (fun u => k0_pay14 (F := Ideal) (hT m c t) u (iblk m c 7 t) (iblk m c 3 t)) (uT_read m c t _ _)
  · rw [outsAt0_B m c t h0]
    dsimp only
    frame_out
    exact congrArg (fun u => k0_pay14 (F := Ideal) (hT m c t) u (iblk m c 7 t) (iblk m c 3 t)) (uT_read m c t _ _)
theorem out_13_A (t : Fin cfg0.N) (h0 : t.val % 16 = 0) :
    (outsAt0 m c t.val t.isLt).2.2.2.2.2 = k0_pay16 (F := Ideal) (hT m c t) (uT m c t) (iblk m c 7 t) (iblk m c 3 t) (k0_pay1 (F := Ideal)) := by
  rw [outsAt0_A m c t h0]
  dsimp only
  frame_out
  exact congrArg (fun u => k0_pay16 (F := Ideal) (hT m c t) u (iblk m c 7 t) (iblk m c 3 t) (k0_pay1 (F := Ideal))) (uT_read m c t _ _)
theorem out_13_B (t : Fin cfg0.N) (h0 : ¬t.val % 16 = 0) :
    (outsAt0 m c t.val t.isLt).2.2.2.2.2 = k0_pay16 (F := Ideal) (hT m c t) (uT m c t) (iblk m c 7 t) (iblk m c 3 t)
      (outsAt0 m c (t.val - 1) (Nat.lt_of_le_of_lt (Nat.sub_le _ _) t.isLt)).2.2.2.2.2 := by
  rw [outsAt0_B m c t h0]
  dsimp only
  frame_out
  exact congrArg (fun u => k0_pay16 (F := Ideal) (hT m c t) u (iblk m c 7 t) (iblk m c 3 t) (outsAt0 m c (t.val - 1) (Nat.lt_of_le_of_lt (Nat.sub_le _ _) t.isLt)).2.2.2.2.2) (uT_read m c t _ _)

/-! ## The arrays the call writes -/

/-- The derivative of the loss, as the call scales it. -/
def D (t : Fin 8192) (d : Fin 1024) : EReal := E m c t d * Ideal.ofBits FTy.f32 0x3A800000#32

theorem arr_8 : ((dats (F := Ideal) m 0 c).arrAt 8 cfg0.N : S8192x1024.Idx → EReal) = fun y => H m c (y 0) (y 1) := by
  refine (dats m 0 c).arrAt_eq_of_covers 8 _ (by decide +kernel) fun t hf y => ?_
  have e := index_8 t
  blk_simp
  rw [after0_8]
  obtain ⟨r, d, rfl⟩ : ∃ (r : Fin 512) (d : Fin 1024), y = (ix2 r d : S512x1024.Idx) := ⟨y 0, y 1, funext fun a => match a with | ⟨0, _⟩ => rfl | ⟨1, _⟩ => rfl⟩
  refine ((congrFun (out_8 m c t) _).trans (hT_apply m c t r d)).trans ?_
  refine congrArg₂ (H m c) (Fin.ext ?_) (Fin.ext ?_)
  · show 512 * t.val + r.val = win0_8.index t 0 * 512 + 1 * r.val
    rw [e.1]; omega
  · show d.val = win0_8.index t 1 * 1024 + 1 * d.val
    rw [e.2]; omega
theorem arr_9 : ((dats (F := Ideal) m 0 c).arrAt 9 cfg0.N : S8192x1024.Idx → EReal) = fun y => N m c (y 0) (y 1) := by
  refine (dats m 0 c).arrAt_eq_of_covers 9 _ (by decide +kernel) fun t hf y => ?_
  have e := index_9 t
  blk_simp
  rw [after0_9]
  obtain ⟨r, d, rfl⟩ : ∃ (r : Fin 512) (d : Fin 1024), y = (ix2 r d : S512x1024.Idx) := ⟨y 0, y 1, funext fun a => match a with | ⟨0, _⟩ => rfl | ⟨1, _⟩ => rfl⟩
  refine ((congrFun (out_9 m c t) _).trans (nT_apply m c t r d)).trans ?_
  refine congrArg₂ (N m c) (Fin.ext ?_) (Fin.ext ?_)
  · show 512 * t.val + r.val = win0_9.index t 0 * 512 + 1 * r.val
    rw [e.1]; omega
  · show d.val = win0_9.index t 1 * 1024 + 1 * d.val
    rw [e.2]; omega
theorem arr_10 : ((dats (F := Ideal) m 0 c).arrAt 10 cfg0.N : S8192x4096.Idx → EReal) = fun y => U m c (y 0) (y 1) := by
  refine (dats m 0 c).arrAt_eq_of_covers 10 _ (by decide +kernel) fun t hf y => ?_
  have e := index_10 t
  blk_simp
  rw [after0_10]
  obtain ⟨r, d, rfl⟩ : ∃ (r : Fin 512) (d : Fin 4096), y = (ix2 r d : S512x4096.Idx) := ⟨y 0, y 1, funext fun a => match a with | ⟨0, _⟩ => rfl | ⟨1, _⟩ => rfl⟩
  refine ((congrFun (out_10 m c t) _).trans (uL_apply m c t r d)).trans ?_
  refine congrArg₂ (U m c) (Fin.ext ?_) (Fin.ext ?_)
  · show 512 * t.val + r.val = win0_10.index t 0 * 512 + 1 * r.val
    rw [e.1]; omega
  · show d.val = win0_10.index t 1 * 4096 + 1 * d.val
    rw [e.2]; omega
theorem arr_11 : ((dats (F := Ideal) m 0 c).arrAt 11 cfg0.N : S8192x1024.Idx → EReal) = fun y => D m c (y 0) (y 1) := by
  refine (dats m 0 c).arrAt_eq_of_covers 11 _ (by decide +kernel) fun t hf y => ?_
  have e := index_11 t
  blk_simp
  rw [after0_11]
  obtain ⟨r, d, rfl⟩ : ∃ (r : Fin 512) (d : Fin 1024), y = (ix2 r d : S512x1024.Idx) := ⟨y 0, y 1, funext fun a => match a with | ⟨0, _⟩ => rfl | ⟨1, _⟩ => rfl⟩
  refine (((congrFun (out_11 m c t) _).trans (pay14_apply _ _ _ _ r d)).trans (congrArg (· * Ideal.ofBits FTy.f32 0x3A800000#32) ((pay13_apply _ _ _ _ r d).symm.trans (eT_apply m c t r d)))).trans ?_
  refine congrArg₂ (D m c) (Fin.ext ?_) (Fin.ext ?_)
  · show 512 * t.val + r.val = win0_11.index t 0 * 512 + 1 * r.val
    rw [e.1]; omega
  · show d.val = win0_11.index t 1 * 1024 + 1 * d.val
    rw [e.2]; omega

/-- A tile's share of the loss. -/
def tileLoss (k : ℕ) : EReal :=
  Ideal.ofBits FTy.f32 0x3F000000#32 * ∑ r : Fin 512, if h : 512 * k + r.val < 8192 then share (E m c) ⟨512 * k + r.val, h⟩ else 0

theorem pay16_tile (t : Fin cfg0.N) (o : Vec Ideal S8x128 .f32) (i : Fin 8) (j : Fin 128) :
    k0_pay16 (F := Ideal) (hT m c t) (uT m c t) (iblk m c 7 t) (iblk m c 3 t) o (ix2 i j) = o (ix2 i j) + tileLoss m c t.val := by
  rw [pay16_apply]
  refine congrArg (fun s => o (ix2 i j) + Ideal.ofBits FTy.f32 0x3F000000#32 * s) (Fin.sum_fin_congr fun r => ?_)
  have hr : 512 * t.val + r.val < 8192 := (tok t r).isLt
  rw [dif_pos hr]
  unfold share
  refine congrArg (· * Ideal.ofBits FTy.f32 0x3A800000#32) (Fin.sum_fin_congr fun d => ?_)
  rw [eT_apply]
  rfl

theorem loss_point (t : Fin cfg0.N) (y : S8x128.Idx) :
    (outsAt0 m c t.val t.isLt).2.2.2.2.2 y = (0 : EReal) + ∑ k ∈ Finset.range (t.val + 1), tileLoss m c k := by
  obtain ⟨i, j, rfl⟩ : ∃ (i : Fin 8) (j : Fin 128), y = (ix2 i j : S8x128.Idx) := ⟨y 0, y 1, funext fun a => match a with | ⟨0, _⟩ => rfl | ⟨1, _⟩ => rfl⟩
  refine Pipeline.eq_sum_of_reset_step_single (M := EReal) (fun n h => (outsAt0 m c n h).2.2.2.2.2 (ix2 i j)) 16 0 (tileLoss m c) (fun t h0 => ?_) (fun t h0 => ?_) (le_of_eq N_0) t
  · refine (congrFun (out_13_A m c t h0) _).trans ((pay16_tile m c t _ i j).trans ?_)
    refine congrArg (· + tileLoss m c t.val) ?_
    pointwise [k0_pay1]
  · exact (congrFun (out_13_B m c t h0) _).trans (pay16_tile m c t _ i j)

theorem arr_13 : ((dats (F := Ideal) m 0 c).arrAt 13 cfg0.N : S8x128.Idx → EReal) = fun _ => ∑ k ∈ Finset.range 16, tileLoss m c k := by
  refine (dats m 0 c).arrAt_eq_of_covers 13 _ (by decide +kernel) fun t hf y => ?_
  blk_simp
  rw [after0_13]
  refine (loss_point m c t _).trans ?_
  have h15 : t.val = 15 := by
    have := (flush0_13 t).mp hf
    have := lt16 t
    omega
  rw [h15, zero_add]

end Cert.Kernel5Ideal.Mlp

end
-- ==== Proof.MlpEnd.lean ====
/- The reference's terms for the feed-forward block's forward pass, and the call's results equal to them. -/
module

public import proofs.«01_k».proof.Proof.MlpFwd

@[expose] public section

set_option maxRecDepth 16384

noncomputable section

namespace Cert.Reference5Ideal.Mlp

open Idealize.ShloMosaic Idealize.ShloMosaic.TcCoe Idealize.SL.Sem Idealize.ShloMosaic.StableHlo
open Cert.Reference5Ideal Cert.Reference5Ideal.Gen
open Cert.Kernel5Ideal.Mlp (resid normed hidden error share)

theorem half : Ideal.ofBits FTy.f32 1056964608#32 = ((0.5 : ℝ) : EReal) := by
  simp [Ideal.ofBits, Ideal.ieee, -EReal.coe_mul]; norm_num
theorem two : Ideal.ofBits FTy.f32 1073741824#32 = ((2 : ℝ) : EReal) := by
  simp [Ideal.ofBits, Ideal.ieee, -EReal.coe_mul]; norm_num
theorem width : Ideal.ofBits FTy.f32 1149239296#32 = ((1024 : ℝ) : EReal) := by
  simp [Ideal.ofBits, Ideal.ieee, -EReal.coe_mul]; norm_num
theorem inv_width : Ideal.ofBits FTy.f32 981467136#32 = ((1 / 1024 : ℝ) : EReal) := by
  simp [Ideal.ofBits, Ideal.ieee, -EReal.coe_mul]; norm_num

theorem div_width (x : EReal) : Ideal.div x (Ideal.ofBits FTy.f32 1149239296#32) = x * Ideal.ofBits FTy.f32 981467136#32 := by
  rw [width, inv_width]
  unfold Ideal.div
  rw [if_neg (by exact_mod_cast (by norm_num : (1024 : ℝ) ≠ 0)), ← EReal.coe_inv]
  norm_num

theorem scale (e : EReal) : Ideal.div (Ideal.ofBits FTy.f32 1056964608#32) (Ideal.ofBits FTy.f32 1149239296#32) * (Ideal.ofBits FTy.f32 1073741824#32 * e)
    = e * Ideal.ofBits FTy.f32 981467136#32 := by
  rw [div_width, ← mul_assoc, mul_comm e, half, two, inv_width, ← EReal.coe_mul, ← EReal.coe_mul]
  norm_num

theorem half_sum {ι : Type} (s : Finset ι) (f : ι → EReal) (hf : ∀ i, 0 ≤ f i) :
    Ideal.ofBits FTy.f32 1056964608#32 * ∑ i ∈ s, f i = ∑ i ∈ s, Ideal.ofBits FTy.f32 1056964608#32 * f i := by
  classical
  induction s using Finset.induction_on with
  | empty => simp
  | insert a s ha ih => rw [Finset.sum_insert ha, Finset.sum_insert ha, EReal.left_distrib_of_nonneg (hf a) (Finset.sum_nonneg fun i _ => hf i), ih]

theorem sum_blocks (g : ℕ → EReal) (n : ℕ) : (∑ k ∈ Finset.range n, ∑ r : Fin 512, g (512 * k + r.val)) = ∑ i ∈ Finset.range (512 * n), g i := by
  induction n with
  | zero => rfl
  | succ n ih => rw [Finset.sum_range_succ, ih, Nat.mul_succ, Finset.sum_range_add, Fin.sum_univ_eq_sum_range (fun i => g (512 * n + i)) 512]

theorem sq_nonneg (x : EReal) : 0 ≤ x * x := by
  rcases le_total 0 x with h | h
  · exact EReal.mul_nonneg h h
  · rw [← neg_mul_neg]
    exact EReal.mul_nonneg (EReal.neg_nonneg.mpr h) (EReal.neg_nonneg.mpr h)

theorem share_nonneg (e : Fin 8192 → Fin 1024 → EReal) (t : Fin 8192) : 0 ≤ share e t := by
  refine EReal.mul_nonneg (Finset.sum_nonneg fun i _ => sq_nonneg _) ?_
  rw [inv_width]
  exact EReal.coe_nonneg.mpr (by norm_num)

/-- Half the sum of the tokens' shares, a tile at a time. -/
theorem loss_tiles (m : (ℓ : Loc Cert.Kernel5Ideal.nD Cert.Kernel5Ideal.τ Cert.Kernel5Ideal.sig) → Buf (Elt Ideal) ℓ) (c : Dev Cert.Kernel5Ideal.nD) :
    (∑ k ∈ Finset.range 16, Cert.Kernel5Ideal.Mlp.tileLoss m c k)
      = Ideal.ofBits FTy.f32 1056964608#32 * ∑ t : Fin 8192, share (Cert.Kernel5Ideal.Mlp.E m c) t := by
  unfold Cert.Kernel5Ideal.Mlp.tileLoss
  have hg : ∀ i : ℕ, (0 : EReal) ≤ (if h : i < 8192 then share (Cert.Kernel5Ideal.Mlp.E m c) ⟨i, h⟩ else 0) := fun i => by
    split
    · exact share_nonneg _ _
    · exact le_refl _
  rw [← half_sum _ _ fun k => Finset.sum_nonneg fun r _ => hg _]
  refine congrArg (Ideal.ofBits FTy.f32 1056964608#32 * ·) ?_
  rw [sum_blocks (fun i => if h : i < 8192 then share (Cert.Kernel5Ideal.Mlp.E m c) ⟨i, h⟩ else 0) 16, Finset.sum_range]
  exact Finset.sum_congr rfl fun i _ => dif_pos i.isLt

section Terms
variable (X M T : S8192x1024.Idx → EReal) (Wo : S1024x1024.Idx → EReal) (G : S1024.Idx → EReal) (Wu : S1024x4096.Idx → EReal) (Wd : S4096x1024.Idx → EReal)
variable (h n : Fin 8192 → Fin 1024 → EReal) (u : Fin 8192 → Fin 4096 → EReal)

/-- A function of two coordinates as an array. -/
abbrev arr {a b : ℕ} (f : Fin a → Fin b → EReal) : (⟨2, ![a, b]⟩ : Shape).Idx → EReal := fun y => f (y 0) (y 1)

theorem ref_h : (addf (F := Ideal) (φ := .f32) X (Host.dotGeneral (F := Ideal) (φ₁ := .f32) (φ₂ := .f32) dot_S8192x1024_S1024x1024_S8192x1024_1_0_0_1_n_n none M Wo) : S8192x1024.Idx → EReal)
    = arr (resid X M Wo) := by
  funext y
  obtain ⟨t, d, rfl⟩ : ∃ (t : Fin 8192) (d : Fin 1024), y = (ix2 t d : S8192x1024.Idx) := ⟨y 0, y 1, funext fun a => match a with | ⟨0, _⟩ => rfl | ⟨1, _⟩ => rfl⟩
  pointwise
  rfl

theorem ref_n : (mulf (F := Ideal) (φ := .f32) (mulf (arr h) (broadcastInDim S8192x1024 ![0, 1] bcast_S8192x1_S8192x1024_0_1 (Host.rsqrt (addf (Host.divf (broadcastInDim S8192x1 ![0] bcast_S8192_S8192x1_0 (Host.reduceAdd (mulf (arr h) (arr h)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 G)) : S8192x1024.Idx → EReal)
    = arr (normed h G) := by
  funext y
  obtain ⟨t, d, rfl⟩ : ∃ (t : Fin 8192) (d : Fin 1024), y = (ix2 t d : S8192x1024.Idx) := ⟨y 0, y 1, funext fun a => match a with | ⟨0, _⟩ => rfl | ⟨1, _⟩ => rfl⟩
  pointwise
  rfl

theorem ref_u : (mulf (F := Ideal) (φ := .f32) (maximumf (Host.dotGeneral (φ₁ := .f32) (φ₂ := .f32) dot_S8192x1024_S1024x4096_S8192x4096_1_0_0_1_n_n none (arr n) Wu) (broadcastInDim S8192x4096 ![] bcast_S_S8192x4096 (constant S_ .f32 0x00000000#32))) (maximumf (Host.dotGeneral (φ₁ := .f32) (φ₂ := .f32) dot_S8192x1024_S1024x4096_S8192x4096_1_0_0_1_n_n none (arr n) Wu) (broadcastInDim S8192x4096 ![] bcast_S_S8192x4096 (constant S_ .f32 0x00000000#32))) : S8192x4096.Idx → EReal)
    = arr (hidden n Wu) := by
  funext y
  obtain ⟨t, d, rfl⟩ : ∃ (t : Fin 8192) (d : Fin 4096), y = (ix2 t d : S8192x4096.Idx) := ⟨y 0, y 1, funext fun a => match a with | ⟨0, _⟩ => rfl | ⟨1, _⟩ => rfl⟩
  pointwise
  rfl

theorem ref_e : (subf (F := Ideal) (φ := .f32) (addf (arr h) (Host.dotGeneral (φ₁ := .f32) (φ₂ := .f32) dot_S8192x4096_S4096x1024_S8192x1024_1_0_0_1_n_n none (arr u) Wd)) T : S8192x1024.Idx → EReal)
    = arr (error h u Wd T) := by
  funext y
  obtain ⟨t, d, rfl⟩ : ∃ (t : Fin 8192) (d : Fin 1024), y = (ix2 t d : S8192x1024.Idx) := ⟨y 0, y 1, funext fun a => match a with | ⟨0, _⟩ => rfl | ⟨1, _⟩ => rfl⟩
  pointwise
  rfl

theorem ref_dy (e : Fin 8192 → Fin 1024 → EReal) : (mulf (F := Ideal) (φ := .f32) (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (arr e)) : S8192x1024.Idx → EReal)
    = arr fun t d => e t d * Ideal.ofBits FTy.f32 981467136#32 := by
  funext y
  obtain ⟨t, d, rfl⟩ : ∃ (t : Fin 8192) (d : Fin 1024), y = (ix2 t d : S8192x1024.Idx) := ⟨y 0, y 1, funext fun a => match a with | ⟨0, _⟩ => rfl | ⟨1, _⟩ => rfl⟩
  pointwise
  exact scale _

theorem ref_loss (e : Fin 8192 → Fin 1024 → EReal) : (mulf (F := Ideal) (φ := .f32) (constant S_ .f32 0x3F000000#32) (Host.reduceAdd (Host.divf (Host.reduceAdd (mulf (arr e) (arr e)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_) : S_.Idx → EReal)
    = fun _ => Ideal.ofBits FTy.f32 1056964608#32 * ∑ t : Fin 8192, share e t := by
  funext y
  pointwise
  exact congrArg (Ideal.ofBits FTy.f32 1056964608#32 * ·) (Finset.sum_congr rfl fun t _ => div_width _)
end Terms

/-- The reference ends with its arguments as given and every counter at zero. -/
theorem quiescent : Cert.quiescent_Reference5Ideal := fun m g _ =>
  (θ_run Cert.Reference5Ideal.defs _ _).mono (fun r h => ⟨fun c => (h c).2.2.2.2.2, sem_eq_zero_of_no_sems (by decide) r.2⟩)
    (Cert.Reference5Ideal.Value.run m g)

end Cert.Reference5Ideal.Mlp

namespace Cert.Kernel5Ideal.Mlp

open Idealize.ShloMosaic Idealize.ShloMosaic.TcCoe Idealize.SL.Sem Idealize.ShloMosaic.StableHlo Cert.Line
open Cert.Kernel5Ideal Cert.Kernel5Ideal.Gen
open Cert.Reference5Ideal.Mlp (arr)

variable (m : (ℓ : Loc nD τ sig) → Buf (Elt Ideal) ℓ) (c : Dev nD)

/-- What the host lines after the call write, in order. -/
abbrev wr' : List (Ref sig .tc) := [main_v10, main_v11, main_v12, main_v13]

/-- The loss. -/
def L : EReal := Ideal.ofBits FTy.f32 1056964608#32 * ∑ t : Fin 8192, share (E m c) t

theorem corner (x : S8x128.Idx → EReal) (v : EReal) (hx : x = fun _ => v) :
    (shapeCast (α := EReal) S_ (extractStridedSlice (α := EReal) S1x1 ![0, 0] x slices_S8x128_S1x1_0_0) shapeCasts_S1x1_S_ : S_.Idx → EReal) = fun _ => v := by
  subst hx; rfl

theorem tail_v12 : (Pipeline.afterTail₀ cfgs (dats (F := Ideal) m) 0 (V0 m) [hostOps1] c main_v12 : S8192x1024.Idx → EReal) = arr (N m c) := by
  have key : ∀ A : Valuation τ sig (Elt Ideal), (A (Proc.devRef .tc main_v9_1) : S8192x1024.Idx → EReal) = arr (N m c) →
      (after hostOps1 A (Proc.devRef .tc main_v12) : S8192x1024.Idx → EReal) = arr (N m c) := fun A hA => by
    have h1 : (after hostOps1 A (Proc.devRef .tc main_v9_1) : S8192x1024.Idx → EReal) = arr (N m c) :=
      (read_arg (τ := τ) (Val := Elt Ideal) (ops := hostOps1) (W := wr') (r := main_v9_1) rfl (by decide) _).trans hA
    exact (read_unary (τ := τ) (Val := Elt Ideal) (ops := hostOps1) (W := wr') rfl 2 rfl (by decide) (by decide) _).trans h1
  exact key _ ((Pipeline.withArrays_arr spec0 launch0.win.arr_inj c (V0 m c) _ 9).trans (arr_9 m c))
theorem tail_v13 : (Pipeline.afterTail₀ cfgs (dats (F := Ideal) m) 0 (V0 m) [hostOps1] c main_v13 : S8192x4096.Idx → EReal) = arr (U m c) := by
  have key : ∀ A : Valuation τ sig (Elt Ideal), (A (Proc.devRef .tc main_v9_2) : S8192x4096.Idx → EReal) = arr (U m c) →
      (after hostOps1 A (Proc.devRef .tc main_v13) : S8192x4096.Idx → EReal) = arr (U m c) := fun A hA => by
    have h1 : (after hostOps1 A (Proc.devRef .tc main_v9_2) : S8192x4096.Idx → EReal) = arr (U m c) :=
      (read_arg (τ := τ) (Val := Elt Ideal) (ops := hostOps1) (W := wr') (r := main_v9_2) rfl (by decide) _).trans hA
    exact (read_unary (τ := τ) (Val := Elt Ideal) (ops := hostOps1) (W := wr') rfl 3 rfl (by decide) (by decide) _).trans h1
  exact key _ ((Pipeline.withArrays_arr spec0 launch0.win.arr_inj c (V0 m c) _ 10).trans (arr_10 m c))
theorem tail_v11 : (Pipeline.afterTail₀ cfgs (dats (F := Ideal) m) 0 (V0 m) [hostOps1] c main_v11 : S_.Idx → EReal) = fun _ => L m c := by
  have key : ∀ A : Valuation τ sig (Elt Ideal), (A (Proc.devRef .tc main_v9_5) : S8x128.Idx → EReal) = (fun _ => L m c) →
      (after hostOps1 A (Proc.devRef .tc main_v11) : S_.Idx → EReal) = fun _ => L m c := fun A hA => by
    have h0 : (after hostOps1 A (Proc.devRef .tc main_v9_5) : S8x128.Idx → EReal) = fun _ => L m c :=
      (read_arg (τ := τ) (Val := Elt Ideal) (ops := hostOps1) (W := wr') (r := main_v9_5) rfl (by decide) _).trans hA
    have h1 : (after hostOps1 A (Proc.devRef .tc main_v10) : S1x1.Idx → EReal) = extractStridedSlice (α := EReal) S1x1 ![0, 0] (after hostOps1 A (Proc.devRef .tc main_v9_5)) slices_S8x128_S1x1_0_0 :=
      read_unary (τ := τ) (Val := Elt Ideal) (ops := hostOps1) (W := wr') rfl 0 rfl (by decide) (by decide) _
    have h2 : (after hostOps1 A (Proc.devRef .tc main_v11) : S_.Idx → EReal) = shapeCast (α := EReal) S_ (after hostOps1 A (Proc.devRef .tc main_v10)) shapeCasts_S1x1_S_ :=
      read_reshape (τ := τ) (Val := Elt Ideal) (ops := hostOps1) (W := wr') rfl 1 rfl (by decide) (by decide) _
    rw [h2, h1]
    exact corner _ _ h0
  exact key _ ((Pipeline.withArrays_arr spec0 launch0.win.arr_inj c (V0 m c) _ 13).trans ((arr_13 m c).trans (funext fun _ => Cert.Reference5Ideal.Mlp.loss_tiles m c)))

/-- Both programs end with the loss, its derivative, the residual stream, the normalised rows and the hidden layer. -/
theorem equal_results : Cert.algebraic_Kernel5Ideal_Reference5Ideal := by
  intro m g m' g' _ hs
  refine ⟨fun c _ => L m c, fun c => arr (D m c), fun c => arr (H m c), fun c => arr (N m c), fun c => arr (U m c), ?_, ?_⟩
  · refine (θ_run defs _ _).mono (fun r h c => ?_) (θ_run_and (Gen.unchanged m g) (Gen.run_main m g))
    have hb := fun b h1 h2 => (h.2 c).2 b (Pipeline.mem_restRefs_of b h1 h2)
    exact ⟨(hb main_v11 (by decide) (by decide)).trans (tail_v11 m c),
      ((h.2 c).1 11).trans (arr_11 m c),
      ((h.2 c).1 8).trans (arr_8 m c),
      (hb main_v12 (by decide) (by decide)).trans (tail_v12 m c),
      (hb main_v13 (by decide) (by decide)).trans (tail_v13 m c), h.1 c⟩
  · refine (θ_run Cert.Reference5Ideal.defs _ _).mono (fun r h c => ?_) (Cert.Reference5Ideal.Value.run m' g')
    obtain ⟨e0, e1, e2, e3, e4, e5, e6⟩ := hs c
    obtain ⟨r0, r1, r2, r3, r4, ra⟩ := h c
    refine ⟨r0.trans ?_, r1.trans ?_, r2.trans ?_, r3.trans ?_, r4.trans ?_, ra⟩
    · unfold Cert.Reference5Ideal.Value.res_main_v28
      rw [e0, e1, e2, e3, e4, e5, e6, Cert.Reference5Ideal.Mlp.ref_h, Cert.Reference5Ideal.Mlp.ref_n, Cert.Reference5Ideal.Mlp.ref_u, Cert.Reference5Ideal.Mlp.ref_e, Cert.Reference5Ideal.Mlp.ref_loss]
      rfl
    · rw [e0, e1, e2, e3, e4, e5, e6, Cert.Reference5Ideal.Mlp.ref_h, Cert.Reference5Ideal.Mlp.ref_n, Cert.Reference5Ideal.Mlp.ref_u, Cert.Reference5Ideal.Mlp.ref_e, Cert.Reference5Ideal.Mlp.ref_dy]
      rfl
    · rw [e0, e1, e3, Cert.Reference5Ideal.Mlp.ref_h]
      rfl
    · rw [e0, e1, e3, e4, Cert.Reference5Ideal.Mlp.ref_h, Cert.Reference5Ideal.Mlp.ref_n]
      rfl
    · rw [e0, e1, e3, e4, e5, Cert.Reference5Ideal.Mlp.ref_h, Cert.Reference5Ideal.Mlp.ref_n, Cert.Reference5Ideal.Mlp.ref_u]
      rfl

end Cert.Kernel5Ideal.Mlp

end
-- ==== Proof.MlpBwdTile.lean ====
/- The operations of the feed-forward block's backward tile, an element at a time. -/
module

public import proofs.«01_k».proof.Proof.Gen.Kernel4Ideal.Skeleton
public import Idealize.ShloMosaic.Lib.Pointwise
public import Idealize.ShloMosaic.Lib.Pipeline.ValueKit

@[expose] public section

set_option maxRecDepth 16384

noncomputable section

namespace Cert.Kernel4Ideal.MlpB

open Idealize.ShloMosaic Idealize.ShloMosaic.TcCoe Idealize.SL.Sem Idealize.ShloMosaic.StableHlo
open Cert.Kernel4Ideal Cert.Kernel4Ideal.Gen

/-! ## The operations of a tile, an element at a time -/

theorem pay3_apply (y : Vec Ideal S512x1024 .f32) (w : Vec Ideal S4096x1024 .bf16) (u : Vec Ideal S512x4096 .bf16) (r : Fin 512) (f : Fin 4096) :
    k0_pay3 (F := Ideal) y w u (ix2 r f) = (∑ d : Fin 1024, y (ix2 r d) * w (ix2 f d)) * (Ideal.ofBits FTy.f32 0x40000000#32 * Ideal.sqrt (u (ix2 r f))) := by
  pointwise [k0_pay3]
theorem pay4_apply (y : Vec Ideal S512x1024 .f32) (w : Vec Ideal S4096x1024 .bf16) (u : Vec Ideal S512x4096 .bf16) (w' : Vec Ideal S4096x1024 .bf16) (r : Fin 512) (d : Fin 1024) :
    k0_pay4 (F := Ideal) y w u w' (ix2 r d) = ∑ f : Fin 4096, k0_pay3 (F := Ideal) y w u (ix2 r f) * w' (ix2 f d) := by
  unfold k0_pay4
  generalize k0_pay3 (F := Ideal) y w u = x
  pointwise
theorem pay6_apply (h : Vec Ideal S512x1024 .f32) (r : Fin 512) :
    k0_pay6 (F := Ideal) h (ix2 r 0) = Ideal.rsqrt (Ideal.div (∑ k, h (ix2 r k) * h (ix2 r k)) (Ideal.ofBits FTy.f32 0x44800000#32) + Ideal.ofBits FTy.f32 0x358637BD#32) := by
  pointwise [k0_pay6, k0_pay5]
theorem pay7_apply (h : Vec Ideal S512x1024 .f32) (r : Fin 512) (d : Fin 1024) :
    k0_pay7 (F := Ideal) h (ix2 r d) = h (ix2 r d) * k0_pay6 (F := Ideal) h (ix2 r 0) := by
  unfold k0_pay7
  generalize k0_pay6 (F := Ideal) h = x
  pointwise [k0_pay5]
theorem pay8_apply (g : Vec Ideal S1x1024 .f32) (r : Fin 512) (d : Fin 1024) :
    k0_pay8 (F := Ideal) g (ix2 r d) = g (ix2 0 d) := by
  pointwise [k0_pay8]
theorem pay9_apply (y : Vec Ideal S512x1024 .f32) (n : FVec Ideal S512x1024 .f32) (q : FVec Ideal S512x1 .f32) (a g : FVec Ideal S512x1024 .f32) (r : Fin 512) (d : Fin 1024) :
    k0_pay9 (F := Ideal) y n q a g (ix2 r d)
      = y (ix2 r d) + q (ix2 r 0) * (n (ix2 r d) * g (ix2 r d) - a (ix2 r d) * Ideal.div (∑ k, n (ix2 r k) * g (ix2 r k) * a (ix2 r k)) (Ideal.ofBits FTy.f32 0x44800000#32)) := by
  pointwise [k0_pay9]
theorem pay10_apply (n a : FVec Ideal S512x1024 .f32) (o : Vec Ideal S1x1024 .f32) (d : Fin 1024) :
    k0_pay10 (F := Ideal) n a o (ix2 0 d) = o (ix2 0 d) + ∑ r : Fin 512, n (ix2 r d) * a (ix2 r d) := by
  pointwise [k0_pay10]
theorem pay12_apply (y : Vec Ideal S512x1024 .f32) (n : FVec Ideal S512x1024 .f32) (q : FVec Ideal S512x1 .f32) (a g : FVec Ideal S512x1024 .f32) (w : Vec Ideal S1024x1024 .bf16) (r : Fin 512) (e : Fin 1024) :
    k0_pay12 (F := Ideal) y n q a g w (ix2 r e) = ∑ d : Fin 1024, k0_pay9 (F := Ideal) y n q a g (ix2 r d) * w (ix2 e d) := by
  unfold k0_pay12 k0_pay11
  generalize k0_pay9 (F := Ideal) y n q a g = x
  pointwise
theorem pay13_apply (y : Vec Ideal S512x1024 .f32) (n : FVec Ideal S512x1024 .f32) (q : FVec Ideal S512x1 .f32) (a g : FVec Ideal S512x1024 .f32) (w : Vec Ideal S1024x1024 .bf16) (r : Fin 512) (e : Fin 512) :
    k0_pay13 (F := Ideal) y n q a g w (ix2 r e) = k0_pay12 (F := Ideal) y n q a g w (ix2 r ⟨e.val, by omega⟩) := by
  unfold k0_pay13
  generalize k0_pay12 (F := Ideal) y n q a g w = x
  pointwise
theorem pay14_apply (y : Vec Ideal S512x1024 .f32) (n : FVec Ideal S512x1024 .f32) (q : FVec Ideal S512x1 .f32) (a g : FVec Ideal S512x1024 .f32) (w : Vec Ideal S1024x1024 .bf16) (r : Fin 512) (e : Fin 512) :
    k0_pay18 (F := Ideal) (k0_pay14 (F := Ideal) y n q a g w) (ix2 r e) = k0_pay12 (F := Ideal) y n q a g w (ix2 r ⟨512 + e.val, by omega⟩) := by
  unfold k0_pay18 k0_pay14
  generalize k0_pay12 (F := Ideal) y n q a g w = x
  pointwise

/-! ## The lanes of a head -/

theorem lane_eq (l : Fin 64) : IntOp.cmpi CmpIPredicate.eq (BitVec.ofNat 32 l.val) 74#32 = 0#1 ∧ IntOp.cmpi CmpIPredicate.eq (BitVec.ofNat 32 l.val) 75#32 = 0#1
    ∧ IntOp.cmpi CmpIPredicate.eq (BitVec.ofNat 32 l.val) 76#32 = 0#1 ∧ IntOp.cmpi CmpIPredicate.slt (BitVec.ofNat 32 l.val) 64#32 = 1#1 := by
  revert l; decide
theorem sel0 {α : Type} (a b : α) : Scalar.select 0#1 a b = b := rfl
theorem sel1 {α : Type} (a b : α) : Scalar.select 1#1 a b = a := rfl

section
variable (x : FVec Ideal S512x512 .f32) (y : FVec Ideal S512x128 .f32) (r : Fin 512) (l : Fin 64)
theorem head0 (z : FVec Ideal S512x512 .bf16) (s : FVec Ideal S512x128 .bf16) (b : Vec Ideal S512x512 .bf16) :
    k0_pay25 (F := Ideal) k0_pay22 (k0_pay23 (F := Ideal) z s b) (k0_pay24 (F := Ideal) z s b) (ix2 r ⟨l.val, by omega⟩) = k0_pay18 (F := Ideal) z (ix2 r ⟨l.val, by omega⟩) := by
  unfold k0_pay23 k0_pay24
  generalize k0_pay20 (F := Ideal) z s b = u, k0_pay21 (F := Ideal) z s b = v, k0_pay18 (F := Ideal) z = w
  pointwise [k0_pay25, k0_pay22]
  simp only [(lane_eq l).1, (lane_eq l).2.1, (lane_eq l).2.2.1, (lane_eq l).2.2.2, sel0, sel1]
theorem head1 : k0_pay26 (F := Ideal) x y (ix2 r ⟨l.val, by omega⟩) = x (ix2 r ⟨64 + l.val, by omega⟩) := by
  pointwise [k0_pay26]
  simp only [(lane_eq l).1, (lane_eq l).2.1, (lane_eq l).2.2.1, (lane_eq l).2.2.2, sel0, sel1]
  exact congrArg x (congrArg (ix2 r) (Fin.ext (by simp; omega)))
theorem head2 : k0_pay29 (F := Ideal) y (k0_pay27 (F := Ideal) x) k0_pay28 (Scalar.ofBits .f32 0x00000000#32) (ix2 r ⟨l.val, by omega⟩) = x (ix2 r ⟨128 + l.val, by omega⟩) := by
  pointwise [k0_pay29, k0_pay27, k0_pay28]
  simp only [(lane_eq l).1, (lane_eq l).2.1, (lane_eq l).2.2.1, (lane_eq l).2.2.2, sel0, sel1]
theorem head3 (u v w : FVec Ideal S512x1 .f32) : k0_pay35 (F := Ideal) (k0_pay30 (F := Ideal) x) (iota .tc S512x128 32 [1] iota_S512x128_d1_w32) u v w (ix2 r ⟨l.val, by omega⟩) = x (ix2 r ⟨192 + l.val, by omega⟩) := by
  pointwise [k0_pay35, k0_pay30]
  simp only [(lane_eq l).1, (lane_eq l).2.1, (lane_eq l).2.2.1, (lane_eq l).2.2.2, sel0, sel1]
  exact congrArg x (congrArg (ix2 r) (Fin.ext (by simp; omega)))
theorem head4 (u v : FVec Ideal S512x1 .f32) : k0_pay42 (F := Ideal) u v k0_pay39 k0_pay40 (k0_pay41 (F := Ideal) x y) (ix2 r ⟨l.val, by omega⟩) = x (ix2 r ⟨256 + l.val, by omega⟩) := by
  unfold k0_pay41
  generalize k0_pay36 (F := Ideal) y = a, k0_pay37 (F := Ideal) y = b, k0_pay38 (F := Ideal) y = d
  pointwise [k0_pay42, k0_pay39, k0_pay40]
  simp only [(lane_eq l).1, (lane_eq l).2.1, (lane_eq l).2.2.1, (lane_eq l).2.2.2, sel0, sel1]
theorem head5 : k0_pay43 (F := Ideal) x y (ix2 r ⟨l.val, by omega⟩) = x (ix2 r ⟨320 + l.val, by omega⟩) := by
  pointwise [k0_pay43]
  simp only [(lane_eq l).1, (lane_eq l).2.1, (lane_eq l).2.2.1, (lane_eq l).2.2.2, sel0, sel1]
  exact congrArg x (congrArg (ix2 r) (Fin.ext (by simp; omega)))
theorem head6 : k0_pay45 (F := Ideal) y (k0_pay44 (F := Ideal) x) (iota .tc S512x128 32 [1] iota_S512x128_d1_w32) (ix2 r ⟨l.val, by omega⟩) = x (ix2 r ⟨384 + l.val, by omega⟩) := by
  pointwise [k0_pay45, k0_pay44]
  simp only [(lane_eq l).1, (lane_eq l).2.1, (lane_eq l).2.2.1, (lane_eq l).2.2.2, sel0, sel1]
theorem head7 (u v : FVec Ideal S512x1 .f32) : k0_pay1 (F := Ideal) (k0_pay46 (F := Ideal) x) u (iota .tc S512x128 32 [1] iota_S512x128_d1_w32) v (ix2 r ⟨l.val, by omega⟩) = x (ix2 r ⟨448 + l.val, by omega⟩) := by
  pointwise [k0_pay1, k0_pay46]
  simp only [(lane_eq l).1, (lane_eq l).2.1, (lane_eq l).2.2.1, (lane_eq l).2.2.2, sel0, sel1]
  exact congrArg x (congrArg (ix2 r) (Fin.ext (by simp; omega)))
end

end Cert.Kernel4Ideal.MlpB

end
-- ==== Proof.MlpMath.lean ====
/- The feed-forward block's backward pass, a token at a time: the squared rectifier's derivative and the derivative of
   the normalisation, as the call and as the reference write them. -/
module

public import proofs.«01_k».proof.Proof.Math

@[expose] public section

noncomputable section

namespace Cert.MlpMath

open Idealize.ShloMosaic Cert.FoxMath

/-! ## Constants -/

/-- The width of a row, as a pattern. -/
abbrev W : EReal := Ideal.ofBits FTy.f32 0x44800000#32
/-- The addend under the root. -/
abbrev eps : EReal := Ideal.ofBits FTy.f32 0x358637BD#32
/-- Two. -/
abbrev two : EReal := Ideal.ofBits FTy.f32 0x40000000#32

theorem W_eq : W = ((1024 : ℝ) : EReal) := by
  simp [W, Ideal.ofBits, Ideal.ieee, -EReal.coe_mul]; norm_num
theorem two_eq : two = ((2 : ℝ) : EReal) := by
  simp [two, Ideal.ofBits, Ideal.ieee, -EReal.coe_mul]; norm_num
theorem mhalf_eq : Ideal.ofBits FTy.f32 0xBF000000#32 = ((-0.5 : ℝ) : EReal) := by
  simp [Ideal.ofBits, Ideal.ieee, -EReal.coe_mul]; norm_num
theorem eps_eq : ∃ e : ℝ, 0 < e ∧ eps = (e : EReal) := by
  have h : eps = ((8796093 * (2 : ℝ) ^ (-43 : ℤ) : ℝ) : EReal) := by
    simp [eps, Ideal.ofBits, Ideal.ieee, -EReal.coe_mul]
  exact ⟨_, by positivity, h⟩

/-! ## The squared rectifier -/

theorem sqrt_sq (x : EReal) (hx : 0 ≤ x) : Ideal.sqrt (x * x) = x := by
  induction x with
  | bot => exact absurd hx (by simp)
  | top => rw [EReal.top_mul_top]; rfl
  | coe r =>
    have hr : 0 ≤ r := EReal.coe_nonneg.mp hx
    rw [← EReal.coe_mul]
    show (if r * r < 0 then ⊥ else (Real.sqrt (r * r) : EReal)) = _
    rw [if_neg (not_lt.2 (mul_nonneg hr hr)), Real.sqrt_mul_self hr]

/-- The derivative of the squared rectifier, times a cotangent. -/
def dsq (d u : EReal) : EReal := d * (two * max u 0)

theorem dsq_root (d u : EReal) : d * (two * Ideal.sqrt (max u 0 * max u 0)) = dsq d u := by
  rw [sqrt_sq _ (le_max_right _ _)]; rfl

theorem dsq_select (d u : EReal) : (if 0 < u then d * (two * max u 0) else 0) = dsq d u := by
  unfold dsq
  split
  · rfl
  · rename_i h
    rw [max_eq_right (not_lt.1 h), mul_zero, mul_zero]

/-! ## The normalisation -/

/-- A row's reciprocal root mean square. -/
def root (h : Fin 1024 → EReal) : EReal := Ideal.rsqrt (Ideal.div (∑ k, h k * h k) W + eps)

/-- The row's gradient, as the call writes it. -/
def drow (h gd : Fin 1024 → EReal) (y : EReal) (d : Fin 1024) : EReal :=
  y + root h * (gd d - h d * root h * Ideal.div (∑ k, gd k * (h k * root h)) W)

/-- The mean's part of the row's gradient, as the reference writes it. -/
def mpart (h gd : Fin 1024 → EReal) : EReal :=
  Ideal.div ((∑ k, h k * gd k) * (Ideal.ofBits FTy.f32 0xBF000000#32 * Ideal.div (root h) (Ideal.div (∑ k, h k * h k) W + eps))) W

theorem var_pos (h : Fin 1024 → ℝ) : ∃ v : ℝ, 0 < v ∧ Ideal.div (∑ k, (h k : EReal) * (h k : EReal)) W + eps = (v : EReal) := by
  obtain ⟨e, he, hE⟩ := eps_eq
  refine ⟨(∑ k, h k * h k) / 1024 + e, add_pos_of_nonneg_of_pos (div_nonneg (Finset.sum_nonneg fun i _ => mul_self_nonneg _) (by norm_num)) he, ?_⟩
  rw [hE, coe_sum_mul, W_eq, coe_div (by norm_num), EReal.coe_add]

theorem rsqrt_pos {v : ℝ} (hv : 0 < v) : Ideal.rsqrt (v : EReal) = (((Real.sqrt v)⁻¹ : ℝ) : EReal) := by
  show (if v < 0 then ⊥ else if v = 0 then ⊤ else (((Real.sqrt v)⁻¹ : ℝ) : EReal)) = _
  rw [if_neg (not_lt.2 hv.le), if_neg hv.ne']

theorem sum_mul_coe {ι : Type} (s : Finset ι) (f : ι → EReal) {r : ℝ} (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (EReal.coe_nonneg.mpr hr) (EReal.coe_ne_top r), ih]

theorem twice (x : EReal) : x + x = ((2 : ℝ) : EReal) * x := by
  induction x with
  | bot => rw [EReal.coe_mul_bot_of_pos (by norm_num)]; rfl
  | top => rw [EReal.coe_mul_top_of_pos (by norm_num)]; rfl
  | coe r => rw [← EReal.coe_add, ← EReal.coe_mul, two_mul]

theorem sq_nonneg (x : EReal) : 0 ≤ x * x := by
  rcases le_total 0 x with h | h
  · exact EReal.mul_nonneg h h
  · rw [← neg_mul_neg]
    exact EReal.mul_nonneg (EReal.neg_nonneg.mpr h) (EReal.neg_nonneg.mpr h)

/-- A row with an infinite entry has an infinite mean square. -/
theorem var_top {h : Fin 1024 → EReal} {k : Fin 1024} (hk : h k = ⊤ ∨ h k = ⊥) : Ideal.div (∑ k, h k * h k) W + eps = ⊤ := by
  obtain ⟨e, _, hE⟩ := eps_eq
  have h1 : h k * h k = ⊤ := by rcases hk with h | h <;> rw [h] <;> rfl
  have h2 : (∑ k, h k * h k) = ⊤ := top_le_iff.1 (h1 ▸ Finset.single_le_sum (f := fun k => h k * h k) (fun i _ => sq_nonneg (h i)) (Finset.mem_univ k))
  rw [h2, hE, W_eq, Ideal.div_coe (by norm_num), EReal.top_mul_coe_of_pos (by norm_num), EReal.top_add_coe]

/-- The two forms of the gradient of a row of real numbers. -/
theorem drow_real (h : Fin 1024 → ℝ) (gd : Fin 1024 → EReal) (y : EReal) (d : Fin 1024) :
    y + gd d * root (fun k => (h k : EReal)) + (h d : EReal) * mpart (fun k => (h k : EReal)) gd + mpart (fun k => (h k : EReal)) gd * (h d : EReal)
      = drow (fun k => (h k : EReal)) gd y d := by
  obtain ⟨v, hv, e⟩ := var_pos h
  have h0 : Real.sqrt v ≠ 0 := (Real.sqrt_pos.2 hv).ne'
  have hp : (0 : ℝ) ≤ (Real.sqrt v)⁻¹ := inv_nonneg.2 (Real.sqrt_nonneg v)
  unfold drow mpart root
  rw [e, rsqrt_pos hv, mhalf_eq, W_eq]
  set ρ : ℝ := (Real.sqrt v)⁻¹ with hρ
  set S : EReal := ∑ k, (h k : EReal) * gd k with hS
  have hs : (∑ k, gd k * ((h k : EReal) * (ρ : EReal))) = S * (ρ : EReal) := by
    rw [hS, sum_mul_coe _ _ hp]
    exact Finset.sum_congr rfl fun k _ => by rw [← mul_assoc, mul_comm (gd k)]
  have hv1 : 1 / v = ρ * ρ := by rw [hρ, ← mul_inv, Real.mul_self_sqrt hv.le, one_div]
  rw [hs, Ideal.div_coe hv.ne', Ideal.div_coe (by norm_num), Ideal.div_coe (by norm_num), sub_eq_add_neg,
    EReal.left_distrib_of_nonneg_of_ne_top (EReal.coe_nonneg.mpr hp) (EReal.coe_ne_top ρ), hv1, add_assoc, add_assoc, mul_comm (gd d)]
  refine congrArg (fun x => y + ((ρ : EReal) * gd d + x)) ?_
  have e1 : S * (((-0.5 : ℝ) : EReal) * ((ρ : EReal) * ((ρ * ρ : ℝ) : EReal))) * ((1 / 1024 : ℝ) : EReal) = ((-0.5 * (ρ * (ρ * ρ)) * (1 / 1024) : ℝ) : EReal) * S := by
    rw [mul_assoc S, mul_comm S]
    simp only [EReal.coe_mul]
  have e2 : (ρ : EReal) * -((h d : EReal) * (ρ : EReal) * (S * (ρ : EReal) * ((1 / 1024 : ℝ) : EReal))) = ((-(ρ * (h d * ρ * (ρ * (1 / 1024)))) : ℝ) : EReal) * S := by
    rw [EReal.coe_neg, mul_neg, neg_mul]
    refine congrArg Neg.neg ?_
    rw [mul_assoc S, mul_comm S]
    simp only [EReal.coe_mul, mul_assoc]
  rw [e1, e2, mul_comm _ (h d : EReal), ← mul_assoc, ← EReal.coe_mul, twice, ← mul_assoc, ← EReal.coe_mul]
  refine congrArg (fun x : ℝ => (x : EReal) * S) ?_
  ring

/-- The two forms of the row's gradient. -/
theorem drow_eq (h gd : Fin 1024 → EReal) (y : EReal) (d : Fin 1024) :
    y + gd d * root h + h d * mpart h gd + mpart h gd * h d = drow h gd y d := by
  by_cases hh : ∃ k, h k = ⊤ ∨ h k = ⊥
  · obtain ⟨k, hk⟩ := hh
    have hv := var_top hk
    have hr : root h = 0 := by unfold root; rw [hv]; rfl
    have hm : mpart h gd = 0 := by
      unfold mpart
      rw [hr, hv, W_eq, Ideal.div_coe (by norm_num), Ideal.div, if_neg EReal.top_ne_zero, zero_mul, mul_zero, mul_zero, zero_mul]
    unfold drow
    rw [hm, hr]
    simp
  · have hf : ∀ k, ∃ r : ℝ, h k = (r : EReal) := fun k => exists_coe (fun e => hh ⟨k, Or.inr e⟩) (fun e => hh ⟨k, Or.inl e⟩)
    choose a ha using hf
    obtain rfl : h = fun k => (a k : EReal) := funext ha
    exact drow_real a gd y d

/-! ## The block -/

section Block
variable (X M : Fin 8192 → Fin 1024 → EReal) (Wo : Fin 1024 → Fin 1024 → EReal) (G : Fin 1024 → EReal)
  (Wu : Fin 1024 → Fin 4096 → EReal) (Wd : Fin 4096 → Fin 1024 → EReal) (Y : Fin 8192 → Fin 1024 → EReal)

/-- The residual stream after the output projection. -/
def res (t : Fin 8192) (d : Fin 1024) : EReal := X t d + ∑ e, M t e * Wo e d
/-- A row divided by its root mean square. -/
def hat (h : Fin 8192 → Fin 1024 → EReal) (t : Fin 8192) (d : Fin 1024) : EReal := h t d * root (h t)
/-- The first product. -/
def pre (h : Fin 8192 → Fin 1024 → EReal) (t : Fin 8192) (f : Fin 4096) : EReal := ∑ d, hat h t d * G d * Wu d f
/-- The gradient before the squared rectifier. -/
def dup (h : Fin 8192 → Fin 1024 → EReal) (t : Fin 8192) (f : Fin 4096) : EReal := dsq (∑ d, Y t d * Wd f d) (pre G Wu h t f)
/-- The gradient of the normalised rows. -/
def dnorm (h : Fin 8192 → Fin 1024 → EReal) (t : Fin 8192) (d : Fin 1024) : EReal := ∑ f, dup G Wu Wd Y h t f * Wu d f
/-- The gradient of the residual stream. -/
def dres (h : Fin 8192 → Fin 1024 → EReal) (t : Fin 8192) (d : Fin 1024) : EReal :=
  drow (h t) (fun k => dnorm G Wu Wd Y h t k * G k) (Y t d) d

end Block

end Cert.MlpMath

end
-- ==== Proof.MlpBwdRef.lean ====
/- The reference's terms for the feed-forward block's backward pass. -/
module

public import proofs.«01_k».proof.Proof.MlpMath
public import proofs.«01_k».proof.Proof.Gen.Reference4Ideal.Run
public import proofs.«01_k».proof.Defs
public import Idealize.ShloMosaic.Lib.Pointwise

@[expose] public section

set_option maxRecDepth 16384

noncomputable section

namespace Cert.Reference4Ideal.MlpB

open Idealize.ShloMosaic Idealize.ShloMosaic.TcCoe Idealize.SL.Sem Idealize.ShloMosaic.StableHlo
open Cert.Reference4Ideal Cert.Reference4Ideal.Gen Cert.MlpMath

/-- A function of two coordinates as an array. -/
abbrev arr {a b : ℕ} (f : Fin a → Fin b → EReal) : (⟨2, ![a, b]⟩ : Shape).Idx → EReal := fun y => f (y 0) (y 1)
/-- A function of one coordinate as a column. -/
abbrev col {a : ℕ} (f : Fin a → EReal) : (⟨2, ![a, 1]⟩ : Shape).Idx → EReal := fun y => f (y 0)
/-- A function of one coordinate as a row. -/
def row {a : ℕ} (f : Fin a → EReal) : (⟨1, ![a]⟩ : Shape).Idx → EReal := fun y => f (y 0)
/-- An array as a function of two coordinates. -/
abbrev of2 {a b : ℕ} (A : (⟨2, ![a, b]⟩ : Shape).Idx → EReal) (i : Fin a) (j : Fin b) : EReal := A (ix2 i j)
/-- A row as a function of its coordinate. -/
abbrev of1 {a : ℕ} (A : (⟨1, ![a]⟩ : Shape).Idx → EReal) (i : Fin a) : EReal := A (ix1 i)

theorem idx2 {a b : ℕ} (y : (⟨2, ![a, b]⟩ : Shape).Idx) : ∃ (i : Fin a) (j : Fin b), y = ix2 i j :=
  ⟨y 0, y 1, funext fun k => match k with | ⟨0, _⟩ => rfl | ⟨1, _⟩ => rfl⟩

section Terms
variable (X M Y : S8192x1024.Idx → EReal) (Wo : S1024x1024.Idx → EReal) (G : S1024.Idx → EReal) (Wu : S1024x4096.Idx → EReal) (Wd : S4096x1024.Idx → EReal)
variable (h n gd : Fin 8192 → Fin 1024 → EReal) (p u : Fin 8192 → Fin 4096 → EReal) (v q w : Fin 8192 → EReal)

theorem ref_h : (addf (F := Ideal) (φ := .f32) X (Host.dotGeneral (F := Ideal) (φ₁ := .f32) (φ₂ := .f32) dot_S8192x1024_S1024x1024_S8192x1024_1_0_0_1_n_n none M Wo) : S8192x1024.Idx → EReal)
    = arr (res (of2 X) (of2 M) (of2 Wo)) := by
  funext y
  obtain ⟨t, d, rfl⟩ := idx2 y
  pointwise
  rfl

theorem ref_var : (addf (F := Ideal) (φ := .f32) (Host.divf (broadcastInDim S8192x1 ![0] bcast_S8192_S8192x1_0 (Host.reduceAdd (mulf (arr h) (arr h)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)) : S8192x1.Idx → EReal)
    = col fun t => Ideal.div (∑ k, h t k * h t k) W + eps := by
  funext y
  obtain ⟨t, d, rfl⟩ := idx2 y
  pointwise
  rfl

theorem ref_rsqrt : (Host.rsqrt (F := Ideal) (φ := .f32) (col v) : S8192x1.Idx → EReal) = col fun t => Ideal.rsqrt (v t) := by
  funext y
  rfl

theorem ref_hat : (mulf (F := Ideal) (φ := .f32) (arr h) (broadcastInDim S8192x1024 ![0, 1] bcast_S8192x1_S8192x1024_0_1 (col q)) : S8192x1024.Idx → EReal)
    = arr fun t d => h t d * q t := by
  funext y
  obtain ⟨t, d, rfl⟩ := idx2 y
  pointwise
  rfl

theorem ref_scale : (mulf (F := Ideal) (φ := .f32) (arr h) (broadcastInDim S8192x1024 ![0, 1] bcast_S1x1024_S8192x1024_0_1 (broadcastInDim S1x1024 ![1] bcast_S1024_S1x1024_1 G)) : S8192x1024.Idx → EReal)
    = arr fun t d => h t d * of1 G d := by
  funext y
  obtain ⟨t, d, rfl⟩ := idx2 y
  pointwise
  rfl

theorem ref_pre : (Host.dotGeneral (F := Ideal) (φ₁ := .f32) (φ₂ := .f32) dot_S8192x1024_S1024x4096_S8192x4096_1_0_0_1_n_n none (arr n) Wu : S8192x4096.Idx → EReal)
    = arr fun t f => ∑ d, n t d * of2 Wu d f := by
  funext y
  obtain ⟨t, f, rfl⟩ := idx2 y
  pointwise
  rfl

theorem ref_dup : (select (α := EReal) (cmpf (F := Ideal) (φ := .f32) .ogt (arr p) (broadcastInDim S8192x4096 ![] bcast_S_S8192x4096 (constant S_ .f32 0x00000000#32))) (mulf (F := Ideal) (φ := .f32) (Host.dotGeneral (F := Ideal) (φ₁ := .f32) (φ₂ := .f32) dot_S8192x1024_S4096x1024_S8192x4096_1_1_0_0_n_n none (shapeCast _ Y shapeCasts_S8192x1024_S8192x1024) Wd) (mulf (broadcastInDim S8192x4096 ![] bcast_S_S8192x4096 (constant S_ .f32 0x40000000#32)) (maximumf (arr p) (broadcastInDim S8192x4096 ![] bcast_S_S8192x4096 (constant S_ .f32 0x00000000#32))))) (broadcastInDim (α := EReal) S8192x4096 ![] bcast_S_S8192x4096 (constant (F := Ideal) S_ .f32 0x00000000#32)) : S8192x4096.Idx → EReal)
    = arr fun t f => dsq (∑ d, of2 Y t d * of2 Wd f d) (p t f) := by
  funext y
  obtain ⟨t, f, rfl⟩ := idx2 y
  pointwise
  exact dsq_select _ _

theorem ref_dnorm : (Host.dotGeneral (F := Ideal) (φ₁ := .f32) (φ₂ := .f32) dot_S8192x4096_S1024x4096_S8192x1024_1_1_0_0_n_n none (arr u) Wu : S8192x1024.Idx → EReal)
    = arr fun t d => ∑ f, u t f * of2 Wu d f := by
  funext y
  obtain ⟨t, d, rfl⟩ := idx2 y
  pointwise
  rfl

theorem ref_dg : (Host.reduceAdd (F := Ideal) (φ := .f32) (shapeCast _ (Host.reduceAdd (F := Ideal) (φ := .f32) (mulf (arr h) (arr n)) (constant S_ .f32 0x00000000#32) reducesTo_S8192x1024_S1024_d0 h_S_) shapeCasts_S1024_S1x1024) (constant S_ .f32 0x00000000#32) reducesTo_S1x1024_S1024_d0 h_S_ : S1024.Idx → EReal)
    = fun y => ∑ t : Fin 8192, h t (y 0) * n t (y 0) := by
  funext y
  obtain ⟨d, rfl⟩ : ∃ d : Fin 1024, y = ix1 d := ⟨y 0, funext fun k => match k with | ⟨0, _⟩ => rfl⟩
  pointwise
  exact Fin.sum_univ_one _

theorem ref_mean : (Host.reduceAdd (F := Ideal) (φ := .f32) (Host.divf (mulf (shapeCast _ (Host.reduceAdd (mulf (arr h) (arr gd)) (constant S_ .f32 0x00000000#32) reducesTo_S8192x1024_S8192_d1 h_S_) shapeCasts_S8192_S8192x1) (mulf (broadcastInDim S8192x1 ![] bcast_S_S8192x1 (constant S_ .f32 0xBF000000#32)) (Host.divf (col q) (col v)))) (broadcastInDim S8192x1 ![] bcast_S_S8192x1 (constant S_ .f32 0x44800000#32))) (constant S_ .f32 0x00000000#32) reducesTo_S8192x1_S8192_d1 h_S_ : S8192.Idx → EReal)
    = row fun t => Ideal.div ((∑ k, h t k * gd t k) * (Ideal.ofBits FTy.f32 0xBF000000#32 * Ideal.div (q t) (v t))) W := by
  funext y
  obtain ⟨t, rfl⟩ : ∃ t : Fin 8192, y = ix1 t := ⟨y 0, funext fun k => match k with | ⟨0, _⟩ => rfl⟩
  pointwise
  exact Fin.sum_univ_one _

theorem ref_dx : (addf (F := Ideal) (φ := .f32) (addf (addf (shapeCast _ Y shapeCasts_S8192x1024_S8192x1024) (mulf (arr gd) (broadcastInDim S8192x1024 ![0, 1] bcast_S8192x1_S8192x1024_0_1 (col q)))) (mulf (arr h) (broadcastInDim S8192x1024 ![0] bcast_S8192_S8192x1024_0 (row w)))) (mulf (broadcastInDim S8192x1024 ![0] bcast_S8192_S8192x1024_0 (row w)) (arr h)) : S8192x1024.Idx → EReal)
    = arr fun t d => of2 Y t d + gd t d * q t + h t d * w t + w t * h t d := by
  funext y
  obtain ⟨t, d, rfl⟩ := idx2 y
  pointwise
  rfl

theorem ref_dmix : (Host.dotGeneral (F := Ideal) (φ₁ := .f32) (φ₂ := .f32) dot_S8192x1024_S1024x1024_S8192x1024_1_1_0_0_n_n none (arr h) Wo : S8192x1024.Idx → EReal)
    = arr fun t e => ∑ d, h t d * of2 Wo e d := by
  funext y
  obtain ⟨t, e, rfl⟩ := idx2 y
  pointwise
  rfl
end Terms

/-! ## The reference's results -/

section Results
variable (m : (ℓ : Loc nD τ sig) → Buf (Elt Ideal) ℓ) (c : Dev nD)

/-- The arguments, as the block's. -/
abbrev aX : Fin 8192 → Fin 1024 → EReal := of2 (m ((c.tc : Thread nD τ).loc main_arg0) : S8192x1024.Idx → EReal)
abbrev aM : Fin 8192 → Fin 1024 → EReal := of2 (m ((c.tc : Thread nD τ).loc main_arg1) : S8192x1024.Idx → EReal)
abbrev aWo : Fin 1024 → Fin 1024 → EReal := of2 (m ((c.tc : Thread nD τ).loc main_arg2) : S1024x1024.Idx → EReal)
abbrev aG : Fin 1024 → EReal := of1 (m ((c.tc : Thread nD τ).loc main_arg3) : S1024.Idx → EReal)
abbrev aWu : Fin 1024 → Fin 4096 → EReal := of2 (m ((c.tc : Thread nD τ).loc main_arg4) : S1024x4096.Idx → EReal)
abbrev aWd : Fin 4096 → Fin 1024 → EReal := of2 (m ((c.tc : Thread nD τ).loc main_arg5) : S4096x1024.Idx → EReal)
abbrev aY : Fin 8192 → Fin 1024 → EReal := of2 (m ((c.tc : Thread nD τ).loc main_arg6) : S8192x1024.Idx → EReal)
/-- The residual stream. -/
def H : Fin 8192 → Fin 1024 → EReal := res (aX m c) (aM m c) (aWo m c)
/-- The gradient of the normalised rows. -/
def DN : Fin 8192 → Fin 1024 → EReal := dnorm (aG m c) (aWu m c) (aWd m c) (aY m c) (H m c)
/-- The gradient of the residual stream, as the reference adds it. -/
def DX (t : Fin 8192) (d : Fin 1024) : EReal :=
  aY m c t d + DN m c t d * aG m c d * root (H m c t) + H m c t d * mpart (H m c t) (fun k => DN m c t k * aG m c k)
    + mpart (H m c t) (fun k => DN m c t k * aG m c k) * H m c t d

theorem r_dg : (Value.res_main_v40 m c : S1024.Idx → EReal) = fun y => ∑ t : Fin 8192, hat (H m c) t (y 0) * DN m c t (y 0) := by
  unfold Value.res_main_v40
  rw [ref_h, ref_var, ref_rsqrt, ref_hat, ref_scale, ref_pre, ref_dup, ref_dnorm, ref_dg]
  rfl
theorem r_dx : (Value.res_main_v55 m c : S8192x1024.Idx → EReal) = arr (DX m c) := by
  unfold Value.res_main_v55
  rw [ref_h, ref_var, ref_rsqrt, ref_hat, ref_scale, ref_pre, ref_dup, ref_dnorm, ref_scale, ref_mean]
  refine (ref_dx (m ((c.tc : Thread nD τ).loc main_arg6)) _ _ _ _).trans ?_
  rfl
theorem r_dmix : (Value.res_main_v56 m c : S8192x1024.Idx → EReal) = arr fun t e => ∑ d, DX m c t d * aWo m c e d := by
  have h : (Value.res_main_v56 m c : S8192x1024.Idx → EReal)
      = Host.dotGeneral (F := Ideal) (φ₁ := .f32) (φ₂ := .f32) dot_S8192x1024_S1024x1024_S8192x1024_1_1_0_0_n_n none (Value.res_main_v55 m c) (m ((c.tc : Thread nD τ).loc main_arg2)) := rfl
  rw [h, r_dx]
  exact ref_dmix _ _
end Results

/-- The reference ends with its arguments as given and every counter at zero. -/
theorem quiescent : Cert.quiescent_Reference4Ideal := fun m g _ =>
  (θ_run Cert.Reference4Ideal.defs _ _).mono (fun r h => ⟨fun c => (h c).2.2.2, sem_eq_zero_of_no_sems (by decide) r.2⟩)
    (Cert.Reference4Ideal.Value.run m g)

end Cert.Reference4Ideal.MlpB

end
-- ==== Proof.MlpBwd.lean ====
/- The feed-forward block's backward call: at each token the gradients of the squared rectifier, the normalisation and
   the output projection, as the call's arrays hold them. -/
module

public import proofs.«01_k».proof.Proof.MlpBwdTile
public import proofs.«01_k».proof.Proof.MlpBwdRef
public import proofs.«01_k».proof.Proof.Gen.Kernel4Ideal.Frame
public import proofs.«01_k».proof.Proof.Line

@[expose] public section

set_option maxRecDepth 16384

noncomputable section

namespace Cert.Kernel4Ideal.MlpB

open Idealize.ShloMosaic Idealize.ShloMosaic.TcCoe Idealize.SL.Sem Idealize.ShloMosaic.StableHlo Cert.Line
open Cert.Kernel4Ideal Cert.Kernel4Ideal.Gen Cert.MlpMath
open Cert.Reference4Ideal.MlpB (arr col of2 of1 idx2)
open Idealize.ShloMosaic.Pipeline (Dat Cfg Window)

/-! ## The host lines before the call -/

section Terms
variable (X M : S8192x1024.Idx → EReal) (Wo : S1024x1024.Idx → EReal) (G : S1024.Idx → EReal) (Wu : S1024x4096.Idx → EReal)
variable (h n : Fin 8192 → Fin 1024 → EReal) (p : Fin 8192 → Fin 4096 → EReal) (v q : Fin 8192 → EReal)

theorem k_h : (addf (F := Ideal) (φ := .f32) X (Host.dotGeneral (F := Ideal) (φ₁ := .f32) (φ₂ := .f32) dot_S8192x1024_S1024x1024_S8192x1024_1_0_0_1_n_n none M Wo) : S8192x1024.Idx → EReal)
    = arr (res (of2 X) (of2 M) (of2 Wo)) := by
  funext y
  obtain ⟨t, d, rfl⟩ := idx2 y
  pointwise
  rfl
theorem k_root : (Host.rsqrt (F := Ideal) (φ := .f32) (addf (Host.divf (broadcastInDim S8192x1 ![0] bcast_S8192_S8192x1_0 (Host.reduceAdd (mulf (arr h) (arr h)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))) : S8192x1.Idx → EReal)
    = col fun t => root (h t) := by
  funext y
  obtain ⟨t, d, rfl⟩ := idx2 y
  pointwise
  rfl
theorem k_n : (mulf (F := Ideal) (φ := .f32) (mulf (F := Ideal) (φ := .f32) (arr h) (broadcastInDim S8192x1024 ![0, 1] bcast_S8192x1_S8192x1024_0_1 (col q))) (broadcastInDim S8192x1024 ![0, 1] bcast_S1x1024_S8192x1024_0_1 (broadcastInDim S1x1024 ![1] bcast_S1024_S1x1024_1 G)) : S8192x1024.Idx → EReal)
    = arr fun t d => h t d * q t * of1 G d := by
  funext y
  obtain ⟨t, d, rfl⟩ := idx2 y
  pointwise
  rfl
theorem k_pre : (Host.dotGeneral (F := Ideal) (φ₁ := .f32) (φ₂ := .f32) dot_S8192x1024_S1024x4096_S8192x4096_1_0_0_1_n_n none (arr n) Wu : S8192x4096.Idx → EReal)
    = arr fun t f => ∑ d, n t d * of2 Wu d f := by
  funext y
  obtain ⟨t, f, rfl⟩ := idx2 y
  pointwise
  rfl
theorem k_relu : (maximumf (F := Ideal) (φ := .f32) (arr p) (broadcastInDim S8192x4096 ![] bcast_S_S8192x4096 (constant S_ .f32 0x00000000#32)) : S8192x4096.Idx → EReal)
    = arr fun t f => max (p t f) 0 := by
  funext y
  obtain ⟨t, f, rfl⟩ := idx2 y
  pointwise
theorem k_wut (d : Fin 1024) (f : Fin 4096) : (transpose S4096x1024 [1, 0] Wu transposes_S1024x4096_S4096x1024_1_0 : S4096x1024.Idx → EReal) (ix2 f d) = Wu (ix2 d f) := by
  pointwise
theorem k_row (d : Fin 1024) : (shapeCast S1x1024 G shapeCasts_S1024_S1x1024 : S1x1024.Idx → EReal) (ix2 0 d) = G (ix1 d) := by
  pointwise
end Terms

variable (m : (ℓ : Loc nD τ sig) → Buf (Elt Ideal) ℓ) (c : Dev nD)

/-- The arguments, as the block's. -/
abbrev aX : Fin 8192 → Fin 1024 → EReal := of2 (m ((c.tc : Thread nD τ).loc main_arg0) : S8192x1024.Idx → EReal)
abbrev aM : Fin 8192 → Fin 1024 → EReal := of2 (m ((c.tc : Thread nD τ).loc main_arg1) : S8192x1024.Idx → EReal)
abbrev aWo : Fin 1024 → Fin 1024 → EReal := of2 (m ((c.tc : Thread nD τ).loc main_arg2) : S1024x1024.Idx → EReal)
abbrev aG : Fin 1024 → EReal := of1 (m ((c.tc : Thread nD τ).loc main_arg3) : S1024.Idx → EReal)
abbrev aWu : Fin 1024 → Fin 4096 → EReal := of2 (m ((c.tc : Thread nD τ).loc main_arg4) : S1024x4096.Idx → EReal)
abbrev aWd : Fin 4096 → Fin 1024 → EReal := of2 (m ((c.tc : Thread nD τ).loc main_arg5) : S4096x1024.Idx → EReal)
abbrev aY : Fin 8192 → Fin 1024 → EReal := of2 (m ((c.tc : Thread nD τ).loc main_arg6) : S8192x1024.Idx → EReal)
/-- The residual stream. -/
def H : Fin 8192 → Fin 1024 → EReal := res (aX m c) (aM m c) (aWo m c)
/-- The first product. -/
def P : Fin 8192 → Fin 4096 → EReal := pre (aG m c) (aWu m c) (H m c)
/-- The gradient of the normalised rows. -/
def DN : Fin 8192 → Fin 1024 → EReal := dnorm (aG m c) (aWu m c) (aWd m c) (aY m c) (H m c)
/-- The gradient of the residual stream. -/
def DH : Fin 8192 → Fin 1024 → EReal := dres (aG m c) (aWu m c) (aWd m c) (aY m c) (H m c)
/-- The gradient of the mixed heads. -/
def DM (t : Fin 8192) (e : Fin 1024) : EReal := ∑ d, DH m c t d * aWo m c e d

/-- What the host lines before the call write, in order. -/
abbrev wr : List (Ref sig .tc) := [main_v0, main_v1, main_v2, main_cst, main_v3, main_v4, main_cst_0, main_v5, main_v6, main_cst_1,
  main_v7, main_v8, main_v9, main_v10, main_v11, main_v12, main_v13, main_v14, main_v15, main_cst_2, main_v16, main_v17, main_v18,
  main_v19, main_v20, main_v21, main_v22, main_v23, main_v24, main_v25, main_v26, main_v27]

theorem V_arg0 : (V m c main_arg0 : S8192x1024.Idx → EReal) = m ((c.tc : Thread nD τ).loc main_arg0) :=
  read_arg (τ := τ) (Val := Elt Ideal) (ops := hostOps0) (W := wr) (r := main_arg0) rfl (by decide) _
theorem V_arg1 : (V m c main_arg1 : S8192x1024.Idx → EReal) = m ((c.tc : Thread nD τ).loc main_arg1) :=
  read_arg (τ := τ) (Val := Elt Ideal) (ops := hostOps0) (W := wr) (r := main_arg1) rfl (by decide) _
theorem V_arg2 : (V m c main_arg2 : S1024x1024.Idx → EReal) = m ((c.tc : Thread nD τ).loc main_arg2) :=
  read_arg (τ := τ) (Val := Elt Ideal) (ops := hostOps0) (W := wr) (r := main_arg2) rfl (by decide) _
theorem V_arg3 : (V m c main_arg3 : S1024.Idx → EReal) = m ((c.tc : Thread nD τ).loc main_arg3) :=
  read_arg (τ := τ) (Val := Elt Ideal) (ops := hostOps0) (W := wr) (r := main_arg3) rfl (by decide) _
theorem V_arg4 : (V m c main_arg4 : S1024x4096.Idx → EReal) = m ((c.tc : Thread nD τ).loc main_arg4) :=
  read_arg (τ := τ) (Val := Elt Ideal) (ops := hostOps0) (W := wr) (r := main_arg4) rfl (by decide) _
theorem V_arg5 : (V m c main_arg5 : S4096x1024.Idx → EReal) = m ((c.tc : Thread nD τ).loc main_arg5) :=
  read_arg (τ := τ) (Val := Elt Ideal) (ops := hostOps0) (W := wr) (r := main_arg5) rfl (by decide) _
theorem V_arg6 : (V m c main_arg6 : S8192x1024.Idx → EReal) = m ((c.tc : Thread nD τ).loc main_arg6) :=
  read_arg (τ := τ) (Val := Elt Ideal) (ops := hostOps0) (W := wr) (r := main_arg6) rfl (by decide) _
theorem V_v1 : (V m c main_v1 : S8192x1024.Idx → EReal) = arr (H m c) := by
  have hv0 : (V m c main_v0 : S8192x1024.Idx → EReal) = Host.dotGeneral (F := Ideal) (φ₁ := .f32) (φ₂ := .f32) dot_S8192x1024_S1024x1024_S8192x1024_1_0_0_1_n_n none (V m c main_arg1) (V m c main_arg2) := read_binary (τ := τ) (Val := Elt Ideal) (ops := hostOps0) (W := wr) rfl 0 rfl (by decide) (by decide) (by decide) _
  have hv1 : (V m c main_v1 : S8192x1024.Idx → EReal) = addf (F := Ideal) (φ := .f32) (V m c main_arg0) (V m c main_v0) := read_binary (τ := τ) (Val := Elt Ideal) (ops := hostOps0) (W := wr) rfl 1 rfl (by decide) (by decide) (by decide) _
  rw [hv1, hv0, V_arg0, V_arg1, V_arg2]
  exact k_h _ _ _
theorem V_v9 : (V m c main_v9 : S8192x1.Idx → EReal) = col fun t => root (H m c t) := by
  have hv2 : (V m c main_v2 : S8192x1024.Idx → EReal) = mulf (F := Ideal) (φ := .f32) (V m c main_v1) (V m c main_v1) := read_binary (τ := τ) (Val := Elt Ideal) (ops := hostOps0) (W := wr) rfl 2 rfl (by decide) (by decide) (by decide) _
  have hcst : (V m c main_cst : S_.Idx → EReal) = constant (F := Ideal) S_ .f32 0x00000000#32 := read_nullary (τ := τ) (Val := Elt Ideal) (ops := hostOps0) (W := wr) rfl 3 rfl (by decide) _
  have hv3 : (V m c main_v3 : S8192.Idx → EReal) = Host.reduceAdd (F := Ideal) (φ := .f32) (V m c main_v2) (V m c main_cst) reducesTo_S8192x1024_S8192_d1 h_S_ := read_binary (τ := τ) (Val := Elt Ideal) (ops := hostOps0) (W := wr) rfl 4 rfl (by decide) (by decide) (by decide) _
  have hv4 : (V m c main_v4 : S8192x1.Idx → EReal) = broadcastInDim (α := EReal) S8192x1 ![0] bcast_S8192_S8192x1_0 (V m c main_v3) := read_unary (τ := τ) (Val := Elt Ideal) (ops := hostOps0) (W := wr) rfl 5 rfl (by decide) (by decide) _
  have hcst_0 : (V m c main_cst_0 : S_.Idx → EReal) = constant (F := Ideal) S_ .f32 0x44800000#32 := read_nullary (τ := τ) (Val := Elt Ideal) (ops := hostOps0) (W := wr) rfl 6 rfl (by decide) _
  have hv5 : (V m c main_v5 : S8192x1.Idx → EReal) = broadcastInDim (α := EReal) S8192x1 ![] bcast_S_S8192x1 (V m c main_cst_0) := read_unary (τ := τ) (Val := Elt Ideal) (ops := hostOps0) (W := wr) rfl 7 rfl (by decide) (by decide) _
  have hv6 : (V m c main_v6 : S8192x1.Idx → EReal) = Host.divf (F := Ideal) (φ := .f32) (V m c main_v4) (V m c main_v5) := read_binary (τ := τ) (Val := Elt Ideal) (ops := hostOps0) (W := wr) rfl 8 rfl (by decide) (by decide) (by decide) _
  have hcst_1 : (V m c main_cst_1 : S_.Idx → EReal) = constant (F := Ideal) S_ .f32 0x358637BD#32 := read_nullary (τ := τ) (Val := Elt Ideal) (ops := hostOps0) (W := wr) rfl 9 rfl (by decide) _
  have hv7 : (V m c main_v7 : S8192x1.Idx → EReal) = broadcastInDim (α := EReal) S8192x1 ![] bcast_S_S8192x1 (V m c main_cst_1) := read_unary (τ := τ) (Val := Elt Ideal) (ops := hostOps0) (W := wr) rfl 10 rfl (by decide) (by decide) _
  have hv8 : (V m c main_v8 : S8192x1.Idx → EReal) = addf (F := Ideal) (φ := .f32) (V m c main_v6) (V m c main_v7) := read_binary (τ := τ) (Val := Elt Ideal) (ops := hostOps0) (W := wr) rfl 11 rfl (by decide) (by decide) (by decide) _
  have hv9 : (V m c main_v9 : S8192x1.Idx → EReal) = Host.rsqrt (F := Ideal) (φ := .f32) (V m c main_v8) := read_unary (τ := τ) (Val := Elt Ideal) (ops := hostOps0) (W := wr) rfl 12 rfl (by decide) (by decide) _
  rw [hv9, hv8, hv6, hv4, hv3, hv2, hcst, hv5, hcst_0, hv7, hcst_1, V_v1]
  exact k_root _
theorem V_v20 : (V m c main_v20 : S8192x4096.Idx → EReal) = arr fun t f => max (P m c t f) 0 * max (P m c t f) 0 := by
  have hv10 : (V m c main_v10 : S8192x1024.Idx → EReal) = broadcastInDim (α := EReal) S8192x1024 ![0, 1] bcast_S8192x1_S8192x1024_0_1 (V m c main_v9) := read_unary (τ := τ) (Val := Elt Ideal) (ops := hostOps0) (W := wr) rfl 13 rfl (by decide) (by decide) _
  have hv11 : (V m c main_v11 : S8192x1024.Idx → EReal) = mulf (F := Ideal) (φ := .f32) (V m c main_v1) (V m c main_v10) := read_binary (τ := τ) (Val := Elt Ideal) (ops := hostOps0) (W := wr) rfl 14 rfl (by decide) (by decide) (by decide) _
  have hv12 : (V m c main_v12 : S1x1024.Idx → EReal) = broadcastInDim (α := EReal) S1x1024 ![1] bcast_S1024_S1x1024_1 (V m c main_arg3) := read_unary (τ := τ) (Val := Elt Ideal) (ops := hostOps0) (W := wr) rfl 15 rfl (by decide) (by decide) _
  have hv13 : (V m c main_v13 : S8192x1024.Idx → EReal) = broadcastInDim (α := EReal) S8192x1024 ![0, 1] bcast_S1x1024_S8192x1024_0_1 (V m c main_v12) := read_unary (τ := τ) (Val := Elt Ideal) (ops := hostOps0) (W := wr) rfl 16 rfl (by decide) (by decide) _
  have hv14 : (V m c main_v14 : S8192x1024.Idx → EReal) = mulf (F := Ideal) (φ := .f32) (V m c main_v11) (V m c main_v13) := read_binary (τ := τ) (Val := Elt Ideal) (ops := hostOps0) (W := wr) rfl 17 rfl (by decide) (by decide) (by decide) _
  have hv15 : (V m c main_v15 : S8192x4096.Idx → EReal) = Host.dotGeneral (F := Ideal) (φ₁ := .f32) (φ₂ := .f32) dot_S8192x1024_S1024x4096_S8192x4096_1_0_0_1_n_n none (V m c main_v14) (V m c main_arg4) := read_binary (τ := τ) (Val := Elt Ideal) (ops := hostOps0) (W := wr) rfl 18 rfl (by decide) (by decide) (by decide) _
  have hcst_2 : (V m c main_cst_2 : S_.Idx → EReal) = constant (F := Ideal) S_ .f32 0x00000000#32 := read_nullary (τ := τ) (Val := Elt Ideal) (ops := hostOps0) (W := wr) rfl 19 rfl (by decide) _
  have hv16 : (V m c main_v16 : S8192x4096.Idx → EReal) = broadcastInDim (α := EReal) S8192x4096 ![] bcast_S_S8192x4096 (V m c main_cst_2) := read_unary (τ := τ) (Val := Elt Ideal) (ops := hostOps0) (W := wr) rfl 20 rfl (by decide) (by decide) _
  have hv17 : (V m c main_v17 : S8192x4096.Idx → EReal) = maximumf (F := Ideal) (φ := .f32) (V m c main_v15) (V m c main_v16) := read_binary (τ := τ) (Val := Elt Ideal) (ops := hostOps0) (W := wr) rfl 21 rfl (by decide) (by decide) (by decide) _
  have hv18 : (V m c main_v18 : S8192x4096.Idx → EReal) = mulf (F := Ideal) (φ := .f32) (V m c main_v17) (V m c main_v17) := read_binary (τ := τ) (Val := Elt Ideal) (ops := hostOps0) (W := wr) rfl 22 rfl (by decide) (by decide) (by decide) _
  have hv20 : (V m c main_v20 : S8192x4096.Idx → EReal) = (V m c main_v18) := read_unary (τ := τ) (Val := Elt Ideal) (ops := hostOps0) (W := wr) rfl 24 rfl (by decide) (by decide) _
  have hn : (V m c main_v14 : S8192x1024.Idx → EReal) = arr fun t d => hat (H m c) t d * aG m c d := by
    rw [hv14, hv11, hv10, V_v9, V_v1, hv13, hv12, V_arg3]
    exact k_n _ _ _
  have hp : (V m c main_v15 : S8192x4096.Idx → EReal) = arr (P m c) := by
    rw [hv15, hn, V_arg4]
    exact k_pre _ _
  have hr : (V m c main_v17 : S8192x4096.Idx → EReal) = arr fun t f => max (P m c t f) 0 := by
    rw [hv17, hp, hv16, hcst_2]
    exact k_relu _
  rw [hv20, hv18, hr]
  rfl
theorem V_v23 : (V m c main_v23 : S4096x1024.Idx → EReal) = m ((c.tc : Thread nD τ).loc main_arg5) :=
  (read_unary (τ := τ) (Val := Elt Ideal) (ops := hostOps0) (W := wr) rfl 27 rfl (by decide) (by decide) _).trans (V_arg5 m c)
theorem V_v26 : (V m c main_v26 : S1024x1024.Idx → EReal) = m ((c.tc : Thread nD τ).loc main_arg2) :=
  (read_unary (τ := τ) (Val := Elt Ideal) (ops := hostOps0) (W := wr) rfl 30 rfl (by decide) (by decide) _).trans (V_arg2 m c)
theorem V_v25 (f : Fin 4096) (d : Fin 1024) : (V m c main_v25 : S4096x1024.Idx → EReal) (ix2 f d) = aWu m c d f := by
  have hv24 : (V m c main_v24 : S4096x1024.Idx → EReal) = transpose (α := EReal) S4096x1024 [1, 0] (V m c main_arg4) transposes_S1024x4096_S4096x1024_1_0 := read_unary (τ := τ) (Val := Elt Ideal) (ops := hostOps0) (W := wr) rfl 28 rfl (by decide) (by decide) _
  have hv25 : (V m c main_v25 : S4096x1024.Idx → EReal) = (V m c main_v24) := read_unary (τ := τ) (Val := Elt Ideal) (ops := hostOps0) (W := wr) rfl 29 rfl (by decide) (by decide) _
  rw [hv25, hv24, V_arg4]
  exact k_wut _ d f
theorem V_v27 (d : Fin 1024) : (V m c main_v27 : S1x1024.Idx → EReal) (ix2 0 d) = aG m c d := by
  have hv27 : (V m c main_v27 : S1x1024.Idx → EReal) = shapeCast (α := EReal) S1x1024 (V m c main_arg3) shapeCasts_S1024_S1x1024 := read_reshape (τ := τ) (Val := Elt Ideal) (ops := hostOps0) (W := wr) rfl 31 rfl (by decide) (by decide) _
  rw [hv27, V_arg3]
  exact k_row _ d

/-! ## The blocks the tile reads -/

theorem index_0 : ∀ t : Fin cfg0.N, win0_0.index t 0 = t.val ∧ win0_0.index t 1 = 0 := by decide +kernel
theorem index_1 : ∀ t : Fin cfg0.N, win0_1.index t 0 = t.val ∧ win0_1.index t 1 = 0 := by decide +kernel
theorem index_2 : ∀ t : Fin cfg0.N, win0_2.index t 0 = t.val ∧ win0_2.index t 1 = 0 := by decide +kernel
theorem index_10 : ∀ t : Fin cfg0.N, win0_10.index t 0 = t.val ∧ win0_10.index t 1 = 0 := by decide +kernel
theorem index_11 : ∀ t : Fin cfg0.N, win0_11.index t 0 = t.val ∧ win0_11.index t 1 = 0 := by decide +kernel
theorem index_12 : ∀ t : Fin cfg0.N, win0_12.index t 0 = t.val ∧ win0_12.index t 1 = 0 := by decide +kernel
theorem index_13 : ∀ t : Fin cfg0.N, win0_13.index t 0 = t.val ∧ win0_13.index t 1 = 0 := by decide +kernel
theorem index_5 : ∀ t : Fin cfg0.N, win0_5.index t 0 = 0 ∧ win0_5.index t 1 = 0 := by decide +kernel
theorem index_6 : ∀ t : Fin cfg0.N, win0_6.index t 0 = 0 ∧ win0_6.index t 1 = 0 := by decide +kernel
theorem index_7 : ∀ t : Fin cfg0.N, win0_7.index t 0 = 0 ∧ win0_7.index t 1 = 0 := by decide +kernel
theorem index_8 : ∀ t : Fin cfg0.N, win0_8.index t 0 = 0 ∧ win0_8.index t 1 = 0 := by decide +kernel
theorem index_15 : ∀ t : Fin cfg0.N, win0_15.index t 0 = 0 ∧ win0_15.index t 1 = 0 := by decide +kernel

theorem lt16 (t : Fin cfg0.N) : t.val < 16 := lt_of_lt_of_eq t.isLt (show cfg0.N = 16 from N_0)

/-- Row `r` of tile `t`, among all the tokens. -/
def tok (t : Fin cfg0.N) (r : Fin 512) : Fin 8192 := ⟨512 * t.val + r.val, by have := lt16 t; have := r.isLt; omega⟩

theorem blk_0 (t : Fin cfg0.N) (r : Fin 512) (d : Fin 1024) :
    (iblk m c 0 t : S512x1024.Idx → EReal) (ix2 r d) = (V m c main_arg6 : S8192x1024.Idx → EReal) (ix2 (tok t r) d) := by
  blk_simp [iblk]
  refine congrArg (V m c main_arg6) (funext fun a => Fin.ext ?_)
  match a with
  | ⟨0, _⟩ => show win0_0.index t 0 * 512 + 1 * r.val = 512 * t.val + r.val; rw [(index_0 t).1]; omega
  | ⟨1, _⟩ => show win0_0.index t 1 * 1024 + 1 * d.val = d.val; rw [(index_0 t).2]; omega
theorem blk_1 (t : Fin cfg0.N) (r : Fin 512) (d : Fin 4096) :
    (iblk m c 1 t : S512x4096.Idx → EReal) (ix2 r d) = (V m c main_v20 : S8192x4096.Idx → EReal) (ix2 (tok t r) d) := by
  blk_simp [iblk]
  refine congrArg (V m c main_v20) (funext fun a => Fin.ext ?_)
  match a with
  | ⟨0, _⟩ => show win0_1.index t 0 * 512 + 1 * r.val = 512 * t.val + r.val; rw [(index_1 t).1]; omega
  | ⟨1, _⟩ => show win0_1.index t 1 * 4096 + 1 * d.val = d.val; rw [(index_1 t).2]; omega
theorem blk_2 (t : Fin cfg0.N) (r : Fin 512) (d : Fin 1024) :
    (iblk m c 2 t : S512x1024.Idx → EReal) (ix2 r d) = (V m c main_v1 : S8192x1024.Idx → EReal) (ix2 (tok t r) d) := by
  blk_simp [iblk]
  refine congrArg (V m c main_v1) (funext fun a => Fin.ext ?_)
  match a with
  | ⟨0, _⟩ => show win0_2.index t 0 * 512 + 1 * r.val = 512 * t.val + r.val; rw [(index_2 t).1]; omega
  | ⟨1, _⟩ => show win0_2.index t 1 * 1024 + 1 * d.val = d.val; rw [(index_2 t).2]; omega
theorem blk_5 (t : Fin cfg0.N) (y : S4096x1024.Idx) :
    (iblk m c 5 t : S4096x1024.Idx → EReal) y = (V m c main_v23 : S4096x1024.Idx → EReal) y := by
  blk_simp [iblk]
  refine congrArg (V m c main_v23) (funext fun a => Fin.ext ?_)
  match a with
  | ⟨0, _⟩ => show win0_5.index t 0 * 4096 + 1 * (y 0).val = (y 0).val; rw [(index_5 t).1]; omega
  | ⟨1, _⟩ => show win0_5.index t 1 * 1024 + 1 * (y 1).val = (y 1).val; rw [(index_5 t).2]; omega
theorem blk_6 (t : Fin cfg0.N) (y : S4096x1024.Idx) :
    (iblk m c 6 t : S4096x1024.Idx → EReal) y = (V m c main_v25 : S4096x1024.Idx → EReal) y := by
  blk_simp [iblk]
  refine congrArg (V m c main_v25) (funext fun a => Fin.ext ?_)
  match a with
  | ⟨0, _⟩ => show win0_6.index t 0 * 4096 + 1 * (y 0).val = (y 0).val; rw [(index_6 t).1]; omega
  | ⟨1, _⟩ => show win0_6.index t 1 * 1024 + 1 * (y 1).val = (y 1).val; rw [(index_6 t).2]; omega
theorem blk_7 (t : Fin cfg0.N) (y : S1024x1024.Idx) :
    (iblk m c 7 t : S1024x1024.Idx → EReal) y = (V m c main_v26 : S1024x1024.Idx → EReal) y := by
  blk_simp [iblk]
  refine congrArg (V m c main_v26) (funext fun a => Fin.ext ?_)
  match a with
  | ⟨0, _⟩ => show win0_7.index t 0 * 1024 + 1 * (y 0).val = (y 0).val; rw [(index_7 t).1]; omega
  | ⟨1, _⟩ => show win0_7.index t 1 * 1024 + 1 * (y 1).val = (y 1).val; rw [(index_7 t).2]; omega
theorem blk_8 (t : Fin cfg0.N) (d : Fin 1024) :
    (iblk m c 8 t : S1x1024.Idx → EReal) (ix2 0 d) = (V m c main_v27 : S1x1024.Idx → EReal) (ix2 0 d) := by
  blk_simp [iblk]
  refine congrArg (V m c main_v27) (funext fun a => Fin.ext ?_)
  match a with
  | ⟨0, _⟩ => exact (index_8 t).1
  | ⟨1, _⟩ => show win0_8.index t 1 * 1024 + 1 * d.val = d.val; rw [(index_8 t).2]; omega

/-! ## The tile's values, among all the tokens -/

/-- The tile's values, as the operations leave them. -/
abbrev nT (t : Fin cfg0.N) : Vec Ideal S512x1024 .f32 := k0_pay4 (F := Ideal) (iblk m c 0 t) (iblk m c 5 t) (iblk m c 1 t) (iblk m c 6 t)
abbrev qT (t : Fin cfg0.N) : Vec Ideal S512x1 .f32 := k0_pay6 (F := Ideal) (iblk m c 2 t)
abbrev aT (t : Fin cfg0.N) : Vec Ideal S512x1024 .f32 := k0_pay7 (F := Ideal) (iblk m c 2 t)
abbrev gT (t : Fin cfg0.N) : Vec Ideal S512x1024 .f32 := k0_pay8 (F := Ideal) (iblk m c 8 t)
abbrev dT (t : Fin cfg0.N) : Vec Ideal S512x1024 .f32 := k0_pay9 (F := Ideal) (iblk m c 0 t) (nT m c t) (qT m c t) (aT m c t) (gT m c t)
abbrev mT (t : Fin cfg0.N) : Vec Ideal S512x512 .bf16 := k0_pay13 (F := Ideal) (iblk m c 0 t) (nT m c t) (qT m c t) (aT m c t) (gT m c t) (iblk m c 7 t)
abbrev bT (t : Fin cfg0.N) : Vec Ideal S512x512 .bf16 := k0_pay14 (F := Ideal) (iblk m c 0 t) (nT m c t) (qT m c t) (aT m c t) (gT m c t) (iblk m c 7 t)

theorem y_apply (t : Fin cfg0.N) (r : Fin 512) (d : Fin 1024) : (iblk m c 0 t : S512x1024.Idx → EReal) (ix2 r d) = aY m c (tok t r) d :=
  (blk_0 m c t r d).trans (congrFun (V_arg6 m c) _)
theorem h_apply (t : Fin cfg0.N) (r : Fin 512) (d : Fin 1024) : (iblk m c 2 t : S512x1024.Idx → EReal) (ix2 r d) = H m c (tok t r) d :=
  (blk_2 m c t r d).trans (congrFun (V_v1 m c) _)
theorem u_apply (t : Fin cfg0.N) (r : Fin 512) (f : Fin 4096) : (iblk m c 1 t : S512x4096.Idx → EReal) (ix2 r f) = max (P m c (tok t r) f) 0 * max (P m c (tok t r) f) 0 :=
  (blk_1 m c t r f).trans (congrFun (V_v20 m c) _)
theorem wd_apply (t : Fin cfg0.N) (f : Fin 4096) (d : Fin 1024) : (iblk m c 5 t : S4096x1024.Idx → EReal) (ix2 f d) = aWd m c f d :=
  (blk_5 m c t _).trans (congrFun (V_v23 m c) _)
theorem wu_apply (t : Fin cfg0.N) (f : Fin 4096) (d : Fin 1024) : (iblk m c 6 t : S4096x1024.Idx → EReal) (ix2 f d) = aWu m c d f :=
  (blk_6 m c t _).trans (V_v25 m c f d)
theorem wo_apply (t : Fin cfg0.N) (e d : Fin 1024) : (iblk m c 7 t : S1024x1024.Idx → EReal) (ix2 e d) = aWo m c e d :=
  (blk_7 m c t _).trans (congrFun (V_v26 m c) _)

theorem nT_apply (t : Fin cfg0.N) (r : Fin 512) (d : Fin 1024) : nT m c t (ix2 r d) = DN m c (tok t r) d := by
  unfold nT DN dnorm dup
  rw [pay4_apply]
  refine Fin.sum_fin_congr fun f => ?_
  rw [pay3_apply, u_apply, wu_apply]
  refine congrArg (· * aWu m c d f) ((dsq_root _ _).trans (congrArg (fun s => dsq s (P m c (tok t r) f)) (Fin.sum_fin_congr fun k => ?_)))
  rw [y_apply, wd_apply]
theorem qT_apply (t : Fin cfg0.N) (r : Fin 512) : qT m c t (ix2 r 0) = root (H m c (tok t r)) := by
  unfold qT
  rw [pay6_apply]
  simp only [h_apply]
  rfl
theorem aT_apply (t : Fin cfg0.N) (r : Fin 512) (d : Fin 1024) : aT m c t (ix2 r d) = hat (H m c) (tok t r) d := by
  unfold aT
  rw [pay7_apply, h_apply]
  exact congrArg (H m c (tok t r) d * ·) (qT_apply m c t r)
theorem gT_apply (t : Fin cfg0.N) (r : Fin 512) (d : Fin 1024) : gT m c t (ix2 r d) = aG m c d := by
  unfold gT
  rw [pay8_apply, blk_8, V_v27]
theorem dT_apply (t : Fin cfg0.N) (r : Fin 512) (d : Fin 1024) : dT m c t (ix2 r d) = DH m c (tok t r) d := by
  unfold dT
  rw [pay9_apply, y_apply]
  simp only [nT_apply, qT_apply, aT_apply, gT_apply]
  rfl
theorem e_apply (t : Fin cfg0.N) (r : Fin 512) (e : Fin 1024) :
    k0_pay12 (F := Ideal) (iblk m c 0 t) (nT m c t) (qT m c t) (aT m c t) (gT m c t) (iblk m c 7 t) (ix2 r e) = DM m c (tok t r) e := by
  rw [pay12_apply]
  refine Fin.sum_fin_congr fun d => ?_
  rw [wo_apply]
  exact congrArg (· * aWo m c e d) (dT_apply m c t r d)
theorem mT_apply (t : Fin cfg0.N) (r e : Fin 512) : mT m c t (ix2 r e) = DM m c (tok t r) ⟨e.val, by omega⟩ :=
  (pay13_apply _ _ _ _ _ _ r e).trans (e_apply m c t r _)
theorem bT_apply (t : Fin cfg0.N) (r e : Fin 512) : k0_pay18 (F := Ideal) (bT m c t) (ix2 r e) = DM m c (tok t r) ⟨512 + e.val, by omega⟩ :=
  (pay14_apply _ _ _ _ _ _ r e).trans (e_apply m c t r _)

end Cert.Kernel4Ideal.MlpB

end
-- ==== Proof.MlpBwdEnd.lean ====
/- The feed-forward block's backward call, continued: the arrays it leaves, the host lines after it, and its reference. -/
module

public import proofs.«01_k».proof.Proof.MlpBwd
public import proofs.«01_k».proof.Proof.MlpEnd

@[expose] public section

set_option maxRecDepth 16384

noncomputable section

namespace Cert.Kernel4Ideal.MlpB

open Idealize.ShloMosaic Idealize.ShloMosaic.TcCoe Idealize.SL.Sem Idealize.ShloMosaic.StableHlo Cert.Line
open Cert.Kernel4Ideal Cert.Kernel4Ideal.Gen Cert.MlpMath
open Cert.Reference4Ideal.MlpB (arr col of2 of1 idx2)
open Idealize.ShloMosaic.Pipeline (Dat Cfg Window)

variable (m : (ℓ : Loc nD τ sig) → Buf (Elt Ideal) ℓ) (c : Dev nD)

/-! ## What a tile leaves -/

/-- The eight stores of the tile's second half of the mixed heads' gradient, one head each, the last first. -/
abbrev oL (t : Fin cfg0.N) : List (View.Piece (Elt Ideal) S512x1024 .bf16) :=
  [⟨Rect.unit (s := S512x1024) ![0, 896] ![512, 128] inb_S512x1024_S512x128_0_896, k0_pay1 (F := Ideal) (k0_pay46 (F := Ideal) (k0_pay18 (F := Ideal) (bT m c t))) (k0_pay47 (F := Ideal) (k0_pay19 (F := Ideal) (bT m c t) (k0_pay15 (F := Ideal)) (iblk m c 4 t))) (iota .tc S512x128 32 [1] iota_S512x128_d1_w32) (k0_pay48 (F := Ideal) (k0_pay19 (F := Ideal) (bT m c t) (k0_pay15 (F := Ideal)) (iblk m c 4 t)))⟩,
   ⟨Rect.unit (s := S512x1024) ![0, 768] ![512, 128] inb_S512x1024_S512x128_0_768, k0_pay45 (F := Ideal) (k0_pay19 (F := Ideal) (bT m c t) (k0_pay15 (F := Ideal)) (iblk m c 4 t)) (k0_pay44 (F := Ideal) (k0_pay18 (F := Ideal) (bT m c t))) (iota .tc S512x128 32 [1] iota_S512x128_d1_w32)⟩,
   ⟨Rect.unit (s := S512x1024) ![0, 640] ![512, 128] inb_S512x1024_S512x128_0_640, k0_pay43 (F := Ideal) (k0_pay18 (F := Ideal) (bT m c t)) (k0_pay19 (F := Ideal) (bT m c t) (k0_pay15 (F := Ideal)) (iblk m c 4 t))⟩,
   ⟨Rect.unit (s := S512x1024) ![0, 512] ![512, 128] inb_S512x1024_S512x128_0_512, k0_pay42 (F := Ideal) (k0_pay37 (F := Ideal) (k0_pay19 (F := Ideal) (bT m c t) (k0_pay15 (F := Ideal)) (iblk m c 4 t))) (k0_pay38 (F := Ideal) (k0_pay19 (F := Ideal) (bT m c t) (k0_pay15 (F := Ideal)) (iblk m c 4 t))) k0_pay39 k0_pay40 (k0_pay41 (F := Ideal) (k0_pay18 (F := Ideal) (bT m c t)) (k0_pay19 (F := Ideal) (bT m c t) (k0_pay15 (F := Ideal)) (iblk m c 4 t)))⟩,
   ⟨Rect.unit (s := S512x1024) ![0, 384] ![512, 128] inb_S512x1024_S512x128_0_384, k0_pay35 (F := Ideal) (k0_pay30 (F := Ideal) (k0_pay18 (F := Ideal) (bT m c t))) (iota .tc S512x128 32 [1] iota_S512x128_d1_w32) (k0_pay32 (F := Ideal) (k0_pay19 (F := Ideal) (bT m c t) (k0_pay15 (F := Ideal)) (iblk m c 4 t))) (k0_pay33 (F := Ideal) (k0_pay19 (F := Ideal) (bT m c t) (k0_pay15 (F := Ideal)) (iblk m c 4 t))) (k0_pay34 (F := Ideal) (k0_pay19 (F := Ideal) (bT m c t) (k0_pay15 (F := Ideal)) (iblk m c 4 t)))⟩,
   ⟨Rect.unit (s := S512x1024) ![0, 256] ![512, 128] inb_S512x1024_S512x128_0_256, k0_pay29 (F := Ideal) (k0_pay19 (F := Ideal) (bT m c t) (k0_pay15 (F := Ideal)) (iblk m c 4 t)) (k0_pay27 (F := Ideal) (k0_pay18 (F := Ideal) (bT m c t))) k0_pay28 (Scalar.ofBits .f32 0x00000000#32)⟩,
   ⟨Rect.unit (s := S512x1024) ![0, 128] ![512, 128] inb_S512x1024_S512x128_0_128, k0_pay26 (F := Ideal) (k0_pay18 (F := Ideal) (bT m c t)) (k0_pay19 (F := Ideal) (bT m c t) (k0_pay15 (F := Ideal)) (iblk m c 4 t))⟩,
   ⟨Rect.unit (s := S512x1024) ![0, 0] ![512, 128] inb_S512x1024_S512x128_0_0, k0_pay25 (F := Ideal) k0_pay22 (k0_pay23 (F := Ideal) (bT m c t) (k0_pay15 (F := Ideal)) (iblk m c 4 t)) (k0_pay24 (F := Ideal) (bT m c t) (k0_pay15 (F := Ideal)) (iblk m c 4 t))⟩]

/-- Lane `l` of head `k` among the tile's stored lanes. -/
theorem oL_apply (t : Fin cfg0.N) (r : Fin 512) (f : Fin 1024) (hf : f.val % 128 < 64) :
    View.canon (oL m c t) (ix2 r f) = DM m c (tok t r) ⟨512 + (64 * (f.val / 128) + f.val % 128), by have := f.isLt; omega⟩ := by
  canon_tiles x h
  all_goals
    obtain ⟨r', f', rfl⟩ : ∃ (r' : Fin 512) (f' : Fin 128), x = ix2 r' f' := ⟨x 0, x 1, funext fun a => match a with | ⟨0, _⟩ => rfl | ⟨1, _⟩ => rfl⟩
  all_goals obtain rfl : r = r' := Fin.ext h0
  · have h1 : f.val = 896 + f'.val := h1
    have hl : f'.val < 64 := by have := f'.isLt; omega
    exact (head7 (k0_pay18 (F := Ideal) (bT m c t)) r ⟨f'.val, hl⟩ _ _).trans ((bT_apply m c t r _).trans (congrArg (DM m c (tok t r)) (Fin.ext (by simp only; omega))))
  · have h1 : f.val = 768 + f'.val := h1
    have hl : f'.val < 64 := by have := f'.isLt; omega
    exact (head6 (k0_pay18 (F := Ideal) (bT m c t)) _ r ⟨f'.val, hl⟩).trans ((bT_apply m c t r _).trans (congrArg (DM m c (tok t r)) (Fin.ext (by simp only; omega))))
  · have h1 : f.val = 640 + f'.val := h1
    have hl : f'.val < 64 := by have := f'.isLt; omega
    exact (head5 (k0_pay18 (F := Ideal) (bT m c t)) _ r ⟨f'.val, hl⟩).trans ((bT_apply m c t r _).trans (congrArg (DM m c (tok t r)) (Fin.ext (by simp only; omega))))
  · have h1 : f.val = 512 + f'.val := h1
    have hl : f'.val < 64 := by have := f'.isLt; omega
    exact (head4 (k0_pay18 (F := Ideal) (bT m c t)) _ r ⟨f'.val, hl⟩ _ _).trans ((bT_apply m c t r _).trans (congrArg (DM m c (tok t r)) (Fin.ext (by simp only; omega))))
  · have h1 : f.val = 384 + f'.val := h1
    have hl : f'.val < 64 := by have := f'.isLt; omega
    exact (head3 (k0_pay18 (F := Ideal) (bT m c t)) r ⟨f'.val, hl⟩ _ _ _).trans ((bT_apply m c t r _).trans (congrArg (DM m c (tok t r)) (Fin.ext (by simp only; omega))))
  · have h1 : f.val = 256 + f'.val := h1
    have hl : f'.val < 64 := by have := f'.isLt; omega
    exact (head2 (k0_pay18 (F := Ideal) (bT m c t)) _ r ⟨f'.val, hl⟩).trans ((bT_apply m c t r _).trans (congrArg (DM m c (tok t r)) (Fin.ext (by simp only; omega))))
  · have h1 : f.val = 128 + f'.val := h1
    have hl : f'.val < 64 := by have := f'.isLt; omega
    exact (head1 (k0_pay18 (F := Ideal) (bT m c t)) _ r ⟨f'.val, hl⟩).trans ((bT_apply m c t r _).trans (congrArg (DM m c (tok t r)) (Fin.ext (by simp only; omega))))
  · have h1 : f.val = f'.val := h1
    have hl : f'.val < 64 := by have := f'.isLt; omega
    exact (head0 r ⟨f'.val, hl⟩ (bT m c t) _ _).trans ((bT_apply m c t r _).trans (congrArg (DM m c (tok t r)) (Fin.ext (by simp only; omega))))

theorem out_10 (t : Fin cfg0.N) : (outsAt0 m c t.val t.isLt).2.1 = dT m c t := by
  rcases Decidable.em (t.val % 16 = 0) with h0 | h0
  · rw [outsAt0_A m c t h0]
    dsimp only
    frame_out
  · rw [outsAt0_B m c t h0]
    dsimp only
    frame_out
theorem out_12 (t : Fin cfg0.N) : (outsAt0 m c t.val t.isLt).2.2.2.1 = mT m c t := by
  rcases Decidable.em (t.val % 16 = 0) with h0 | h0
  · rw [outsAt0_A m c t h0]
    dsimp only
    frame_out
  · rw [outsAt0_B m c t h0]
    dsimp only
    frame_out
theorem out_13 (t : Fin cfg0.N) : (outsAt0 m c t.val t.isLt).2.2.2.2.1 = View.canon (oL m c t) := by
  rcases Decidable.em (t.val % 16 = 0) with h0 | h0
  · rw [outsAt0_A m c t h0]
    dsimp only
    frame_out
  · rw [outsAt0_B m c t h0]
    dsimp only
    frame_out
theorem out_15_A (t : Fin cfg0.N) (h0 : t.val % 16 = 0) :
    (outsAt0 m c t.val t.isLt).2.2.2.2.2.2 = k0_pay10 (F := Ideal) (nT m c t) (aT m c t) (k0_pay2 (F := Ideal)) := by
  rw [outsAt0_A m c t h0]
  dsimp only
  frame_out
theorem out_15_B (t : Fin cfg0.N) (h0 : ¬t.val % 16 = 0) :
    (outsAt0 m c t.val t.isLt).2.2.2.2.2.2 = k0_pay10 (F := Ideal) (nT m c t) (aT m c t)
      (outsAt0 m c (t.val - 1) (Nat.lt_of_le_of_lt (Nat.sub_le _ _) t.isLt)).2.2.2.2.2.2 := by
  rw [outsAt0_B m c t h0]
  dsimp only
  frame_out

/-! ## The arrays the call writes -/

theorem arr_10 : ((dats (F := Ideal) m 0 c).arrAt 10 cfg0.N : S8192x1024.Idx → EReal) = arr (DH m c) := by
  refine (dats m 0 c).arrAt_eq_of_covers 10 _ (by decide +kernel) fun t hf y => ?_
  have e := index_10 t
  blk_simp
  rw [after0_10]
  obtain ⟨r, d, rfl⟩ : ∃ (r : Fin 512) (d : Fin 1024), y = (ix2 r d : S512x1024.Idx) := idx2 y
  refine ((congrFun (out_10 m c t) _).trans (dT_apply m c t r d)).trans ?_
  refine congrArg₂ (DH m c) (Fin.ext ?_) (Fin.ext ?_)
  · show 512 * t.val + r.val = win0_10.index t 0 * 512 + 1 * r.val
    rw [e.1]; omega
  · show d.val = win0_10.index t 1 * 1024 + 1 * d.val
    rw [e.2]; omega
theorem arr_12 : ((dats (F := Ideal) m 0 c).arrAt 12 cfg0.N : S8192x512.Idx → EReal) = arr fun t (e : Fin 512) => DM m c t ⟨e.val, by omega⟩ := by
  refine (dats m 0 c).arrAt_eq_of_covers 12 _ (by decide +kernel) fun t hf y => ?_
  have e := index_12 t
  blk_simp
  rw [after0_12]
  obtain ⟨r, d, rfl⟩ : ∃ (r : Fin 512) (d : Fin 512), y = (ix2 r d : S512x512.Idx) := idx2 y
  refine ((congrFun (out_12 m c t) _).trans (mT_apply m c t r d)).trans ?_
  refine congrArg₂ (DM m c) (Fin.ext ?_) (Fin.ext ?_)
  · show 512 * t.val + r.val = win0_12.index t 0 * 512 + 1 * r.val
    rw [e.1]; omega
  · show d.val = win0_12.index t 1 * 512 + 1 * d.val
    rw [e.2]; omega

/-- The tile a token is in. -/
def tile (i : Fin 8192) : Fin cfg0.N := ⟨i.val / 512, lt_of_lt_of_eq (by have := i.isLt; omega) (show cfg0.N = 16 from N_0).symm⟩
/-- Its row there. -/
def trow (i : Fin 8192) : Fin 512 := ⟨i.val % 512, by omega⟩
theorem tile_tok (t : Fin cfg0.N) (r : Fin 512) : tile (tok t r) = t := Fin.ext (by show (512 * t.val + r.val) / 512 = t.val; have := r.isLt; omega)
theorem trow_tok (t : Fin cfg0.N) (r : Fin 512) : trow (tok t r) = r := Fin.ext (by show (512 * t.val + r.val) % 512 = r.val; have := r.isLt; omega)
theorem tok_tile (i : Fin 8192) : tok (tile i) (trow i) = i := Fin.ext (by show 512 * (i.val / 512) + i.val % 512 = i.val; omega)

/-- The second half of the mixed heads' gradient, with the lanes the program drops. -/
def dob (i : Fin 8192) (f : Fin 1024) : EReal := View.canon (oL m c (tile i)) (ix2 (trow i) f)
theorem dob_apply (i : Fin 8192) (f : Fin 1024) (hf : f.val % 128 < 64) :
    dob m c i f = DM m c i ⟨512 + (64 * (f.val / 128) + f.val % 128), by have := f.isLt; omega⟩ :=
  (oL_apply m c (tile i) (trow i) f hf).trans (by rw [tok_tile])

theorem arr_13 : ((dats (F := Ideal) m 0 c).arrAt 13 cfg0.N : S8192x1024.Idx → EReal) = arr (dob m c) := by
  refine (dats m 0 c).arrAt_eq_of_covers 13 _ (by decide +kernel) fun t hf y => ?_
  have e := index_13 t
  blk_simp
  rw [after0_13]
  obtain ⟨r, d, rfl⟩ : ∃ (r : Fin 512) (d : Fin 1024), y = (ix2 r d : S512x1024.Idx) := idx2 y
  have h : dob m c (tok t r) d = View.canon (oL m c t) (ix2 r d) := by
    unfold dob
    rw [tile_tok, trow_tok]
  refine ((congrFun (out_13 m c t) _).trans h.symm).trans ?_
  refine congrArg₂ (dob m c) (Fin.ext ?_) (Fin.ext ?_)
  · show 512 * t.val + r.val = win0_13.index t 0 * 512 + 1 * r.val
    rw [e.1]; omega
  · show d.val = win0_13.index t 1 * 1024 + 1 * d.val
    rw [e.2]; omega

/-- A token's share of the scale's gradient. -/
def gpart (d : Fin 1024) (i : ℕ) : EReal := if h : i < 8192 then DN m c ⟨i, h⟩ d * hat (H m c) ⟨i, h⟩ d else 0
/-- A tile's. -/
def tileG (d : Fin 1024) (k : ℕ) : EReal := ∑ r : Fin 512, gpart m c d (512 * k + r.val)

theorem pay10_tile (t : Fin cfg0.N) (o : Vec Ideal S1x1024 .f32) (d : Fin 1024) :
    k0_pay10 (F := Ideal) (nT m c t) (aT m c t) o (ix2 0 d) = o (ix2 0 d) + tileG m c d t.val := by
  rw [pay10_apply]
  refine congrArg (o (ix2 0 d) + ·) (Fin.sum_fin_congr fun r => ?_)
  rw [nT_apply, aT_apply]
  have hr : 512 * t.val + r.val < 8192 := (tok t r).isLt
  unfold gpart
  rw [dif_pos hr]
  rfl

theorem scale_point (t : Fin cfg0.N) (d : Fin 1024) :
    (outsAt0 m c t.val t.isLt).2.2.2.2.2.2 (ix2 0 d) = (0 : EReal) + ∑ k ∈ Finset.range (t.val + 1), tileG m c d k := by
  refine Pipeline.eq_sum_of_reset_step_single (M := EReal) (fun n h => (outsAt0 m c n h).2.2.2.2.2.2 (ix2 0 d)) 16 0 (tileG m c d) (fun t h0 => ?_) (fun t h0 => ?_) (le_of_eq N_0) t
  · refine (congrFun (out_15_A m c t h0) _).trans ((pay10_tile m c t _ d).trans ?_)
    refine congrArg (· + tileG m c d t.val) ?_
    pointwise [k0_pay2]
  · exact (congrFun (out_15_B m c t h0) _).trans (pay10_tile m c t _ d)

/-- The scale's gradient. -/
def DG (d : Fin 1024) : EReal := ∑ t, DN m c t d * hat (H m c) t d

theorem scale_tiles (d : Fin 1024) : (∑ k ∈ Finset.range 16, tileG m c d k) = DG m c d := by
  unfold tileG DG
  rw [Cert.Reference5Ideal.Mlp.sum_blocks (gpart m c d) 16, Finset.sum_range]
  exact Finset.sum_congr rfl fun i _ => dif_pos i.isLt

theorem arr_15 : ((dats (F := Ideal) m 0 c).arrAt 15 cfg0.N : S1x1024.Idx → EReal) = fun y => DG m c (y 1) := by
  refine (dats m 0 c).arrAt_eq_of_covers 15 _ (by decide +kernel) fun t hf y => ?_
  have e := index_15 t
  blk_simp
  rw [after0_15]
  obtain ⟨r, d, rfl⟩ : ∃ (r : Fin 1) (d : Fin 1024), y = (ix2 r d : S1x1024.Idx) := idx2 y
  obtain rfl : r = 0 := Subsingleton.elim _ _
  refine (scale_point m c t d).trans ?_
  have h15 : t.val = 15 := by
    have := (flush0_15 t).mp hf
    have := lt16 t
    omega
  rw [h15, zero_add, scale_tiles]
  refine congrArg (DG m c) (Fin.ext ?_)
  show d.val = win0_15.index t 1 * 1024 + 1 * d.val
  rw [e.2]; omega

/-! ## The host lines after the call -/

theorem join (A : S8192x512.Idx → EReal) (B : S8192x1024.Idx → EReal) (D : Fin 8192 → Fin 1024 → EReal)
    (hA : A = arr fun t (e : Fin 512) => D t ⟨e.val, by omega⟩)
    (hB : ∀ t (f : Fin 1024) (hf : f.val % 128 < 64), B (ix2 t f) = D t ⟨512 + (64 * (f.val / 128) + f.val % 128), by have := f.isLt; omega⟩) :
    (concatenate (α := EReal) S8192x1024 1 [⟨S8192x512, A⟩, ⟨S8192x512, shapeCast S8192x512 (extractStridedSlice S8192x8x64 ![0, 0, 0] (shapeCast S8192x8x128 B shapeCasts_S8192x1024_S8192x8x128) slices_S8192x8x128_S8192x8x64_0_0_0) shapeCasts_S8192x8x64_S8192x512⟩] concatenates_S8192x512_S8192x512_S8192x1024_d1 : S8192x1024.Idx → EReal)
    = arr D := by
  funext y
  obtain ⟨t, e, rfl⟩ := idx2 y
  pointwise
  split
  · rw [hA]
    rfl
  · rename_i h
    have he := e.isLt
    refine (hB t _ (by simp only; omega)).trans (congrArg (D t) (Fin.ext ?_))
    show 512 + (64 * (((e.val - 512) / 64 * 128 + (e.val - 512) % 64) / 128) + ((e.val - 512) / 64 * 128 + (e.val - 512) % 64) % 128) = e.val
    omega

/-- What the host lines after the call write, in order. -/
abbrev wr' : List (Ref sig .tc) := [main_v29, main_v30, main_v31, main_v32, main_v33, main_v34, main_v35]

theorem tail_v34 : (Pipeline.afterTail₀ cfgs (dats (F := Ideal) m) 0 (V0 m) [hostOps1] c main_v34 : S8192x1024.Idx → EReal) = arr (DM m c) := by
  have key : ∀ A : Valuation τ sig (Elt Ideal), (A (Proc.devRef .tc main_v28_3) : S8192x512.Idx → EReal) = (arr fun t (e : Fin 512) => DM m c t ⟨e.val, by omega⟩) →
      (A (Proc.devRef .tc main_v28_4) : S8192x1024.Idx → EReal) = arr (dob m c) →
      (after hostOps1 A (Proc.devRef .tc main_v34) : S8192x1024.Idx → EReal) = arr (DM m c) := fun A hA hB => by
    have a1 : (after hostOps1 A (Proc.devRef .tc main_v28_3) : S8192x512.Idx → EReal) = arr fun t (e : Fin 512) => DM m c t ⟨e.val, by omega⟩ :=
      (read_arg (τ := τ) (Val := Elt Ideal) (ops := hostOps1) (W := wr') (r := main_v28_3) rfl (by decide) _).trans hA
    have a2 : (after hostOps1 A (Proc.devRef .tc main_v28_4) : S8192x1024.Idx → EReal) = arr (dob m c) :=
      (read_arg (τ := τ) (Val := Elt Ideal) (ops := hostOps1) (W := wr') (r := main_v28_4) rfl (by decide) _).trans hB
    have h0 : (after hostOps1 A (Proc.devRef .tc main_v29) : S8192x1024.Idx → EReal) = after hostOps1 A (Proc.devRef .tc main_v28_4) :=
      read_unary (τ := τ) (Val := Elt Ideal) (ops := hostOps1) (W := wr') rfl 0 rfl (by decide) (by decide) _
    have h1 : (after hostOps1 A (Proc.devRef .tc main_v30) : S8192x8x128.Idx → EReal) = shapeCast (α := EReal) S8192x8x128 (after hostOps1 A (Proc.devRef .tc main_v29)) shapeCasts_S8192x1024_S8192x8x128 :=
      read_reshape (τ := τ) (Val := Elt Ideal) (ops := hostOps1) (W := wr') rfl 1 rfl (by decide) (by decide) _
    have h2 : (after hostOps1 A (Proc.devRef .tc main_v31) : S8192x8x64.Idx → EReal) = extractStridedSlice (α := EReal) S8192x8x64 ![0, 0, 0] (after hostOps1 A (Proc.devRef .tc main_v30)) slices_S8192x8x128_S8192x8x64_0_0_0 :=
      read_unary (τ := τ) (Val := Elt Ideal) (ops := hostOps1) (W := wr') rfl 2 rfl (by decide) (by decide) _
    have h3 : (after hostOps1 A (Proc.devRef .tc main_v32) : S8192x512.Idx → EReal) = shapeCast (α := EReal) S8192x512 (after hostOps1 A (Proc.devRef .tc main_v31)) shapeCasts_S8192x8x64_S8192x512 :=
      read_reshape (τ := τ) (Val := Elt Ideal) (ops := hostOps1) (W := wr') rfl 3 rfl (by decide) (by decide) _
    have h4 : (after hostOps1 A (Proc.devRef .tc main_v33) : S8192x512.Idx → EReal) = after hostOps1 A (Proc.devRef .tc main_v28_3) :=
      read_unary (τ := τ) (Val := Elt Ideal) (ops := hostOps1) (W := wr') rfl 4 rfl (by decide) (by decide) _
    have h5 : (after hostOps1 A (Proc.devRef .tc main_v34) : S8192x1024.Idx → EReal) = concatenate (α := EReal) S8192x1024 1 [⟨S8192x512, after hostOps1 A (Proc.devRef .tc main_v33)⟩, ⟨S8192x512, after hostOps1 A (Proc.devRef .tc main_v32)⟩] concatenates_S8192x512_S8192x512_S8192x1024_d1 :=
      read_binary (τ := τ) (Val := Elt Ideal) (ops := hostOps1) (W := wr') rfl 5 rfl (by decide) (by decide) (by decide) _
    rw [h5, h3, h2, h1]
    exact join _ _ _ (h4.trans a1) fun t f hf => (congrFun (h0.trans a2) _).trans (dob_apply m c t f hf)
  exact key _ ((Pipeline.withArrays_arr spec0 launch0.win.arr_inj c (V0 m c) _ 12).trans (arr_12 m c))
    ((Pipeline.withArrays_arr spec0 launch0.win.arr_inj c (V0 m c) _ 13).trans (arr_13 m c))

theorem flat (x : S1x1024.Idx → EReal) (v : Fin 1024 → EReal) (hx : x = fun y => v (y 1)) :
    (shapeCast (α := EReal) S1024 x shapeCasts_S1x1024_S1024 : S1024.Idx → EReal) = fun y => v (y 0) := by
  subst hx
  funext y
  obtain ⟨d, rfl⟩ : ∃ d : Fin 1024, y = (ix1 d : S1024.Idx) := ⟨y 0, funext fun a => match a with | ⟨0, _⟩ => rfl⟩
  pointwise

theorem tail_v35 : (Pipeline.afterTail₀ cfgs (dats (F := Ideal) m) 0 (V0 m) [hostOps1] c main_v35 : S1024.Idx → EReal) = fun y => DG m c (y 0) := by
  have key : ∀ A : Valuation τ sig (Elt Ideal), (A (Proc.devRef .tc main_v28_6) : S1x1024.Idx → EReal) = (fun y => DG m c (y 1)) →
      (after hostOps1 A (Proc.devRef .tc main_v35) : S1024.Idx → EReal) = fun y => DG m c (y 0) := fun A hA => by
    have h0 : (after hostOps1 A (Proc.devRef .tc main_v28_6) : S1x1024.Idx → EReal) = fun y => DG m c (y 1) :=
      (read_arg (τ := τ) (Val := Elt Ideal) (ops := hostOps1) (W := wr') (r := main_v28_6) rfl (by decide) _).trans hA
    have h1 : (after hostOps1 A (Proc.devRef .tc main_v35) : S1024.Idx → EReal) = shapeCast (α := EReal) S1024 (after hostOps1 A (Proc.devRef .tc main_v28_6)) shapeCasts_S1x1024_S1024 :=
      read_reshape (τ := τ) (Val := Elt Ideal) (ops := hostOps1) (W := wr') rfl 6 rfl (by decide) (by decide) _
    rw [h1]
    exact flat _ _ h0
  exact key _ ((Pipeline.withArrays_arr spec0 launch0.win.arr_inj c (V0 m c) _ 15).trans (arr_15 m c))

/-! ## The claim -/

/-- Both programs end with the gradients of the residual stream, of the mixed heads and of the scale. -/
theorem equal_results : Cert.algebraic_Kernel4Ideal_Reference4Ideal := by
  intro m g m' g' _ hs
  refine ⟨fun c => arr (DH m c), fun c => arr (DM m c), fun c y => DG m c (y 0), ?_, ?_⟩
  · refine (θ_run defs _ _).mono (fun r h c => ?_) (θ_run_and (Gen.unchanged m g) (Gen.run_main m g))
    have hb := fun b h1 h2 => (h.2 c).2 b (Pipeline.mem_restRefs_of b h1 h2)
    exact ⟨((h.2 c).1 10).trans (arr_10 m c),
      (hb main_v34 (by decide) (by decide)).trans (tail_v34 m c),
      (hb main_v35 (by decide) (by decide)).trans (tail_v35 m c), h.1 c⟩
  · refine (θ_run Cert.Reference4Ideal.defs _ _).mono (fun r h c => ?_) (Cert.Reference4Ideal.Value.run m' g')
    obtain ⟨e0, e1, e2, e3, e4, e5, e6⟩ := hs c
    obtain ⟨r0, r1, r2, ra⟩ := h c
    have hH : Cert.Reference4Ideal.MlpB.H m' c = H m c := by
      unfold Cert.Reference4Ideal.MlpB.H Cert.Reference4Ideal.MlpB.aX Cert.Reference4Ideal.MlpB.aM Cert.Reference4Ideal.MlpB.aWo
      rw [e0, e1, e2]
      rfl
    have hN : Cert.Reference4Ideal.MlpB.DN m' c = DN m c := by
      unfold Cert.Reference4Ideal.MlpB.DN Cert.Reference4Ideal.MlpB.aG Cert.Reference4Ideal.MlpB.aWu Cert.Reference4Ideal.MlpB.aWd Cert.Reference4Ideal.MlpB.aY
      rw [hH, e3, e4, e5, e6]
      rfl
    have hD : Cert.Reference4Ideal.MlpB.DX m' c = DH m c := by
      funext t d
      unfold Cert.Reference4Ideal.MlpB.DX Cert.Reference4Ideal.MlpB.aG Cert.Reference4Ideal.MlpB.aY
      rw [hH, hN, e3, e6]
      exact drow_eq (H m c t) (fun k => DN m c t k * aG m c k) (aY m c t d) d
    refine ⟨r0.trans ((Cert.Reference4Ideal.MlpB.r_dx m' c).trans ?_), r1.trans ((Cert.Reference4Ideal.MlpB.r_dmix m' c).trans ?_),
      r2.trans ((Cert.Reference4Ideal.MlpB.r_dg m' c).trans ?_), ra⟩
    · rw [hD]
    · unfold Cert.Reference4Ideal.MlpB.aWo
      rw [hD, e2]
      rfl
    · rw [hH, hN]
      exact funext fun y => Finset.sum_congr rfl fun t _ => mul_comm _ _

end Cert.Kernel4Ideal.MlpB

end
-- ==== Proof.WOut.lean ====
/- The weight gradient of half of the output projection: the call adds the tokens in two halves, the reference in one sum. -/
module

public import proofs.«01_k».proof.Proof.Gen.Kernel6Ideal.Frame
public import proofs.«01_k».proof.Proof.Gen.Reference6Ideal.Run
public import proofs.«01_k».proof.Defs
public import proofs.«01_k».proof.Proof.Line
public import Idealize.ShloMosaic.Lib.Pipeline.ValueKit
public import Idealize.ShloMosaic.Lib.Pointwise

@[expose] public section

set_option maxRecDepth 16384

noncomputable section

namespace Cert.Kernel6Ideal.WOut

open Idealize.ShloMosaic Idealize.ShloMosaic.TcCoe Idealize.SL.Sem Idealize.ShloMosaic.StableHlo Cert.Line
open Cert.Kernel6Ideal Cert.Kernel6Ideal.Gen
open Idealize.ShloMosaic.Pipeline (Dat Cfg Window)

/-- The product of two matrices of token rows, contracted over the tokens. -/
def prodT (A : S8192x512.Idx → EReal) (B : S8192x1024.Idx → EReal) : S512x1024.Idx → EReal :=
  fun y => ∑ t : Fin 8192, A (ix2 t (y 0)) * B (ix2 t (y 1))

theorem pay_apply (o : Vec Ideal S512x1024 .f32) (x0 : Vec Ideal S4096x512 .bf16) (x1 : Vec Ideal S4096x1024 .bf16) (f : Fin 512) (d : Fin 1024) :
    k0_pay2 (F := Ideal) o x0 x1 (ix2 f d) = o (ix2 f d) + ∑ t : Fin 4096, x0 (ix2 t f) * x1 (ix2 t d) := by
  pointwise [k0_pay2]
theorem zero_apply (f : Fin 512) (d : Fin 1024) : k0_pay1 (F := Ideal) (ix2 f d) = 0 := by
  pointwise [k0_pay1]
theorem out_apply (o : Vec Ideal S512x1024 .f32) (f : Fin 512) (d : Fin 1024) : k0_pay3 (F := Ideal) o (ix2 f d) = o (ix2 f d) := by
  pointwise [k0_pay3]

theorem index_0 : ∀ t : Fin cfg0.N, win0_0.index t 0 = t.val ∧ win0_0.index t 1 = 0 := by decide +kernel
theorem index_1 : ∀ t : Fin cfg0.N, win0_1.index t 0 = t.val ∧ win0_1.index t 1 = 0 := by decide +kernel
theorem index_2 : ∀ t : Fin cfg0.N, win0_2.index t 0 = 0 ∧ win0_2.index t 1 = 0 := by decide +kernel
theorem lt2 (t : Fin cfg0.N) : t.val < 2 := lt_of_lt_of_eq t.isLt (show cfg0.N = 2 from N_0)

variable (m : (ℓ : Loc nD τ sig) → Buf (Elt Ideal) ℓ) (c : Dev nD)

/-- The call's two arguments, as the host lines before it leave them. -/
abbrev xA : S8192x512.Idx → EReal := V m c main_v0
abbrev xB : S8192x1024.Idx → EReal := V m c main_v1

theorem V_v0 : (V m c main_v0 : S8192x512.Idx → EReal) = m ((c.tc : Thread nD τ).loc main_arg0) :=
  read_unary (τ := τ) (Val := Elt Ideal) (ops := hostOps0) (W := [main_v0, main_v1]) rfl 0 rfl (by decide) (by decide) _
theorem V_v1 : (V m c main_v1 : S8192x1024.Idx → EReal) = m ((c.tc : Thread nD τ).loc main_arg2) := by
  refine (read_unary (τ := τ) (Val := Elt Ideal) (ops := hostOps0) (W := [main_v0, main_v1]) rfl 1 rfl (by decide) (by decide) _).trans ?_
  exact read_arg (τ := τ) (Val := Elt Ideal) (ops := hostOps0) (W := [main_v0, main_v1]) (r := main_arg2) rfl (by decide) _

theorem blk_0 (t : Fin cfg0.N) (k : Fin 4096) (f : Fin 512) :
    (iblk m c 0 t : S4096x512.Idx → EReal) (ix2 k f) = (V m c main_v0 : S8192x512.Idx → EReal) (ix2 ⟨4096 * t.val + k.val, by have := lt2 t; omega⟩ f) := by
  blk_simp [iblk]
  refine congrArg (V m c main_v0) (funext fun a => Fin.ext ?_)
  match a with
  | ⟨0, _⟩ => show win0_0.index t 0 * 4096 + 1 * k.val = 4096 * t.val + k.val; rw [(index_0 t).1]; omega
  | ⟨1, _⟩ => show win0_0.index t 1 * 512 + 1 * f.val = f.val; rw [(index_0 t).2]; omega
theorem blk_1 (t : Fin cfg0.N) (k : Fin 4096) (d : Fin 1024) :
    (iblk m c 1 t : S4096x1024.Idx → EReal) (ix2 k d) = (V m c main_v1 : S8192x1024.Idx → EReal) (ix2 ⟨4096 * t.val + k.val, by have := lt2 t; omega⟩ d) := by
  blk_simp [iblk]
  refine congrArg (V m c main_v1) (funext fun a => Fin.ext ?_)
  match a with
  | ⟨0, _⟩ => show win0_1.index t 0 * 4096 + 1 * k.val = 4096 * t.val + k.val; rw [(index_1 t).1]; omega
  | ⟨1, _⟩ => show win0_1.index t 1 * 1024 + 1 * d.val = d.val; rw [(index_1 t).2]; omega

/-- The first half's sums, as the scratch holds them. -/
theorem acc_A (t : Fin cfg0.N) (h0 : t.val % 2 = 0) (h1 : ¬t.val % 2 = 1) :
    (outsAt0 m c t.val t.isLt).2 = k0_pay2 (F := Ideal) (k0_pay1 (F := Ideal)) (iblk m c 0 t) (iblk m c 1 t) := by
  rw [outsAt0_A m c t h0 h1]
  dsimp only
  frame_out
theorem out_B (t : Fin cfg0.N) (h0 : ¬t.val % 2 = 0) (h1 : t.val % 2 = 1) :
    (outsAt0 m c t.val t.isLt).1 = k0_pay3 (F := Ideal) (k0_pay2 (F := Ideal)
      (outsAt0 m c (t.val - 1) (Nat.lt_of_le_of_lt (Nat.sub_le _ _) t.isLt)).2 (iblk m c 0 t) (iblk m c 1 t)) := by
  rw [outsAt0_B m c t h0 h1]
  dsimp only
  frame_out
  exact congrArg (fun o => k0_pay3 (F := Ideal) (k0_pay2 (F := Ideal) o (iblk m c 0 t) (iblk m c 1 t))) (Memref.IsWhole.read_unread (m := Memref.whole cc0_scratch0) _ _)

theorem arr_2 : ((dats (F := Ideal) m 0 c).arrAt 2 cfg0.N : S512x1024.Idx → EReal) = prodT (xA m c) (xB m c) := by
  refine (dats m 0 c).arrAt_eq_of_covers 2 _ (by decide +kernel) fun t hf y => ?_
  have e2 := index_2 t
  have h1 : t.val % 2 = 1 := (flush0_2 t).mp hf
  have hv : t.val = 1 := by have := lt2 t; omega
  blk_simp
  rw [after0_2]
  obtain ⟨f, d, rfl⟩ : ∃ (f : Fin 512) (d : Fin 1024), y = (ix2 f d : S512x1024.Idx) := ⟨y 0, y 1, funext fun a => match a with | ⟨0, _⟩ => rfl | ⟨1, _⟩ => rfl⟩
  refine (congrFun (out_B m c t (by omega) h1) _).trans ?_
  have hN : 0 < cfg0.N := lt_of_lt_of_eq (by decide) (show cfg0.N = 2 from N_0).symm
  have key : ∀ n (hn : n < cfg0.N), n = 0 → (outsAt0 m c n hn).2 (ix2 f d) = ∑ k : Fin 4096, xA m c (ix2 ⟨k.val, by omega⟩ f) * xB m c (ix2 ⟨k.val, by omega⟩ d) := by
    intro n hn e
    subst e
    refine (congrFun (acc_A m c ⟨0, hn⟩ (by show 0 % 2 = 0; rfl) (by show ¬0 % 2 = 1; decide)) (ix2 f d)).trans ?_
    rw [pay_apply, zero_apply, zero_add]
    refine Fin.sum_fin_congr fun k => ?_
    rw [blk_0, blk_1]
    refine congrArg₂ (· * ·) (congrArg (xA m c) (congrArg (fun i => ix2 i f) (Fin.ext ?_))) (congrArg (xB m c) (congrArg (fun i => ix2 i d) (Fin.ext ?_)))
    · show 4096 * 0 + k.val = k.val; omega
    · show 4096 * 0 + k.val = k.val; omega
  rw [out_apply, pay_apply, key _ _ (by omega)]
  have hp : ∀ i : S512x1024.Idx, i = ix2 f d → prodT (xA m c) (xB m c) i
      = (∑ k : Fin 4096, xA m c (ix2 ⟨k.val, by omega⟩ f) * xB m c (ix2 ⟨k.val, by omega⟩ d))
        + ∑ k : Fin 4096, xA m c (ix2 ⟨4096 + k.val, by omega⟩ f) * xB m c (ix2 ⟨4096 + k.val, by omega⟩ d) := by
    intro i hi
    subst hi
    exact Fin.sum_univ_add (a := 4096) (b := 4096) fun k => xA m c (ix2 k f) * xB m c (ix2 k d)
  refine Eq.trans ?_ (hp _ (funext fun a => Fin.ext ?_)).symm
  · refine congrArg₂ (· + ·) rfl (Fin.sum_fin_congr fun k => ?_)
    rw [blk_0, blk_1]
    refine congrArg₂ (· * ·) (congrArg (xA m c) (congrArg (fun i => ix2 i f) (Fin.ext ?_))) (congrArg (xB m c) (congrArg (fun i => ix2 i d) (Fin.ext ?_)))
    · show 4096 * t.val + k.val = 4096 + k.val; omega
    · show 4096 * t.val + k.val = 4096 + k.val; omega
  · match a with
    | ⟨0, _⟩ => show win0_2.index t 0 * 512 + 1 * f.val = f.val; rw [e2.1]; omega
    | ⟨1, _⟩ => show win0_2.index t 1 * 1024 + 1 * d.val = d.val; rw [e2.2]; omega

/-- What the call's program leaves in its result. -/
theorem tail_v3 : (Pipeline.afterTail₀ cfgs (dats (F := Ideal) m) 0 (V0 m) [hostOps1] c main_v3 : S512x1024.Idx → EReal)
    = prodT (m ((c.tc : Thread nD τ).loc main_arg0)) (m ((c.tc : Thread nD τ).loc main_arg2)) := by
  refine (read_unary (τ := τ) (Val := Elt Ideal) (ops := hostOps1) (W := [main_v3]) rfl 0 rfl (by decide) (by decide) _).trans ?_
  refine Eq.trans (read_arg (τ := τ) (Val := Elt Ideal) (ops := hostOps1) (W := [main_v3]) (r := main_v2) rfl (by decide) _) ?_
  refine (Pipeline.withArrays_arr spec0 launch0.win.arr_inj c (V0 m c) _ 2).trans ((arr_2 m c).trans ?_)
  unfold xA xB
  rw [V_v0, V_v1]

/-- The reference's term. -/
theorem ref_term (A : S8192x512.Idx → EReal) (B : S8192x1024.Idx → EReal) :
    (transpose Cert.Reference6Ideal.S512x1024 [1, 0] (Host.dotGeneral (F := Ideal) (φ₁ := .f32) (φ₂ := .f32) Cert.Reference6Ideal.dot_S8192x1024_S8192x512_S1024x512_0_0_1_1_n_n none B A) Cert.Reference6Ideal.Gen.facts.transposes_S1024x512_S512x1024_1_0 : S512x1024.Idx → EReal) = prodT A B := by
  funext y
  obtain ⟨f, d, rfl⟩ : ∃ (f : Fin 512) (d : Fin 1024), y = (ix2 f d : S512x1024.Idx) := ⟨y 0, y 1, funext fun a => match a with | ⟨0, _⟩ => rfl | ⟨1, _⟩ => rfl⟩
  pointwise
  exact Finset.sum_congr rfl fun k _ => mul_comm _ _

/-- The reference ends with its arguments as given and every counter at zero. -/
theorem ref_quiescent : Cert.quiescent_Reference6Ideal := fun m g _ =>
  (θ_run Cert.Reference6Ideal.defs _ _).mono (fun r h => ⟨fun c => (h c).2, sem_eq_zero_of_no_sems (by decide) r.2⟩)
    (Cert.Reference6Ideal.Value.run m g)

/-- Both programs end with the weight gradient. -/
theorem equal_results : Cert.algebraic_Kernel6Ideal_Reference6Ideal := by
  intro m g m' g' _ hs
  refine ⟨fun c => prodT (m ((c.tc : Thread nD τ).loc main_arg0)) (m ((c.tc : Thread nD τ).loc main_arg2)), ?_, ?_⟩
  · refine (θ_run defs _ _).mono (fun r h c => ?_) (Gen.run_main m g)
    have hb := fun b h1 h2 => (h c).2 b (Pipeline.mem_restRefs_of b h1 h2)
    exact ⟨(hb main_v3 (by decide) (by decide)).trans (tail_v3 m c),
      (hb main_arg0 (by decide) (by decide)).trans (Gen.W_main_arg0 m (dats m) c),
      (hb main_arg1 (by decide) (by decide)).trans (Gen.W_main_arg1 m (dats m) c),
      (hb main_arg2 (by decide) (by decide)).trans (Gen.W_main_arg2 m (dats m) c)⟩
  · refine (θ_run Cert.Reference6Ideal.defs _ _).mono (fun r h c => ⟨?_, (h c).2⟩) (Cert.Reference6Ideal.Value.run m' g')
    refine (h c).1.trans ((ref_term _ _).trans ?_)
    rw [(hs c).1, (hs c).2.2]

end Cert.Kernel6Ideal.WOut

end
-- ==== Proof.ProjTile.lean ====
module
public import proofs.«01_k».proof.Proof.Gen.Kernel7Ideal.Skeleton
public import Idealize.ShloMosaic.Lib.Pointwise
public import Idealize.ShloMosaic.Lib.Pipeline.ValueKit
@[expose] public section
set_option maxRecDepth 16384
noncomputable section
namespace Cert.Kernel7Ideal.Proj
open Idealize.ShloMosaic Idealize.ShloMosaic.TcCoe Idealize.SL.Sem Idealize.ShloMosaic.StableHlo
open Cert.Kernel7Ideal Cert.Kernel7Ideal.Gen

theorem shift_eq : ∀ a : Fin 256, IntOp.shrui ArithUnit.vector (BitVec.ofNat 32 a.val) 6#32 = BitVec.ofNat 32 (a.val / 64) := by decide +kernel
theorem same_eq : ∀ a b : Fin 4, IntOp.cmpi CmpIPredicate.eq (BitVec.ofNat 32 a.val) (BitVec.ofNat 32 b.val) = if a.val = b.val then 1#1 else 0#1 := by decide +kernel

/-- The matrix of a head's lanes, an element at a time. -/
theorem ones_eq (a b : ℕ) (ha : a < 256) (hb : b < 256) :
    FloatOps.sitofp (F := Ideal) FTy.f32 (BitVec.setWidth 32 (IntOp.cmpi CmpIPredicate.eq (IntOp.shrui ArithUnit.vector (BitVec.ofNat 32 a) 6#32) (IntOp.shrui ArithUnit.vector (BitVec.ofNat 32 b) 6#32)))
      = if a / 64 = b / 64 then (1 : EReal) else 0 := by
  rw [shift_eq ⟨a, ha⟩, shift_eq ⟨b, hb⟩]
  rw [same_eq ⟨a / 64, by omega⟩ ⟨b / 64, by omega⟩]
  split <;> rename_i h
  · show ((((1#1 : BitVec 1).setWidth 32).toInt : ℝ) : EReal) = 1
    simp
  · show ((((0#1 : BitVec 1).setWidth 32).toInt : ℝ) : EReal) = 0
    simp

/-- A sum against a head's row of that matrix is the sum over the head's lanes. -/
theorem head_sum {n A : ℕ} (hn : n = A * 64) (f : Fin n → EReal) (e : ℕ) (he : e < n) :
    ∑ x : Fin n, f x * (if x.val / 64 = e / 64 then (1 : EReal) else 0) = ∑ k : Fin 64, f ⟨64 * (e / 64) + k.val, by omega⟩ := by
  subst hn
  rw [← finProdFinEquiv.sum_comp, Fintype.sum_prod_type]
  rw [Finset.sum_eq_single (⟨e / 64, by omega⟩ : Fin A)]
  · refine Finset.sum_congr rfl fun k _ => ?_
    rw [if_pos (by simp [finProdFinEquiv]; omega), mul_one]
    refine congrArg f (Fin.ext ?_)
    simp [finProdFinEquiv]; omega
  · intro a _ hne
    refine Finset.sum_eq_zero fun k _ => ?_
    rw [if_neg, mul_zero]
    intro h
    refine hne (Fin.ext ?_)
    have := k.isLt
    simp [finProdFinEquiv] at h
    show a.val = e / 64
    omega
  · simp

/-- A head's lanes normalised and scaled. -/
def hv (q g : Fin 64 → EReal) (l : Fin 64) : EReal :=
  q l * Ideal.rsqrt ((∑ k, q k * q k) * Ideal.ofBits FTy.f32 0x3C800000#32 + Ideal.ofBits FTy.f32 0x358637BD#32) * g l

theorem pay4_apply (x : Vec Ideal S512x1024 .bf16) (w : Vec Ideal S2304x1024 .bf16) (r : Fin 512) (e : Fin 2304) :
    k0_pay4 (F := Ideal) x w (ix2 r e) = ∑ d : Fin 1024, x (ix2 r d) * w (ix2 e d) := by
  pointwise [k0_pay4, k0_pay3]
theorem pay5_apply (x : Vec Ideal S512x1024 .bf16) (w : Vec Ideal S128x1024 .bf16) (r : Fin 512) (e : Fin 128) :
    k0_pay5 (F := Ideal) x w (ix2 r e) = ∑ d : Fin 1024, x (ix2 r d) * w (ix2 e d) := by
  pointwise [k0_pay5, k0_pay3]
theorem pay6_apply (x : Vec Ideal S512x1024 .bf16) (w : Vec Ideal S2304x1024 .bf16) (r : Fin 512) (e : Fin 512) :
    k0_pay6 (F := Ideal) x w (ix2 r e) = k0_pay4 (F := Ideal) x w (ix2 r ⟨e.val, by omega⟩) := by
  unfold k0_pay6
  generalize k0_pay4 (F := Ideal) x w = q
  pointwise
theorem pay8_apply (x : Vec Ideal S512x1024 .bf16) (w : Vec Ideal S2304x1024 .bf16) (r : Fin 512) (e : Fin 512) :
    k0_pay8 (F := Ideal) x w (ix2 r e) = ∑ k : Fin 64, k0_pay6 (F := Ideal) x w (ix2 r ⟨64 * (e.val / 64) + k.val, by omega⟩) * k0_pay6 (F := Ideal) x w (ix2 r ⟨64 * (e.val / 64) + k.val, by omega⟩) := by
  unfold k0_pay8
  generalize k0_pay6 (F := Ideal) x w = q
  pointwise
  split <;> rename_i h
  · rw [Finset.sum_congr rfl fun k _ => congrArg₂ (· * ·) rfl (ones_eq k.val e.val k.isLt h)]
    exact head_sum (n := 256) (A := 4) rfl (fun x => q (ix2 r ⟨x.val, by omega⟩) * q (ix2 r ⟨x.val, by omega⟩)) e.val h
  · have he : e.val - 256 < 256 := by omega
    rw [Finset.sum_congr rfl fun k _ => congrArg₂ (· * ·) rfl (ones_eq k.val (e.val - 256) k.isLt he)]
    refine (head_sum (n := 256) (A := 4) rfl (fun x => q (ix2 r ⟨256 + x.val, by omega⟩) * q (ix2 r ⟨256 + x.val, by omega⟩)) (e.val - 256) he).trans ?_
    refine Finset.sum_congr rfl fun k _ => ?_
    have hi : (⟨256 + (64 * ((e.val - 256) / 64) + k.val), by omega⟩ : Fin 512) = ⟨64 * (e.val / 64) + k.val, by omega⟩ := Fin.ext (by simp only; omega)
    exact congrArg (fun i => q (ix2 r i) * q (ix2 r i)) hi
theorem pay9_apply (v : FVec Ideal S512x512 .f32) (g : FVec Ideal S1x512 .f32) (u : FVec Ideal S512x512 .f32) (z : Ideal .f32) (r : Fin 512) (e : Fin 512) :
    k0_pay9 (F := Ideal) v g u z (ix2 r e) = v (ix2 r e) * Ideal.rsqrt (u (ix2 r e) * z + Ideal.ofBits FTy.f32 0x358637BD#32) * g (ix2 0 e) := by
  pointwise [k0_pay9]
theorem pay7_apply (g : Vec Ideal S1x512 .f32) (e : Fin 512) : k0_pay7 (F := Ideal) g (ix2 0 e) = g (ix2 0 e) := by
  pointwise [k0_pay7]
theorem pay27_apply (g : Vec Ideal S1x512 .f32) (e : Fin 512) : k0_pay27 (F := Ideal) g (ix2 0 e) = g (ix2 0 e) := by
  pointwise [k0_pay27]
theorem pay26_apply (q : FVec Ideal S512x2304 .f32) (r : Fin 512) (e : Fin 512) :
    k0_pay26 (F := Ideal) q (ix2 r e) = q (ix2 r ⟨1280 + e.val, by omega⟩) := by
  pointwise [k0_pay26]
theorem pay28_apply (q : FVec Ideal S512x512 .f32) (g : FVec Ideal S1x512 .f32) (r : Fin 512) (e : Fin 512) :
    k0_pay28 (F := Ideal) q g (ix2 r e) = q (ix2 r e) * Ideal.rsqrt ((∑ k : Fin 64, q (ix2 r ⟨64 * (e.val / 64) + k.val, by omega⟩) * q (ix2 r ⟨64 * (e.val / 64) + k.val, by omega⟩)) * Ideal.ofBits FTy.f32 0x3C800000#32 + Ideal.ofBits FTy.f32 0x358637BD#32) * g (ix2 0 e) := by
  pointwise [k0_pay28]
  refine congrArg (fun s => q (ix2 r e) * Ideal.rsqrt (s * Ideal.ofBits FTy.f32 0x3C800000#32 + Ideal.ofBits FTy.f32 0x358637BD#32) * g (ix2 0 e)) ?_
  split <;> rename_i h
  · rw [Finset.sum_congr rfl fun k _ => congrArg₂ (· * ·) rfl (ones_eq k.val e.val k.isLt h)]
    exact head_sum (n := 256) (A := 4) rfl (fun x => q (ix2 r ⟨x.val, by omega⟩) * q (ix2 r ⟨x.val, by omega⟩)) e.val h
  · have he : e.val - 256 < 256 := by omega
    rw [Finset.sum_congr rfl fun k _ => congrArg₂ (· * ·) rfl (ones_eq k.val (e.val - 256) k.isLt he)]
    refine (head_sum (n := 256) (A := 4) rfl (fun x => q (ix2 r ⟨256 + x.val, by omega⟩) * q (ix2 r ⟨256 + x.val, by omega⟩)) (e.val - 256) he).trans ?_
    refine Finset.sum_congr rfl fun k _ => ?_
    have hi : (⟨256 + (64 * ((e.val - 256) / 64) + k.val), by omega⟩ : Fin 512) = ⟨64 * (e.val / 64) + k.val, by omega⟩ := Fin.ext (by simp only; omega)
    exact congrArg (fun i => q (ix2 r i) * q (ix2 r i)) hi

theorem lt_eq : ∀ a : Fin 128, IntOp.cmpi CmpIPredicate.slt (BitVec.ofNat 32 a.val) 64#32 = if a.val < 64 then 1#1 else 0#1 := by decide +kernel

theorem select_lt (a : Nat) (ha : a < 128) (x y : EReal) : Scalar.select (IntOp.cmpi CmpIPredicate.slt (BitVec.ofNat 32 a) 64#32) x y = if a < 64 then x else y := by
  rw [lt_eq ⟨a, ha⟩]
  split <;> rename_i h <;> simp [Scalar.select, h]
theorem ifs {α : Type _} {p r : Prop} [Decidable p] [Decidable r] {a b c : α} (h1 : p → r → a = c) (h2 : p → ¬ r → b = c) : p → (if r then a else b) = c := by
  intro hp; split <;> rename_i h
  · exact h1 hp h
  · exact h2 hp h
/-- The values' heads, each in its lanes. -/
theorem pay12_apply (q : FVec Ideal S512x2304 .f32) (r : Fin 512) (j : Fin 2) (l : Fin 64) :
    k0_pay12 (F := Ideal) (k0_pay11 (F := Ideal) q) (ix2 r ⟨128 * j.val + l.val, by omega⟩) = q (ix2 r ⟨640 + (64 * j.val + l.val), by omega⟩) := by
  pointwise [k0_pay12, k0_pay11]
  split <;> rename_i h
  · rw [select_lt _ (by omega), if_pos (by omega)]
    exact congrArg (fun i => q (ix2 r i)) (Fin.ext (by simp only; omega))
  · rw [select_lt _ (by omega), if_pos (by omega)]
    exact congrArg (fun i => q (ix2 r i)) (Fin.ext (by simp only; omega))
theorem norm_arm (q : Fin 128 → EReal) (g : Fin 128 → EReal) (j : Fin 2) (l : Fin 64) (e : Nat) (he : e < 128) (h : e = 64 * j.val + l.val) :
    q ⟨e, he⟩ * Ideal.rsqrt ((∑ x : Fin 128, q x * q x * FloatOps.sitofp (F := Ideal) FTy.f32 (BitVec.setWidth 32 (IntOp.cmpi CmpIPredicate.eq (IntOp.shrui ArithUnit.vector (BitVec.ofNat 32 x.val) 6#32) (IntOp.shrui ArithUnit.vector (BitVec.ofNat 32 e) 6#32)))) * Ideal.ofBits FTy.f32 0x3C800000#32 + Ideal.ofBits FTy.f32 0x358637BD#32) * g ⟨e, he⟩
      = hv (fun k => q ⟨64 * j.val + k.val, by omega⟩) (fun k => g ⟨64 * j.val + k.val, by omega⟩) l := by
  subst h
  unfold hv
  rw [Finset.sum_congr rfl fun (k : Fin 128) _ => congrArg₂ (· * ·) rfl (ones_eq k.val _ (by omega) (by omega)),
    head_sum (n := 128) (A := 2) rfl (fun x => q x * q x) (64 * j.val + l.val) he]
  have hs : ∀ k : Fin 64, (⟨64 * ((64 * j.val + l.val) / 64) + k.val, by omega⟩ : Fin 128) = ⟨64 * j.val + k.val, by omega⟩ := fun k => Fin.ext (by simp only; omega)
  simp only [hs]
theorem pay10_apply (q : FVec Ideal S512x2304 .f32) (g : Vec Ideal S1x128 .f32) (r : Fin 512) (j : Fin 2) (l : Fin 64) :
    k0_pay10 (F := Ideal) q g (ix2 r ⟨128 * j.val + l.val, by omega⟩)
      = hv (fun k => q (ix2 r ⟨512 + (64 * j.val + k.val), by omega⟩)) (fun k => g (ix2 0 ⟨64 * j.val + k.val, by omega⟩)) l := by
  pointwise [k0_pay10]
  split <;> rename_i h
  · rw [select_lt _ (by omega), if_pos (by omega)]
    exact norm_arm (fun e => q (ix2 r ⟨512 + e.val, by omega⟩)) (fun e => g (ix2 0 e)) j l _ (by omega) (by omega)
  · rw [select_lt _ (by omega), if_pos (by omega)]
    exact norm_arm (fun e => q (ix2 r ⟨512 + e.val, by omega⟩)) (fun e => g (ix2 0 e)) j l _ (by omega) (by omega)

theorem lane_eq (l : Fin 64) : IntOp.cmpi CmpIPredicate.eq (BitVec.ofNat 32 l.val) 64#32 = 0#1 ∧ IntOp.cmpi CmpIPredicate.eq (BitVec.ofNat 32 l.val) 68#32 = 0#1 ∧ IntOp.cmpi CmpIPredicate.eq (BitVec.ofNat 32 l.val) 69#32 = 0#1 ∧ IntOp.cmpi CmpIPredicate.eq (BitVec.ofNat 32 l.val) 70#32 = 0#1 ∧ IntOp.cmpi CmpIPredicate.eq (BitVec.ofNat 32 l.val) 71#32 = 0#1 ∧ IntOp.cmpi CmpIPredicate.eq (BitVec.ofNat 32 l.val) 72#32 = 0#1 ∧ IntOp.cmpi CmpIPredicate.eq (BitVec.ofNat 32 l.val) 73#32 = 0#1 ∧ IntOp.cmpi CmpIPredicate.eq (BitVec.ofNat 32 l.val) 74#32 = 0#1 ∧ IntOp.cmpi CmpIPredicate.eq (BitVec.ofNat 32 l.val) 75#32 = 0#1 ∧ IntOp.cmpi CmpIPredicate.eq (BitVec.ofNat 32 l.val) 76#32 = 0#1 ∧ IntOp.cmpi CmpIPredicate.sge (BitVec.ofNat 32 l.val) 65#32 = 0#1
    ∧ IntOp.cmpi CmpIPredicate.slt (BitVec.ofNat 32 l.val) 64#32 = 1#1 ∧ IntOp.cmpi CmpIPredicate.slt (BitVec.ofNat 32 l.val) 68#32 = 1#1 := by
  revert l; decide +kernel
theorem sel0 {α : Type} (a b : α) : Scalar.select 0#1 a b = b := rfl
theorem sel1 {α : Type} (a b : α) : Scalar.select 1#1 a b = a := rfl
theorem or00 : IntOp.ori (0#1) 0#1 = 0#1 := rfl
theorem and01 : IntOp.andi (0#1) 1#1 = 0#1 := rfl

section
variable (x : FVec Ideal S512x512 .f32) (v : FVec Ideal S512x2304 .f32) (a : FVec Ideal S512x128 .f32) (r : Fin 512) (l : Fin 64)
theorem khead0 : k0_pay39 (F := Ideal) (iota .tc S512x128 32 [1] iota_S512x128_d1_w32) a (k0_pay38 (F := Ideal) x) (iota .tc S512x128 32 [1] iota_S512x128_d1_w32) (ix2 r ⟨l.val, by omega⟩) = x (ix2 r ⟨0 + l.val, by omega⟩) := by
  pointwise [k0_pay39, k0_pay38]
  simp only [(lane_eq l).1, (lane_eq l).2.1, (lane_eq l).2.2.1, (lane_eq l).2.2.2.1, (lane_eq l).2.2.2.2.1, (lane_eq l).2.2.2.2.2.1, (lane_eq l).2.2.2.2.2.2.1, (lane_eq l).2.2.2.2.2.2.2.1, (lane_eq l).2.2.2.2.2.2.2.2.1, (lane_eq l).2.2.2.2.2.2.2.2.2.1, (lane_eq l).2.2.2.2.2.2.2.2.2.2.1, (lane_eq l).2.2.2.2.2.2.2.2.2.2.2.1, (lane_eq l).2.2.2.2.2.2.2.2.2.2.2.2, or00, and01, sel0, sel1]
  try exact congrArg x (congrArg (ix2 r) (Fin.ext (by simp; try omega)))
theorem khead1 : k0_pay54 (F := Ideal) (iota .tc S512x128 32 [1] iota_S512x128_d1_w32) a (k0_pay48 (F := Ideal) x) (iota .tc S512x128 32 [1] iota_S512x128_d1_w32) k0_pay49 k0_pay50 k0_pay51 k0_pay52 k0_pay53 (ix2 r ⟨l.val, by omega⟩) = x (ix2 r ⟨64 + l.val, by omega⟩) := by
  pointwise [k0_pay54, k0_pay48, k0_pay49, k0_pay50, k0_pay51, k0_pay52, k0_pay53]
  simp only [(lane_eq l).1, (lane_eq l).2.1, (lane_eq l).2.2.1, (lane_eq l).2.2.2.1, (lane_eq l).2.2.2.2.1, (lane_eq l).2.2.2.2.2.1, (lane_eq l).2.2.2.2.2.2.1, (lane_eq l).2.2.2.2.2.2.2.1, (lane_eq l).2.2.2.2.2.2.2.2.1, (lane_eq l).2.2.2.2.2.2.2.2.2.1, (lane_eq l).2.2.2.2.2.2.2.2.2.2.1, (lane_eq l).2.2.2.2.2.2.2.2.2.2.2.1, (lane_eq l).2.2.2.2.2.2.2.2.2.2.2.2, or00, and01, sel0, sel1]
  try exact congrArg x (congrArg (ix2 r) (Fin.ext (by simp; try omega)))
theorem khead2 : k0_pay63 (F := Ideal) (iota .tc S512x128 32 [1] iota_S512x128_d1_w32) a (k0_pay61 (F := Ideal) x) (k0_pay62 (iota .tc S512x128 32 [1] iota_S512x128_d1_w32)) 68#32 (ix2 r ⟨l.val, by omega⟩) = x (ix2 r ⟨128 + l.val, by omega⟩) := by
  pointwise [k0_pay63, k0_pay61, k0_pay62]
  simp only [(lane_eq l).1, (lane_eq l).2.1, (lane_eq l).2.2.1, (lane_eq l).2.2.2.1, (lane_eq l).2.2.2.2.1, (lane_eq l).2.2.2.2.2.1, (lane_eq l).2.2.2.2.2.2.1, (lane_eq l).2.2.2.2.2.2.2.1, (lane_eq l).2.2.2.2.2.2.2.2.1, (lane_eq l).2.2.2.2.2.2.2.2.2.1, (lane_eq l).2.2.2.2.2.2.2.2.2.2.1, (lane_eq l).2.2.2.2.2.2.2.2.2.2.2.1, (lane_eq l).2.2.2.2.2.2.2.2.2.2.2.2, or00, and01, sel0, sel1]
  try exact congrArg x (congrArg (ix2 r) (Fin.ext (by simp; try omega)))
theorem khead3 : k0_pay74 (F := Ideal) x (iota .tc S512x128 32 [1] iota_S512x128_d1_w32) a (ix2 r ⟨l.val, by omega⟩) = x (ix2 r ⟨192 + l.val, by omega⟩) := by
  pointwise [k0_pay74]
  simp only [(lane_eq l).1, (lane_eq l).2.1, (lane_eq l).2.2.1, (lane_eq l).2.2.2.1, (lane_eq l).2.2.2.2.1, (lane_eq l).2.2.2.2.2.1, (lane_eq l).2.2.2.2.2.2.1, (lane_eq l).2.2.2.2.2.2.2.1, (lane_eq l).2.2.2.2.2.2.2.2.1, (lane_eq l).2.2.2.2.2.2.2.2.2.1, (lane_eq l).2.2.2.2.2.2.2.2.2.2.1, (lane_eq l).2.2.2.2.2.2.2.2.2.2.2.1, (lane_eq l).2.2.2.2.2.2.2.2.2.2.2.2, or00, and01, sel0, sel1]
  try exact congrArg x (congrArg (ix2 r) (Fin.ext (by simp; try omega)))
theorem khead4 : k0_pay87 (F := Ideal) (iota .tc S512x128 32 [1] iota_S512x128_d1_w32) a (k0_pay86 (F := Ideal) x) (iota .tc S512x128 32 [1] iota_S512x128_d1_w32) (ix2 r ⟨l.val, by omega⟩) = x (ix2 r ⟨256 + l.val, by omega⟩) := by
  pointwise [k0_pay87, k0_pay86]
  simp only [(lane_eq l).1, (lane_eq l).2.1, (lane_eq l).2.2.1, (lane_eq l).2.2.2.1, (lane_eq l).2.2.2.2.1, (lane_eq l).2.2.2.2.2.1, (lane_eq l).2.2.2.2.2.2.1, (lane_eq l).2.2.2.2.2.2.2.1, (lane_eq l).2.2.2.2.2.2.2.2.1, (lane_eq l).2.2.2.2.2.2.2.2.2.1, (lane_eq l).2.2.2.2.2.2.2.2.2.2.1, (lane_eq l).2.2.2.2.2.2.2.2.2.2.2.1, (lane_eq l).2.2.2.2.2.2.2.2.2.2.2.2, or00, and01, sel0, sel1]
  try exact congrArg x (congrArg (ix2 r) (Fin.ext (by simp; try omega)))
theorem khead5 : k0_pay102 (F := Ideal) (iota .tc S512x128 32 [1] iota_S512x128_d1_w32) a (k0_pay96 (F := Ideal) x) (iota .tc S512x128 32 [1] iota_S512x128_d1_w32) k0_pay97 k0_pay98 k0_pay99 k0_pay100 k0_pay101 (ix2 r ⟨l.val, by omega⟩) = x (ix2 r ⟨320 + l.val, by omega⟩) := by
  pointwise [k0_pay102, k0_pay96, k0_pay97, k0_pay98, k0_pay99, k0_pay100, k0_pay101]
  simp only [(lane_eq l).1, (lane_eq l).2.1, (lane_eq l).2.2.1, (lane_eq l).2.2.2.1, (lane_eq l).2.2.2.2.1, (lane_eq l).2.2.2.2.2.1, (lane_eq l).2.2.2.2.2.2.1, (lane_eq l).2.2.2.2.2.2.2.1, (lane_eq l).2.2.2.2.2.2.2.2.1, (lane_eq l).2.2.2.2.2.2.2.2.2.1, (lane_eq l).2.2.2.2.2.2.2.2.2.2.1, (lane_eq l).2.2.2.2.2.2.2.2.2.2.2.1, (lane_eq l).2.2.2.2.2.2.2.2.2.2.2.2, or00, and01, sel0, sel1]
  try exact congrArg x (congrArg (ix2 r) (Fin.ext (by simp; try omega)))
theorem khead6 : k0_pay111 (F := Ideal) (iota .tc S512x128 32 [1] iota_S512x128_d1_w32) a (k0_pay109 (F := Ideal) x) (k0_pay110 (iota .tc S512x128 32 [1] iota_S512x128_d1_w32)) 68#32 (ix2 r ⟨l.val, by omega⟩) = x (ix2 r ⟨384 + l.val, by omega⟩) := by
  pointwise [k0_pay111, k0_pay109, k0_pay110]
  simp only [(lane_eq l).1, (lane_eq l).2.1, (lane_eq l).2.2.1, (lane_eq l).2.2.2.1, (lane_eq l).2.2.2.2.1, (lane_eq l).2.2.2.2.2.1, (lane_eq l).2.2.2.2.2.2.1, (lane_eq l).2.2.2.2.2.2.2.1, (lane_eq l).2.2.2.2.2.2.2.2.1, (lane_eq l).2.2.2.2.2.2.2.2.2.1, (lane_eq l).2.2.2.2.2.2.2.2.2.2.1, (lane_eq l).2.2.2.2.2.2.2.2.2.2.2.1, (lane_eq l).2.2.2.2.2.2.2.2.2.2.2.2, or00, and01, sel0, sel1]
  try exact congrArg x (congrArg (ix2 r) (Fin.ext (by simp; try omega)))
theorem khead7 : k0_pay122 (F := Ideal) x (iota .tc S512x128 32 [1] iota_S512x128_d1_w32) a (ix2 r ⟨l.val, by omega⟩) = x (ix2 r ⟨448 + l.val, by omega⟩) := by
  pointwise [k0_pay122]
  simp only [(lane_eq l).1, (lane_eq l).2.1, (lane_eq l).2.2.1, (lane_eq l).2.2.2.1, (lane_eq l).2.2.2.2.1, (lane_eq l).2.2.2.2.2.1, (lane_eq l).2.2.2.2.2.2.1, (lane_eq l).2.2.2.2.2.2.2.1, (lane_eq l).2.2.2.2.2.2.2.2.1, (lane_eq l).2.2.2.2.2.2.2.2.2.1, (lane_eq l).2.2.2.2.2.2.2.2.2.2.1, (lane_eq l).2.2.2.2.2.2.2.2.2.2.2.1, (lane_eq l).2.2.2.2.2.2.2.2.2.2.2.2, or00, and01, sel0, sel1]
  try exact congrArg x (congrArg (ix2 r) (Fin.ext (by simp; try omega)))
theorem vhead0 : k0_pay44 (F := Ideal) (k0_pay40 (F := Ideal) v) (iota .tc S512x128 32 [1] iota_S512x128_d1_w32) k0_pay41 k0_pay42 k0_pay43 (ix2 r ⟨l.val, by omega⟩) = v (ix2 r ⟨1792 + l.val, by omega⟩) := by
  pointwise [k0_pay44, k0_pay40, k0_pay41, k0_pay42, k0_pay43]
  simp only [(lane_eq l).1, (lane_eq l).2.1, (lane_eq l).2.2.1, (lane_eq l).2.2.2.1, (lane_eq l).2.2.2.2.1, (lane_eq l).2.2.2.2.2.1, (lane_eq l).2.2.2.2.2.2.1, (lane_eq l).2.2.2.2.2.2.2.1, (lane_eq l).2.2.2.2.2.2.2.2.1, (lane_eq l).2.2.2.2.2.2.2.2.2.1, (lane_eq l).2.2.2.2.2.2.2.2.2.2.1, (lane_eq l).2.2.2.2.2.2.2.2.2.2.2.1, (lane_eq l).2.2.2.2.2.2.2.2.2.2.2.2, or00, and01, sel0, sel1]
  try exact congrArg v (congrArg (ix2 r) (Fin.ext (by simp; try omega)))
theorem vhead1 : k0_pay55 (F := Ideal) v (ix2 r ⟨l.val, by omega⟩) = v (ix2 r ⟨1856 + l.val, by omega⟩) := by
  pointwise [k0_pay55]
  simp only [(lane_eq l).1, (lane_eq l).2.1, (lane_eq l).2.2.1, (lane_eq l).2.2.2.1, (lane_eq l).2.2.2.2.1, (lane_eq l).2.2.2.2.2.1, (lane_eq l).2.2.2.2.2.2.1, (lane_eq l).2.2.2.2.2.2.2.1, (lane_eq l).2.2.2.2.2.2.2.2.1, (lane_eq l).2.2.2.2.2.2.2.2.2.1, (lane_eq l).2.2.2.2.2.2.2.2.2.2.1, (lane_eq l).2.2.2.2.2.2.2.2.2.2.2.1, (lane_eq l).2.2.2.2.2.2.2.2.2.2.2.2, or00, and01, sel0, sel1]
  try exact congrArg v (congrArg (ix2 r) (Fin.ext (by simp; try omega)))
theorem vhead2 : k0_pay64 (F := Ideal) v (ix2 r ⟨l.val, by omega⟩) = v (ix2 r ⟨1920 + l.val, by omega⟩) := by
  pointwise [k0_pay64]
  simp only [(lane_eq l).1, (lane_eq l).2.1, (lane_eq l).2.2.1, (lane_eq l).2.2.2.1, (lane_eq l).2.2.2.2.1, (lane_eq l).2.2.2.2.2.1, (lane_eq l).2.2.2.2.2.2.1, (lane_eq l).2.2.2.2.2.2.2.1, (lane_eq l).2.2.2.2.2.2.2.2.1, (lane_eq l).2.2.2.2.2.2.2.2.2.1, (lane_eq l).2.2.2.2.2.2.2.2.2.2.1, (lane_eq l).2.2.2.2.2.2.2.2.2.2.2.1, (lane_eq l).2.2.2.2.2.2.2.2.2.2.2.2, or00, and01, sel0, sel1]
  try exact congrArg v (congrArg (ix2 r) (Fin.ext (by simp; try omega)))
theorem vhead3 : k0_pay76 (F := Ideal) (k0_pay75 (F := Ideal) v) 64#32 (ix2 r ⟨l.val, by omega⟩) = v (ix2 r ⟨1984 + l.val, by omega⟩) := by
  pointwise [k0_pay76, k0_pay75]
  simp only [(lane_eq l).1, (lane_eq l).2.1, (lane_eq l).2.2.1, (lane_eq l).2.2.2.1, (lane_eq l).2.2.2.2.1, (lane_eq l).2.2.2.2.2.1, (lane_eq l).2.2.2.2.2.2.1, (lane_eq l).2.2.2.2.2.2.2.1, (lane_eq l).2.2.2.2.2.2.2.2.1, (lane_eq l).2.2.2.2.2.2.2.2.2.1, (lane_eq l).2.2.2.2.2.2.2.2.2.2.1, (lane_eq l).2.2.2.2.2.2.2.2.2.2.2.1, (lane_eq l).2.2.2.2.2.2.2.2.2.2.2.2, or00, and01, sel0, sel1]
  try exact congrArg v (congrArg (ix2 r) (Fin.ext (by simp; try omega)))
theorem vhead4 : k0_pay92 (F := Ideal) (k0_pay88 (F := Ideal) v) (iota .tc S512x128 32 [1] iota_S512x128_d1_w32) k0_pay89 k0_pay90 k0_pay91 (ix2 r ⟨l.val, by omega⟩) = v (ix2 r ⟨2048 + l.val, by omega⟩) := by
  pointwise [k0_pay92, k0_pay88, k0_pay89, k0_pay90, k0_pay91]
  simp only [(lane_eq l).1, (lane_eq l).2.1, (lane_eq l).2.2.1, (lane_eq l).2.2.2.1, (lane_eq l).2.2.2.2.1, (lane_eq l).2.2.2.2.2.1, (lane_eq l).2.2.2.2.2.2.1, (lane_eq l).2.2.2.2.2.2.2.1, (lane_eq l).2.2.2.2.2.2.2.2.1, (lane_eq l).2.2.2.2.2.2.2.2.2.1, (lane_eq l).2.2.2.2.2.2.2.2.2.2.1, (lane_eq l).2.2.2.2.2.2.2.2.2.2.2.1, (lane_eq l).2.2.2.2.2.2.2.2.2.2.2.2, or00, and01, sel0, sel1]
  try exact congrArg v (congrArg (ix2 r) (Fin.ext (by simp; try omega)))
theorem vhead5 : k0_pay103 (F := Ideal) v (ix2 r ⟨l.val, by omega⟩) = v (ix2 r ⟨2112 + l.val, by omega⟩) := by
  pointwise [k0_pay103]
  simp only [(lane_eq l).1, (lane_eq l).2.1, (lane_eq l).2.2.1, (lane_eq l).2.2.2.1, (lane_eq l).2.2.2.2.1, (lane_eq l).2.2.2.2.2.1, (lane_eq l).2.2.2.2.2.2.1, (lane_eq l).2.2.2.2.2.2.2.1, (lane_eq l).2.2.2.2.2.2.2.2.1, (lane_eq l).2.2.2.2.2.2.2.2.2.1, (lane_eq l).2.2.2.2.2.2.2.2.2.2.1, (lane_eq l).2.2.2.2.2.2.2.2.2.2.2.1, (lane_eq l).2.2.2.2.2.2.2.2.2.2.2.2, or00, and01, sel0, sel1]
  try exact congrArg v (congrArg (ix2 r) (Fin.ext (by simp; try omega)))
theorem vhead6 : k0_pay112 (F := Ideal) v (ix2 r ⟨l.val, by omega⟩) = v (ix2 r ⟨2176 + l.val, by omega⟩) := by
  pointwise [k0_pay112]
  simp only [(lane_eq l).1, (lane_eq l).2.1, (lane_eq l).2.2.1, (lane_eq l).2.2.2.1, (lane_eq l).2.2.2.2.1, (lane_eq l).2.2.2.2.2.1, (lane_eq l).2.2.2.2.2.2.1, (lane_eq l).2.2.2.2.2.2.2.1, (lane_eq l).2.2.2.2.2.2.2.2.1, (lane_eq l).2.2.2.2.2.2.2.2.2.1, (lane_eq l).2.2.2.2.2.2.2.2.2.2.1, (lane_eq l).2.2.2.2.2.2.2.2.2.2.2.1, (lane_eq l).2.2.2.2.2.2.2.2.2.2.2.2, or00, and01, sel0, sel1]
  try exact congrArg v (congrArg (ix2 r) (Fin.ext (by simp; try omega)))
theorem vhead7 : k0_pay1 (F := Ideal) (k0_pay123 (F := Ideal) v) 64#32 (ix2 r ⟨l.val, by omega⟩) = v (ix2 r ⟨2240 + l.val, by omega⟩) := by
  pointwise [k0_pay1, k0_pay123]
  simp only [(lane_eq l).1, (lane_eq l).2.1, (lane_eq l).2.2.1, (lane_eq l).2.2.2.1, (lane_eq l).2.2.2.2.1, (lane_eq l).2.2.2.2.2.1, (lane_eq l).2.2.2.2.2.2.1, (lane_eq l).2.2.2.2.2.2.2.1, (lane_eq l).2.2.2.2.2.2.2.2.1, (lane_eq l).2.2.2.2.2.2.2.2.2.1, (lane_eq l).2.2.2.2.2.2.2.2.2.2.1, (lane_eq l).2.2.2.2.2.2.2.2.2.2.2.1, (lane_eq l).2.2.2.2.2.2.2.2.2.2.2.2, or00, and01, sel0, sel1]
  try exact congrArg v (congrArg (ix2 r) (Fin.ext (by simp; try omega)))
end

end Cert.Kernel7Ideal.Proj
end
-- ==== Proof.ProjRef.lean ====
/- The reference's terms for the normalised rows' projections. -/
module

public import proofs.«01_k».proof.Proof.MlpBwdRef
public import proofs.«01_k».proof.Proof.Gen.Reference7Ideal.Run
public import proofs.«01_k».proof.Defs
public import Idealize.ShloMosaic.Lib.Pointwise

@[expose] public section

set_option maxRecDepth 16384

noncomputable section

namespace Cert.Reference7Ideal.Proj

open Idealize.ShloMosaic Idealize.ShloMosaic.TcCoe Idealize.SL.Sem Idealize.ShloMosaic.StableHlo
open Cert.Reference7Ideal Cert.Reference7Ideal.Gen Cert.MlpMath
open Cert.Reference4Ideal.MlpB (arr col of2 of1 idx2)

/-- A function of three coordinates as an array. -/
abbrev arr3 {a b c : ℕ} (f : Fin a → Fin b → Fin c → EReal) : (⟨3, ![a, b, c]⟩ : Shape).Idx → EReal := fun y => f (y 0) (y 1) (y 2)

theorem idx3 {a b c : ℕ} (y : (⟨3, ![a, b, c]⟩ : Shape).Idx) : ∃ (i : Fin a) (j : Fin b) (k : Fin c), y = ix3 i j k :=
  ⟨y 0, y 1, y 2, funext fun n => match n with | ⟨0, _⟩ => rfl | ⟨1, _⟩ => rfl | ⟨2, _⟩ => rfl⟩

/-- The normalised rows. -/
def XN (x : Fin 8192 → Fin 1024 → EReal) (g : Fin 1024 → EReal) (t : Fin 8192) (d : Fin 1024) : EReal := x t d * root (x t) * g d
/-- Their projections. -/
def PR (x : Fin 8192 → Fin 1024 → EReal) (g : Fin 1024 → EReal) (w : Fin 1024 → Fin 2312 → EReal) (t : Fin 8192) (e : Fin 2312) : EReal :=
  ∑ d, XN x g t d * w d e
/-- A head's lanes normalised and scaled. -/
def rv (q g : Fin 64 → EReal) (l : Fin 64) : EReal :=
  q l * Ideal.rsqrt (Ideal.div (∑ k, q k * q k) (Ideal.ofBits FTy.f32 0x42800000#32) + Ideal.ofBits FTy.f32 0x358637BD#32) * g l
/-- The heads from lane `o` on. -/
def heads {n : ℕ} (o : ℕ) (h : o + 64 * n ≤ 2312) (p : Fin 8192 → Fin 2312 → EReal) (t : Fin 8192) (j : Fin n) (l : Fin 64) : EReal :=
  p t ⟨o + (64 * j.val + l.val), by have := j.isLt; have := l.isLt; omega⟩

section Terms
variable (X : S8192x1024.Idx → EReal) (G : S1024.Idx → EReal) (Wm : S1024x2312.Idx → EReal) (K : S64.Idx → EReal)
variable (n : Fin 8192 → Fin 1024 → EReal) (p : Fin 8192 → Fin 2312 → EReal) (q : Fin 8192 → Fin 8 → Fin 64 → EReal) (u : Fin 8192 → Fin 2 → Fin 64 → EReal)

theorem ref_xn : (mulf (F := Ideal) (φ := .f32) (mulf X (broadcastInDim S8192x1024 ![0, 1] bcast_S8192x1_S8192x1024_0_1 (Host.rsqrt (addf (Host.divf (broadcastInDim S8192x1 ![0] bcast_S8192_S8192x1_0 (Host.reduceAdd (mulf X X) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 G)) : S8192x1024.Idx → EReal)
    = arr (XN (of2 X) (of1 G)) := by
  funext y
  obtain ⟨t, d, rfl⟩ := idx2 y
  pointwise
  rfl
theorem ref_dot : (Host.dotGeneral (F := Ideal) (φ₁ := .f32) (φ₂ := .f32) dot_S8192x1024_S1024x2312_S8192x2312_1_0_0_1_n_n none (arr n) Wm : S8192x2312.Idx → EReal)
    = arr fun t e => ∑ d, n t d * of2 Wm d e := by
  funext y
  obtain ⟨t, d, rfl⟩ := idx2 y
  pointwise
  rfl
theorem ref_raw : (extractStridedSlice (α := EReal) S8192x2304 ![0, 0] (arr p) slices_S8192x2312_S8192x2304_0_0 : S8192x2304.Idx → EReal)
    = arr fun t e => p t ⟨e.val, by omega⟩ := by
  funext y
  obtain ⟨t, d, rfl⟩ := idx2 y
  pointwise
  rfl
theorem ref_f : (extractStridedSlice (α := EReal) S8192x8 ![0, 2304] (arr p) slices_S8192x2312_S8192x8_0_2304 : S8192x8.Idx → EReal)
    = arr fun t e => p t ⟨2304 + e.val, by omega⟩ := by
  funext y
  obtain ⟨t, d, rfl⟩ := idx2 y
  pointwise
  rfl
theorem ref_qa : (shapeCast (α := EReal) S8192x8x64 (extractStridedSlice S8192x512 ![0, 0] (arr p) slices_S8192x2312_S8192x512_0_0) shapeCasts_S8192x512_S8192x8x64 : S8192x8x64.Idx → EReal)
    = arr3 (heads 0 (by decide) p) := by
  funext y
  obtain ⟨t, j, l, rfl⟩ := idx3 y
  pointwise
  exact congrArg (p t) (Fin.ext (by show j.val * 64 + l.val = 0 + (64 * j.val + l.val); omega))
theorem ref_ka : (shapeCast (α := EReal) S8192x2x64 (extractStridedSlice S8192x128 ![0, 512] (arr p) slices_S8192x2312_S8192x128_0_512) shapeCasts_S8192x128_S8192x2x64 : S8192x2x64.Idx → EReal)
    = arr3 (heads 512 (by decide) p) := by
  funext y
  obtain ⟨t, j, l, rfl⟩ := idx3 y
  pointwise
  exact congrArg (p t) (Fin.ext (by show 512 + (j.val * 64 + l.val) = 512 + (64 * j.val + l.val); omega))
theorem ref_va : (shapeCast (α := EReal) S8192x2x64 (extractStridedSlice S8192x128 ![0, 640] (arr p) slices_S8192x2312_S8192x128_0_640) shapeCasts_S8192x128_S8192x2x64 : S8192x2x64.Idx → EReal)
    = arr3 (heads 640 (by decide) p) := by
  funext y
  obtain ⟨t, j, l, rfl⟩ := idx3 y
  pointwise
  exact congrArg (p t) (Fin.ext (by show 640 + (j.val * 64 + l.val) = 640 + (64 * j.val + l.val); omega))
theorem ref_kb : (shapeCast (α := EReal) S8192x8x64 (extractStridedSlice S8192x512 ![0, 1280] (arr p) slices_S8192x2312_S8192x512_0_1280) shapeCasts_S8192x512_S8192x8x64 : S8192x8x64.Idx → EReal)
    = arr3 (heads 1280 (by decide) p) := by
  funext y
  obtain ⟨t, j, l, rfl⟩ := idx3 y
  pointwise
  exact congrArg (p t) (Fin.ext (by show 1280 + (j.val * 64 + l.val) = 1280 + (64 * j.val + l.val); omega))
theorem ref_vb : (shapeCast (α := EReal) S8192x8x64 (extractStridedSlice S8192x512 ![0, 1792] (arr p) slices_S8192x2312_S8192x512_0_1792) shapeCasts_S8192x512_S8192x8x64 : S8192x8x64.Idx → EReal)
    = arr3 (heads 1792 (by decide) p) := by
  funext y
  obtain ⟨t, j, l, rfl⟩ := idx3 y
  pointwise
  exact congrArg (p t) (Fin.ext (by show 1792 + (j.val * 64 + l.val) = 1792 + (64 * j.val + l.val); omega))
theorem ref_norm8 : (mulf (F := Ideal) (φ := .f32) (mulf (arr3 q) (broadcastInDim S8192x8x64 ![0, 1, 2] bcast_S8192x8x1_S8192x8x64_0_1_2 (Host.rsqrt (addf (Host.divf (broadcastInDim S8192x8x1 ![0, 1] bcast_S8192x8_S8192x8x1_0_1 (Host.reduceAdd (mulf (arr3 q) (arr3 q)) (constant S_ .f32 0x00000000#32) reducesTo_S8192x8x64_S8192x8_d2 h_S_)) (broadcastInDim S8192x8x1 ![] bcast_S_S8192x8x1 (constant S_ .f32 0x42800000#32))) (broadcastInDim S8192x8x1 ![] bcast_S_S8192x8x1 (constant S_ .f32 0x358637BD#32)))))) (broadcastInDim S8192x8x64 ![0, 1, 2] bcast_S1x1x64_S8192x8x64_0_1_2 (broadcastInDim S1x1x64 ![2] bcast_S64_S1x1x64_2 K)) : S8192x8x64.Idx → EReal)
    = arr3 fun t j l => rv (q t j) (of1 K) l := by
  funext y
  obtain ⟨t, j, l, rfl⟩ := idx3 y
  pointwise
  rfl
theorem ref_norm2 : (mulf (F := Ideal) (φ := .f32) (mulf (arr3 u) (broadcastInDim S8192x2x64 ![0, 1, 2] bcast_S8192x2x1_S8192x2x64_0_1_2 (Host.rsqrt (addf (Host.divf (broadcastInDim S8192x2x1 ![0, 1] bcast_S8192x2_S8192x2x1_0_1 (Host.reduceAdd (mulf (arr3 u) (arr3 u)) (constant S_ .f32 0x00000000#32) reducesTo_S8192x2x64_S8192x2_d2 h_S_)) (broadcastInDim S8192x2x1 ![] bcast_S_S8192x2x1 (constant S_ .f32 0x42800000#32))) (broadcastInDim S8192x2x1 ![] bcast_S_S8192x2x1 (constant S_ .f32 0x358637BD#32)))))) (broadcastInDim S8192x2x64 ![0, 1, 2] bcast_S1x1x64_S8192x2x64_0_1_2 (broadcastInDim S1x1x64 ![2] bcast_S64_S1x1x64_2 K)) : S8192x2x64.Idx → EReal)
    = arr3 fun t j l => rv (u t j) (of1 K) l := by
  funext y
  obtain ⟨t, j, l, rfl⟩ := idx3 y
  pointwise
  rfl
end Terms

/-! ## The reference's results -/

section Results
variable (m : (ℓ : Loc nD τ sig) → Buf (Elt Ideal) ℓ) (c : Dev nD)

/-- The arguments, as the projections'. -/
abbrev aX : Fin 8192 → Fin 1024 → EReal := of2 (m ((c.tc : Thread nD τ).loc main_arg0) : S8192x1024.Idx → EReal)
abbrev aG : Fin 1024 → EReal := of1 (m ((c.tc : Thread nD τ).loc main_arg1) : S1024.Idx → EReal)
abbrev aW : Fin 1024 → Fin 2312 → EReal := of2 (m ((c.tc : Thread nD τ).loc main_arg2) : S1024x2312.Idx → EReal)
abbrev aQA : Fin 64 → EReal := of1 (m ((c.tc : Thread nD τ).loc main_arg4) : S64.Idx → EReal)
abbrev aKA : Fin 64 → EReal := of1 (m ((c.tc : Thread nD τ).loc main_arg5) : S64.Idx → EReal)
abbrev aKB : Fin 64 → EReal := of1 (m ((c.tc : Thread nD τ).loc main_arg7) : S64.Idx → EReal)
def P : Fin 8192 → Fin 2312 → EReal := PR (aX m c) (aG m c) (aW m c)
/-- The seven results. -/
def R0 : S8192x2304.Idx → EReal := arr fun t e => P m c t ⟨e.val, by omega⟩
def R1 : S8192x8.Idx → EReal := arr fun t e => P m c t ⟨2304 + e.val, by omega⟩
def R2 : S8192x8x64.Idx → EReal := arr3 fun t j l => rv (heads (n := 8) 0 (by decide) (P m c) t j) (aQA m c) l
def R3 : S8192x2x64.Idx → EReal := arr3 fun t j l => rv (heads (n := 2) 512 (by decide) (P m c) t j) (aKA m c) l
def R4 : S8192x2x64.Idx → EReal := arr3 (heads (n := 2) 640 (by decide) (P m c))
def R5 : S8192x8x64.Idx → EReal := arr3 fun t j l => rv (heads (n := 8) 1280 (by decide) (P m c) t j) (aKB m c) l
def R6 : S8192x8x64.Idx → EReal := arr3 (heads (n := 8) 1792 (by decide) (P m c))

theorem results (ρ : Dev nD → PrngReg) :
    θ_run defs (onTc (τ := τ) (main (F := Ideal))) ⟨m, fun _ => 0, ρ⟩ fun r => ∀ c : Dev nD,
      r.2.mem ((c.tc : Thread nD τ).loc main_v64) = R0 m c
      ∧ r.2.mem ((c.tc : Thread nD τ).loc main_v20) = R1 m c
      ∧ r.2.mem ((c.tc : Thread nD τ).loc main_v34) = R2 m c
      ∧ r.2.mem ((c.tc : Thread nD τ).loc main_v48) = R3 m c
      ∧ r.2.mem ((c.tc : Thread nD τ).loc main_v49) = R4 m c
      ∧ r.2.mem ((c.tc : Thread nD τ).loc main_v63) = R5 m c
      ∧ r.2.mem ((c.tc : Thread nD τ).loc main_v65) = R6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (Value.run m ρ)
  obtain ⟨r0, r1, r2, r3, r4, r5, r6, ra⟩ := h c
  refine ⟨r0.trans ?_, r1.trans ?_, r2.trans ?_, r3.trans ?_, r4.trans ?_, r5.trans ?_, r6.trans ?_, ra⟩
  · rw [ref_xn, ref_dot, ref_raw]; rfl
  · rw [ref_xn, ref_dot, ref_f]; rfl
  · rw [ref_xn, ref_dot, ref_qa, ref_norm8]; rfl
  · rw [ref_xn, ref_dot, ref_ka, ref_norm2]; rfl
  · rw [ref_xn, ref_dot, ref_va]; rfl
  · rw [ref_xn, ref_dot, ref_kb, ref_norm8]; rfl
  · rw [ref_xn, ref_dot, ref_vb]; rfl
end Results

end Cert.Reference7Ideal.Proj

end
-- ==== Proof.Proj.lean ====
/- The normalised rows' projections: the host lines before the call, and the tile's values among all the tokens. -/
module

public import proofs.«01_k».proof.Proof.ProjTile
public import proofs.«01_k».proof.Proof.ProjRef
public import proofs.«01_k».proof.Proof.Gen.Kernel7Ideal.Frame
public import proofs.«01_k».proof.Proof.Line

@[expose] public section

set_option maxRecDepth 16384

noncomputable section

namespace Cert.Kernel7Ideal.Proj

open Idealize.ShloMosaic Idealize.ShloMosaic.TcCoe Idealize.SL.Sem Idealize.ShloMosaic.StableHlo Cert.Line
open Cert.Kernel7Ideal Cert.Kernel7Ideal.Gen Cert.MlpMath
open Cert.Reference4Ideal.MlpB (arr col of2 of1 idx2)
open Cert.Reference7Ideal.Proj (arr3 idx3 XN PR rv heads)
open Idealize.ShloMosaic.Pipeline (Dat Cfg Window)

theorem n64_eq : Ideal.ofBits FTy.f32 0x42800000#32 = ((64 : ℝ) : EReal) := by
  simp [Ideal.ofBits, Ideal.ieee, -EReal.coe_mul]; norm_num
theorem i64_eq : Ideal.ofBits FTy.f32 0x3C800000#32 = ((64⁻¹ : ℝ) : EReal) := by
  simp [Ideal.ofBits, Ideal.ieee, -EReal.coe_mul]; norm_num
/-- Multiplied by a head's inverse width, or divided by the width. -/
theorem hv_eq (q g : Fin 64 → EReal) (l : Fin 64) : hv q g l = rv q g l := by
  unfold hv rv
  rw [n64_eq, i64_eq, Ideal.div_coe (by norm_num), one_div]

/-! ## The host lines before the call -/

section Terms
variable (X : S8192x1024.Idx → EReal) (G : S1024.Idx → EReal) (Wm : S1024x2312.Idx → EReal) (K : S64.Idx → EReal) (Z : S_.Idx → EReal)

theorem k_root : (Host.rsqrt (F := Ideal) (φ := .f32) (addf (Host.divf (broadcastInDim S8192x1 ![0] bcast_S8192_S8192x1_0 (Host.reduceAdd (mulf X X) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))) : S8192x1.Idx → EReal)
    = col fun t => root (of2 X t) := by
  funext y
  obtain ⟨t, d, rfl⟩ := idx2 y
  pointwise
  rfl
theorem k_xn (q : Fin 8192 → EReal) : (mulf (F := Ideal) (φ := .f32) (mulf X (broadcastInDim S8192x1024 ![0, 1] bcast_S8192x1_S8192x1024_0_1 (col q))) (broadcastInDim S8192x1024 ![0, 1] bcast_S1x1024_S8192x1024_0_1 (broadcastInDim S1x1024 ![1] bcast_S1024_S1x1024_1 G)) : S8192x1024.Idx → EReal)
    = arr fun t d => of2 X t d * q t * of1 G d := by
  funext y
  obtain ⟨t, d, rfl⟩ := idx2 y
  pointwise
  rfl
theorem k_wt (e : Fin 2312) (d : Fin 1024) : (transpose S2312x1024 [1, 0] Wm transposes_S1024x2312_S2312x1024_1_0 : S2312x1024.Idx → EReal) (ix2 e d) = Wm (ix2 d e) := by
  pointwise
theorem k_wf (e : Fin 8) (d : Fin 1024) : (concatenate (α := EReal) S128x1024 0 [⟨S8x1024, extractStridedSlice S8x1024 ![2304, 0] (transpose S2312x1024 [1, 0] Wm transposes_S1024x2312_S2312x1024_1_0) slices_S2312x1024_S8x1024_2304_0⟩, ⟨S120x1024, broadcastInDim S120x1024 ![] bcast_S_S120x1024 Z⟩] concatenates_S8x1024_S120x1024_S128x1024_d0 : S128x1024.Idx → EReal) (ix2 ⟨e.val, by omega⟩ d) = Wm (ix2 d ⟨2304 + e.val, by omega⟩) := by
  pointwise
theorem k_g8 (e : Fin 512) : (shapeCast (α := EReal) S1x512 (shapeCast S512 (broadcastInDim S8x64 ![0, 1] bcast_S1x64_S8x64_0_1 (shapeCast S1x64 K shapeCasts_S64_S1x64)) shapeCasts_S8x64_S512) shapeCasts_S512_S1x512 : S1x512.Idx → EReal) (ix2 0 e) = K (ix1 ⟨e.val % 64, by omega⟩) := by
  pointwise
theorem k_g2 (e : Fin 128) : (shapeCast (α := EReal) S1x128 (shapeCast S128 (broadcastInDim S2x64 ![0, 1] bcast_S1x64_S2x64_0_1 (shapeCast S1x64 K shapeCasts_S64_S1x64)) shapeCasts_S2x64_S128) shapeCasts_S128_S1x128 : S1x128.Idx → EReal) (ix2 0 e) = K (ix1 ⟨e.val % 64, by omega⟩) := by
  pointwise
end Terms

variable (m : (ℓ : Loc nD τ sig) → Buf (Elt Ideal) ℓ) (c : Dev nD)

/-- The arguments, as the projections'. -/
abbrev aX : Fin 8192 → Fin 1024 → EReal := of2 (m ((c.tc : Thread nD τ).loc main_arg0) : S8192x1024.Idx → EReal)
abbrev aG : Fin 1024 → EReal := of1 (m ((c.tc : Thread nD τ).loc main_arg1) : S1024.Idx → EReal)
abbrev aW : Fin 1024 → Fin 2312 → EReal := of2 (m ((c.tc : Thread nD τ).loc main_arg2) : S1024x2312.Idx → EReal)
abbrev aQA : Fin 64 → EReal := of1 (m ((c.tc : Thread nD τ).loc main_arg4) : S64.Idx → EReal)
abbrev aKA : Fin 64 → EReal := of1 (m ((c.tc : Thread nD τ).loc main_arg5) : S64.Idx → EReal)
abbrev aKB : Fin 64 → EReal := of1 (m ((c.tc : Thread nD τ).loc main_arg7) : S64.Idx → EReal)
def P : Fin 8192 → Fin 2312 → EReal := PR (aX m c) (aG m c) (aW m c)

/-- What the host lines before the call write, in order. -/
abbrev wr : List (Ref sig .tc) := [main_v0, main_v1, main_v2, main_cst, main_v3, main_v4, main_v5, main_v6, main_v7, main_v8, main_v9, main_v10,
  main_v11, main_v12, main_v13, main_v14, main_v15, main_v16, main_v17, main_v18, main_v19, main_v20, main_cst_0, main_v21, main_v22, main_v23,
  main_v24, main_cst_1, main_v25, main_v26, main_cst_2, main_v27, main_v28, main_cst_3, main_v29, main_v30, main_v31, main_v32, main_v33,
  main_v34, main_v35, main_v36, main_v37]

theorem V_arg0 : (V m c main_arg0 : S8192x1024.Idx → EReal) = m ((c.tc : Thread nD τ).loc main_arg0) :=
  read_arg (τ := τ) (Val := Elt Ideal) (ops := hostOps0) (W := wr) (r := main_arg0) rfl (by decide) _
theorem V_arg1 : (V m c main_arg1 : S1024.Idx → EReal) = m ((c.tc : Thread nD τ).loc main_arg1) :=
  read_arg (τ := τ) (Val := Elt Ideal) (ops := hostOps0) (W := wr) (r := main_arg1) rfl (by decide) _
theorem V_arg2 : (V m c main_arg2 : S1024x2312.Idx → EReal) = m ((c.tc : Thread nD τ).loc main_arg2) :=
  read_arg (τ := τ) (Val := Elt Ideal) (ops := hostOps0) (W := wr) (r := main_arg2) rfl (by decide) _
theorem V_arg4 : (V m c main_arg4 : S64.Idx → EReal) = m ((c.tc : Thread nD τ).loc main_arg4) :=
  read_arg (τ := τ) (Val := Elt Ideal) (ops := hostOps0) (W := wr) (r := main_arg4) rfl (by decide) _
theorem V_arg5 : (V m c main_arg5 : S64.Idx → EReal) = m ((c.tc : Thread nD τ).loc main_arg5) :=
  read_arg (τ := τ) (Val := Elt Ideal) (ops := hostOps0) (W := wr) (r := main_arg5) rfl (by decide) _
theorem V_arg7 : (V m c main_arg7 : S64.Idx → EReal) = m ((c.tc : Thread nD τ).loc main_arg7) :=
  read_arg (τ := τ) (Val := Elt Ideal) (ops := hostOps0) (W := wr) (r := main_arg7) rfl (by decide) _
theorem V_v1' : (V m c main_v1 : S2312x1024.Idx → EReal) = transpose (α := EReal) S2312x1024 [1, 0] (m ((c.tc : Thread nD τ).loc main_arg2) : S1024x2312.Idx → EReal) transposes_S1024x2312_S2312x1024_1_0 := by
  have hv0 : (V m c main_v0 : S2312x1024.Idx → EReal) = transpose (α := EReal) S2312x1024 [1, 0] (V m c main_arg2) transposes_S1024x2312_S2312x1024_1_0 := read_unary (τ := τ) (Val := Elt Ideal) (ops := hostOps0) (W := wr) rfl 0 rfl (by decide) (by decide) _
  have hv1 : (V m c main_v1 : S2312x1024.Idx → EReal) = V m c main_v0 := read_unary (τ := τ) (Val := Elt Ideal) (ops := hostOps0) (W := wr) rfl 1 rfl (by decide) (by decide) _
  rw [hv1, hv0, V_arg2]
theorem V_v1 (e : Fin 2312) (d : Fin 1024) : (V m c main_v1 : S2312x1024.Idx → EReal) (ix2 e d) = aW m c d e := by
  rw [V_v1']
  exact k_wt _ e d
theorem V_v4 (e : Fin 8) (d : Fin 1024) : (V m c main_v4 : S128x1024.Idx → EReal) (ix2 ⟨e.val, by omega⟩ d) = aW m c d ⟨2304 + e.val, by omega⟩ := by
  have hv2 : (V m c main_v2 : S8x1024.Idx → EReal) = extractStridedSlice (α := EReal) S8x1024 ![2304, 0] (V m c main_v1) slices_S2312x1024_S8x1024_2304_0 := read_unary (τ := τ) (Val := Elt Ideal) (ops := hostOps0) (W := wr) rfl 2 rfl (by decide) (by decide) _
  have hv3 : (V m c main_v3 : S120x1024.Idx → EReal) = broadcastInDim (α := EReal) S120x1024 ![] bcast_S_S120x1024 (V m c main_cst) := read_unary (τ := τ) (Val := Elt Ideal) (ops := hostOps0) (W := wr) rfl 4 rfl (by decide) (by decide) _
  have hv4 : (V m c main_v4 : S128x1024.Idx → EReal) = concatenate (α := EReal) S128x1024 0 [⟨S8x1024, V m c main_v2⟩, ⟨S120x1024, V m c main_v3⟩] concatenates_S8x1024_S120x1024_S128x1024_d0 := read_binary (τ := τ) (Val := Elt Ideal) (ops := hostOps0) (W := wr) rfl 5 rfl (by decide) (by decide) (by decide) _
  rw [hv4, hv3, hv2, V_v1']
  exact k_wf _ _ e d
theorem V_v8 (e : Fin 512) : (V m c main_v8 : S1x512.Idx → EReal) (ix2 0 e) = aQA m c ⟨e.val % 64, by omega⟩ := by
  have h5 : (V m c main_v5 : S1x64.Idx → EReal) = shapeCast (α := EReal) S1x64 (V m c main_arg4) shapeCasts_S64_S1x64 := read_reshape (τ := τ) (Val := Elt Ideal) (ops := hostOps0) (W := wr) rfl 6 rfl (by decide) (by decide) _
  have h6 : (V m c main_v6 : S8x64.Idx → EReal) = broadcastInDim (α := EReal) S8x64 ![0, 1] bcast_S1x64_S8x64_0_1 (V m c main_v5) := read_unary (τ := τ) (Val := Elt Ideal) (ops := hostOps0) (W := wr) rfl 7 rfl (by decide) (by decide) _
  have h7 : (V m c main_v7 : S512.Idx → EReal) = shapeCast (α := EReal) S512 (V m c main_v6) shapeCasts_S8x64_S512 := read_reshape (τ := τ) (Val := Elt Ideal) (ops := hostOps0) (W := wr) rfl 8 rfl (by decide) (by decide) _
  have h8 : (V m c main_v8 : S1x512.Idx → EReal) = shapeCast (α := EReal) S1x512 (V m c main_v7) shapeCasts_S512_S1x512 := read_reshape (τ := τ) (Val := Elt Ideal) (ops := hostOps0) (W := wr) rfl 9 rfl (by decide) (by decide) _
  rw [h8, h7, h6, h5, V_arg4]
  exact k_g8 _ e
theorem V_v12 (e : Fin 128) : (V m c main_v12 : S1x128.Idx → EReal) (ix2 0 e) = aKA m c ⟨e.val % 64, by omega⟩ := by
  have h5 : (V m c main_v9 : S1x64.Idx → EReal) = shapeCast (α := EReal) S1x64 (V m c main_arg5) shapeCasts_S64_S1x64 := read_reshape (τ := τ) (Val := Elt Ideal) (ops := hostOps0) (W := wr) rfl 10 rfl (by decide) (by decide) _
  have h6 : (V m c main_v10 : S2x64.Idx → EReal) = broadcastInDim (α := EReal) S2x64 ![0, 1] bcast_S1x64_S2x64_0_1 (V m c main_v9) := read_unary (τ := τ) (Val := Elt Ideal) (ops := hostOps0) (W := wr) rfl 11 rfl (by decide) (by decide) _
  have h7 : (V m c main_v11 : S128.Idx → EReal) = shapeCast (α := EReal) S128 (V m c main_v10) shapeCasts_S2x64_S128 := read_reshape (τ := τ) (Val := Elt Ideal) (ops := hostOps0) (W := wr) rfl 12 rfl (by decide) (by decide) _
  have h8 : (V m c main_v12 : S1x128.Idx → EReal) = shapeCast (α := EReal) S1x128 (V m c main_v11) shapeCasts_S128_S1x128 := read_reshape (τ := τ) (Val := Elt Ideal) (ops := hostOps0) (W := wr) rfl 13 rfl (by decide) (by decide) _
  rw [h8, h7, h6, h5, V_arg5]
  exact k_g2 _ e
theorem V_v20 (e : Fin 512) : (V m c main_v20 : S1x512.Idx → EReal) (ix2 0 e) = aKB m c ⟨e.val % 64, by omega⟩ := by
  have h5 : (V m c main_v17 : S1x64.Idx → EReal) = shapeCast (α := EReal) S1x64 (V m c main_arg7) shapeCasts_S64_S1x64 := read_reshape (τ := τ) (Val := Elt Ideal) (ops := hostOps0) (W := wr) rfl 18 rfl (by decide) (by decide) _
  have h6 : (V m c main_v18 : S8x64.Idx → EReal) = broadcastInDim (α := EReal) S8x64 ![0, 1] bcast_S1x64_S8x64_0_1 (V m c main_v17) := read_unary (τ := τ) (Val := Elt Ideal) (ops := hostOps0) (W := wr) rfl 19 rfl (by decide) (by decide) _
  have h7 : (V m c main_v19 : S512.Idx → EReal) = shapeCast (α := EReal) S512 (V m c main_v18) shapeCasts_S8x64_S512 := read_reshape (τ := τ) (Val := Elt Ideal) (ops := hostOps0) (W := wr) rfl 20 rfl (by decide) (by decide) _
  have h8 : (V m c main_v20 : S1x512.Idx → EReal) = shapeCast (α := EReal) S1x512 (V m c main_v19) shapeCasts_S512_S1x512 := read_reshape (τ := τ) (Val := Elt Ideal) (ops := hostOps0) (W := wr) rfl 21 rfl (by decide) (by decide) _
  rw [h8, h7, h6, h5, V_arg7]
  exact k_g8 _ e
theorem V_v31 : (V m c main_v31 : S8192x1.Idx → EReal) = col fun t => root (aX m c t) := by
  have hv24 : (V m c main_v24 : S8192x1024.Idx → EReal) = mulf (F := Ideal) (φ := .f32) (V m c main_arg0) (V m c main_arg0) := read_binary (τ := τ) (Val := Elt Ideal) (ops := hostOps0) (W := wr) rfl 26 rfl (by decide) (by decide) (by decide) _
  have hcst1 : (V m c main_cst_1 : S_.Idx → EReal) = constant (F := Ideal) S_ .f32 0x00000000#32 := read_nullary (τ := τ) (Val := Elt Ideal) (ops := hostOps0) (W := wr) rfl 27 rfl (by decide) _
  have hv25 : (V m c main_v25 : S8192.Idx → EReal) = Host.reduceAdd (F := Ideal) (φ := .f32) (V m c main_v24) (V m c main_cst_1) reducesTo_S8192x1024_S8192_d1 h_S_ := read_binary (τ := τ) (Val := Elt Ideal) (ops := hostOps0) (W := wr) rfl 28 rfl (by decide) (by decide) (by decide) _
  have hv26 : (V m c main_v26 : S8192x1.Idx → EReal) = broadcastInDim (α := EReal) S8192x1 ![0] bcast_S8192_S8192x1_0 (V m c main_v25) := read_unary (τ := τ) (Val := Elt Ideal) (ops := hostOps0) (W := wr) rfl 29 rfl (by decide) (by decide) _
  have hcst2 : (V m c main_cst_2 : S_.Idx → EReal) = constant (F := Ideal) S_ .f32 0x44800000#32 := read_nullary (τ := τ) (Val := Elt Ideal) (ops := hostOps0) (W := wr) rfl 30 rfl (by decide) _
  have hv27 : (V m c main_v27 : S8192x1.Idx → EReal) = broadcastInDim (α := EReal) S8192x1 ![] bcast_S_S8192x1 (V m c main_cst_2) := read_unary (τ := τ) (Val := Elt Ideal) (ops := hostOps0) (W := wr) rfl 31 rfl (by decide) (by decide) _
  have hv28 : (V m c main_v28 : S8192x1.Idx → EReal) = Host.divf (F := Ideal) (φ := .f32) (V m c main_v26) (V m c main_v27) := read_binary (τ := τ) (Val := Elt Ideal) (ops := hostOps0) (W := wr) rfl 32 rfl (by decide) (by decide) (by decide) _
  have hcst3 : (V m c main_cst_3 : S_.Idx → EReal) = constant (F := Ideal) S_ .f32 0x358637BD#32 := read_nullary (τ := τ) (Val := Elt Ideal) (ops := hostOps0) (W := wr) rfl 33 rfl (by decide) _
  have hv29 : (V m c main_v29 : S8192x1.Idx → EReal) = broadcastInDim (α := EReal) S8192x1 ![] bcast_S_S8192x1 (V m c main_cst_3) := read_unary (τ := τ) (Val := Elt Ideal) (ops := hostOps0) (W := wr) rfl 34 rfl (by decide) (by decide) _
  have hv30 : (V m c main_v30 : S8192x1.Idx → EReal) = addf (F := Ideal) (φ := .f32) (V m c main_v28) (V m c main_v29) := read_binary (τ := τ) (Val := Elt Ideal) (ops := hostOps0) (W := wr) rfl 35 rfl (by decide) (by decide) (by decide) _
  have hv31 : (V m c main_v31 : S8192x1.Idx → EReal) = Host.rsqrt (F := Ideal) (φ := .f32) (V m c main_v30) := read_unary (τ := τ) (Val := Elt Ideal) (ops := hostOps0) (W := wr) rfl 36 rfl (by decide) (by decide) _
  rw [hv31, hv30, hv28, hv26, hv25, hv24, hcst1, hv27, hcst2, hv29, hcst3, V_arg0]
  exact k_root _
theorem V_v37 : (V m c main_v37 : S8192x1024.Idx → EReal) = arr (XN (aX m c) (aG m c)) := by
  have hv32 : (V m c main_v32 : S8192x1024.Idx → EReal) = broadcastInDim (α := EReal) S8192x1024 ![0, 1] bcast_S8192x1_S8192x1024_0_1 (V m c main_v31) := read_unary (τ := τ) (Val := Elt Ideal) (ops := hostOps0) (W := wr) rfl 37 rfl (by decide) (by decide) _
  have hv33 : (V m c main_v33 : S8192x1024.Idx → EReal) = mulf (F := Ideal) (φ := .f32) (V m c main_arg0) (V m c main_v32) := read_binary (τ := τ) (Val := Elt Ideal) (ops := hostOps0) (W := wr) rfl 38 rfl (by decide) (by decide) (by decide) _
  have hv34 : (V m c main_v34 : S1x1024.Idx → EReal) = broadcastInDim (α := EReal) S1x1024 ![1] bcast_S1024_S1x1024_1 (V m c main_arg1) := read_unary (τ := τ) (Val := Elt Ideal) (ops := hostOps0) (W := wr) rfl 39 rfl (by decide) (by decide) _
  have hv35 : (V m c main_v35 : S8192x1024.Idx → EReal) = broadcastInDim (α := EReal) S8192x1024 ![0, 1] bcast_S1x1024_S8192x1024_0_1 (V m c main_v34) := read_unary (τ := τ) (Val := Elt Ideal) (ops := hostOps0) (W := wr) rfl 40 rfl (by decide) (by decide) _
  have hv36 : (V m c main_v36 : S8192x1024.Idx → EReal) = mulf (F := Ideal) (φ := .f32) (V m c main_v33) (V m c main_v35) := read_binary (τ := τ) (Val := Elt Ideal) (ops := hostOps0) (W := wr) rfl 41 rfl (by decide) (by decide) (by decide) _
  have hv37 : (V m c main_v37 : S8192x1024.Idx → EReal) = V m c main_v36 := read_unary (τ := τ) (Val := Elt Ideal) (ops := hostOps0) (W := wr) rfl 42 rfl (by decide) (by decide) _
  rw [hv37, hv36, hv33, hv32, V_v31, hv35, hv34, V_arg0, V_arg1]
  exact k_xn _ _ _

/-! ## The blocks the tile reads -/

theorem index_0 : ∀ t : Fin cfg0.N, win0_0.index t 0 = t.val ∧ win0_0.index t 1 = 0 := by decide +kernel
theorem index_1 : ∀ t : Fin cfg0.N, win0_1.index t 0 = 0 ∧ win0_1.index t 1 = 0 := by decide +kernel
theorem index_2 : ∀ t : Fin cfg0.N, win0_2.index t 0 = 0 ∧ win0_2.index t 1 = 0 := by decide +kernel
theorem index_3 : ∀ t : Fin cfg0.N, win0_3.index t 0 = 0 ∧ win0_3.index t 1 = 0 := by decide +kernel
theorem index_4 : ∀ t : Fin cfg0.N, win0_4.index t 0 = 0 ∧ win0_4.index t 1 = 0 := by decide +kernel
theorem index_6 : ∀ t : Fin cfg0.N, win0_6.index t 0 = 0 ∧ win0_6.index t 1 = 0 := by decide +kernel
theorem index_8 : ∀ t : Fin cfg0.N, win0_8.index t 0 = t.val ∧ win0_8.index t 1 = 0 := by decide +kernel
theorem index_9 : ∀ t : Fin cfg0.N, win0_9.index t 0 = t.val ∧ win0_9.index t 1 = 0 := by decide +kernel
theorem index_10 : ∀ t : Fin cfg0.N, win0_10.index t 0 = t.val ∧ win0_10.index t 1 = 0 := by decide +kernel
theorem index_11 : ∀ t : Fin cfg0.N, win0_11.index t 0 = t.val ∧ win0_11.index t 1 = 0 := by decide +kernel
theorem index_12 : ∀ t : Fin cfg0.N, win0_12.index t 0 = t.val ∧ win0_12.index t 1 = 0 := by decide +kernel
theorem index_14 : ∀ t : Fin cfg0.N, win0_14.index t 0 = t.val ∧ win0_14.index t 1 = 0 := by decide +kernel
theorem index_15 : ∀ t : Fin cfg0.N, win0_15.index t 0 = t.val ∧ win0_15.index t 1 = 0 := by decide +kernel

theorem lt16 (t : Fin cfg0.N) : t.val < 16 := lt_of_lt_of_eq t.isLt (show cfg0.N = 16 from N_0)

/-- Row `r` of tile `t`, among all the tokens. -/
def tok (t : Fin cfg0.N) (r : Fin 512) : Fin 8192 := ⟨512 * t.val + r.val, by have := lt16 t; have := r.isLt; omega⟩

theorem blk_0 (t : Fin cfg0.N) (r : Fin 512) (d : Fin 1024) :
    (iblk m c 0 t : S512x1024.Idx → EReal) (ix2 r d) = (V m c main_v37 : S8192x1024.Idx → EReal) (ix2 (tok t r) d) := by
  blk_simp [iblk]
  refine congrArg (V m c main_v37) (funext fun a => Fin.ext ?_)
  match a with
  | ⟨0, _⟩ => show win0_0.index t 0 * 512 + 1 * r.val = 512 * t.val + r.val; rw [(index_0 t).1]; omega
  | ⟨1, _⟩ => show win0_0.index t 1 * 1024 + 1 * d.val = d.val; rw [(index_0 t).2]; omega
theorem blk_1 (t : Fin cfg0.N) (e : Fin 2304) (d : Fin 1024) :
    (X0_1 m c t : S2304x1024.Idx → EReal) (ix2 e d) = (V m c main_v1 : S2312x1024.Idx → EReal) (ix2 ⟨e.val, by omega⟩ d) := by
  unfold X0_1 Pipeline.Window.fill
  rw [dif_pos (moved0_1 t _)]
  blk_simp [iblk]
  refine congrArg (V m c main_v1) (funext fun a => Fin.ext ?_)
  match a with
  | ⟨0, _⟩ => show win0_1.index t 0 * 2304 + 1 * e.val = e.val; rw [(index_1 t).1]; omega
  | ⟨1, _⟩ => show win0_1.index t 1 * 1024 + 1 * d.val = d.val; rw [(index_1 t).2]; omega
theorem blk_2 (t : Fin cfg0.N) (e : Fin 128) (d : Fin 1024) :
    (iblk m c 2 t : S128x1024.Idx → EReal) (ix2 e d) = (V m c main_v4 : S128x1024.Idx → EReal) (ix2 e d) := by
  blk_simp [iblk]
  refine congrArg (V m c main_v4) (funext fun a => Fin.ext ?_)
  match a with
  | ⟨0, _⟩ => show win0_2.index t 0 * 128 + 1 * e.val = e.val; rw [(index_2 t).1]; omega
  | ⟨1, _⟩ => show win0_2.index t 1 * 1024 + 1 * d.val = d.val; rw [(index_2 t).2]; omega
theorem blk_3 (t : Fin cfg0.N) (d : Fin 512) :
    (iblk m c 3 t : S1x512.Idx → EReal) (ix2 0 d) = (V m c main_v8 : S1x512.Idx → EReal) (ix2 0 d) := by
  blk_simp [iblk]
  refine congrArg (V m c main_v8) (funext fun a => Fin.ext ?_)
  match a with
  | ⟨0, _⟩ => exact (index_3 t).1
  | ⟨1, _⟩ => show win0_3.index t 1 * 512 + 1 * d.val = d.val; rw [(index_3 t).2]; omega
theorem blk_4 (t : Fin cfg0.N) (d : Fin 128) :
    (iblk m c 4 t : S1x128.Idx → EReal) (ix2 0 d) = (V m c main_v12 : S1x128.Idx → EReal) (ix2 0 d) := by
  blk_simp [iblk]
  refine congrArg (V m c main_v12) (funext fun a => Fin.ext ?_)
  match a with
  | ⟨0, _⟩ => exact (index_4 t).1
  | ⟨1, _⟩ => show win0_4.index t 1 * 128 + 1 * d.val = d.val; rw [(index_4 t).2]; omega
theorem blk_6 (t : Fin cfg0.N) (d : Fin 512) :
    (iblk m c 6 t : S1x512.Idx → EReal) (ix2 0 d) = (V m c main_v20 : S1x512.Idx → EReal) (ix2 0 d) := by
  blk_simp [iblk]
  refine congrArg (V m c main_v20) (funext fun a => Fin.ext ?_)
  match a with
  | ⟨0, _⟩ => exact (index_6 t).1
  | ⟨1, _⟩ => show win0_6.index t 1 * 512 + 1 * d.val = d.val; rw [(index_6 t).2]; omega

/-! ## The tile's values, among all the tokens -/

/-- The tile's values, as the operations leave them. -/
abbrev rT (t : Fin cfg0.N) : Vec Ideal S512x2304 .f32 := k0_pay4 (F := Ideal) (iblk m c 0 t) (X0_1 m c t)
abbrev fT (t : Fin cfg0.N) : Vec Ideal S512x128 .f32 := k0_pay5 (F := Ideal) (iblk m c 0 t) (iblk m c 2 t)
abbrev qT (t : Fin cfg0.N) : Vec Ideal S512x512 .bf16 := k0_pay9 (F := Ideal) (k0_pay6 (F := Ideal) (iblk m c 0 t) (X0_1 m c t)) (k0_pay7 (F := Ideal) (iblk m c 3 t)) (k0_pay8 (F := Ideal) (iblk m c 0 t) (X0_1 m c t)) (Scalar.ofBits .f32 0x3C800000#32)
abbrev kT (t : Fin cfg0.N) : Vec Ideal S512x256 .bf16 := k0_pay10 (F := Ideal) (rT m c t) (iblk m c 4 t)
abbrev vT (t : Fin cfg0.N) : Vec Ideal S512x256 .bf16 := k0_pay12 (F := Ideal) (k0_pay11 (F := Ideal) (rT m c t))
abbrev bT (t : Fin cfg0.N) : Vec Ideal S512x512 .f32 := k0_pay28 (F := Ideal) (k0_pay26 (F := Ideal) (rT m c t)) (k0_pay27 (F := Ideal) (iblk m c 6 t))

theorem rT_apply (t : Fin cfg0.N) (r : Fin 512) (e : Fin 2304) : rT m c t (ix2 r e) = P m c (tok t r) ⟨e.val, by omega⟩ := by
  unfold rT P PR
  rw [pay4_apply]
  refine Fin.sum_fin_congr fun d => ?_
  rw [blk_0, V_v37, blk_1, V_v1]
  rfl
theorem fT_apply (t : Fin cfg0.N) (r : Fin 512) (e : Fin 8) : fT m c t (ix2 r ⟨e.val, by omega⟩) = P m c (tok t r) ⟨2304 + e.val, by omega⟩ := by
  unfold fT P PR
  rw [pay5_apply]
  refine Fin.sum_fin_congr fun d => ?_
  rw [blk_0, V_v37, blk_2, V_v4]
  rfl
theorem qT_apply (t : Fin cfg0.N) (r : Fin 512) (j : Fin 8) (l : Fin 64) :
    qT m c t (ix2 r ⟨64 * j.val + l.val, by omega⟩) = rv (heads (n := 8) 0 (by decide) (P m c) (tok t r) j) (aQA m c) l := by
  have hq : ∀ k : Fin 64, k0_pay6 (F := Ideal) (iblk m c 0 t) (X0_1 m c t) (ix2 r ⟨64 * j.val + k.val, by omega⟩) = heads (n := 8) 0 (by decide) (P m c) (tok t r) j k := fun k => by
    rw [pay6_apply]
    exact (rT_apply m c t r _).trans (congrArg (P m c (tok t r)) (Fin.ext (by show 64 * j.val + k.val = 0 + (64 * j.val + k.val); omega)))
  have hs : ∀ k : Fin 64, (⟨64 * ((64 * j.val + l.val) / 64) + k.val, by omega⟩ : Fin 512) = ⟨64 * j.val + k.val, by omega⟩ := fun k => Fin.ext (by simp only; omega)
  have hl : (⟨(64 * j.val + l.val) % 64, by omega⟩ : Fin 64) = l := Fin.ext (by simp only; omega)
  rw [← hv_eq]
  unfold qT hv
  rw [pay9_apply, pay7_apply, pay8_apply, blk_3, V_v8]
  simp only [hs, hq, hl]
  rfl
theorem kT_apply (t : Fin cfg0.N) (r : Fin 512) (j : Fin 2) (l : Fin 64) :
    kT m c t (ix2 r ⟨128 * j.val + l.val, by omega⟩) = rv (heads (n := 2) 512 (by decide) (P m c) (tok t r) j) (aKA m c) l := by
  rw [← hv_eq]
  unfold kT
  rw [pay10_apply]
  refine congrArg₂ (fun a b => hv a b l) (funext fun k => (rT_apply m c t r _)) (funext fun k => ?_)
  rw [blk_4, V_v12]
  exact congrArg (aKA m c) (Fin.ext (by simp only; omega))
theorem vT_apply (t : Fin cfg0.N) (r : Fin 512) (j : Fin 2) (l : Fin 64) :
    vT m c t (ix2 r ⟨128 * j.val + l.val, by omega⟩) = heads (n := 2) 640 (by decide) (P m c) (tok t r) j l :=
  (pay12_apply _ r j l).trans (rT_apply m c t r _)
theorem bT_apply (t : Fin cfg0.N) (r : Fin 512) (j : Fin 8) (l : Fin 64) :
    bT m c t (ix2 r ⟨64 * j.val + l.val, by omega⟩) = rv (heads (n := 8) 1280 (by decide) (P m c) (tok t r) j) (aKB m c) l := by
  have hq : ∀ k : Fin 64, k0_pay26 (F := Ideal) (rT m c t) (ix2 r ⟨64 * j.val + k.val, by omega⟩) = heads (n := 8) 1280 (by decide) (P m c) (tok t r) j k := fun k => by
    rw [pay26_apply]
    exact rT_apply m c t r _
  have hs : ∀ k : Fin 64, (⟨64 * ((64 * j.val + l.val) / 64) + k.val, by omega⟩ : Fin 512) = ⟨64 * j.val + k.val, by omega⟩ := fun k => Fin.ext (by simp only; omega)
  have hl : (⟨(64 * j.val + l.val) % 64, by omega⟩ : Fin 64) = l := Fin.ext (by simp only; omega)
  rw [← hv_eq]
  unfold bT hv
  rw [pay28_apply, pay27_apply, blk_6, V_v20]
  simp only [hs, hq, hl]

end Cert.Kernel7Ideal.Proj

end
-- ==== Proof.ProjEnd.lean ====
/- The normalised rows' projections, continued: the arrays the call leaves, the host lines after it, and its reference. -/
module

public import proofs.«01_k».proof.Proof.Proj

@[expose] public section

set_option maxRecDepth 16384

noncomputable section

namespace Cert.Kernel7Ideal.Proj

open Idealize.ShloMosaic Idealize.ShloMosaic.TcCoe Idealize.SL.Sem Idealize.ShloMosaic.StableHlo Cert.Line
open Cert.Kernel7Ideal Cert.Kernel7Ideal.Gen Cert.MlpMath
open Cert.Reference4Ideal.MlpB (arr col of2 of1 idx2)
open Cert.Reference7Ideal.Proj (arr3 idx3 XN PR rv heads)
open Idealize.ShloMosaic.Pipeline (Dat Cfg Window)

variable (m : (ℓ : Loc nD τ sig) → Buf (Elt Ideal) ℓ) (c : Dev nD)

/-! ## What a tile leaves -/

theorem out_8 (t : Fin cfg0.N) : (outsAt0 m c t.val t.isLt).1 = rT m c t := by
  rcases Decidable.em (t.val % 8 = 0) with h0 | h0
  · rw [outsAt0_A m c t h0]
    dsimp only
    frame_out
  · rw [outsAt0_B m c t h0]
    dsimp only
    frame_out
theorem out_9 (t : Fin cfg0.N) : (outsAt0 m c t.val t.isLt).2.1 = fT m c t := by
  rcases Decidable.em (t.val % 8 = 0) with h0 | h0
  · rw [outsAt0_A m c t h0]
    dsimp only
    frame_out
  · rw [outsAt0_B m c t h0]
    dsimp only
    frame_out
theorem out_10 (t : Fin cfg0.N) : (outsAt0 m c t.val t.isLt).2.2.1 = qT m c t := by
  rcases Decidable.em (t.val % 8 = 0) with h0 | h0
  · rw [outsAt0_A m c t h0]
    dsimp only
    frame_out
  · rw [outsAt0_B m c t h0]
    dsimp only
    frame_out
theorem out_11 (t : Fin cfg0.N) : (outsAt0 m c t.val t.isLt).2.2.2.1 = kT m c t := by
  rcases Decidable.em (t.val % 8 = 0) with h0 | h0
  · rw [outsAt0_A m c t h0]
    dsimp only
    frame_out
  · rw [outsAt0_B m c t h0]
    dsimp only
    frame_out
theorem out_12 (t : Fin cfg0.N) : (outsAt0 m c t.val t.isLt).2.2.2.2.1 = vT m c t := by
  rcases Decidable.em (t.val % 8 = 0) with h0 | h0
  · rw [outsAt0_A m c t h0]
    dsimp only
    frame_out
  · rw [outsAt0_B m c t h0]
    dsimp only
    frame_out
/-- The eight stores of the tile's keys, one head each, the last first. -/
abbrev kL (x : FVec Ideal S512x512 .f32) (a0 a1 a2 a3 a4 a5 a6 a7 : FVec Ideal S512x128 .f32) : List (View.Piece (Elt Ideal) S512x1024 .bf16) :=
  [⟨Rect.unit (s := S512x1024) ![0, 896] ![512, 128] inb_S512x1024_S512x128_0_896, k0_pay122 (F := Ideal) x (iota .tc S512x128 32 [1] iota_S512x128_d1_w32) a7⟩,
   ⟨Rect.unit (s := S512x1024) ![0, 768] ![512, 128] inb_S512x1024_S512x128_0_768, k0_pay111 (F := Ideal) (iota .tc S512x128 32 [1] iota_S512x128_d1_w32) a6 (k0_pay109 (F := Ideal) x) (k0_pay110 (iota .tc S512x128 32 [1] iota_S512x128_d1_w32)) 68#32⟩,
   ⟨Rect.unit (s := S512x1024) ![0, 640] ![512, 128] inb_S512x1024_S512x128_0_640, k0_pay102 (F := Ideal) (iota .tc S512x128 32 [1] iota_S512x128_d1_w32) a5 (k0_pay96 (F := Ideal) x) (iota .tc S512x128 32 [1] iota_S512x128_d1_w32) k0_pay97 k0_pay98 k0_pay99 k0_pay100 k0_pay101⟩,
   ⟨Rect.unit (s := S512x1024) ![0, 512] ![512, 128] inb_S512x1024_S512x128_0_512, k0_pay87 (F := Ideal) (iota .tc S512x128 32 [1] iota_S512x128_d1_w32) a4 (k0_pay86 (F := Ideal) x) (iota .tc S512x128 32 [1] iota_S512x128_d1_w32)⟩,
   ⟨Rect.unit (s := S512x1024) ![0, 384] ![512, 128] inb_S512x1024_S512x128_0_384, k0_pay74 (F := Ideal) x (iota .tc S512x128 32 [1] iota_S512x128_d1_w32) a3⟩,
   ⟨Rect.unit (s := S512x1024) ![0, 256] ![512, 128] inb_S512x1024_S512x128_0_256, k0_pay63 (F := Ideal) (iota .tc S512x128 32 [1] iota_S512x128_d1_w32) a2 (k0_pay61 (F := Ideal) x) (k0_pay62 (iota .tc S512x128 32 [1] iota_S512x128_d1_w32)) 68#32⟩,
   ⟨Rect.unit (s := S512x1024) ![0, 128] ![512, 128] inb_S512x1024_S512x128_0_128, k0_pay54 (F := Ideal) (iota .tc S512x128 32 [1] iota_S512x128_d1_w32) a1 (k0_pay48 (F := Ideal) x) (iota .tc S512x128 32 [1] iota_S512x128_d1_w32) k0_pay49 k0_pay50 k0_pay51 k0_pay52 k0_pay53⟩,
   ⟨Rect.unit (s := S512x1024) ![0, 0] ![512, 128] inb_S512x1024_S512x128_0_0, k0_pay39 (F := Ideal) (iota .tc S512x128 32 [1] iota_S512x128_d1_w32) a0 (k0_pay38 (F := Ideal) x) (iota .tc S512x128 32 [1] iota_S512x128_d1_w32)⟩]
theorem kL_apply (x : FVec Ideal S512x512 .f32) (a0 a1 a2 a3 a4 a5 a6 a7 : FVec Ideal S512x128 .f32) (r : Fin 512) (f : Fin 1024) (hf : f.val % 128 < 64) :
    View.canon (kL x a0 a1 a2 a3 a4 a5 a6 a7) (ix2 r f) = x (ix2 r ⟨64 * (f.val / 128) + f.val % 128, by have := f.isLt; omega⟩) := by
  canon_tiles z h
  all_goals
    obtain ⟨r', f', rfl⟩ : ∃ (r' : Fin 512) (f' : Fin 128), z = ix2 r' f' := ⟨z 0, z 1, funext fun a => match a with | ⟨0, _⟩ => rfl | ⟨1, _⟩ => rfl⟩
  all_goals obtain rfl : r = r' := Fin.ext h0
  · have h1 : f.val = 896 + f'.val := h1
    have hl : f'.val < 64 := by have := f'.isLt; omega
    exact (khead7 x a7 r ⟨f'.val, hl⟩).trans (congrArg x (congrArg (ix2 r) (Fin.ext (by simp only; omega))))
  · have h1 : f.val = 768 + f'.val := h1
    have hl : f'.val < 64 := by have := f'.isLt; omega
    exact (khead6 x a6 r ⟨f'.val, hl⟩).trans (congrArg x (congrArg (ix2 r) (Fin.ext (by simp only; omega))))
  · have h1 : f.val = 640 + f'.val := h1
    have hl : f'.val < 64 := by have := f'.isLt; omega
    exact (khead5 x a5 r ⟨f'.val, hl⟩).trans (congrArg x (congrArg (ix2 r) (Fin.ext (by simp only; omega))))
  · have h1 : f.val = 512 + f'.val := h1
    have hl : f'.val < 64 := by have := f'.isLt; omega
    exact (khead4 x a4 r ⟨f'.val, hl⟩).trans (congrArg x (congrArg (ix2 r) (Fin.ext (by simp only; omega))))
  · have h1 : f.val = 384 + f'.val := h1
    have hl : f'.val < 64 := by have := f'.isLt; omega
    exact (khead3 x a3 r ⟨f'.val, hl⟩).trans (congrArg x (congrArg (ix2 r) (Fin.ext (by simp only; omega))))
  · have h1 : f.val = 256 + f'.val := h1
    have hl : f'.val < 64 := by have := f'.isLt; omega
    exact (khead2 x a2 r ⟨f'.val, hl⟩).trans (congrArg x (congrArg (ix2 r) (Fin.ext (by simp only; omega))))
  · have h1 : f.val = 128 + f'.val := h1
    have hl : f'.val < 64 := by have := f'.isLt; omega
    exact (khead1 x a1 r ⟨f'.val, hl⟩).trans (congrArg x (congrArg (ix2 r) (Fin.ext (by simp only; omega))))
  · have h1 : f.val = f'.val := h1
    have hl : f'.val < 64 := by have := f'.isLt; omega
    exact (khead0 x a0 r ⟨f'.val, hl⟩).trans (congrArg x (congrArg (ix2 r) (Fin.ext (by simp only; omega))))
/-- The eight stores of the tile's values, one head each, the last first. -/
abbrev vL (v : FVec Ideal S512x2304 .f32) : List (View.Piece (Elt Ideal) S512x1024 .bf16) :=
  [⟨Rect.unit (s := S512x1024) ![0, 896] ![512, 128] inb_S512x1024_S512x128_0_896, k0_pay1 (F := Ideal) (k0_pay123 (F := Ideal) v) 64#32⟩,
   ⟨Rect.unit (s := S512x1024) ![0, 768] ![512, 128] inb_S512x1024_S512x128_0_768, k0_pay112 (F := Ideal) v⟩,
   ⟨Rect.unit (s := S512x1024) ![0, 640] ![512, 128] inb_S512x1024_S512x128_0_640, k0_pay103 (F := Ideal) v⟩,
   ⟨Rect.unit (s := S512x1024) ![0, 512] ![512, 128] inb_S512x1024_S512x128_0_512, k0_pay92 (F := Ideal) (k0_pay88 (F := Ideal) v) (iota .tc S512x128 32 [1] iota_S512x128_d1_w32) k0_pay89 k0_pay90 k0_pay91⟩,
   ⟨Rect.unit (s := S512x1024) ![0, 384] ![512, 128] inb_S512x1024_S512x128_0_384, k0_pay76 (F := Ideal) (k0_pay75 (F := Ideal) v) 64#32⟩,
   ⟨Rect.unit (s := S512x1024) ![0, 256] ![512, 128] inb_S512x1024_S512x128_0_256, k0_pay64 (F := Ideal) v⟩,
   ⟨Rect.unit (s := S512x1024) ![0, 128] ![512, 128] inb_S512x1024_S512x128_0_128, k0_pay55 (F := Ideal) v⟩,
   ⟨Rect.unit (s := S512x1024) ![0, 0] ![512, 128] inb_S512x1024_S512x128_0_0, k0_pay44 (F := Ideal) (k0_pay40 (F := Ideal) v) (iota .tc S512x128 32 [1] iota_S512x128_d1_w32) k0_pay41 k0_pay42 k0_pay43⟩]
theorem vL_apply (v : FVec Ideal S512x2304 .f32) (r : Fin 512) (f : Fin 1024) (hf : f.val % 128 < 64) :
    View.canon (vL v) (ix2 r f) = v (ix2 r ⟨1792 + (64 * (f.val / 128) + f.val % 128), by have := f.isLt; omega⟩) := by
  canon_tiles z h
  all_goals
    obtain ⟨r', f', rfl⟩ : ∃ (r' : Fin 512) (f' : Fin 128), z = ix2 r' f' := ⟨z 0, z 1, funext fun a => match a with | ⟨0, _⟩ => rfl | ⟨1, _⟩ => rfl⟩
  all_goals obtain rfl : r = r' := Fin.ext h0
  · have h1 : f.val = 896 + f'.val := h1
    have hl : f'.val < 64 := by have := f'.isLt; omega
    exact (vhead7 v r ⟨f'.val, hl⟩).trans (congrArg v (congrArg (ix2 r) (Fin.ext (by simp only; omega))))
  · have h1 : f.val = 768 + f'.val := h1
    have hl : f'.val < 64 := by have := f'.isLt; omega
    exact (vhead6 v r ⟨f'.val, hl⟩).trans (congrArg v (congrArg (ix2 r) (Fin.ext (by simp only; omega))))
  · have h1 : f.val = 640 + f'.val := h1
    have hl : f'.val < 64 := by have := f'.isLt; omega
    exact (vhead5 v r ⟨f'.val, hl⟩).trans (congrArg v (congrArg (ix2 r) (Fin.ext (by simp only; omega))))
  · have h1 : f.val = 512 + f'.val := h1
    have hl : f'.val < 64 := by have := f'.isLt; omega
    exact (vhead4 v r ⟨f'.val, hl⟩).trans (congrArg v (congrArg (ix2 r) (Fin.ext (by simp only; omega))))
  · have h1 : f.val = 384 + f'.val := h1
    have hl : f'.val < 64 := by have := f'.isLt; omega
    exact (vhead3 v r ⟨f'.val, hl⟩).trans (congrArg v (congrArg (ix2 r) (Fin.ext (by simp only; omega))))
  · have h1 : f.val = 256 + f'.val := h1
    have hl : f'.val < 64 := by have := f'.isLt; omega
    exact (vhead2 v r ⟨f'.val, hl⟩).trans (congrArg v (congrArg (ix2 r) (Fin.ext (by simp only; omega))))
  · have h1 : f.val = 128 + f'.val := h1
    have hl : f'.val < 64 := by have := f'.isLt; omega
    exact (vhead1 v r ⟨f'.val, hl⟩).trans (congrArg v (congrArg (ix2 r) (Fin.ext (by simp only; omega))))
  · have h1 : f.val = f'.val := h1
    have hl : f'.val < 64 := by have := f'.isLt; omega
    exact (vhead0 v r ⟨f'.val, hl⟩).trans (congrArg v (congrArg (ix2 r) (Fin.ext (by simp only; omega))))
theorem out_14 (t : Fin cfg0.N) (r : Fin 512) (j : Fin 8) (l : Fin 64) :
    (outsAt0 m c t.val t.isLt).2.2.2.2.2.2.1 (ix2 r ⟨128 * j.val + l.val, by omega⟩) = rv (heads (n := 8) 1280 (by decide) (P m c) (tok t r) j) (aKB m c) l := by
  rcases Decidable.em (t.val % 8 = 0) with h0 | h0
  · rw [outsAt0_A m c t h0]
    dsimp only
    frame_out
    refine (kL_apply _ _ _ _ _ _ _ _ _ r _ (by simp only; omega)).trans ?_
    exact (congrArg (bT m c t) (congrArg (ix2 r) (Fin.ext (by simp only; omega)))).trans (bT_apply m c t r j l)
  · rw [outsAt0_B m c t h0]
    dsimp only
    frame_out
    refine (kL_apply _ _ _ _ _ _ _ _ _ r _ (by simp only; omega)).trans ?_
    exact (congrArg (bT m c t) (congrArg (ix2 r) (Fin.ext (by simp only; omega)))).trans (bT_apply m c t r j l)
theorem out_15 (t : Fin cfg0.N) (r : Fin 512) (j : Fin 8) (l : Fin 64) :
    (outsAt0 m c t.val t.isLt).2.2.2.2.2.2.2.1 (ix2 r ⟨128 * j.val + l.val, by omega⟩) = heads (n := 8) 1792 (by decide) (P m c) (tok t r) j l := by
  rcases Decidable.em (t.val % 8 = 0) with h0 | h0
  · rw [outsAt0_A m c t h0]
    dsimp only
    frame_out
    refine (vL_apply _ r _ (by simp only; omega)).trans ?_
    exact (congrArg (rT m c t) (congrArg (ix2 r) (Fin.ext (by simp only; omega)))).trans (rT_apply m c t r ⟨1792 + (64 * j.val + l.val), by omega⟩)
  · rw [outsAt0_B m c t h0]
    dsimp only
    frame_out
    refine (vL_apply _ r _ (by simp only; omega)).trans ?_
    exact (congrArg (rT m c t) (congrArg (ix2 r) (Fin.ext (by simp only; omega)))).trans (rT_apply m c t r ⟨1792 + (64 * j.val + l.val), by omega⟩)

/-! ## The arrays the call writes -/

/-- The tile a token is in. -/
def tile (i : Fin 8192) : Fin cfg0.N := ⟨i.val / 512, lt_of_lt_of_eq (by have := i.isLt; omega) (show cfg0.N = 16 from N_0).symm⟩
/-- Its row there. -/
def trow (i : Fin 8192) : Fin 512 := ⟨i.val % 512, by omega⟩
theorem tile_tok (t : Fin cfg0.N) (r : Fin 512) : tile (tok t r) = t := Fin.ext (by show (512 * t.val + r.val) / 512 = t.val; have := r.isLt; omega)
theorem trow_tok (t : Fin cfg0.N) (r : Fin 512) : trow (tok t r) = r := Fin.ext (by show (512 * t.val + r.val) % 512 = r.val; have := r.isLt; omega)
theorem tok_tile (i : Fin 8192) : tok (tile i) (trow i) = i := Fin.ext (by show 512 * (i.val / 512) + i.val % 512 = i.val; omega)

/-- The tiles' values, a token at a time. -/
def rows {n : ℕ} (T : Fin cfg0.N → (⟨2, ![512, n]⟩ : Shape).Idx → EReal) (i : Fin 8192) (f : Fin n) : EReal := T (tile i) (ix2 (trow i) f)
theorem rows_tok {n : ℕ} (T : Fin cfg0.N → (⟨2, ![512, n]⟩ : Shape).Idx → EReal) (t : Fin cfg0.N) (r : Fin 512) (f : Fin n) : T t (ix2 r f) = rows T (tok t r) f := by
  unfold rows
  rw [tile_tok, trow_tok]

/-- What the call leaves in its output 0. -/
def A8 : Fin 8192 → Fin 2304 → EReal := rows (n := 2304) fun t => (outsAt0 m c t.val t.isLt).1
theorem arr_8 : ((dats (F := Ideal) m 0 c).arrAt 8 cfg0.N : S8192x2304.Idx → EReal) = arr (A8 m c) := by
  refine (dats m 0 c).arrAt_eq_of_covers 8 _ (by decide +kernel) fun t hf y => ?_
  have e := index_8 t
  blk_simp
  rw [after0_8]
  obtain ⟨r, d, rfl⟩ : ∃ (r : Fin 512) (d : Fin 2304), y = (ix2 r d : S512x2304.Idx) := idx2 y
  refine (rows_tok (n := 2304) (fun t => (outsAt0 m c t.val t.isLt).1) t r d).trans ?_
  refine congrArg₂ (A8 m c) (Fin.ext ?_) (Fin.ext ?_)
  · show 512 * t.val + r.val = win0_8.index t 0 * 512 + 1 * r.val
    rw [e.1]; omega
  · show d.val = win0_8.index t 1 * 2304 + 1 * d.val
    rw [e.2]; omega
/-- What the call leaves in its output 1. -/
def A9 : Fin 8192 → Fin 128 → EReal := rows (n := 128) fun t => (outsAt0 m c t.val t.isLt).2.1
theorem arr_9 : ((dats (F := Ideal) m 0 c).arrAt 9 cfg0.N : S8192x128.Idx → EReal) = arr (A9 m c) := by
  refine (dats m 0 c).arrAt_eq_of_covers 9 _ (by decide +kernel) fun t hf y => ?_
  have e := index_9 t
  blk_simp
  rw [after0_9]
  obtain ⟨r, d, rfl⟩ : ∃ (r : Fin 512) (d : Fin 128), y = (ix2 r d : S512x128.Idx) := idx2 y
  refine (rows_tok (n := 128) (fun t => (outsAt0 m c t.val t.isLt).2.1) t r d).trans ?_
  refine congrArg₂ (A9 m c) (Fin.ext ?_) (Fin.ext ?_)
  · show 512 * t.val + r.val = win0_9.index t 0 * 512 + 1 * r.val
    rw [e.1]; omega
  · show d.val = win0_9.index t 1 * 128 + 1 * d.val
    rw [e.2]; omega
/-- What the call leaves in its output 2. -/
def A10 : Fin 8192 → Fin 512 → EReal := rows (n := 512) fun t => (outsAt0 m c t.val t.isLt).2.2.1
theorem arr_10 : ((dats (F := Ideal) m 0 c).arrAt 10 cfg0.N : S8192x512.Idx → EReal) = arr (A10 m c) := by
  refine (dats m 0 c).arrAt_eq_of_covers 10 _ (by decide +kernel) fun t hf y => ?_
  have e := index_10 t
  blk_simp
  rw [after0_10]
  obtain ⟨r, d, rfl⟩ : ∃ (r : Fin 512) (d : Fin 512), y = (ix2 r d : S512x512.Idx) := idx2 y
  refine (rows_tok (n := 512) (fun t => (outsAt0 m c t.val t.isLt).2.2.1) t r d).trans ?_
  refine congrArg₂ (A10 m c) (Fin.ext ?_) (Fin.ext ?_)
  · show 512 * t.val + r.val = win0_10.index t 0 * 512 + 1 * r.val
    rw [e.1]; omega
  · show d.val = win0_10.index t 1 * 512 + 1 * d.val
    rw [e.2]; omega
/-- What the call leaves in its output 3. -/
def A11 : Fin 8192 → Fin 256 → EReal := rows (n := 256) fun t => (outsAt0 m c t.val t.isLt).2.2.2.1
theorem arr_11 : ((dats (F := Ideal) m 0 c).arrAt 11 cfg0.N : S8192x256.Idx → EReal) = arr (A11 m c) := by
  refine (dats m 0 c).arrAt_eq_of_covers 11 _ (by decide +kernel) fun t hf y => ?_
  have e := index_11 t
  blk_simp
  rw [after0_11]
  obtain ⟨r, d, rfl⟩ : ∃ (r : Fin 512) (d : Fin 256), y = (ix2 r d : S512x256.Idx) := idx2 y
  refine (rows_tok (n := 256) (fun t => (outsAt0 m c t.val t.isLt).2.2.2.1) t r d).trans ?_
  refine congrArg₂ (A11 m c) (Fin.ext ?_) (Fin.ext ?_)
  · show 512 * t.val + r.val = win0_11.index t 0 * 512 + 1 * r.val
    rw [e.1]; omega
  · show d.val = win0_11.index t 1 * 256 + 1 * d.val
    rw [e.2]; omega
/-- What the call leaves in its output 4. -/
def A12 : Fin 8192 → Fin 256 → EReal := rows (n := 256) fun t => (outsAt0 m c t.val t.isLt).2.2.2.2.1
theorem arr_12 : ((dats (F := Ideal) m 0 c).arrAt 12 cfg0.N : S8192x256.Idx → EReal) = arr (A12 m c) := by
  refine (dats m 0 c).arrAt_eq_of_covers 12 _ (by decide +kernel) fun t hf y => ?_
  have e := index_12 t
  blk_simp
  rw [after0_12]
  obtain ⟨r, d, rfl⟩ : ∃ (r : Fin 512) (d : Fin 256), y = (ix2 r d : S512x256.Idx) := idx2 y
  refine (rows_tok (n := 256) (fun t => (outsAt0 m c t.val t.isLt).2.2.2.2.1) t r d).trans ?_
  refine congrArg₂ (A12 m c) (Fin.ext ?_) (Fin.ext ?_)
  · show 512 * t.val + r.val = win0_12.index t 0 * 512 + 1 * r.val
    rw [e.1]; omega
  · show d.val = win0_12.index t 1 * 256 + 1 * d.val
    rw [e.2]; omega
/-- What the call leaves in its output 6. -/
def A14 : Fin 8192 → Fin 1024 → EReal := rows (n := 1024) fun t => (outsAt0 m c t.val t.isLt).2.2.2.2.2.2.1
theorem arr_14 : ((dats (F := Ideal) m 0 c).arrAt 14 cfg0.N : S8192x1024.Idx → EReal) = arr (A14 m c) := by
  refine (dats m 0 c).arrAt_eq_of_covers 14 _ (by decide +kernel) fun t hf y => ?_
  have e := index_14 t
  blk_simp
  rw [after0_14]
  obtain ⟨r, d, rfl⟩ : ∃ (r : Fin 512) (d : Fin 1024), y = (ix2 r d : S512x1024.Idx) := idx2 y
  refine (rows_tok (n := 1024) (fun t => (outsAt0 m c t.val t.isLt).2.2.2.2.2.2.1) t r d).trans ?_
  refine congrArg₂ (A14 m c) (Fin.ext ?_) (Fin.ext ?_)
  · show 512 * t.val + r.val = win0_14.index t 0 * 512 + 1 * r.val
    rw [e.1]; omega
  · show d.val = win0_14.index t 1 * 1024 + 1 * d.val
    rw [e.2]; omega
/-- What the call leaves in its output 7. -/
def A15 : Fin 8192 → Fin 1024 → EReal := rows (n := 1024) fun t => (outsAt0 m c t.val t.isLt).2.2.2.2.2.2.2.1
theorem arr_15 : ((dats (F := Ideal) m 0 c).arrAt 15 cfg0.N : S8192x1024.Idx → EReal) = arr (A15 m c) := by
  refine (dats m 0 c).arrAt_eq_of_covers 15 _ (by decide +kernel) fun t hf y => ?_
  have e := index_15 t
  blk_simp
  rw [after0_15]
  obtain ⟨r, d, rfl⟩ : ∃ (r : Fin 512) (d : Fin 1024), y = (ix2 r d : S512x1024.Idx) := idx2 y
  refine (rows_tok (n := 1024) (fun t => (outsAt0 m c t.val t.isLt).2.2.2.2.2.2.2.1) t r d).trans ?_
  refine congrArg₂ (A15 m c) (Fin.ext ?_) (Fin.ext ?_)
  · show 512 * t.val + r.val = win0_15.index t 0 * 512 + 1 * r.val
    rw [e.1]; omega
  · show d.val = win0_15.index t 1 * 1024 + 1 * d.val
    rw [e.2]; omega

theorem A8_apply (i : Fin 8192) (e : Fin 2304) : A8 m c i e = P m c i ⟨e.val, by omega⟩ :=
  ((congrFun (out_8 m c (tile i)) _).trans (rT_apply m c (tile i) (trow i) e)).trans (by rw [tok_tile])
theorem A9_apply (i : Fin 8192) (e : Fin 8) : A9 m c i ⟨e.val, by omega⟩ = P m c i ⟨2304 + e.val, by omega⟩ :=
  ((congrFun (out_9 m c (tile i)) _).trans (fT_apply m c (tile i) (trow i) e)).trans (by rw [tok_tile])
theorem A10_apply (i : Fin 8192) (j : Fin 8) (l : Fin 64) : A10 m c i ⟨64 * j.val + l.val, by omega⟩ = rv (heads (n := 8) 0 (by decide) (P m c) i j) (aQA m c) l :=
  ((congrFun (out_10 m c (tile i)) _).trans (qT_apply m c (tile i) (trow i) j l)).trans (by rw [tok_tile])
theorem A11_apply (i : Fin 8192) (j : Fin 2) (l : Fin 64) : A11 m c i ⟨128 * j.val + l.val, by omega⟩ = rv (heads (n := 2) 512 (by decide) (P m c) i j) (aKA m c) l :=
  ((congrFun (out_11 m c (tile i)) _).trans (kT_apply m c (tile i) (trow i) j l)).trans (by rw [tok_tile])
theorem A12_apply (i : Fin 8192) (j : Fin 2) (l : Fin 64) : A12 m c i ⟨128 * j.val + l.val, by omega⟩ = heads (n := 2) 640 (by decide) (P m c) i j l :=
  ((congrFun (out_12 m c (tile i)) _).trans (vT_apply m c (tile i) (trow i) j l)).trans (by rw [tok_tile])
theorem A14_apply (i : Fin 8192) (j : Fin 8) (l : Fin 64) : A14 m c i ⟨128 * j.val + l.val, by omega⟩ = rv (heads (n := 8) 1280 (by decide) (P m c) i j) (aKB m c) l :=
  (out_14 m c (tile i) (trow i) j l).trans (by rw [tok_tile])
theorem A15_apply (i : Fin 8192) (j : Fin 8) (l : Fin 64) : A15 m c i ⟨128 * j.val + l.val, by omega⟩ = heads (n := 8) 1792 (by decide) (P m c) i j l :=
  (out_15 m c (tile i) (trow i) j l).trans (by rw [tok_tile])

/-! ## The host lines after the call -/

/-- What the host lines after the call write, in order. -/
abbrev wr' : List (Ref sig .tc) := [main_v39, main_v40, main_v41, main_v42, main_v43, main_v44, main_v45, main_v46, main_v47, main_v48, main_v49, main_v50,
  main_v51, main_v52, main_v53]

theorem cut8 (B : Fin 8192 → Fin 1024 → EReal) (D : Fin 8192 → Fin 8 → Fin 64 → EReal)
    (hB : ∀ i (j : Fin 8) (l : Fin 64), B i ⟨128 * j.val + l.val, by omega⟩ = D i j l) :
    (extractStridedSlice (α := EReal) S8192x8x64 ![0, 0, 0] (shapeCast S8192x8x128 (arr B) shapeCasts_S8192x1024_S8192x8x128) slices_S8192x8x128_S8192x8x64_0_0_0 : S8192x8x64.Idx → EReal) = arr3 D := by
  funext y
  obtain ⟨t, j, l, rfl⟩ := idx3 y
  pointwise
  refine Eq.trans (congrArg (B t) (Fin.ext ?_)) (hB t j l)
  show j.val * 128 + l.val = 128 * j.val + l.val
  omega
theorem cut2 (B : Fin 8192 → Fin 256 → EReal) (D : Fin 8192 → Fin 2 → Fin 64 → EReal)
    (hB : ∀ i (j : Fin 2) (l : Fin 64), B i ⟨128 * j.val + l.val, by omega⟩ = D i j l) :
    (extractStridedSlice (α := EReal) S8192x2x64 ![0, 0, 0] (shapeCast S8192x2x128 (arr B) shapeCasts_S8192x256_S8192x2x128) slices_S8192x2x128_S8192x2x64_0_0_0 : S8192x2x64.Idx → EReal) = arr3 D := by
  funext y
  obtain ⟨t, j, l, rfl⟩ := idx3 y
  pointwise
  refine Eq.trans (congrArg (B t) (Fin.ext ?_)) (hB t j l)
  show j.val * 128 + l.val = 128 * j.val + l.val
  omega
theorem cutq (B : Fin 8192 → Fin 512 → EReal) (D : Fin 8192 → Fin 8 → Fin 64 → EReal)
    (hB : ∀ i (j : Fin 8) (l : Fin 64), B i ⟨64 * j.val + l.val, by omega⟩ = D i j l) :
    (shapeCast (α := EReal) S8192x8x64 (arr B) shapeCasts_S8192x512_S8192x8x64 : S8192x8x64.Idx → EReal) = arr3 D := by
  funext y
  obtain ⟨t, j, l, rfl⟩ := idx3 y
  pointwise
  refine Eq.trans (congrArg (B t) (Fin.ext ?_)) (hB t j l)
  show j.val * 64 + l.val = 64 * j.val + l.val
  omega
theorem cutf (B : Fin 8192 → Fin 128 → EReal) (D : Fin 8192 → Fin 8 → EReal)
    (hB : ∀ i (e : Fin 8), B i ⟨e.val, by omega⟩ = D i e) :
    (extractStridedSlice (α := EReal) S8192x8 ![0, 0] (arr B) slices_S8192x128_S8192x8_0_0 : S8192x8.Idx → EReal) = arr D := by
  funext y
  obtain ⟨t, j, rfl⟩ := idx2 y
  pointwise
  exact hB t j

theorem tail_kb : (Pipeline.afterTail₀ cfgs (dats (F := Ideal) m) 0 (V0 m) [hostOps1] c main_v41 : S8192x8x64.Idx → EReal) = arr3 (fun t j l => rv (heads (n := 8) 1280 (by decide) (P m c) t j) (aKB m c) l) := by
  have key : ∀ A : Valuation τ sig (Elt Ideal), (A (Proc.devRef .tc main_v38_6) : S8192x1024.Idx → EReal) = arr (A14 m c) →
      (after hostOps1 A (Proc.devRef .tc main_v41) : S8192x8x64.Idx → EReal) = arr3 (fun t j l => rv (heads (n := 8) 1280 (by decide) (P m c) t j) (aKB m c) l) := fun A hA => by
    have a1 : (after hostOps1 A (Proc.devRef .tc main_v38_6) : S8192x1024.Idx → EReal) = arr (A14 m c) := (read_arg (τ := τ) (Val := Elt Ideal) (ops := hostOps1) (W := wr') (r := main_v38_6) rfl (by decide) _).trans hA
    have h0 : (after hostOps1 A (Proc.devRef .tc main_v39) : S8192x1024.Idx → EReal) = after hostOps1 A (Proc.devRef .tc main_v38_6) := read_unary (τ := τ) (Val := Elt Ideal) (ops := hostOps1) (W := wr') rfl 0 rfl (by decide) (by decide) _
    have h1 : (after hostOps1 A (Proc.devRef .tc main_v40) : S8192x8x128.Idx → EReal) = shapeCast (α := EReal) S8192x8x128 (after hostOps1 A (Proc.devRef .tc main_v39)) shapeCasts_S8192x1024_S8192x8x128 := read_reshape (τ := τ) (Val := Elt Ideal) (ops := hostOps1) (W := wr') rfl 1 rfl (by decide) (by decide) _
    have h2 : (after hostOps1 A (Proc.devRef .tc main_v41) : S8192x8x64.Idx → EReal) = extractStridedSlice (α := EReal) S8192x8x64 ![0, 0, 0] (after hostOps1 A (Proc.devRef .tc main_v40)) slices_S8192x8x128_S8192x8x64_0_0_0 := read_unary (τ := τ) (Val := Elt Ideal) (ops := hostOps1) (W := wr') rfl 2 rfl (by decide) (by decide) _
    rw [h2, h1, h0, a1]
    exact cut8 _ _ (A14_apply m c)
  exact key _ ((Pipeline.withArrays_arr spec0 launch0.win.arr_inj c (V0 m c) _ 14).trans (arr_14 m c))
theorem tail_vb : (Pipeline.afterTail₀ cfgs (dats (F := Ideal) m) 0 (V0 m) [hostOps1] c main_v44 : S8192x8x64.Idx → EReal) = arr3 (heads (n := 8) 1792 (by decide) (P m c)) := by
  have key : ∀ A : Valuation τ sig (Elt Ideal), (A (Proc.devRef .tc main_v38_7) : S8192x1024.Idx → EReal) = arr (A15 m c) →
      (after hostOps1 A (Proc.devRef .tc main_v44) : S8192x8x64.Idx → EReal) = arr3 (heads (n := 8) 1792 (by decide) (P m c)) := fun A hA => by
    have a1 : (after hostOps1 A (Proc.devRef .tc main_v38_7) : S8192x1024.Idx → EReal) = arr (A15 m c) := (read_arg (τ := τ) (Val := Elt Ideal) (ops := hostOps1) (W := wr') (r := main_v38_7) rfl (by decide) _).trans hA
    have h0 : (after hostOps1 A (Proc.devRef .tc main_v42) : S8192x1024.Idx → EReal) = after hostOps1 A (Proc.devRef .tc main_v38_7) := read_unary (τ := τ) (Val := Elt Ideal) (ops := hostOps1) (W := wr') rfl 3 rfl (by decide) (by decide) _
    have h1 : (after hostOps1 A (Proc.devRef .tc main_v43) : S8192x8x128.Idx → EReal) = shapeCast (α := EReal) S8192x8x128 (after hostOps1 A (Proc.devRef .tc main_v42)) shapeCasts_S8192x1024_S8192x8x128 := read_reshape (τ := τ) (Val := Elt Ideal) (ops := hostOps1) (W := wr') rfl 4 rfl (by decide) (by decide) _
    have h2 : (after hostOps1 A (Proc.devRef .tc main_v44) : S8192x8x64.Idx → EReal) = extractStridedSlice (α := EReal) S8192x8x64 ![0, 0, 0] (after hostOps1 A (Proc.devRef .tc main_v43)) slices_S8192x8x128_S8192x8x64_0_0_0 := read_unary (τ := τ) (Val := Elt Ideal) (ops := hostOps1) (W := wr') rfl 5 rfl (by decide) (by decide) _
    rw [h2, h1, h0, a1]
    exact cut8 _ _ (A15_apply m c)
  exact key _ ((Pipeline.withArrays_arr spec0 launch0.win.arr_inj c (V0 m c) _ 15).trans (arr_15 m c))
theorem tail_ka : (Pipeline.afterTail₀ cfgs (dats (F := Ideal) m) 0 (V0 m) [hostOps1] c main_v47 : S8192x2x64.Idx → EReal) = arr3 (fun t j l => rv (heads (n := 2) 512 (by decide) (P m c) t j) (aKA m c) l) := by
  have key : ∀ A : Valuation τ sig (Elt Ideal), (A (Proc.devRef .tc main_v38_3) : S8192x256.Idx → EReal) = arr (A11 m c) →
      (after hostOps1 A (Proc.devRef .tc main_v47) : S8192x2x64.Idx → EReal) = arr3 (fun t j l => rv (heads (n := 2) 512 (by decide) (P m c) t j) (aKA m c) l) := fun A hA => by
    have a1 : (after hostOps1 A (Proc.devRef .tc main_v38_3) : S8192x256.Idx → EReal) = arr (A11 m c) := (read_arg (τ := τ) (Val := Elt Ideal) (ops := hostOps1) (W := wr') (r := main_v38_3) rfl (by decide) _).trans hA
    have h0 : (after hostOps1 A (Proc.devRef .tc main_v45) : S8192x256.Idx → EReal) = after hostOps1 A (Proc.devRef .tc main_v38_3) := read_unary (τ := τ) (Val := Elt Ideal) (ops := hostOps1) (W := wr') rfl 6 rfl (by decide) (by decide) _
    have h1 : (after hostOps1 A (Proc.devRef .tc main_v46) : S8192x2x128.Idx → EReal) = shapeCast (α := EReal) S8192x2x128 (after hostOps1 A (Proc.devRef .tc main_v45)) shapeCasts_S8192x256_S8192x2x128 := read_reshape (τ := τ) (Val := Elt Ideal) (ops := hostOps1) (W := wr') rfl 7 rfl (by decide) (by decide) _
    have h2 : (after hostOps1 A (Proc.devRef .tc main_v47) : S8192x2x64.Idx → EReal) = extractStridedSlice (α := EReal) S8192x2x64 ![0, 0, 0] (after hostOps1 A (Proc.devRef .tc main_v46)) slices_S8192x2x128_S8192x2x64_0_0_0 := read_unary (τ := τ) (Val := Elt Ideal) (ops := hostOps1) (W := wr') rfl 8 rfl (by decide) (by decide) _
    rw [h2, h1, h0, a1]
    exact cut2 _ _ (A11_apply m c)
  exact key _ ((Pipeline.withArrays_arr spec0 launch0.win.arr_inj c (V0 m c) _ 11).trans (arr_11 m c))
theorem tail_va : (Pipeline.afterTail₀ cfgs (dats (F := Ideal) m) 0 (V0 m) [hostOps1] c main_v50 : S8192x2x64.Idx → EReal) = arr3 (heads (n := 2) 640 (by decide) (P m c)) := by
  have key : ∀ A : Valuation τ sig (Elt Ideal), (A (Proc.devRef .tc main_v38_4) : S8192x256.Idx → EReal) = arr (A12 m c) →
      (after hostOps1 A (Proc.devRef .tc main_v50) : S8192x2x64.Idx → EReal) = arr3 (heads (n := 2) 640 (by decide) (P m c)) := fun A hA => by
    have a1 : (after hostOps1 A (Proc.devRef .tc main_v38_4) : S8192x256.Idx → EReal) = arr (A12 m c) := (read_arg (τ := τ) (Val := Elt Ideal) (ops := hostOps1) (W := wr') (r := main_v38_4) rfl (by decide) _).trans hA
    have h0 : (after hostOps1 A (Proc.devRef .tc main_v48) : S8192x256.Idx → EReal) = after hostOps1 A (Proc.devRef .tc main_v38_4) := read_unary (τ := τ) (Val := Elt Ideal) (ops := hostOps1) (W := wr') rfl 9 rfl (by decide) (by decide) _
    have h1 : (after hostOps1 A (Proc.devRef .tc main_v49) : S8192x2x128.Idx → EReal) = shapeCast (α := EReal) S8192x2x128 (after hostOps1 A (Proc.devRef .tc main_v48)) shapeCasts_S8192x256_S8192x2x128 := read_reshape (τ := τ) (Val := Elt Ideal) (ops := hostOps1) (W := wr') rfl 10 rfl (by decide) (by decide) _
    have h2 : (after hostOps1 A (Proc.devRef .tc main_v50) : S8192x2x64.Idx → EReal) = extractStridedSlice (α := EReal) S8192x2x64 ![0, 0, 0] (after hostOps1 A (Proc.devRef .tc main_v49)) slices_S8192x2x128_S8192x2x64_0_0_0 := read_unary (τ := τ) (Val := Elt Ideal) (ops := hostOps1) (W := wr') rfl 11 rfl (by decide) (by decide) _
    rw [h2, h1, h0, a1]
    exact cut2 _ _ (A12_apply m c)
  exact key _ ((Pipeline.withArrays_arr spec0 launch0.win.arr_inj c (V0 m c) _ 12).trans (arr_12 m c))
theorem tail_f : (Pipeline.afterTail₀ cfgs (dats (F := Ideal) m) 0 (V0 m) [hostOps1] c main_v51 : S8192x8.Idx → EReal) = arr fun t e => P m c t ⟨2304 + e.val, by omega⟩ := by
  have key : ∀ A : Valuation τ sig (Elt Ideal), (A (Proc.devRef .tc main_v38_1) : S8192x128.Idx → EReal) = arr (A9 m c) →
      (after hostOps1 A (Proc.devRef .tc main_v51) : S8192x8.Idx → EReal) = arr fun t e => P m c t ⟨2304 + e.val, by omega⟩ := fun A hA => by
    have a1 : (after hostOps1 A (Proc.devRef .tc main_v38_1) : S8192x128.Idx → EReal) = arr (A9 m c) := (read_arg (τ := τ) (Val := Elt Ideal) (ops := hostOps1) (W := wr') (r := main_v38_1) rfl (by decide) _).trans hA
    have h0 : (after hostOps1 A (Proc.devRef .tc main_v51) : S8192x8.Idx → EReal) = extractStridedSlice (α := EReal) S8192x8 ![0, 0] (after hostOps1 A (Proc.devRef .tc main_v38_1)) slices_S8192x128_S8192x8_0_0 := read_unary (τ := τ) (Val := Elt Ideal) (ops := hostOps1) (W := wr') rfl 12 rfl (by decide) (by decide) _
    rw [h0, a1]
    exact cutf _ _ (A9_apply m c)
  exact key _ ((Pipeline.withArrays_arr spec0 launch0.win.arr_inj c (V0 m c) _ 9).trans (arr_9 m c))
theorem tail_qa : (Pipeline.afterTail₀ cfgs (dats (F := Ideal) m) 0 (V0 m) [hostOps1] c main_v53 : S8192x8x64.Idx → EReal) = arr3 (fun t j l => rv (heads (n := 8) 0 (by decide) (P m c) t j) (aQA m c) l) := by
  have key : ∀ A : Valuation τ sig (Elt Ideal), (A (Proc.devRef .tc main_v38_2) : S8192x512.Idx → EReal) = arr (A10 m c) →
      (after hostOps1 A (Proc.devRef .tc main_v53) : S8192x8x64.Idx → EReal) = arr3 (fun t j l => rv (heads (n := 8) 0 (by decide) (P m c) t j) (aQA m c) l) := fun A hA => by
    have a1 : (after hostOps1 A (Proc.devRef .tc main_v38_2) : S8192x512.Idx → EReal) = arr (A10 m c) := (read_arg (τ := τ) (Val := Elt Ideal) (ops := hostOps1) (W := wr') (r := main_v38_2) rfl (by decide) _).trans hA
    have h0 : (after hostOps1 A (Proc.devRef .tc main_v52) : S8192x512.Idx → EReal) = after hostOps1 A (Proc.devRef .tc main_v38_2) := read_unary (τ := τ) (Val := Elt Ideal) (ops := hostOps1) (W := wr') rfl 13 rfl (by decide) (by decide) _
    have h1 : (after hostOps1 A (Proc.devRef .tc main_v53) : S8192x8x64.Idx → EReal) = shapeCast (α := EReal) S8192x8x64 (after hostOps1 A (Proc.devRef .tc main_v52)) shapeCasts_S8192x512_S8192x8x64 := read_reshape (τ := τ) (Val := Elt Ideal) (ops := hostOps1) (W := wr') rfl 14 rfl (by decide) (by decide) _
    rw [h1, h0, a1]
    exact cutq _ _ (A10_apply m c)
  exact key _ ((Pipeline.withArrays_arr spec0 launch0.win.arr_inj c (V0 m c) _ 10).trans (arr_10 m c))

/-! ## The claim -/

theorem ref_quiescent : Cert.quiescent_Reference7Ideal := fun m g _ =>
  (θ_run Cert.Reference7Ideal.defs _ _).mono (fun r h => ⟨fun c => (h c).2.2.2.2.2.2.2, sem_eq_zero_of_no_sems (by decide) r.2⟩)
    (Cert.Reference7Ideal.Proj.results m g)

/-- Both programs end with the projections, and the heads cut from them and normalised. -/
theorem equal_results : Cert.algebraic_Kernel7Ideal_Reference7Ideal := by
  intro m g m' g' _ hs
  refine ⟨fun c => arr fun t e => P m c t ⟨e.val, by omega⟩, fun c => arr fun t e => P m c t ⟨2304 + e.val, by omega⟩,
    fun c => arr3 (fun t j l => rv (heads (n := 8) 0 (by decide) (P m c) t j) (aQA m c) l), fun c => arr3 (fun t j l => rv (heads (n := 2) 512 (by decide) (P m c) t j) (aKA m c) l), fun c => arr3 (heads (n := 2) 640 (by decide) (P m c)),
    fun c => arr3 (fun t j l => rv (heads (n := 8) 1280 (by decide) (P m c) t j) (aKB m c) l), fun c => arr3 (heads (n := 8) 1792 (by decide) (P m c)), ?_, ?_⟩
  · refine (θ_run defs _ _).mono (fun r h c => ?_) (θ_run_and (Gen.unchanged m g) (Gen.run_main m g))
    have hb := fun b h1 h2 => (h.2 c).2 b (Pipeline.mem_restRefs_of b h1 h2)
    exact ⟨((h.2 c).1 8).trans ((arr_8 m c).trans (funext fun y => A8_apply m c (y 0) (y 1))),
      (hb main_v51 (by decide) (by decide)).trans (tail_f m c),
      (hb main_v53 (by decide) (by decide)).trans (tail_qa m c),
      (hb main_v47 (by decide) (by decide)).trans (tail_ka m c),
      (hb main_v50 (by decide) (by decide)).trans (tail_va m c),
      (hb main_v41 (by decide) (by decide)).trans (tail_kb m c),
      (hb main_v44 (by decide) (by decide)).trans (tail_vb m c), h.1 c⟩
  · refine (θ_run Cert.Reference7Ideal.defs _ _).mono (fun r h c => ?_) (Cert.Reference7Ideal.Proj.results m' g')
    obtain ⟨e0, e1, e2, e3, e4, e5, e6, e7⟩ := hs c
    obtain ⟨r0, r1, r2, r3, r4, r5, r6, ra⟩ := h c
    have hP : Cert.Reference7Ideal.Proj.P m' c = P m c := by
      unfold Cert.Reference7Ideal.Proj.P Cert.Reference7Ideal.Proj.aX Cert.Reference7Ideal.Proj.aG Cert.Reference7Ideal.Proj.aW
      rw [e0, e1, e2]
      rfl
    refine ⟨r0.trans ?_, r1.trans ?_, r2.trans ?_, r3.trans ?_, r4.trans ?_, r5.trans ?_, r6.trans ?_, ra⟩
    · unfold Cert.Reference7Ideal.Proj.R0
      rw [hP]
    · unfold Cert.Reference7Ideal.Proj.R1
      rw [hP]
    · unfold Cert.Reference7Ideal.Proj.R2 Cert.Reference7Ideal.Proj.aQA
      rw [hP, e4]
    · unfold Cert.Reference7Ideal.Proj.R3 Cert.Reference7Ideal.Proj.aKA
      rw [hP, e5]
    · unfold Cert.Reference7Ideal.Proj.R4
      rw [hP]
    · unfold Cert.Reference7Ideal.Proj.R5 Cert.Reference7Ideal.Proj.aKB
      rw [hP, e7]
    · unfold Cert.Reference7Ideal.Proj.R6
      rw [hP]

end Cert.Kernel7Ideal.Proj

end
-- ==== Proof.lean ====
module

public import proofs.«01_k».proof.Defs
public import proofs.«01_k».proof.Proof.Twin
public import proofs.«01_k».proof.Proof.Value
public import proofs.«01_k».proof.Proof.Gen.Kernel2.Frame
public import proofs.«01_k».proof.Proof.Gen.Kernel3.Frame
public import proofs.«01_k».proof.Proof.WDown
public import proofs.«01_k».proof.Proof.WUp
public import proofs.«01_k».proof.Proof.Gen.Kernel5.Frame
public import proofs.«01_k».proof.Proof.MlpEnd
public import proofs.«01_k».proof.Proof.Gen.Kernel4.Frame
public import proofs.«01_k».proof.Proof.MlpBwdEnd
public import proofs.«01_k».proof.Proof.Gen.Kernel6.Frame
public import proofs.«01_k».proof.Proof.WOut
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7.Frame
public import proofs.«01_k».proof.Proof.Gen.Reference7Ideal.Run
public import proofs.«01_k».proof.Proof.ProjEnd

@[expose] public section

noncomputable section

namespace Cert.Proof

open Idealize.ShloMosaic Idealize.ShloMosaic.TcCoe Idealize.SL.Sem Cert.KernelIdeal Cert.FoxMath

/-- The reference ends with its arguments as given and every counter at zero. -/
theorem reference_quiescent (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c =>
    ⟨(h c _).trans (Cert.ReferenceIdeal.Fox.r_arg0 m c), (h c _).trans (Cert.ReferenceIdeal.Fox.r_arg1 m c),
      (h c _).trans (Cert.ReferenceIdeal.Fox.r_arg2 m c), (h c _).trans (Cert.ReferenceIdeal.Fox.r_arg3 m c),
      (h c _).trans (Cert.ReferenceIdeal.Fox.r_arg4 m c)⟩,
    sem_eq_zero_of_no_sems (by decide) r.2⟩) (Cert.ReferenceIdeal.Fox.run m g)

/-- Both programs end with the gradients. -/
theorem equal_results [hp : Cert.Pre_finite.Facts] : Cert.algebraic_KernelIdeal_ReferenceIdeal_pre_finite := by
  intro m g m' g' hpre hsame
  have hr := Cert.FoxValue.real_of_pre m hpre
  have hs : ∀ c, Cert.FoxValue.Same m m' c := fun c =>
    ⟨(hsame c).1, (hsame c).2.1, (hsame c).2.2.1, (hsame c).2.2.2.1, (hsame c).2.2.2.2⟩
  refine ⟨fun c => Fox.T m c main_v110, fun c => Fox.T m c main_v114, fun c => Fox.T m c main_v115, fun c => Fox.T m c main_v116, ?_, ?_⟩
  · refine (θ_run defs _ _).mono (fun r h c => ?_) (Fox.run_post m g)
    have hb := fun b h1 h2 => (h c).2 b (Pipeline.mem_restRefs_of b h1 h2)
    exact ⟨(hb main_v110 (by decide) (by decide)).trans (Fox.T_eq m c _).symm,
      (hb main_v114 (by decide) (by decide)).trans (Fox.T_eq m c _).symm,
      (hb main_v115 (by decide) (by decide)).trans (Fox.T_eq m c _).symm,
      (hb main_v116 (by decide) (by decide)).trans (Fox.T_eq m c _).symm,
      (hb main_arg0 (by decide) (by decide)).trans (Gen.W_main_arg0 m (Fox.dats m) c),
      (hb main_arg1 (by decide) (by decide)).trans (Gen.W_main_arg1 m (Fox.dats m) c),
      (hb main_arg2 (by decide) (by decide)).trans (Gen.W_main_arg2 m (Fox.dats m) c),
      (hb main_arg3 (by decide) (by decide)).trans (Gen.W_main_arg3 m (Fox.dats m) c),
      (hb main_arg4 (by decide) (by decide)).trans (Gen.W_main_arg4 m (Fox.dats m) c)⟩
  · refine (θ_run Cert.ReferenceIdeal.defs _ _).mono (fun r h c => ?_) (Cert.ReferenceIdeal.Fox.run m' g')
    exact ⟨(h c _).trans (Cert.FoxValue.same_dq (hs c) (hr c)), (h c _).trans (Cert.FoxValue.same_dk (hs c) (hr c)),
      (h c _).trans (Cert.FoxValue.same_dv (hs c) (hr c)), (h c _).trans (Cert.FoxValue.same_df (hs c) (hr c)),
      (h c _).trans (Cert.ReferenceIdeal.Fox.r_arg0 m' c), (h c _).trans (Cert.ReferenceIdeal.Fox.r_arg1 m' c),
      (h c _).trans (Cert.ReferenceIdeal.Fox.r_arg2 m' c), (h c _).trans (Cert.ReferenceIdeal.Fox.r_arg3 m' c),
      (h c _).trans (Cert.ReferenceIdeal.Fox.r_arg4 m' c)⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.FoxValue.facts_pre,
  Cert.FoxTwin.quiescent, fun m g _ => Fox.quiescent m g, fun m g _ => Fox.quiescent m g,
  fun m g _ => reference_quiescent m g, fun m g _ => reference_quiescent m g,
  fun m g _ => Cert.Kernel2.Gen.frame m g, fun m g _ => Cert.Kernel2Ideal.Gen.frame m g, Cert.Kernel2Ideal.WDown.ref_quiescent,
  fun m g _ => Cert.Kernel3.Gen.frame m g, fun m g _ => Cert.Kernel3Ideal.Gen.frame m g, Cert.Kernel3Ideal.WUp.ref_quiescent,
  fun m g _ => Cert.Kernel4.Gen.frame m g, fun m g _ => Cert.Kernel4Ideal.Gen.frame m g, Cert.Reference4Ideal.MlpB.quiescent,
  fun m g _ => Cert.Kernel5.Gen.frame m g, fun m g _ => Cert.Kernel5Ideal.Gen.frame m g, Cert.Reference5Ideal.Mlp.quiescent,
  fun m g _ => Cert.Kernel6.Gen.frame m g, fun m g _ => Cert.Kernel6Ideal.Gen.frame m g, Cert.Kernel6Ideal.WOut.ref_quiescent,
  fun m g _ => Cert.Kernel7.Gen.frame m g, fun m g _ => Cert.Kernel7Ideal.Gen.frame m g, Cert.Kernel7Ideal.Proj.ref_quiescent,
  trivial, equal_results (hp := Cert.FoxValue.facts_pre), trivial, trivial, trivial, trivial, trivial, trivial,
  Cert.Kernel2Ideal.WDown.equal_results, Cert.Kernel3Ideal.WUp.equal_results, Cert.Kernel4Ideal.MlpB.equal_results,
  Cert.Kernel5Ideal.Mlp.equal_results, Cert.Kernel6Ideal.WOut.equal_results, Cert.Kernel7Ideal.Proj.equal_results⟩

end Cert.Proof

end
